-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))).2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v82) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v242)) (v1 : (c : Dev Cert.Kernel7Ideal.nD) → Buf (Elt Ideal) ((c.tc : Thread Cert.Kernel7Ideal.nD Cert.Kernel7Ideal.τ).loc Cert.Kernel7Ideal.main_v247)) (v2 : (c : Dev Cert.Kernel7Ideal.nD) → Buf (Elt Ideal) ((c.tc : Thread Cert.Kernel7Ideal.nD Cert.Kernel7Ideal.τ).loc Cert.Kernel7Ideal.main_v249)) (v3 : (c : Dev Cert.Kernel7Ideal.nD) → Buf (Elt Ideal) ((c.tc : Thread Cert.Kernel7Ideal.nD Cert.Kernel7Ideal.τ).loc Cert.Kernel7Ideal.main_v238)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v242) = v0 c
          ∧ r.2.mem ((c.tc : Thread Cert.Kernel7Ideal.nD Cert.Kernel7Ideal.τ).loc Cert.Kernel7Ideal.main_v247) = v1 c
          ∧ r.2.mem ((c.tc : Thread Cert.Kernel7Ideal.nD Cert.Kernel7Ideal.τ).loc Cert.Kernel7Ideal.main_v249) = v2 c
          ∧ r.2.mem ((c.tc : Thread Cert.Kernel7Ideal.nD Cert.Kernel7Ideal.τ).loc Cert.Kernel7Ideal.main_v238) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v218) = v0 c
          ∧ r.2.mem ((c.tc : Thread Cert.Reference7Ideal.nD Cert.Reference7Ideal.τ).loc Cert.Reference7Ideal.main_v216) = v1 c
          ∧ r.2.mem ((c.tc : Thread Cert.Reference7Ideal.nD Cert.Reference7Ideal.τ).loc Cert.Reference7Ideal.main_v188) = v2 c
          ∧ r.2.mem ((c.tc : Thread Cert.Reference7Ideal.nD Cert.Reference7Ideal.τ).loc Cert.Reference7Ideal.main_v212) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v3) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)) (v2 : (c : Dev Cert.Kernel10Ideal.nD) → Buf (Elt Ideal) ((c.tc : Thread Cert.Kernel10Ideal.nD Cert.Kernel10Ideal.τ).loc Cert.Kernel10Ideal.main_v6_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_v6_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_v46) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v122_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v122_0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v105) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite3 : Cert.Pre_finite3.Facts) (hPre_finite4 : Cert.Pre_finite4.Facts) (hPre_finite7 : Cert.Pre_finite7.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S8192x2816 1 × IVec S2816x1024 1 × IVec S8192x1024 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite11.lean ====
abbrev S4x2048x16x64 : Shape := ⟨4, ![4, 2048, 16, 64]⟩
abbrev S4x2048x8 : Shape := ⟨3, ![4, 2048, 8]⟩
abbrev S_ : Shape := ⟨0, ![]⟩

class Facts : Prop where
  bcast_S_S4x2048x16x64 : S_.BroadcastsInDim S4x2048x16x64 (![] : Fin 0 → Fin S4x2048x16x64.rank)
  bcast_S_S4x2048x8 : S_.BroadcastsInDim S4x2048x8 (![] : Fin 0 → Fin S4x2048x8.rank)

variable [Facts]

def fn {F : FTy → Type} [FloatOps F] (main_arg0 : FVec F S4x2048x16x64 .f32) (main_arg1 : FVec F S4x2048x16x64 .f32) (main_arg2 : FVec F S4x2048x16x64 .f32) (main_arg3 : FVec F S4x2048x8 .f32) : IVec S4x2048x16x64 1 × IVec S4x2048x16x64 1 × IVec S4x2048x16x64 1 × IVec S4x2048x8 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_v3 : FVec F S4x2048x16x64 .f32 := Host.absf main_arg1
  let main_cst_0 : FVec F S_ .f32 := constant S_ .f32 0x7F800000#32
  let main_v4 : FVec F S4x2048x16x64 .f32 := broadcastInDim S4x2048x16x64 ![] bcast_S_S4x2048x16x64 main_cst_0
  let main_v5 : IVec S4x2048x16x64 1 := cmpf .olt main_v3 main_v4
  let main_v6 : FVec F S4x2048x16x64 .f32 := Host.absf main_arg2
  let main_cst_1 : FVec F S_ .f32 := constant S_ .f32 0x7F800000#32
  let main_v7 : FVec F S4x2048x16x64 .f32 := broadcastInDim S4x2048x16x64 ![] bcast_S_S4x2048x16x64 main_cst_1
  let main_v8 : IVec S4x2048x16x64 1 := cmpf .olt main_v6 main_v7
  let main_v9 : FVec F S4x2048x8 .f32 := Host.absf main_arg3
  let main_cst_2 : FVec F S_ .f32 := constant S_ .f32 0x7F800000#32
  let main_v10 : FVec F S4x2048x8 .f32 := broadcastInDim S4x2048x8 ![] bcast_S_S4x2048x8 main_cst_2
  let main_v11 : IVec S4x2048x8 1 := cmpf .olt main_v9 main_v10
  (main_v2, main_v5, main_v8, main_v11)
-- ==== Pre_finite2.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S1024 .f32) (main_arg2 : FVec F S1024x2816 .f32) (main_arg3 : FVec F S8192x1024 .f32) (main_arg4 : FVec F S8192x1024 .f32) (main_arg5 : FVec F S8192x2816 .f32) : IVec S8192x1024 1 × IVec S1024 1 × IVec S1024x2816 1 × IVec S8192x1024 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x2816 .f32 := Host.absf main_arg5
  let main_cst_3 : FVec F S_ .f32 := constant S_ .f32 0x7F800000#32
  let main_v13 : FVec F S8192x2816 .f32 := broadcastInDim S8192x2816 ![] bcast_S_S8192x2816 main_cst_3
  let main_v14 : IVec S8192x2816 1 := cmpf .olt main_v12 main_v13
  (main_v2, main_v5, main_v8, main_v11, main_v14)
-- ==== Pre_finite3.lean ====
abbrev S8192x1024 : Shape := ⟨2, ![8192, 1024]⟩
abbrev S512 : Shape := ⟨1, ![512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S512 : S_.BroadcastsInDim S512 (![] : Fin 0 → Fin S512.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S512 .f32) (main_arg2 : FVec F S512 .f32) (main_arg3 : FVec F S1024x1024 .f32) (main_arg4 : FVec F S8192x1024 .f32) : IVec S8192x1024 1 × IVec S512 1 × IVec S512 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S512 .f32 := Host.absf main_arg1
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite4.lean ====
abbrev S8192x1024 : Shape := ⟨2, ![8192, 1024]⟩
abbrev S1024 : Shape := ⟨1, ![1024]⟩
abbrev S1024x3080 : Shape := ⟨2, ![1024, 3080]⟩
abbrev S8192x3080 : Shape := ⟨2, ![8192, 3080]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x3080 : S_.BroadcastsInDim S1024x3080 (![] : Fin 0 → Fin S1024x3080.rank)
  bcast_S_S8192x3080 : S_.BroadcastsInDim S8192x3080 (![] : Fin 0 → Fin S8192x3080.rank)

variable [Facts]

def fn {F : FTy → Type} [FloatOps F] (main_arg0 : FVec F S8192x1024 .f32) (main_arg1 : FVec F S1024 .f32) (main_arg2 : FVec F S1024x3080 .f32) (main_arg3 : FVec F S8192x1024 .f32) (main_arg4 : FVec F S8192x3080 .f32) : IVec S8192x1024 1 × IVec S1024 1 × IVec S1024x3080 1 × IVec S8192x3080 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3080 .f32 := Host.absf main_arg2
  let main_cst_1 : FVec F S_ .f32 := constant S_ .f32 0x7F800000#32
  let main_v7 : FVec F S1024x3080 .f32 := broadcastInDim S1024x3080 ![] bcast_S_S1024x3080 main_cst_1
  let main_v8 : IVec S1024x3080 1 := cmpf .olt main_v6 main_v7
  let main_v9 : FVec F S8192x3080 .f32 := Host.absf main_arg4
  let main_cst_2 : FVec F S_ .f32 := constant S_ .f32 0x7F800000#32
  let main_v10 : FVec F S8192x3080 .f32 := broadcastInDim S8192x3080 ![] bcast_S_S8192x3080 main_cst_2
  let main_v11 : IVec S8192x3080 1 := cmpf .olt main_v9 main_v10
  (main_v2, main_v5, main_v8, main_v11)
-- ==== Pre_finite7.lean ====
abbrev S4x2048x16x64 : Shape := ⟨4, ![4, 2048, 16, 64]⟩
abbrev S4x2048x8 : Shape := ⟨3, ![4, 2048, 8]⟩
abbrev S_ : Shape := ⟨0, ![]⟩

class Facts : Prop where
  bcast_S_S4x2048x16x64 : S_.BroadcastsInDim S4x2048x16x64 (![] : Fin 0 → Fin S4x2048x16x64.rank)
  bcast_S_S4x2048x8 : S_.BroadcastsInDim S4x2048x8 (![] : Fin 0 → Fin S4x2048x8.rank)

variable [Facts]

def fn {F : FTy → Type} [FloatOps F] (main_arg0 : FVec F S4x2048x16x64 .f32) (main_arg1 : FVec F S4x2048x16x64 .f32) (main_arg2 : FVec F S4x2048x16x64 .f32) (main_arg3 : FVec F S4x2048x8 .f32) (main_arg4 : FVec F S4x2048x16x64 .f32) : IVec S4x2048x16x64 1 × IVec S4x2048x16x64 1 × IVec S4x2048x16x64 1 × IVec S4x2048x8 1 × IVec S4x2048x16x64 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_v3 : FVec F S4x2048x16x64 .f32 := Host.absf main_arg1
  let main_cst_0 : FVec F S_ .f32 := constant S_ .f32 0x7F800000#32
  let main_v4 : FVec F S4x2048x16x64 .f32 := broadcastInDim S4x2048x16x64 ![] bcast_S_S4x2048x16x64 main_cst_0
  let main_v5 : IVec S4x2048x16x64 1 := cmpf .olt main_v3 main_v4
  let main_v6 : FVec F S4x2048x16x64 .f32 := Host.absf main_arg2
  let main_cst_1 : FVec F S_ .f32 := constant S_ .f32 0x7F800000#32
  let main_v7 : FVec F S4x2048x16x64 .f32 := broadcastInDim S4x2048x16x64 ![] bcast_S_S4x2048x16x64 main_cst_1
  let main_v8 : IVec S4x2048x16x64 1 := cmpf .olt main_v6 main_v7
  let main_v9 : FVec F S4x2048x8 .f32 := Host.absf main_arg3
  let main_cst_2 : FVec F S_ .f32 := constant S_ .f32 0x7F800000#32
  let main_v10 : FVec F S4x2048x8 .f32 := broadcastInDim S4x2048x8 ![] bcast_S_S4x2048x8 main_cst_2
  let main_v11 : IVec S4x2048x8 1 := cmpf .olt main_v9 main_v10
  let main_v12 : FVec F S4x2048x16x64 .f32 := Host.absf main_arg4
  let main_cst_3 : FVec F S_ .f32 := constant S_ .f32 0x7F800000#32
  let main_v13 : FVec F S4x2048x16x64 .f32 := broadcastInDim S4x2048x16x64 ![] bcast_S_S4x2048x16x64 main_cst_3
  let main_v14 : IVec S4x2048x16x64 1 := cmpf .olt main_v12 main_v13
  (main_v2, main_v5, main_v8, main_v11, main_v14)
-- ==== Kernel.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 10
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x1024, .bf16⟩
  | .hbm, ⟨5, _⟩ => ⟨S2816x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S8192x1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x2816, .bf16⟩
  | .hbm, ⟨8, _⟩ => ⟨S2816x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S1x1024, .f32⟩
  | .hbm, ⟨13, _⟩ => ⟨S8192x1024, .bf16⟩
  | .hbm, ⟨14, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S8192x1024, .f32⟩
  | .hbm, ⟨4, _⟩ => ⟨S8192x1024, .f32⟩
  | .hbm, ⟨5, _⟩ => ⟨S8192x2816, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel3.lean ====
abbrev S8192x1024 : Shape := ⟨2, ![8192, 1024]⟩
abbrev S512 : Shape := ⟨1, ![512]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512x1 : Shape := ⟨2, ![512, 1]⟩
abbrev S1x512 : Shape := ⟨2, ![1, 512]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S512, .f32⟩
  | .hbm, ⟨2, _⟩ => ⟨S512, .f32⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S1x1024, .f32⟩
  | .hbm, ⟨7, _⟩ => ⟨S8192x1024, .bf16⟩
  | .hbm, ⟨8, _⟩ => ⟨S1024x1024, .bf16⟩
  | .hbm, ⟨9, _⟩ => ⟨S8192x1024, .bf16⟩
  | .hbm, ⟨10, _⟩ => ⟨S8192x1024, .bf16⟩
  | .hbm, ⟨11, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference3Ideal.lean ====
abbrev S8192x1024 : Shape := ⟨2, ![8192, 1024]⟩
abbrev S512 : Shape := ⟨1, ![512]⟩
abbrev S1024x1024 : Shape := ⟨2, ![1024, 1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S1024 : Shape := ⟨1, ![1024]⟩
abbrev S1x1024 : Shape := ⟨2, ![1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512, .f32⟩
  | .hbm, ⟨2, _⟩ => ⟨S512, .f32⟩
  | .hbm, ⟨3, _⟩ => ⟨S1024x1024, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S8192x512, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x512, .f32⟩
  | .hbm, ⟨65, _⟩ => ⟨S8192x512, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S8192x512, .f32⟩
  | .hbm, ⟨82, _⟩ => ⟨S8192x512, .f32⟩
  | .hbm, ⟨83, _⟩ => ⟨S_, .f32⟩
  | .hbm, ⟨84, _⟩ => ⟨S512, .f32⟩
  | .hbm, ⟨85, _⟩ => ⟨S8192x512, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x512, .f32⟩
  | .hbm, ⟨90, _⟩ => ⟨S8192x512, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S8192x1024, .f32⟩
  | .hbm, ⟨103, _⟩ => ⟨S8192x1024, .bf16⟩
  | .hbm, ⟨104, _⟩ => ⟨S1024, .f32⟩
  | .hbm, ⟨105, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_v72 : Ref sig .tc := ⟨.hbm, 94, rfl⟩
abbrev main_cst_16 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x3080 : Shape := ⟨2, ![1024, 3080]⟩
abbrev S8192x3080 : Shape := ⟨2, ![8192, 3080]⟩
abbrev S3080x1024 : Shape := ⟨2, ![3080, 1024]⟩
abbrev S512x1024 : Shape := ⟨2, ![512, 1024]⟩
abbrev S3072x1024 : Shape := ⟨2, ![3072, 1024]⟩
abbrev S8x1024 : Shape := ⟨2, ![8, 1024]⟩
abbrev S_ : Shape := ⟨0, ![]⟩
abbrev S128x1024 : Shape := ⟨2, ![128, 1024]⟩
abbrev S3080x8192 : Shape := ⟨2, ![3080, 8192]⟩
abbrev S512x8192 : Shape := ⟨2, ![512, 8192]⟩
abbrev S3072x8192 : Shape := ⟨2, ![3072, 8192]⟩
abbrev S8x8192 : Shape := ⟨2, ![8, 8192]⟩
abbrev S128x8192 : Shape := ⟨2, ![128, 8192]⟩
abbrev S3200x1024 : Shape := ⟨2, ![3200, 1024]⟩
abbrev S3200x8192 : Shape := ⟨2, ![3200, 8192]⟩
abbrev S8192x3200 : Shape := ⟨2, ![8192, 3200]⟩
abbrev S1x1024 : Shape := ⟨2, ![1, 1024]⟩
abbrev S512x3200 : Shape := ⟨2, ![512, 3200]⟩
abbrev S256x3200 : Shape := ⟨2, ![256, 3200]⟩
abbrev S256x1024 : Shape := ⟨2, ![256, 1024]⟩
abbrev S256 : Shape := ⟨1, ![256]⟩
abbrev S256x1 : Shape := ⟨2, ![256, 1]⟩

abbrev nBuf : Space → Nat
  | .hbm => 39
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S8192x1024, .f32⟩
  | .hbm, ⟨4, _⟩ => ⟨S8192x3080, .f32⟩
  | .hbm, ⟨5, _⟩ => ⟨S3080x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S3072x1024, .f32⟩
  | .hbm, ⟨13, _⟩ => ⟨S8x1024, .f32⟩
  | .hbm, ⟨14, _⟩ => ⟨S_, .i32⟩
  | .hbm, ⟨15, _⟩ => ⟨S_, .f32⟩
  | .hbm, ⟨16, _⟩ => ⟨S128x1024, .f32⟩
  | .hbm, ⟨17, _⟩ => ⟨S3080x8192, .f32⟩
  | .hbm, ⟨18, _⟩ => ⟨S512x8192, .f32⟩
  | .hbm, ⟨19, _⟩ => ⟨S512x8192, .f32⟩
  | .hbm, ⟨20, _⟩ => ⟨S512x8192, .f32⟩
  | .hbm, ⟨21, _⟩ => ⟨S512x8192, .f32⟩
  | .hbm, ⟨22, _⟩ => ⟨S512x8192, .f32⟩
  | .hbm, ⟨23, _⟩ => ⟨S512x8192, .f32⟩
  | .hbm, ⟨24, _⟩ => ⟨S3072x8192, .f32⟩
  | .hbm, ⟨25, _⟩ => ⟨S8x8192, .f32⟩
  | .hbm, ⟨26, _⟩ => ⟨S_, .i32⟩
  | .hbm, ⟨27, _⟩ => ⟨S_, .f32⟩
  | .hbm, ⟨28, _⟩ => ⟨S128x8192, .f32⟩
  | .hbm, ⟨29, _⟩ => ⟨S3200x1024, .f32⟩
  | .hbm, ⟨30, _⟩ => ⟨S3200x8192, .f32⟩
  | .hbm, ⟨31, _⟩ => ⟨S8192x3200, .f32⟩
  | .hbm, ⟨32, _⟩ => ⟨S8192x1024, .bf16⟩
  | .hbm, ⟨33, _⟩ => ⟨S3200x1024, .bf16⟩
  | .hbm, ⟨34, _⟩ => ⟨S8192x1024, .bf16⟩
  | .hbm, ⟨35, _⟩ => ⟨S8192x3200, .bf16⟩
  | .hbm, ⟨36, _⟩ => ⟨S1x1024, .f32⟩
  | .hbm, ⟨37, _⟩ => ⟨S8192x1024, .f32⟩
  | .hbm, ⟨38, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S3200x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_call1_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S8192x1024 : Shape := ⟨2, ![8192, 1024]⟩
abbrev S1024 : Shape := ⟨1, ![1024]⟩
abbrev S1024x3080 : Shape := ⟨2, ![1024, 3080]⟩
abbrev S8192x3080 : Shape := ⟨2, ![8192, 3080]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S8192x1024, .f32⟩
  | .hbm, ⟨4, _⟩ => ⟨S8192x3080, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3080, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S8192x1024 : Shape := ⟨2, ![8192, 1024]⟩
abbrev S8192x2816 : Shape := ⟨2, ![8192, 2816]⟩
abbrev S2816x1024 : Shape := ⟨2, ![2816, 1024]⟩
abbrev S8x128 : Shape := ⟨2, ![8, 128]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .bf16⟩
  | .hbm, ⟨5, _⟩ => ⟨S2816x1024, .bf16⟩
  | .hbm, ⟨6, _⟩ => ⟨S8192x1024, .bf16⟩
  | .hbm, ⟨7, _⟩ => ⟨S8192x1024, .bf16⟩
  | .hbm, ⟨8, _⟩ => ⟨S8x128, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩
abbrev S8192 : Shape := ⟨1, ![8192]⟩
abbrev S8x128 : Shape := ⟨2, ![8, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Kernel7.lean ====
abbrev S4x2048x16x64 : Shape := ⟨4, ![4, 2048, 16, 64]⟩
abbrev S4x2048x8 : Shape := ⟨3, ![4, 2048, 8]⟩
abbrev S2048x2048 : Shape := ⟨2, ![2048, 2048]⟩
abbrev S_ : Shape := ⟨0, ![]⟩
abbrev S1x2048x2048 : Shape := ⟨3, ![1, 2048, 2048]⟩
abbrev S2x2048x2048 : Shape := ⟨3, ![2, 2048, 2048]⟩
abbrev S2x8x2048x2048 : Shape := ⟨4, ![2, 8, 2048, 2048]⟩
abbrev S16x2048x2048 : Shape := ⟨3, ![16, 2048, 2048]⟩
abbrev S4x8x2048 : Shape := ⟨3, ![4, 8, 2048]⟩
abbrev S4x16x2048 : Shape := ⟨3, ![4, 16, 2048]⟩
abbrev S4x16x2048x2048 : Shape := ⟨4, ![4, 16, 2048, 2048]⟩
abbrev S4x16x2048x1 : Shape := ⟨4, ![4, 16, 2048, 1]⟩
abbrev S4x16x1x2048 : Shape := ⟨4, ![4, 16, 1, 2048]⟩
abbrev S1x16x2048x2048 : Shape := ⟨4, ![1, 16, 2048, 2048]⟩
abbrev S4x16x64x2048 : Shape := ⟨4, ![4, 16, 64, 2048]⟩
abbrev S4x2048x16x1 : Shape := ⟨4, ![4, 2048, 16, 1]⟩
abbrev S8192x1024 : Shape := ⟨2, ![8192, 1024]⟩
abbrev S4x2048x8x1 : Shape := ⟨4, ![4, 2048, 8, 1]⟩
abbrev S4x2048x8x3 : Shape := ⟨4, ![4, 2048, 8, 3]⟩
abbrev S4x2048x8x6 : Shape := ⟨4, ![4, 2048, 8, 6]⟩
abbrev S4x2048x8x2x64 : Shape := ⟨5, ![4, 2048, 8, 2, 64]⟩
abbrev S4x2048x8x1x64 : Shape := ⟨5, ![4, 2048, 8, 1, 64]⟩
abbrev S4x2048x8x64 : Shape := ⟨4, ![4, 2048, 8, 64]⟩
abbrev S4x2048x8x4x64 : Shape := ⟨5, ![4, 2048, 8, 4, 64]⟩
abbrev S8192x2048 : Shape := ⟨2, ![8192, 2048]⟩
abbrev S8192x4096 : Shape := ⟨2, ![8192, 4096]⟩
abbrev S8192x3072 : Shape := ⟨2, ![8192, 3072]⟩
abbrev S4x512x512 : Shape := ⟨3, ![4, 512, 512]⟩
abbrev S1x4x512x512 : Shape := ⟨4, ![1, 4, 512, 512]⟩
abbrev S2x4x512x512 : Shape := ⟨4, ![2, 4, 512, 512]⟩
abbrev S2048x256 : Shape := ⟨2, ![2048, 256]⟩
abbrev S2048x128 : Shape := ⟨2, ![2048, 128]⟩
abbrev S2x2048x128 : Shape := ⟨3, ![2, 2048, 128]⟩
abbrev S512x128 : Shape := ⟨2, ![512, 128]⟩
abbrev S128x512 : Shape := ⟨2, ![128, 512]⟩
abbrev S8x128 : Shape := ⟨2, ![8, 128]⟩
abbrev S8x512 : Shape := ⟨2, ![8, 512]⟩
abbrev S1x512 : Shape := ⟨2, ![1, 512]⟩
abbrev S512x512 : Shape := ⟨2, ![512, 512]⟩
abbrev S1x1x512x512 : Shape := ⟨4, ![1, 1, 512, 512]⟩
abbrev S256x128 : Shape := ⟨2, ![256, 128]⟩
abbrev S1x512x128 : Shape := ⟨3, ![1, 512, 128]⟩
abbrev S256x512 : Shape := ⟨2, ![256, 512]⟩
abbrev S1x1x256x512 : Shape := ⟨4, ![1, 1, 256, 512]⟩
abbrev S256x256 : Shape := ⟨2, ![256, 256]⟩
abbrev S1x1x256x256 : Shape := ⟨4, ![1, 1, 256, 256]⟩
abbrev S1x256 : Shape := ⟨2, ![1, 256]⟩
abbrev S128x256 : Shape := ⟨2, ![128, 256]⟩
abbrev S1x2048x128 : Shape := ⟨3, ![1, 2048, 128]⟩
abbrev S8192x512 : Shape := ⟨2, ![8192, 512]⟩
abbrev S4x2048x4x2x64 : Shape := ⟨5, ![4, 2048, 4, 2, 64]⟩
abbrev S4x2048x4x2x1 : Shape := ⟨5, ![4, 2048, 4, 2, 1]⟩
abbrev S4x2048x4x2 : Shape := ⟨4, ![4, 2048, 4, 2]⟩

abbrev nBuf : Space → Nat
  | .hbm => 339
  | .vmem => 26
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S4x2048x8, .f32⟩
  | 4 => ⟨S4x2048x16x64, .f32⟩
  | 5 => ⟨S2048x2048, .i32⟩
  | 6 => ⟨S2048x2048, .i32⟩
  | 7 => ⟨S2048x2048, .i32⟩
  | 8 => ⟨S_, .i32⟩
  | 9 => ⟨S2048x2048, .i32⟩
  | 10 => ⟨S2048x2048, .i1⟩
  | 11 => ⟨S_, .i32⟩
  | 12 => ⟨S2048x2048, .i32⟩
  | 13 => ⟨S_, .i32⟩
  | 14 => ⟨S2048x2048, .i32⟩
  | 15 => ⟨S2048x2048, .i32⟩
  | 16 => ⟨S_, .i32⟩
  | 17 => ⟨S2048x2048, .i32⟩
  | 18 => ⟨S2048x2048, .i1⟩
  | 19 => ⟨S2048x2048, .i1⟩
  | 20 => ⟨S_, .i32⟩
  | 21 => ⟨S2048x2048, .i32⟩
  | 22 => ⟨S2048x2048, .i1⟩
  | 23 => ⟨S2048x2048, .i1⟩
  | 24 => ⟨S2048x2048, .i32⟩
  | 25 => ⟨S2048x2048, .i32⟩
  | 26 => ⟨S_, .i32⟩
  | 27 => ⟨S2048x2048, .i32⟩
  | 28 => ⟨S2048x2048, .i32⟩
  | 29 => ⟨S_, .i32⟩
  | 30 => ⟨S2048x2048, .i32⟩
  | 31 => ⟨S2048x2048, .i1⟩
  | 32 => ⟨S2048x2048, .i1⟩
  | 33 => ⟨S_, .i32⟩
  | 34 => ⟨S2048x2048, .i32⟩
  | 35 => ⟨S2048x2048, .i1⟩
  | 36 => ⟨S2048x2048, .i1⟩
  | 37 => ⟨S2048x2048, .i32⟩
  | 38 => ⟨S2048x2048, .i32⟩
  | 39 => ⟨S_, .i32⟩
  | 40 => ⟨S2048x2048, .i32⟩
  | 41 => ⟨S2048x2048, .i32⟩
  | 42 => ⟨S_, .i32⟩
  | 43 => ⟨S2048x2048, .i32⟩
  | 44 => ⟨S2048x2048, .i1⟩
  | 45 => ⟨S2048x2048, .i1⟩
  | 46 => ⟨S_, .i32⟩
  | 47 => ⟨S2048x2048, .i32⟩
  | 48 => ⟨S2048x2048, .i1⟩
  | 49 => ⟨S2048x2048, .i1⟩
  | 50 => ⟨S2048x2048, .i32⟩
  | 51 => ⟨S2048x2048, .i32⟩
  | 52 => ⟨S_, .f32⟩
  | 53 => ⟨S_, .f32⟩
  | 54 => ⟨S2048x2048, .f32⟩
  | 55 => ⟨S2048x2048, .f32⟩
  | 56 => ⟨S2048x2048, .f32⟩
  | 57 => ⟨S_, .f32⟩
  | 58 => ⟨S_, .f32⟩
  | 59 => ⟨S_, .f32⟩
  | 60 => ⟨S_, .f32⟩
  | 61 => ⟨S_, .f32⟩
  | 62 => ⟨S_, .i32⟩
  | 63 => ⟨S2048x2048, .i32⟩
  | 64 => ⟨S2048x2048, .i1⟩
  | 65 => ⟨S_, .i32⟩
  | 66 => ⟨S2048x2048, .i32⟩
  | 67 => ⟨S2048x2048, .i1⟩
  | 68 => ⟨S_, .i32⟩
  | 69 => ⟨S2048x2048, .i32⟩
  | 70 => ⟨S2048x2048, .i1⟩
  | 71 => ⟨S_, .f32⟩
  | 72 => ⟨S_, .f32⟩
  | 73 => ⟨S2048x2048, .f32⟩
  | 74 => ⟨S2048x2048, .f32⟩
  | 75 => ⟨S2048x2048, .f32⟩
  | 76 => ⟨S_, .f32⟩
  | 77 => ⟨S2048x2048, .f32⟩
  | 78 => ⟨S2048x2048, .f32⟩
  | 79 => ⟨S2048x2048, .f32⟩
  | 80 => ⟨S2048x2048, .f32⟩
  | 81 => ⟨S2048x2048, .f32⟩
  | 82 => ⟨S2048x2048, .f32⟩
  | 83 => ⟨S1x2048x2048, .f32⟩
  | 84 => ⟨S1x2048x2048, .f32⟩
  | 85 => ⟨S2x2048x2048, .f32⟩
  | 86 => ⟨S2x8x2048x2048, .f32⟩
  | 87 => ⟨S16x2048x2048, .f32⟩
  | 88 => ⟨S4x8x2048, .f32⟩
  | 89 => ⟨S_, .i32⟩
  | 90 => ⟨S_, .f32⟩
  | 91 => ⟨S4x16x2048, .f32⟩
  | 92 => ⟨S_, .f32⟩
  | 93 => ⟨S_, .f32⟩
  | 94 => ⟨S_, .f32⟩
  | 95 => ⟨S_, .f32⟩
  | 96 => ⟨S4x16x2048, .f32⟩
  | 97 => ⟨S4x16x2048, .f32⟩
  | 98 => ⟨S_, .f32⟩
  | 99 => ⟨S_, .f32⟩
  | 100 => ⟨S_, .f32⟩
  | 101 => ⟨S_, .f32⟩
  | 102 => ⟨S4x2048x16x64, .f32⟩
  | 103 => ⟨S4x2048x16x64, .f32⟩
  | 104 => ⟨S4x16x2048x2048, .f32⟩
  | 105 => ⟨S4x16x2048x1, .f32⟩
  | 106 => ⟨S4x16x1x2048, .f32⟩
  | 107 => ⟨S4x16x2048x2048, .f32⟩
  | 108 => ⟨S4x16x2048x2048, .f32⟩
  | 109 => ⟨S4x16x2048x2048, .f32⟩
  | 110 => ⟨S4x16x2048x2048, .f32⟩
  | 111 => ⟨S1x16x2048x2048, .f32⟩
  | 112 => ⟨S4x16x2048x2048, .f32⟩
  | 113 => ⟨S4x16x2048x2048, .f32⟩
  | 114 => ⟨S_, .f32⟩
  | 115 => ⟨S4x16x2048, .f32⟩
  | 116 => ⟨S4x16x2048x1, .f32⟩
  | 117 => ⟨S4x16x2048x2048, .f32⟩
  | 118 => ⟨S4x16x2048x2048, .f32⟩
  | 119 => ⟨S_, .f32⟩
  | 120 => ⟨S_, .f32⟩
  | 121 => ⟨S4x16x2048x2048, .f32⟩
  | 122 => ⟨S4x16x2048x2048, .f32⟩
  | 123 => ⟨S4x16x2048x2048, .f32⟩
  | 124 => ⟨S_, .f32⟩
  | 125 => ⟨S4x16x2048, .f32⟩
  | 126 => ⟨S4x16x2048x1, .f32⟩
  | 127 => ⟨S4x16x64x2048, .f32⟩
  | _ => ⟨S4x2048x16x64, .f32⟩

abbrev hbmTy0_1 (i : Nat) : BufTy := match i % 128 with
  | 0 => ⟨S4x2048x16x64, .f32⟩
  | 1 => ⟨S4x2048x16x1, .f32⟩
  | 2 => ⟨S4x2048x16x64, .f32⟩
  | 3 => ⟨S4x2048x16x64, .f32⟩
  | 4 => ⟨S4x16x2048x1, .f32⟩
  | 5 => ⟨S_, .f32⟩
  | 6 => ⟨S_, .f32⟩
  | 7 => ⟨S_, .f32⟩
  | 8 => ⟨S_, .f32⟩
  | 9 => ⟨S4x16x2048x1, .f32⟩
  | 10 => ⟨S4x16x2048x1, .f32⟩
  | 11 => ⟨S4x16x2048x1, .f32⟩
  | 12 => ⟨S4x2048x16x1, .f32⟩
  | 13 => ⟨S4x2048x16x64, .f32⟩
  | 14 => ⟨S8192x1024, .f32⟩
  | 15 => ⟨S8192x1024, .bf16⟩
  | 16 => ⟨S8192x1024, .f32⟩
  | 17 => ⟨S_, .f32⟩
  | 18 => ⟨S_, .f32⟩
  | 19 => ⟨S_, .f32⟩
  | 20 => ⟨S_, .f32⟩
  | 21 => ⟨S4x2048x16x64, .f32⟩
  | 22 => ⟨S4x2048x16x64, .f32⟩
  | 23 => ⟨S_, .f32⟩
  | 24 => ⟨S_, .f32⟩
  | 25 => ⟨S_, .f32⟩
  | 26 => ⟨S_, .f32⟩
  | 27 => ⟨S4x2048x8, .f32⟩
  | 28 => ⟨S4x2048x8, .f32⟩
  | 29 => ⟨S4x2048x8, .bf16⟩
  | 30 => ⟨S4x2048x8, .f32⟩
  | 31 => ⟨S4x2048x8, .f32⟩
  | 32 => ⟨S4x2048x8, .bf16⟩
  | 33 => ⟨S4x2048x8, .f32⟩
  | 34 => ⟨S4x2048x8, .f32⟩
  | 35 => ⟨S4x2048x8, .bf16⟩
  | 36 => ⟨S4x2048x8, .f32⟩
  | 37 => ⟨S4x2048x8, .f32⟩
  | 38 => ⟨S4x2048x8x1, .f32⟩
  | 39 => ⟨S4x2048x8x1, .f32⟩
  | 40 => ⟨S4x2048x8x1, .f32⟩
  | 41 => ⟨S4x2048x8x3, .f32⟩
  | 42 => ⟨S_, .f32⟩
  | 43 => ⟨S4x2048x8x3, .f32⟩
  | 44 => ⟨S4x2048x8x6, .f32⟩
  | 45 => ⟨S_, .i32⟩
  | 46 => ⟨S_, .f32⟩
  | 47 => ⟨S4x2048x16x64, .f32⟩
  | 48 => ⟨S4x2048x8x3, .f32⟩
  | 49 => ⟨S4x2048x8x6, .f32⟩
  | 50 => ⟨S_, .i32⟩
  | 51 => ⟨S_, .f32⟩
  | 52 => ⟨S4x2048x16x64, .f32⟩
  | 53 => ⟨S4x2048x8x2x64, .f32⟩
  | 54 => ⟨S4x2048x8x2x64, .f32⟩
  | 55 => ⟨S4x2048x8x1x64, .f32⟩
  | 56 => ⟨S4x2048x8x64, .f32⟩
  | 57 => ⟨S4x2048x8x1x64, .f32⟩
  | 58 => ⟨S4x2048x8x64, .f32⟩
  | 59 => ⟨S4x2048x8x1x64, .f32⟩
  | 60 => ⟨S4x2048x8x64, .f32⟩
  | 61 => ⟨S4x2048x8x1x64, .f32⟩
  | 62 => ⟨S4x2048x8x64, .f32⟩
  | 63 => ⟨S4x2048x8x1x64, .f32⟩
  | 64 => ⟨S4x2048x8x1x64, .f32⟩
  | 65 => ⟨S4x2048x8x1x64, .f32⟩
  | 66 => ⟨S4x2048x8x1x64, .f32⟩
  | 67 => ⟨S4x2048x8x4x64, .f32⟩
  | 68 => ⟨S8192x2048, .f32⟩
  | 69 => ⟨S4x2048x8x2x64, .f32⟩
  | 70 => ⟨S4x2048x8x2x64, .f32⟩
  | 71 => ⟨S4x2048x8x1x64, .f32⟩
  | 72 => ⟨S4x2048x8x64, .f32⟩
  | 73 => ⟨S4x2048x8x1x64, .f32⟩
  | 74 => ⟨S4x2048x8x64, .f32⟩
  | 75 => ⟨S4x2048x8x1x64, .f32⟩
  | 76 => ⟨S4x2048x8x64, .f32⟩
  | 77 => ⟨S4x2048x8x1x64, .f32⟩
  | 78 => ⟨S4x2048x8x64, .f32⟩
  | 79 => ⟨S4x2048x8x1x64, .f32⟩
  | 80 => ⟨S4x2048x8x1x64, .f32⟩
  | 81 => ⟨S4x2048x8x1x64, .f32⟩
  | 82 => ⟨S4x2048x8x1x64, .f32⟩
  | 83 => ⟨S4x2048x8x4x64, .f32⟩
  | 84 => ⟨S8192x2048, .f32⟩
  | 85 => ⟨S8192x4096, .f32⟩
  | 86 => ⟨S8192x4096, .bf16⟩
  | 87 => ⟨S_, .bf16⟩
  | 88 => ⟨S8192x2048, .bf16⟩
  | 89 => ⟨S8192x1024, .f32⟩
  | 90 => ⟨S8192x1024, .bf16⟩
  | 91 => ⟨S8192x3072, .bf16⟩
  | 92 => ⟨S8192x1024, .f32⟩
  | 93 => ⟨S8192x1024, .bf16⟩
  | 94 => ⟨S4x512x512, .i32⟩
  | 95 => ⟨S_, .i32⟩
  | 96 => ⟨S4x512x512, .i32⟩
  | 97 => ⟨S4x512x512, .i32⟩
  | 98 => ⟨S4x512x512, .i32⟩
  | 99 => ⟨S4x512x512, .i32⟩
  | 100 => ⟨S4x512x512, .i32⟩
  | 101 => ⟨S4x512x512, .i32⟩
  | 102 => ⟨S_, .i32⟩
  | 103 => ⟨S4x512x512, .i32⟩
  | 104 => ⟨S4x512x512, .i1⟩
  | 105 => ⟨S_, .i32⟩
  | 106 => ⟨S4x512x512, .i32⟩
  | 107 => ⟨S_, .i32⟩
  | 108 => ⟨S4x512x512, .i32⟩
  | 109 => ⟨S4x512x512, .i32⟩
  | 110 => ⟨S_, .i32⟩
  | 111 => ⟨S4x512x512, .i32⟩
  | 112 => ⟨S4x512x512, .i1⟩
  | 113 => ⟨S4x512x512, .i1⟩
  | 114 => ⟨S_, .i32⟩
  | 115 => ⟨S4x512x512, .i32⟩
  | 116 => ⟨S4x512x512, .i1⟩
  | 117 => ⟨S4x512x512, .i1⟩
  | 118 => ⟨S4x512x512, .i32⟩
  | 119 => ⟨S4x512x512, .i32⟩
  | 120 => ⟨S_, .i32⟩
  | 121 => ⟨S4x512x512, .i32⟩
  | 122 => ⟨S4x512x512, .i32⟩
  | 123 => ⟨S_, .i32⟩
  | 124 => ⟨S4x512x512, .i32⟩
  | 125 => ⟨S4x512x512, .i1⟩
  | 126 => ⟨S4x512x512, .i1⟩
  | 127 => ⟨S_, .i32⟩
  | _ => ⟨S4x2048x16x64, .f32⟩

abbrev hbmTy0_2 (i : Nat) : BufTy := match i % 128 with
  | 0 => ⟨S4x512x512, .i32⟩
  | 1 => ⟨S4x512x512, .i1⟩
  | 2 => ⟨S4x512x512, .i1⟩
  | 3 => ⟨S4x512x512, .i32⟩
  | 4 => ⟨S4x512x512, .i32⟩
  | 5 => ⟨S_, .i32⟩
  | 6 => ⟨S4x512x512, .i32⟩
  | 7 => ⟨S4x512x512, .i32⟩
  | 8 => ⟨S_, .i32⟩
  | 9 => ⟨S4x512x512, .i32⟩
  | 10 => ⟨S4x512x512, .i1⟩
  | 11 => ⟨S4x512x512, .i1⟩
  | 12 => ⟨S_, .i32⟩
  | 13 => ⟨S4x512x512, .i32⟩
  | 14 => ⟨S4x512x512, .i1⟩
  | 15 => ⟨S4x512x512, .i1⟩
  | 16 => ⟨S4x512x512, .i32⟩
  | 17 => ⟨S4x512x512, .i32⟩
  | 18 => ⟨S_, .f32⟩
  | 19 => ⟨S_, .f32⟩
  | 20 => ⟨S4x512x512, .f32⟩
  | 21 => ⟨S4x512x512, .f32⟩
  | 22 => ⟨S4x512x512, .f32⟩
  | 23 => ⟨S_, .f32⟩
  | 24 => ⟨S_, .f32⟩
  | 25 => ⟨S_, .f32⟩
  | 26 => ⟨S_, .f32⟩
  | 27 => ⟨S_, .f32⟩
  | 28 => ⟨S_, .i32⟩
  | 29 => ⟨S4x512x512, .i32⟩
  | 30 => ⟨S4x512x512, .i1⟩
  | 31 => ⟨S_, .i32⟩
  | 32 => ⟨S4x512x512, .i32⟩
  | 33 => ⟨S4x512x512, .i1⟩
  | 34 => ⟨S_, .i32⟩
  | 35 => ⟨S4x512x512, .i32⟩
  | 36 => ⟨S4x512x512, .i1⟩
  | 37 => ⟨S_, .f32⟩
  | 38 => ⟨S_, .f32⟩
  | 39 => ⟨S4x512x512, .f32⟩
  | 40 => ⟨S4x512x512, .f32⟩
  | 41 => ⟨S4x512x512, .f32⟩
  | 42 => ⟨S_, .f32⟩
  | 43 => ⟨S4x512x512, .f32⟩
  | 44 => ⟨S4x512x512, .f32⟩
  | 45 => ⟨S4x512x512, .f32⟩
  | 46 => ⟨S4x512x512, .f32⟩
  | 47 => ⟨S4x512x512, .f32⟩
  | 48 => ⟨S4x512x512, .f32⟩
  | 49 => ⟨S1x4x512x512, .f32⟩
  | 50 => ⟨S1x4x512x512, .f32⟩
  | 51 => ⟨S2x4x512x512, .f32⟩
  | 52 => ⟨S8192x1024, .bf16⟩
  | 53 => ⟨S8192x1024, .bf16⟩
  | 54 => ⟨S8192x1024, .bf16⟩
  | 55 => ⟨S8192x1024, .f32⟩
  | 56 => ⟨S8192x1024, .f32⟩
  | 57 => ⟨S8192x512, .f32⟩
  | 58 => ⟨S4x2048x4x2x64, .f32⟩
  | 59 => ⟨S4x2048x4x2x1, .f32⟩
  | 60 => ⟨S4x2048x4x2x1, .f32⟩
  | 61 => ⟨S4x2048x4x2, .f32⟩
  | 62 => ⟨S4x2048x8, .f32⟩
  | 63 => ⟨S8192x512, .f32⟩
  | 64 => ⟨S4x2048x4x2x64, .f32⟩
  | 65 => ⟨S4x2048x4x2x1, .f32⟩
  | 66 => ⟨S4x2048x4x2x1, .f32⟩
  | 67 => ⟨S4x2048x4x2, .f32⟩
  | 68 => ⟨S4x2048x8, .f32⟩
  | 69 => ⟨S4x2048x8, .f32⟩
  | 70 => ⟨S8192x1024, .f32⟩
  | 71 => ⟨S4x2048x16x64, .f32⟩
  | 72 => ⟨S_, .f32⟩
  | 73 => ⟨S4x2048x16x64, .f32⟩
  | 74 => ⟨S4x2048x16x64, .f32⟩
  | 75 => ⟨S8192x1024, .f32⟩
  | 76 => ⟨S4x2048x16x64, .f32⟩
  | 77 => ⟨S_, .f32⟩
  | 78 => ⟨S_, .f32⟩
  | 79 => ⟨S4x2048x16x64, .f32⟩
  | 80 => ⟨S4x2048x16x64, .f32⟩
  | 81 => ⟨S8192x1024, .f32⟩
  | 82 => ⟨S4x2048x16x64, .f32⟩
  | _ => ⟨S4x2048x16x64, .f32⟩

abbrev hbmTy (i : Nat) : BufTy := match i / 128 with
  | 0 => hbmTy0_0 i
  | 1 => hbmTy0_1 i
  | 2 => hbmTy0_2 i
  | _ => ⟨S4x2048x16x64, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1x4x512x512, .f32⟩
  | .local _ .vmem, ⟨7, _⟩ => ⟨S1x4x512x512, .f32⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2x2048x128, .f32⟩
  | .local _ .vmem, ⟨25, _⟩ => ⟨S2048x128, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_cst_10 : Ref sig .tc := ⟨.hbm, 53, rfl⟩
abbrev main_call0_v0 : Ref sig .tc := ⟨.hbm, 54, rfl⟩
abbrev main_call0_v1 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩
abbrev main_v39 : Ref sig .tc := ⟨.hbm, 61, rfl⟩
abbrev main_c_13 : Ref sig .tc := ⟨.hbm, 62, rfl⟩
abbrev main_v40 : Ref sig .tc := ⟨.hbm, 63, rfl⟩
abbrev main_v41 : Ref sig .tc := ⟨.hbm, 64, rfl⟩
abbrev main_c_14 : Ref sig .tc := ⟨.hbm, 65, rfl⟩
abbrev main_v42 : Ref sig .tc := ⟨.hbm, 66, rfl⟩
abbrev main_v43 : Ref sig .tc := ⟨.hbm, 67, rfl⟩
abbrev main_c_15 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_cst_17 : Ref sig .tc := ⟨.hbm, 72, rfl⟩
abbrev main_call1_v0 : Ref sig .tc := ⟨.hbm, 73, rfl⟩
abbrev main_call1_v1 : Ref sig .tc := ⟨.hbm, 74, rfl⟩
abbrev main_v46 : Ref sig .tc := ⟨.hbm, 75, rfl⟩
abbrev main_cst_18 : Ref sig .tc := ⟨.hbm, 76, rfl⟩
abbrev main_call2_v0 : Ref sig .tc := ⟨.hbm, 77, rfl⟩
abbrev main_v47 : Ref sig .tc := ⟨.hbm, 78, rfl⟩
abbrev main_call3_v0 : Ref sig .tc := ⟨.hbm, 79, rfl⟩
abbrev main_call3_v1 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_19 : Ref sig .tc := ⟨.hbm, 89, rfl⟩
abbrev main_call4_v0 : Ref sig .tc := ⟨.hbm, 90, rfl⟩
abbrev main_v56 : Ref sig .tc := ⟨.hbm, 91, rfl⟩
abbrev main_cst_20 : Ref sig .tc := ⟨.hbm, 92, rfl⟩
abbrev main_v57 : Ref sig .tc := ⟨.hbm, 93, rfl⟩
abbrev main_cst_21 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_22 : Ref sig .tc := ⟨.hbm, 98, rfl⟩
abbrev main_v61 : Ref sig .tc := ⟨.hbm, 99, rfl⟩
abbrev main_cst_23 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_24 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_25 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_26 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_27 : Ref sig .tc := ⟨.hbm, 133, rfl⟩
abbrev main_v91 : Ref sig .tc := ⟨.hbm, 134, rfl⟩
abbrev main_cst_28 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_29 : Ref sig .tc := ⟨.hbm, 145, rfl⟩
abbrev main_v101 : Ref sig .tc := ⟨.hbm, 146, rfl⟩
abbrev main_cst_30 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_31 : Ref sig .tc := ⟨.hbm, 151, rfl⟩
abbrev main_v105 : Ref sig .tc := ⟨.hbm, 152, rfl⟩
abbrev main_cst_32 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_33 : Ref sig .tc := ⟨.hbm, 170, rfl⟩
abbrev main_v122 : Ref sig .tc := ⟨.hbm, 171, rfl⟩
abbrev main_v123 : Ref sig .tc := ⟨.hbm, 172, rfl⟩
abbrev main_c_34 : Ref sig .tc := ⟨.hbm, 173, rfl⟩
abbrev main_call5_v0 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_35 : Ref sig .tc := ⟨.hbm, 178, rfl⟩
abbrev main_call6_v0 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_36 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_c_37 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_c_38 : Ref sig .tc := ⟨.hbm, 230, rfl⟩
abbrev main_v175 : Ref sig .tc := ⟨.hbm, 231, rfl⟩
abbrev main_v176 : Ref sig .tc := ⟨.hbm, 232, rfl⟩
abbrev main_c_39 : Ref sig .tc := ⟨.hbm, 233, rfl⟩
abbrev main_v177 : Ref sig .tc := ⟨.hbm, 234, rfl⟩
abbrev main_c_40 : Ref sig .tc := ⟨.hbm, 235, rfl⟩
abbrev main_v178 : Ref sig .tc := ⟨.hbm, 236, rfl⟩
abbrev main_v179 : Ref sig .tc := ⟨.hbm, 237, rfl⟩
abbrev main_c_41 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_c_42 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_c_43 : Ref sig .tc := ⟨.hbm, 248, rfl⟩
abbrev main_v188 : Ref sig .tc := ⟨.hbm, 249, rfl⟩
abbrev main_v189 : Ref sig .tc := ⟨.hbm, 250, rfl⟩
abbrev main_c_44 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_c_45 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_c_46 : Ref sig .tc := ⟨.hbm, 261, rfl⟩
abbrev main_v198 : Ref sig .tc := ⟨.hbm, 262, rfl⟩
abbrev main_v199 : Ref sig .tc := ⟨.hbm, 263, rfl⟩
abbrev main_c_47 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_c_48 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_cst_49 : Ref sig .tc := ⟨.hbm, 274, rfl⟩
abbrev main_cst_50 : Ref sig .tc := ⟨.hbm, 275, rfl⟩
abbrev main_call7_v0 : Ref sig .tc := ⟨.hbm, 276, rfl⟩
abbrev main_call7_v1 : Ref sig .tc := ⟨.hbm, 277, rfl⟩
abbrev main_v208 : Ref sig .tc := ⟨.hbm, 278, rfl⟩
abbrev main_cst_51 : Ref sig .tc := ⟨.hbm, 279, rfl⟩
abbrev main_v209 : Ref sig .tc := ⟨.hbm, 280, rfl⟩
abbrev main_cst_52 : Ref sig .tc := ⟨.hbm, 281, rfl⟩
abbrev main_v210 : Ref sig .tc := ⟨.hbm, 282, rfl⟩
abbrev main_v211 : Ref sig .tc := ⟨.hbm, 283, rfl⟩
abbrev main_c_53 : Ref sig .tc := ⟨.hbm, 284, rfl⟩
abbrev main_v212 : Ref sig .tc := ⟨.hbm, 285, rfl⟩
abbrev main_v213 : Ref sig .tc := ⟨.hbm, 286, rfl⟩
abbrev main_c_54 : Ref sig .tc := ⟨.hbm, 287, rfl⟩
abbrev main_v214 : Ref sig .tc := ⟨.hbm, 288, rfl⟩
abbrev main_v215 : Ref sig .tc := ⟨.hbm, 289, rfl⟩
abbrev main_c_55 : Ref sig .tc := ⟨.hbm, 290, rfl⟩
abbrev main_v216 : Ref sig .tc := ⟨.hbm, 291, rfl⟩
abbrev main_v217 : Ref sig .tc := ⟨.hbm, 292, rfl⟩
abbrev main_cst_56 : Ref sig .tc := ⟨.hbm, 293, rfl⟩
abbrev main_cst_57 : Ref sig .tc := ⟨.hbm, 294, rfl⟩
abbrev main_call8_v0 : Ref sig .tc := ⟨.hbm, 295, rfl⟩
abbrev main_call8_v1 : Ref sig .tc := ⟨.hbm, 296, rfl⟩
abbrev main_v218 : Ref sig .tc := ⟨.hbm, 297, rfl⟩
abbrev main_cst_58 : Ref sig .tc := ⟨.hbm, 298, rfl⟩
abbrev main_call9_v0 : Ref sig .tc := ⟨.hbm, 299, rfl⟩
abbrev main_v219 : Ref sig .tc := ⟨.hbm, 300, rfl⟩
abbrev main_call10_v0 : Ref sig .tc := ⟨.hbm, 301, rfl⟩
abbrev main_call10_v1 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225_0 : Ref sig .tc := ⟨.hbm, 308, rfl⟩
abbrev main_v225_1 : Ref sig .tc := ⟨.hbm, 309, rfl⟩
abbrev main_v225_2 : Ref sig .tc := ⟨.hbm, 310, rfl⟩
abbrev main_v225_3 : Ref sig .tc := ⟨.hbm, 311, rfl⟩
abbrev main_v225_4 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_cst_59 : Ref sig .tc := ⟨.hbm, 328, rfl⟩
abbrev main_v241 : Ref sig .tc := ⟨.hbm, 329, rfl⟩
abbrev main_v242 : Ref sig .tc := ⟨.hbm, 330, rfl⟩
abbrev main_v243 : Ref sig .tc := ⟨.hbm, 331, rfl⟩
abbrev main_v244 : Ref sig .tc := ⟨.hbm, 332, rfl⟩
abbrev main_cst_60 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def k0_mult1 : BitVec 32 :=
  let c0_i32_12 : BitVec 32 := 0#32
  let c4_i32 : BitVec 32 := 4#32
  let v47 : BitVec 32 := Scalar.muli c0_i32_12 c4_i32
  let c0_i32_13 : BitVec 32 := 0#32
  let v48 : BitVec 32 := Scalar.addi v47 c0_i32_13
  let c512_i32 : BitVec 32 := 512#32
  let v49 : BitVec 32 := Scalar.muli v48 c512_i32
  v49
def k0_off1 (c0_i32_13 : BitVec 32) : Fin 2 → Nat :=
  let c0_i32_12 : BitVec 32 := 0#32
  let c4_i32 : BitVec 32 := 4#32
  let v47 : BitVec 32 := Scalar.muli c0_i32_12 c4_i32
  let v48 : BitVec 32 := Scalar.addi v47 c0_i32_13
  let c512_i32 : BitVec 32 := 512#32
  let v49 : BitVec 32 := Scalar.muli v48 c512_i32
  let v50 : BitVec 32 := v49
  let v51 : Index := Scalar.indexCast v50
  let c0_14 : Index := 0#32
  ![v51.toNat, 0]
def k0_off2 (c0_i32_13 : BitVec 32) : Fin 2 → Nat :=
  let c0_i32_12 : BitVec 32 := 0#32
  let c4_i32 : BitVec 32 := 4#32
  let v47 : BitVec 32 := Scalar.muli c0_i32_12 c4_i32
  let v48 : BitVec 32 := Scalar.addi v47 c0_i32_13
  let c512_i32 : BitVec 32 := 512#32
  let v49 : BitVec 32 := Scalar.muli v48 c512_i32
  let v50 : BitVec 32 := v49
  let v54 : Index := Scalar.indexCast v50
  let c128 : Index := 128#32
  ![v54.toNat, 128]
def k0_off3 (c0_i32_13 : BitVec 32) : Fin 2 → Nat :=
  let c0_i32_12 : BitVec 32 := 0#32
  let c4_i32 : BitVec 32 := 4#32
  let v47 : BitVec 32 := Scalar.muli c0_i32_12 c4_i32
  let v48 : BitVec 32 := Scalar.addi v47 c0_i32_13
  let c512_i32 : BitVec 32 := 512#32
  let v49 : BitVec 32 := Scalar.muli v48 c512_i32
  let v50 : BitVec 32 := v49
  let v57 : Index := Scalar.indexCast v50
  let c0_15 : Index := 0#32
  ![v57.toNat, 0]
def k0_mult2 : BitVec 32 :=
  let c0_i32_12 : BitVec 32 := 0#32
  let c4_i32 : BitVec 32 := 4#32
  let v47 : BitVec 32 := Scalar.muli c0_i32_12 c4_i32
  let c1_i32_27 : BitVec 32 := 1#32
  let v103 : BitVec 32 := Scalar.addi v47 c1_i32_27
  let c512_i32_28 : BitVec 32 := 512#32
  let v104 : BitVec 32 := Scalar.muli v103 c512_i32_28
  v104
def k0_mult3 : BitVec 32 :=
  let c0_i32_12 : BitVec 32 := 0#32
  let c4_i32 : BitVec 32 := 4#32
  let v47 : BitVec 32 := Scalar.muli c0_i32_12 c4_i32
  let c2_i32 : BitVec 32 := 2#32
  let v158 : BitVec 32 := Scalar.addi v47 c2_i32
  let c512_i32_43 : BitVec 32 := 512#32
  let v159 : BitVec 32 := Scalar.muli v158 c512_i32_43
  v159
def k0_mult4 : BitVec 32 :=
  let c0_i32_12 : BitVec 32 := 0#32
  let c4_i32 : BitVec 32 := 4#32
  let v47 : BitVec 32 := Scalar.muli c0_i32_12 c4_i32
  let c3_i32 : BitVec 32 := 3#32
  let v213 : BitVec 32 := Scalar.addi v47 c3_i32
  let c512_i32_58 : BitVec 32 := 512#32
  let v214 : BitVec 32 := Scalar.muli v213 c512_i32_58
  v214
@[reducible] def k0_t1_loop : Scf.Loop 32 :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_76 : BitVec 32 := 1#32
  ⟨c0_i32_74, v273, c1_i32_76⟩
def k0_mult5 (k0_t1 : Fin k0_t1_loop.trips) : BitVec 32 :=
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  v1171
def k0_off4 (k0_t1 : Fin k0_t1_loop.trips) : Fin 2 → Nat :=
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  let v1172 : BitVec 32 := v1171
  let v1173 : Index := Scalar.indexCast v1172
  let c0_429 : Index := 0#32
  ![v1173.toNat, 0]
def k0_off5 (k0_t1 : Fin k0_t1_loop.trips) : Fin 2 → Nat :=
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  let v1172 : BitVec 32 := v1171
  let v1176 : Index := Scalar.indexCast v1172
  let c0_430 : Index := 0#32
  ![v1176.toNat, 0]
def k0_off6 (k0_t1 : Fin k0_t1_loop.trips) (c0_i32_424 : BitVec 32) : Fin 4 → Nat :=
  let c0_432 : Index := 0#32
  let c0_i32_12 : BitVec 32 := 0#32
  let c4_i32 : BitVec 32 := 4#32
  let v47 : BitVec 32 := Scalar.muli c0_i32_12 c4_i32
  let v1163 : BitVec 32 := Scalar.addi v47 c0_i32_424
  let c0_i32_74 : BitVec 32 := 0#32
  let c1_i32_76 : BitVec 32 := 1#32
  let arg16 : BitVec 32 := Scf.iv c0_i32_74 c1_i32_76 k0_t1
  let v1164 : BitVec 32 := Scalar.subi v1163 arg16
  let v1180 : Index := Scalar.indexCast v1164
  let c0_433 : Index := 0#32
  let c0_434 : Index := 0#32
  ![0, v1180.toNat, 0, 0]
def k0_off7 (k0_t1 : Fin k0_t1_loop.trips) : Fin 3 → Nat :=
  let c0_463 : Index := 0#32
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  let v1172 : BitVec 32 := v1171
  let v1279 : Index := Scalar.indexCast v1172
  let c0_464 : Index := 0#32
  ![0, v1279.toNat, 0]
def k0_off8 (k0_t1 : Fin k0_t1_loop.trips) : Fin 2 → Nat :=
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  let v1172 : BitVec 32 := v1171
  let v1288 : Index := Scalar.indexCast v1172
  let c128_467 : Index := 128#32
  ![v1288.toNat, 128]
def k0_off9 (k0_t1 : Fin k0_t1_loop.trips) : Fin 3 → Nat :=
  let c1_500 : Index := 1#32
  let c0_i32_74 : BitVec 32 := 0#32
  let c1_i32_76 : BitVec 32 := 1#32
  let arg16 : BitVec 32 := Scf.iv c0_i32_74 c1_i32_76 k0_t1
  let c512_i32_428 : BitVec 32 := 512#32
  let v1171 : BitVec 32 := Scalar.muli arg16 c512_i32_428
  let v1172 : BitVec 32 := v1171
  let v1393 : Index := Scalar.indexCast v1172
  let c0_501 : Index := 0#32
  ![1, v1393.toNat, 0]
@[reducible] def k0_t2_loop : Scf.Loop 32 :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let v270 : BitVec 32 := Scalar.addi c0_i32_74 v269
  let c1_i32_77 : BitVec 32 := 1#32
  ⟨v273, v270, c1_i32_77⟩
def k0_mult6 (k0_t2 : Fin k0_t2_loop.trips) : BitVec 32 :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  v1171
def k0_off10 (k0_t2 : Fin k0_t2_loop.trips) : Fin 2 → Nat :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  let v1172 : BitVec 32 := v1171
  let v1173 : Index := Scalar.indexCast v1172
  let c0_429 : Index := 0#32
  ![v1173.toNat, 0]
def k0_off11 (k0_t2 : Fin k0_t2_loop.trips) : Fin 2 → Nat :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  let v1172 : BitVec 32 := v1171
  let v1176 : Index := Scalar.indexCast v1172
  let c0_430 : Index := 0#32
  ![v1176.toNat, 0]
def k0_off12 (k0_t2 : Fin k0_t2_loop.trips) (c0_i32_424 : BitVec 32) : Fin 4 → Nat :=
  let c0_432 : Index := 0#32
  let c0_i32_12 : BitVec 32 := 0#32
  let c4_i32 : BitVec 32 := 4#32
  let v47 : BitVec 32 := Scalar.muli c0_i32_12 c4_i32
  let v1163 : BitVec 32 := Scalar.addi v47 c0_i32_424
  let c0_i32_74 : BitVec 32 := 0#32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let v1164 : BitVec 32 := Scalar.subi v1163 arg16
  let v1180 : Index := Scalar.indexCast v1164
  let c0_433 : Index := 0#32
  let c0_434 : Index := 0#32
  ![0, v1180.toNat, 0, 0]
def k0_off13 (k0_t2 : Fin k0_t2_loop.trips) : Fin 3 → Nat :=
  let c0_463 : Index := 0#32
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  let v1172 : BitVec 32 := v1171
  let v1279 : Index := Scalar.indexCast v1172
  let c0_464 : Index := 0#32
  ![0, v1279.toNat, 0]
def k0_off14 (k0_t2 : Fin k0_t2_loop.trips) : Fin 2 → Nat :=
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  let v1172 : BitVec 32 := v1171
  let v1288 : Index := Scalar.indexCast v1172
  let c128_467 : Index := 128#32
  ![v1288.toNat, 128]
def k0_off15 (k0_t2 : Fin k0_t2_loop.trips) : Fin 3 → Nat :=
  let c1_500 : Index := 1#32
  let c0_i32_74 : BitVec 32 := 0#32
  let c0_i32_12 : BitVec 32 := 0#32
  let c4_i32 : BitVec 32 := 4#32
  let v47 : BitVec 32 := Scalar.muli c0_i32_12 c4_i32
  let v269 : BitVec 32 := Scalar.subi v47 c0_i32_74
  let c1_i32_75 : BitVec 32 := 1#32
  let v271 : BitVec 32 := Scalar.divsi v269 c1_i32_75
  let v272 : BitVec 32 := Scalar.muli v271 c1_i32_75
  let v273 : BitVec 32 := Scalar.addi c0_i32_74 v272
  let c1_i32_77 : BitVec 32 := 1#32
  let arg16 : BitVec 32 := Scf.iv v273 c1_i32_77 k0_t2
  let c512_i32_428 : BitVec 32 := 512#32
  let v1171 : BitVec 32 := Scalar.muli arg16 c512_i32_428
  let v1172 : BitVec 32 := v1171
  let v1393 : Index := Scalar.indexCast v1172
  let c0_501 : Index := 0#32
  ![1, v1393.toNat, 0]
def k0_mult7 : BitVec 32 :=
  let c0_i32_12 : BitVec 32 := 0#32
  let c4_i32 : BitVec 32 := 4#32
  let v47 : BitVec 32 := Scalar.muli c0_i32_12 c4_i32
  let c0_i32_78 : BitVec 32 := 0#32
  let v276 : BitVec 32 := Scalar.addi v47 c0_i32_78
  let c512_i32_79 : BitVec 32 := 512#32
  let v277 : BitVec 32 := Scalar.muli v276 c512_i32_79
  v277
def k0_off16 (c0_i32_78 : BitVec 32) : Fin 3 → Nat :=
  let c0_123 : Index := 0#32
  let c0_i32_12 : BitVec 32 := 0#32
  let c4_i32 : BitVec 32 := 4#32
  let v47 : BitVec 32 := Scalar.muli c0_i32_12 c4_i32
  let v276 : BitVec 32 := Scalar.addi v47 c0_i32_78
  let c512_i32_79 : BitVec 32 := 512#32
  let v277 : BitVec 32 := Scalar.muli v276 c512_i32_79
  let v278 : BitVec 32 := v277
  let v405 : Index := Scalar.indexCast v278
  let c0_124 : Index := 0#32
  ![0, v405.toNat, 0]
def k0_off17 (c0_i32_78 : BitVec 32) : Fin 3 → Nat :=
  let c1_173 : Index := 1#32
  let c0_i32_12 : BitVec 32 := 0#32
  let c4_i32 : BitVec 32 := 4#32
  let v47 : BitVec 32 := Scalar.muli c0_i32_12 c4_i32
  let v276 : BitVec 32 := Scalar.addi v47 c0_i32_78
  let c512_i32_79 : BitVec 32 := 512#32
  let v277 : BitVec 32 := Scalar.muli v276 c512_i32_79
  let v278 : BitVec 32 := v277
  let v539 : Index := Scalar.indexCast v278
  let c0_174 : Index := 0#32
  ![1, v539.toNat, 0]
def k0_mult8 : BitVec 32 :=
  let c0_i32_12 : BitVec 32 := 0#32
  let c4_i32 : BitVec 32 := 4#32
  let v47 : BitVec 32 := Scalar.muli c0_i32_12 c4_i32
  let c1_i32_179 : BitVec 32 := 1#32
  let v556 : BitVec 32 := Scalar.addi v47 c1_i32_179
  let c512_i32_180 : BitVec 32 := 512#32
  let v557 : BitVec 32 := Scalar.muli v556 c512_i32_180
  v557
def k0_mult9 : BitVec 32 :=
  let c0_i32_12 : BitVec 32 := 0#32
  let c4_i32 : BitVec 32 := 4#32
  let v47 : BitVec 32 := Scalar.muli c0_i32_12 c4_i32
  let c2_i32_266 : BitVec 32 := 2#32
  let v786 : BitVec 32 := Scalar.addi v47 c2_i32_266
  let c512_i32_267 : BitVec 32 := 512#32
  let v787 : BitVec 32 := Scalar.muli v786 c512_i32_267
  v787
def k0_mult10 : BitVec 32 :=
  let c0_i32_12 : BitVec 32 := 0#32
  let c4_i32 : BitVec 32 := 4#32
  let v47 : BitVec 32 := Scalar.muli c0_i32_12 c4_i32
  let c3_i32_335 : BitVec 32 := 3#32
  let v966 : BitVec 32 := Scalar.addi v47 c3_i32_335
  let c512_i32_336 : BitVec 32 := 512#32
  let v967 : BitVec 32 := Scalar.muli v966 c512_i32_336
  v967
def k0_mult11 : BitVec 32 :=
  let c0_i32_12 : BitVec 32 := 0#32
  let c4_i32 : BitVec 32 := 4#32
  let v47 : BitVec 32 := Scalar.muli c0_i32_12 c4_i32
  let c0_i32_386 : BitVec 32 := 0#32
  let v1096 : BitVec 32 := Scalar.addi v47 c0_i32_386
  let c512_i32_387 : BitVec 32 := 512#32
  let v1097 : BitVec 32 := Scalar.muli v1096 c512_i32_387
  v1097
def k0_mult12 : BitVec 32 :=
  let c0_i32_12 : BitVec 32 := 0#32
  let c4_i32 : BitVec 32 := 4#32
  let v47 : BitVec 32 := Scalar.muli c0_i32_12 c4_i32
  let c1_i32_390 : BitVec 32 := 1#32
  let v1108 : BitVec 32 := Scalar.addi v47 c1_i32_390
  let c512_i32_391 : BitVec 32 := 512#32
  let v1109 : BitVec 32 := Scalar.muli v1108 c512_i32_391
  v1109
def k0_mult13 : BitVec 32 :=
  let c0_i32_12 : BitVec 32 := 0#32
  let c4_i32 : BitVec 32 := 4#32
  let v47 : BitVec 32 := Scalar.muli c0_i32_12 c4_i32
  let c2_i32_394 : BitVec 32 := 2#32
  let v1120 : BitVec 32 := Scalar.addi v47 c2_i32_394
  let c512_i32_395 : BitVec 32 := 512#32
  let v1121 : BitVec 32 := Scalar.muli v1120 c512_i32_395
  v1121
def k0_mult14 : BitVec 32 :=
  let c0_i32_12 : BitVec 32 := 0#32
  let c4_i32 : BitVec 32 := 4#32
  let v47 : BitVec 32 := Scalar.muli c0_i32_12 c4_i32
  let c3_i32_398 : BitVec 32 := 3#32
  let v1132 : BitVec 32 := Scalar.addi v47 c3_i32_398
  let c512_i32_399 : BitVec 32 := 512#32
  let v1133 : BitVec 32 := Scalar.muli v1132 c512_i32_399
  v1133
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference7Ideal.lean ====
abbrev S4x2048x16x64 : Shape := ⟨4, ![4, 2048, 16, 64]⟩
abbrev S4x2048x8 : Shape := ⟨3, ![4, 2048, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x2048x2048 : Shape := ⟨4, ![4, 16, 2048, 2048]⟩
abbrev S_ : Shape := ⟨0, ![]⟩
abbrev S4x8x2048 : Shape := ⟨3, ![4, 8, 2048]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S4x2048x8x64 : Shape := ⟨4, ![4, 2048, 8, 64]⟩
abbrev S4x8x64x2048 : Shape := ⟨4, ![4, 8, 64, 2048]⟩
abbrev S1x2048x2048 : Shape := ⟨3, ![1, 2048, 2048]⟩
abbrev S3x2048x2048 : Shape := ⟨3, ![3, 2048, 2048]⟩
abbrev S3x1x1x2048x2048 : Shape := ⟨5, ![3, 1, 1, 2048, 2048]⟩
abbrev S3x4x8x2048x2048 : Shape := ⟨5, ![3, 4, 8, 2048, 2048]⟩
abbrev S3x4x8x2048 : Shape := ⟨4, ![3, 4, 8, 2048]⟩
abbrev S3x4x8x2048x1 : Shape := ⟨5, ![3, 4, 8, 2048, 1]⟩
abbrev S4x8x64x3x2048 : Shape := ⟨5, ![4, 8, 64, 3, 2048]⟩
abbrev S3x4x2048x8x64 : Shape := ⟨5, ![3, 4, 2048, 8, 64]⟩
abbrev S3x4x2048x8 : Shape := ⟨4, ![3, 4, 2048, 8]⟩
abbrev S1x4x2048x8 : Shape := ⟨4, ![1, 4, 2048, 8]⟩
abbrev S3x4x2048x8x1 : Shape := ⟨5, ![3, 4, 2048, 8, 1]⟩
abbrev S4x8x3x2048x2048 : Shape := ⟨5, ![4, 8, 3, 2048, 2048]⟩
abbrev S4x16x2048x64 : Shape := ⟨4, ![4, 16, 2048, 64]⟩

abbrev nBuf : Space → Nat
  | .hbm => 298
  | .vmem => 0
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S4x2048x8, .f32⟩
  | 4 => ⟨S4x2048x16x64, .f32⟩
  | 5 => ⟨S2048, .i32⟩
  | 6 => ⟨S2048x1, .i32⟩
  | 7 => ⟨S2048, .i32⟩
  | 8 => ⟨S1x2048, .i32⟩
  | 9 => ⟨S2048x2048, .i32⟩
  | 10 => ⟨S2048x2048, .i32⟩
  | 11 => ⟨S2048x2048, .i32⟩
  | 12 => ⟨S4x16x2048x2048, .f32⟩
  | 13 => ⟨S_, .f32⟩
  | 14 => ⟨S4x16x2048x2048, .f32⟩
  | 15 => ⟨S4x16x2048x2048, .f32⟩
  | 16 => ⟨S4x8x2048, .f32⟩
  | 17 => ⟨S_, .i32⟩
  | 18 => ⟨S2048x2048, .i32⟩
  | 19 => ⟨S2048x2048, .i1⟩
  | 20 => ⟨S4x8x2048x2048, .f32⟩
  | 21 => ⟨S4x8x2048x1, .f32⟩
  | 22 => ⟨S4x8x1x2048, .f32⟩
  | 23 => ⟨S4x8x2048x2048, .f32⟩
  | 24 => ⟨S4x8x2048x2048, .f32⟩
  | 25 => ⟨S4x8x2048x2048, .f32⟩
  | 26 => ⟨S4x8x2048x2048, .f32⟩
  | 27 => ⟨S_, .f32⟩
  | 28 => ⟨S_, .f32⟩
  | 29 => ⟨S4x8x2048x2048, .i1⟩
  | 30 => ⟨S4x8x2048x2048, .f32⟩
  | 31 => ⟨S4x8x2048x2048, .f32⟩
  | 32 => ⟨S_, .f32⟩
  | 33 => ⟨S4x8x2048x2048, .f32⟩
  | 34 => ⟨S_, .f32⟩
  | 35 => ⟨S4x8x2048, .f32⟩
  | 36 => ⟨S4x8x2048x1, .f32⟩
  | 37 => ⟨S4x8x2048x2048, .f32⟩
  | 38 => ⟨S4x8x2048x2048, .i1⟩
  | 39 => ⟨S4x8x2048x2048, .f32⟩
  | 40 => ⟨S_, .f32⟩
  | 41 => ⟨S4x8x2048, .f32⟩
  | 42 => ⟨S_, .f32⟩
  | 43 => ⟨S4x8x2048, .f32⟩
  | 44 => ⟨S4x8x2048, .f32⟩
  | 45 => ⟨S_, .f32⟩
  | 46 => ⟨S4x8x2048, .f32⟩
  | 47 => ⟨S4x8x2048, .i1⟩
  | 48 => ⟨S_, .f32⟩
  | 49 => ⟨S4x8x2048, .f32⟩
  | 50 => ⟨S4x8x2048, .i1⟩
  | 51 => ⟨S_, .f32⟩
  | 52 => ⟨S4x8x2048, .f32⟩
  | 53 => ⟨S_, .f32⟩
  | 54 => ⟨S4x8x2048, .f32⟩
  | 55 => ⟨S_, .f32⟩
  | 56 => ⟨S4x8x2048, .f32⟩
  | 57 => ⟨S4x8x2048, .f32⟩
  | 58 => ⟨S4x8x2048, .f32⟩
  | 59 => ⟨S4x8x2048x1, .f32⟩
  | 60 => ⟨S4x8x2048x2048, .f32⟩
  | 61 => ⟨S4x8x2048x2048, .f32⟩
  | 62 => ⟨S4x8x2048x2048, .f32⟩
  | 63 => ⟨S_, .f32⟩
  | 64 => ⟨S4x8x2048, .f32⟩
  | 65 => ⟨S4x8x2048x1, .f32⟩
  | 66 => ⟨S4x8x2048x2048, .f32⟩
  | 67 => ⟨S4x8x2048x2048, .f32⟩
  | 68 => ⟨S4x8x2048x1, .f32⟩
  | 69 => ⟨S_, .f32⟩
  | 70 => ⟨S4x8x2048x1, .f32⟩
  | 71 => ⟨S4x8x2048x1, .f32⟩
  | 72 => ⟨S4x2048x8x64, .f32⟩
  | 73 => ⟨S4x8x64x2048, .f32⟩
  | 74 => ⟨S4x2048x8x64, .f32⟩
  | 75 => ⟨S_, .i32⟩
  | 76 => ⟨S2048x2048, .i32⟩
  | 77 => ⟨S2048x2048, .i1⟩
  | 78 => ⟨S_, .i32⟩
  | 79 => ⟨S2048x2048, .i32⟩
  | 80 => ⟨S2048x2048, .i32⟩
  | 81 => ⟨S_, .i32⟩
  | 82 => ⟨S2048x2048, .i32⟩
  | 83 => ⟨S2048x2048, .i1⟩
  | 84 => ⟨S2048x2048, .i1⟩
  | 85 => ⟨S_, .i32⟩
  | 86 => ⟨S2048x2048, .i32⟩
  | 87 => ⟨S2048x2048, .i1⟩
  | 88 => ⟨S2048x2048, .i1⟩
  | 89 => ⟨S_, .i32⟩
  | 90 => ⟨S2048x2048, .i32⟩
  | 91 => ⟨S2048x2048, .i1⟩
  | 92 => ⟨S_, .i32⟩
  | 93 => ⟨S2048x2048, .i32⟩
  | 94 => ⟨S2048x2048, .i32⟩
  | 95 => ⟨S_, .i32⟩
  | 96 => ⟨S2048x2048, .i32⟩
  | 97 => ⟨S2048x2048, .i1⟩
  | 98 => ⟨S2048x2048, .i1⟩
  | 99 => ⟨S_, .i32⟩
  | 100 => ⟨S2048x2048, .i32⟩
  | 101 => ⟨S2048x2048, .i1⟩
  | 102 => ⟨S2048x2048, .i1⟩
  | 103 => ⟨S_, .i32⟩
  | 104 => ⟨S2048x2048, .i32⟩
  | 105 => ⟨S2048x2048, .i1⟩
  | 106 => ⟨S_, .i32⟩
  | 107 => ⟨S2048x2048, .i32⟩
  | 108 => ⟨S2048x2048, .i32⟩
  | 109 => ⟨S_, .i32⟩
  | 110 => ⟨S2048x2048, .i32⟩
  | 111 => ⟨S2048x2048, .i1⟩
  | 112 => ⟨S2048x2048, .i1⟩
  | 113 => ⟨S_, .i32⟩
  | 114 => ⟨S2048x2048, .i32⟩
  | 115 => ⟨S2048x2048, .i1⟩
  | 116 => ⟨S2048x2048, .i1⟩
  | 117 => ⟨S1x2048x2048, .i1⟩
  | 118 => ⟨S1x2048x2048, .i1⟩
  | 119 => ⟨S1x2048x2048, .i1⟩
  | 120 => ⟨S3x2048x2048, .i1⟩
  | 121 => ⟨S3x1x1x2048x2048, .i1⟩
  | 122 => ⟨S4x8x2048x2048, .f32⟩
  | 123 => ⟨S_, .f32⟩
  | 124 => ⟨S_, .f32⟩
  | 125 => ⟨S3x4x8x2048x2048, .i1⟩
  | 126 => ⟨S3x4x8x2048x2048, .f32⟩
  | 127 => ⟨S3x4x8x2048x2048, .f32⟩
  | _ => ⟨S4x2048x16x64, .f32⟩

abbrev hbmTy0_1 (i : Nat) : BufTy := match i % 128 with
  | 0 => ⟨S3x4x8x2048x2048, .f32⟩
  | 1 => ⟨S_, .f32⟩
  | 2 => ⟨S3x4x8x2048x2048, .f32⟩
  | 3 => ⟨S_, .f32⟩
  | 4 => ⟨S3x4x8x2048, .f32⟩
  | 5 => ⟨S3x4x8x2048x1, .f32⟩
  | 6 => ⟨S3x4x8x2048x2048, .f32⟩
  | 7 => ⟨S3x4x8x2048x2048, .i1⟩
  | 8 => ⟨S3x4x8x2048x2048, .f32⟩
  | 9 => ⟨S_, .f32⟩
  | 10 => ⟨S3x4x8x2048, .f32⟩
  | 11 => ⟨S3x4x8x2048x1, .f32⟩
  | 12 => ⟨S3x4x8x2048x2048, .f32⟩
  | 13 => ⟨S3x4x8x2048x2048, .f32⟩
  | 14 => ⟨S3x4x8x2048x2048, .f32⟩
  | 15 => ⟨S_, .f32⟩
  | 16 => ⟨S3x4x8x2048, .f32⟩
  | 17 => ⟨S3x4x8x2048, .f32⟩
  | 18 => ⟨S3x4x8x2048, .f32⟩
  | 19 => ⟨S3x4x8x2048x1, .f32⟩
  | 20 => ⟨S3x4x8x2048x2048, .f32⟩
  | 21 => ⟨S3x4x8x2048x2048, .f32⟩
  | 22 => ⟨S3x4x8x2048x2048, .f32⟩
  | 23 => ⟨S4x2048x8x64, .f32⟩
  | 24 => ⟨S4x8x64x3x2048, .f32⟩
  | 25 => ⟨S3x4x2048x8x64, .f32⟩
  | 26 => ⟨S3x4x2048x8, .f32⟩
  | 27 => ⟨S_, .f32⟩
  | 28 => ⟨S4x2048x8, .f32⟩
  | 29 => ⟨S1x4x2048x8, .f32⟩
  | 30 => ⟨S3x4x2048x8, .f32⟩
  | 31 => ⟨S3x4x2048x8, .i1⟩
  | 32 => ⟨S3x4x2048x8, .f32⟩
  | 33 => ⟨S_, .f32⟩
  | 34 => ⟨S4x2048x8, .f32⟩
  | 35 => ⟨S_, .f32⟩
  | 36 => ⟨S4x2048x8, .f32⟩
  | 37 => ⟨S4x2048x8, .f32⟩
  | 38 => ⟨S_, .f32⟩
  | 39 => ⟨S4x2048x8, .f32⟩
  | 40 => ⟨S4x2048x8, .i1⟩
  | 41 => ⟨S_, .f32⟩
  | 42 => ⟨S4x2048x8, .f32⟩
  | 43 => ⟨S4x2048x8, .i1⟩
  | 44 => ⟨S_, .f32⟩
  | 45 => ⟨S4x2048x8, .f32⟩
  | 46 => ⟨S_, .f32⟩
  | 47 => ⟨S4x2048x8, .f32⟩
  | 48 => ⟨S_, .f32⟩
  | 49 => ⟨S4x2048x8, .f32⟩
  | 50 => ⟨S4x2048x8, .f32⟩
  | 51 => ⟨S4x2048x8, .f32⟩
  | 52 => ⟨S1x4x2048x8, .f32⟩
  | 53 => ⟨S3x4x2048x8, .f32⟩
  | 54 => ⟨S3x4x2048x8, .f32⟩
  | 55 => ⟨S3x4x2048x8, .f32⟩
  | 56 => ⟨S_, .f32⟩
  | 57 => ⟨S4x2048x8, .f32⟩
  | 58 => ⟨S1x4x2048x8, .f32⟩
  | 59 => ⟨S3x4x2048x8, .f32⟩
  | 60 => ⟨S3x4x2048x8, .f32⟩
  | 61 => ⟨S1x4x2048x8, .f32⟩
  | 62 => ⟨S_, .f32⟩
  | 63 => ⟨S1x4x2048x8, .f32⟩
  | 64 => ⟨S1x4x2048x8, .f32⟩
  | 65 => ⟨S3x4x2048x8x1, .f32⟩
  | 66 => ⟨S3x4x2048x8x64, .f32⟩
  | 67 => ⟨S3x4x2048x8x64, .f32⟩
  | 68 => ⟨S_, .f32⟩
  | 69 => ⟨S4x2048x8x64, .f32⟩
  | 70 => ⟨S4x2048x16x64, .f32⟩
  | 71 => ⟨S4x2048x8x64, .f32⟩
  | 72 => ⟨S4x2048x8x64, .f32⟩
  | 73 => ⟨S3x4x2048x8x64, .f32⟩
  | 74 => ⟨S3x4x2048x8x64, .f32⟩
  | 75 => ⟨S3x4x2048x8x64, .f32⟩
  | 76 => ⟨S3x4x2048x8x64, .f32⟩
  | 77 => ⟨S_, .f32⟩
  | 78 => ⟨S3x4x2048x8, .f32⟩
  | 79 => ⟨S3x4x2048x8x1, .f32⟩
  | 80 => ⟨S_, .f32⟩
  | 81 => ⟨S3x4x2048x8, .f32⟩
  | 82 => ⟨S3x4x2048x8, .f32⟩
  | 83 => ⟨S3x4x2048x8, .f32⟩
  | 84 => ⟨S3x4x2048x8, .f32⟩
  | 85 => ⟨S_, .f32⟩
  | 86 => ⟨S4x2048x8, .f32⟩
  | 87 => ⟨S1x4x2048x8, .f32⟩
  | 88 => ⟨S1x4x2048x8, .f32⟩
  | 89 => ⟨S3x4x2048x8, .f32⟩
  | 90 => ⟨S3x4x2048x8, .f32⟩
  | 91 => ⟨S_, .f32⟩
  | 92 => ⟨S4x2048x8, .f32⟩
  | 93 => ⟨S3x4x2048x8, .f32⟩
  | 94 => ⟨S3x4x2048x8, .f32⟩
  | 95 => ⟨S3x4x2048x8, .f32⟩
  | 96 => ⟨S3x4x8x2048, .f32⟩
  | 97 => ⟨S4x8x64x3x2048, .f32⟩
  | 98 => ⟨S4x8x3x2048x2048, .f32⟩
  | 99 => ⟨S3x4x8x2048x2048, .f32⟩
  | 100 => ⟨S4x8x64x2048, .f32⟩
  | 101 => ⟨S4x2048x8x64, .f32⟩
  | 102 => ⟨S_, .f32⟩
  | 103 => ⟨S4x2048x16x64, .f32⟩
  | 104 => ⟨S3x4x8x2048x2048, .f32⟩
  | 105 => ⟨S3x4x8x2048x2048, .f32⟩
  | 106 => ⟨S_, .f32⟩
  | 107 => ⟨S3x4x8x2048, .f32⟩
  | 108 => ⟨S3x4x8x2048x1, .f32⟩
  | 109 => ⟨S_, .f32⟩
  | 110 => ⟨S3x4x8x2048, .f32⟩
  | 111 => ⟨S3x4x8x2048, .f32⟩
  | 112 => ⟨S3x4x8x2048, .f32⟩
  | 113 => ⟨S3x4x8x2048x2048, .f32⟩
  | 114 => ⟨S3x4x8x2048x2048, .f32⟩
  | 115 => ⟨S3x4x8x2048x2048, .f32⟩
  | 116 => ⟨S_, .f32⟩
  | 117 => ⟨S3x4x8x2048x2048, .f32⟩
  | 118 => ⟨S3x4x8x2048x2048, .f32⟩
  | 119 => ⟨S_, .f32⟩
  | 120 => ⟨S4x8x2048x2048, .f32⟩
  | 121 => ⟨S_, .f32⟩
  | 122 => ⟨S4x16x2048x2048, .f32⟩
  | 123 => ⟨S4x8x64x2048, .f32⟩
  | 124 => ⟨S4x8x2048x2048, .f32⟩
  | 125 => ⟨S4x8x64x2048, .f32⟩
  | 126 => ⟨S4x2048x8x64, .f32⟩
  | 127 => ⟨S_, .f32⟩
  | _ => ⟨S4x2048x16x64, .f32⟩

abbrev hbmTy0_2 (i : Nat) : BufTy := match i % 128 with
  | 0 => ⟨S4x2048x16x64, .f32⟩
  | 1 => ⟨S4x2048x16x64, .f32⟩
  | 2 => ⟨S4x8x2048x2048, .f32⟩
  | 3 => ⟨S4x8x2048x2048, .f32⟩
  | 4 => ⟨S4x8x2048x2048, .f32⟩
  | 5 => ⟨S_, .f32⟩
  | 6 => ⟨S4x8x2048, .f32⟩
  | 7 => ⟨S4x8x2048x1, .f32⟩
  | 8 => ⟨S4x8x2048x1, .f32⟩
  | 9 => ⟨S4x8x2048x2048, .f32⟩
  | 10 => ⟨S4x8x2048x2048, .f32⟩
  | 11 => ⟨S_, .f32⟩
  | 12 => ⟨S4x8x2048, .f32⟩
  | 13 => ⟨S4x8x2048x2048, .f32⟩
  | 14 => ⟨S4x8x2048x2048, .f32⟩
  | 15 => ⟨S4x8x2048x2048, .f32⟩
  | 16 => ⟨S_, .f32⟩
  | 17 => ⟨S4x8x2048x2048, .f32⟩
  | 18 => ⟨S4x8x2048x2048, .f32⟩
  | 19 => ⟨S_, .f32⟩
  | 20 => ⟨S4x8x2048, .f32⟩
  | 21 => ⟨S4x8x2048x1, .f32⟩
  | 22 => ⟨S4x8x2048x2048, .f32⟩
  | 23 => ⟨S_, .f32⟩
  | 24 => ⟨S4x8x2048, .f32⟩
  | 25 => ⟨S4x8x1x2048, .f32⟩
  | 26 => ⟨S_, .f32⟩
  | 27 => ⟨S4x8x2048, .f32⟩
  | 28 => ⟨S_, .f32⟩
  | 29 => ⟨S4x8x2048, .f32⟩
  | 30 => ⟨S4x8x2048, .f32⟩
  | 31 => ⟨S_, .f32⟩
  | 32 => ⟨S4x16x2048x2048, .f32⟩
  | 33 => ⟨S4x16x2048x2048, .f32⟩
  | 34 => ⟨S4x2048x8, .f32⟩
  | 35 => ⟨S_, .f32⟩
  | 36 => ⟨S4x16x2048x2048, .f32⟩
  | 37 => ⟨S4x16x2048x2048, .f32⟩
  | 38 => ⟨S4x16x2048x64, .f32⟩
  | 39 => ⟨S4x2048x16x64, .f32⟩
  | 40 => ⟨S4x16x2048x64, .f32⟩
  | 41 => ⟨S4x2048x16x64, .f32⟩
  | _ => ⟨S4x2048x16x64, .f32⟩

abbrev hbmTy (i : Nat) : BufTy := match i / 128 with
  | 0 => hbmTy0_0 i
  | 1 => hbmTy0_1 i
  | 2 => hbmTy0_2 i
  | _ => ⟨S4x2048x16x64, .f32⟩

abbrev bufTy : (tb : Table) → Fin (tcTables nBuf tb) → BufTy
  | .hbm, ⟨i, _⟩ => hbmTy i
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call0_v0 : Ref sig .tc := ⟨.hbm, 28, rfl⟩
abbrev main_v20_1 : Ref sig .tc := ⟨.hbm, 29, rfl⟩
abbrev main_call0_v2 : Ref sig .tc := ⟨.hbm, 30, rfl⟩
abbrev main_v20_0 : Ref sig .tc := ⟨.hbm, 31, rfl⟩
abbrev main_call0_cst : Ref sig .tc := ⟨.hbm, 32, rfl⟩
abbrev main_v20_2 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_c_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_18 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_19 : Ref sig .tc := ⟨.hbm, 103, rfl⟩
abbrev main_v72 : Ref sig .tc := ⟨.hbm, 104, rfl⟩
abbrev main_v73 : Ref sig .tc := ⟨.hbm, 105, rfl⟩
abbrev main_c_20 : Ref sig .tc := ⟨.hbm, 106, rfl⟩
abbrev main_v74 : Ref sig .tc := ⟨.hbm, 107, rfl⟩
abbrev main_v75 : Ref sig .tc := ⟨.hbm, 108, rfl⟩
abbrev main_c_21 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_22 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_23 : Ref sig .tc := ⟨.hbm, 123, rfl⟩
abbrev main_call1_v0 : Ref sig .tc := ⟨.hbm, 124, rfl⟩
abbrev main_v88_1 : Ref sig .tc := ⟨.hbm, 125, rfl⟩
abbrev main_call1_v2 : Ref sig .tc := ⟨.hbm, 126, rfl⟩
abbrev main_call1_v3 : Ref sig .tc := ⟨.hbm, 127, rfl⟩
abbrev main_v88_0 : Ref sig .tc := ⟨.hbm, 128, rfl⟩
abbrev main_call1_cst : Ref sig .tc := ⟨.hbm, 129, rfl⟩
abbrev main_v88_2 : Ref sig .tc := ⟨.hbm, 130, rfl⟩
abbrev main_cst_24 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_25 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_26 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_27 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_28 : Ref sig .tc := ⟨.hbm, 161, rfl⟩
abbrev main_v115 : Ref sig .tc := ⟨.hbm, 162, rfl⟩
abbrev main_cst_29 : Ref sig .tc := ⟨.hbm, 163, rfl⟩
abbrev main_v116 : Ref sig .tc := ⟨.hbm, 164, rfl⟩
abbrev main_v117 : Ref sig .tc := ⟨.hbm, 165, rfl⟩
abbrev main_cst_30 : Ref sig .tc := ⟨.hbm, 166, rfl⟩
abbrev main_v118 : Ref sig .tc := ⟨.hbm, 167, rfl⟩
abbrev main_v119 : Ref sig .tc := ⟨.hbm, 168, rfl⟩
abbrev main_cst_31 : Ref sig .tc := ⟨.hbm, 169, rfl⟩
abbrev main_v120 : Ref sig .tc := ⟨.hbm, 170, rfl⟩
abbrev main_v121 : Ref sig .tc := ⟨.hbm, 171, rfl⟩
abbrev main_cst_32 : Ref sig .tc := ⟨.hbm, 172, rfl⟩
abbrev main_v122 : Ref sig .tc := ⟨.hbm, 173, rfl⟩
abbrev main_cst_33 : Ref sig .tc := ⟨.hbm, 174, rfl⟩
abbrev main_v123 : Ref sig .tc := ⟨.hbm, 175, rfl⟩
abbrev main_cst_34 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_35 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_36 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_37 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_38 : Ref sig .tc := ⟨.hbm, 205, rfl⟩
abbrev main_v149 : Ref sig .tc := ⟨.hbm, 206, rfl⟩
abbrev main_v150 : Ref sig .tc := ⟨.hbm, 207, rfl⟩
abbrev main_cst_39 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_40 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_41 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_42 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_43 : Ref sig .tc := ⟨.hbm, 234, rfl⟩
abbrev main_v173 : Ref sig .tc := ⟨.hbm, 235, rfl⟩
abbrev main_v174 : Ref sig .tc := ⟨.hbm, 236, rfl⟩
abbrev main_cst_44 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_call2_cst : Ref sig .tc := ⟨.hbm, 244, rfl⟩
abbrev main_call2_v0 : Ref sig .tc := ⟨.hbm, 245, rfl⟩
abbrev main_call2_v1 : Ref sig .tc := ⟨.hbm, 246, rfl⟩
abbrev main_call2_cst_0 : Ref sig .tc := ⟨.hbm, 247, rfl⟩
abbrev main_v181 : Ref sig .tc := ⟨.hbm, 248, rfl⟩
abbrev main_cst_45 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_cst_46 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_cst_47 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_cst_48 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_call3_cst : Ref sig .tc := ⟨.hbm, 272, rfl⟩
abbrev main_call3_v0 : Ref sig .tc := ⟨.hbm, 273, rfl⟩
abbrev main_v201 : Ref sig .tc := ⟨.hbm, 274, rfl⟩
abbrev main_cst_49 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_cst_50 : Ref sig .tc := ⟨.hbm, 279, rfl⟩
abbrev main_v205 : Ref sig .tc := ⟨.hbm, 280, rfl⟩
abbrev main_v206 : Ref sig .tc := ⟨.hbm, 281, rfl⟩
abbrev main_cst_51 : Ref sig .tc := ⟨.hbm, 282, rfl⟩
abbrev main_v207 : Ref sig .tc := ⟨.hbm, 283, rfl⟩
abbrev main_cst_52 : Ref sig .tc := ⟨.hbm, 284, rfl⟩
abbrev main_v208 : Ref sig .tc := ⟨.hbm, 285, rfl⟩
abbrev main_v209 : Ref sig .tc := ⟨.hbm, 286, rfl⟩
abbrev main_cst_53 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_cst_54 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩

abbrev nD : Nat := 1
abbrev τ : Topo := Topo.v7x

variable {F : FTy → Type} [FloatOps F]
-- ==== Kernel8.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S8192x2816, .bf16⟩
  | .hbm, ⟨9, _⟩ => ⟨S8192x2816, .bf16⟩
  | .hbm, ⟨10, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .bf16⟩
  | .hbm, ⟨6, _⟩ => ⟨S8192x2816, .bf16⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel10.lean ====
abbrev S8192x1024 : Shape := ⟨2, ![8192, 1024]⟩
abbrev S512 : Shape := ⟨1, ![512]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x1 : Shape := ⟨2, ![512, 1]⟩
abbrev S1x512 : Shape := ⟨2, ![1, 512]⟩
abbrev S512x1024 : Shape := ⟨2, ![512, 1024]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S512, .f32⟩
  | .hbm, ⟨2, _⟩ => ⟨S512, .f32⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S8192x1024, .bf16⟩
  | .hbm, ⟨9, _⟩ => ⟨S1024x1024, .bf16⟩
  | .hbm, ⟨10, _⟩ => ⟨S8192x1024, .bf16⟩
  | .hbm, ⟨11, _⟩ => ⟨S1x1024, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x1024 : Shape := ⟨2, ![8192, 1024]⟩
abbrev S512 : Shape := ⟨1, ![512]⟩
abbrev S1024x1024 : Shape := ⟨2, ![1024, 1024]⟩
abbrev S1024 : Shape := ⟨1, ![1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512, .f32⟩
  | .hbm, ⟨2, _⟩ => ⟨S512, .f32⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | .hbm, ⟨44, _⟩ => ⟨S8192x1024, .bf16⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel11.lean ====
abbrev S4x2048x16x64 : Shape := ⟨4, ![4, 2048, 16, 64]⟩
abbrev S4x2048x8 : Shape := ⟨3, ![4, 2048, 8]⟩
abbrev S_ : Shape := ⟨0, ![]⟩
abbrev S4x2048x8x1 : Shape := ⟨4, ![4, 2048, 8, 1]⟩
abbrev S4x2048x8x3 : Shape := ⟨4, ![4, 2048, 8, 3]⟩
abbrev S4x2048x8x6 : Shape := ⟨4, ![4, 2048, 8, 6]⟩
abbrev S4x2048x8x2x64 : Shape := ⟨5, ![4, 2048, 8, 2, 64]⟩
abbrev S4x2048x8x1x64 : Shape := ⟨5, ![4, 2048, 8, 1, 64]⟩
abbrev S4x2048x8x64 : Shape := ⟨4, ![4, 2048, 8, 64]⟩
abbrev S4x2048x8x4x64 : Shape := ⟨5, ![4, 2048, 8, 4, 64]⟩
abbrev S8192x2048 : Shape := ⟨2, ![8192, 2048]⟩
abbrev S8192x4096 : Shape := ⟨2, ![8192, 4096]⟩
abbrev S8192x1024 : Shape := ⟨2, ![8192, 1024]⟩
abbrev S8192x3072 : Shape := ⟨2, ![8192, 3072]⟩
abbrev S4x512x512 : Shape := ⟨3, ![4, 512, 512]⟩
abbrev S1x4x512x512 : Shape := ⟨4, ![1, 4, 512, 512]⟩
abbrev S2x4x512x512 : Shape := ⟨4, ![2, 4, 512, 512]⟩
abbrev S2048x256 : Shape := ⟨2, ![2048, 256]⟩
abbrev S2048x128 : Shape := ⟨2, ![2048, 128]⟩
abbrev S512x128 : Shape := ⟨2, ![512, 128]⟩
abbrev S512x2048 : Shape := ⟨2, ![512, 2048]⟩
abbrev S512x512 : Shape := ⟨2, ![512, 512]⟩
abbrev S1x1x512x512 : Shape := ⟨4, ![1, 1, 512, 512]⟩
abbrev S512 : Shape := ⟨1, ![512]⟩
abbrev S512x1 : Shape := ⟨2, ![512, 1]⟩
abbrev S1536x128 : Shape := ⟨2, ![1536, 128]⟩
abbrev S512x1536 : Shape := ⟨2, ![512, 1536]⟩
abbrev S1024x128 : Shape := ⟨2, ![1024, 128]⟩
abbrev S512x1024 : Shape := ⟨2, ![512, 1024]⟩

abbrev nBuf : Space → Nat
  | .hbm => 167
  | .vmem => 12
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S4x2048x8, .f32⟩
  | 4 => ⟨S_, .f32⟩
  | 5 => ⟨S_, .f32⟩
  | 6 => ⟨S_, .f32⟩
  | 7 => ⟨S_, .f32⟩
  | 8 => ⟨S4x2048x16x64, .f32⟩
  | 9 => ⟨S4x2048x16x64, .f32⟩
  | 10 => ⟨S_, .f32⟩
  | 11 => ⟨S_, .f32⟩
  | 12 => ⟨S_, .f32⟩
  | 13 => ⟨S_, .f32⟩
  | 14 => ⟨S4x2048x8, .f32⟩
  | 15 => ⟨S4x2048x8, .f32⟩
  | 16 => ⟨S4x2048x8, .bf16⟩
  | 17 => ⟨S4x2048x8, .f32⟩
  | 18 => ⟨S4x2048x8, .f32⟩
  | 19 => ⟨S4x2048x8, .bf16⟩
  | 20 => ⟨S4x2048x8, .f32⟩
  | 21 => ⟨S4x2048x8, .f32⟩
  | 22 => ⟨S4x2048x8, .bf16⟩
  | 23 => ⟨S4x2048x8, .f32⟩
  | 24 => ⟨S4x2048x8, .f32⟩
  | 25 => ⟨S4x2048x8x1, .f32⟩
  | 26 => ⟨S4x2048x8x1, .f32⟩
  | 27 => ⟨S4x2048x8x1, .f32⟩
  | 28 => ⟨S4x2048x8x3, .f32⟩
  | 29 => ⟨S_, .f32⟩
  | 30 => ⟨S4x2048x8x3, .f32⟩
  | 31 => ⟨S4x2048x8x6, .f32⟩
  | 32 => ⟨S_, .i32⟩
  | 33 => ⟨S_, .f32⟩
  | 34 => ⟨S4x2048x16x64, .f32⟩
  | 35 => ⟨S4x2048x8x3, .f32⟩
  | 36 => ⟨S4x2048x8x6, .f32⟩
  | 37 => ⟨S_, .i32⟩
  | 38 => ⟨S_, .f32⟩
  | 39 => ⟨S4x2048x16x64, .f32⟩
  | 40 => ⟨S4x2048x8x2x64, .f32⟩
  | 41 => ⟨S4x2048x8x2x64, .f32⟩
  | 42 => ⟨S4x2048x8x1x64, .f32⟩
  | 43 => ⟨S4x2048x8x64, .f32⟩
  | 44 => ⟨S4x2048x8x1x64, .f32⟩
  | 45 => ⟨S4x2048x8x64, .f32⟩
  | 46 => ⟨S4x2048x8x1x64, .f32⟩
  | 47 => ⟨S4x2048x8x64, .f32⟩
  | 48 => ⟨S4x2048x8x1x64, .f32⟩
  | 49 => ⟨S4x2048x8x64, .f32⟩
  | 50 => ⟨S4x2048x8x1x64, .f32⟩
  | 51 => ⟨S4x2048x8x1x64, .f32⟩
  | 52 => ⟨S4x2048x8x1x64, .f32⟩
  | 53 => ⟨S4x2048x8x1x64, .f32⟩
  | 54 => ⟨S4x2048x8x4x64, .f32⟩
  | 55 => ⟨S8192x2048, .f32⟩
  | 56 => ⟨S4x2048x8x2x64, .f32⟩
  | 57 => ⟨S4x2048x8x2x64, .f32⟩
  | 58 => ⟨S4x2048x8x1x64, .f32⟩
  | 59 => ⟨S4x2048x8x64, .f32⟩
  | 60 => ⟨S4x2048x8x1x64, .f32⟩
  | 61 => ⟨S4x2048x8x64, .f32⟩
  | 62 => ⟨S4x2048x8x1x64, .f32⟩
  | 63 => ⟨S4x2048x8x64, .f32⟩
  | 64 => ⟨S4x2048x8x1x64, .f32⟩
  | 65 => ⟨S4x2048x8x64, .f32⟩
  | 66 => ⟨S4x2048x8x1x64, .f32⟩
  | 67 => ⟨S4x2048x8x1x64, .f32⟩
  | 68 => ⟨S4x2048x8x1x64, .f32⟩
  | 69 => ⟨S4x2048x8x1x64, .f32⟩
  | 70 => ⟨S4x2048x8x4x64, .f32⟩
  | 71 => ⟨S8192x2048, .f32⟩
  | 72 => ⟨S8192x4096, .f32⟩
  | 73 => ⟨S8192x4096, .bf16⟩
  | 74 => ⟨S_, .bf16⟩
  | 75 => ⟨S8192x2048, .bf16⟩
  | 76 => ⟨S8192x1024, .f32⟩
  | 77 => ⟨S8192x1024, .bf16⟩
  | 78 => ⟨S8192x3072, .bf16⟩
  | 79 => ⟨S4x512x512, .i32⟩
  | 80 => ⟨S_, .i32⟩
  | 81 => ⟨S4x512x512, .i32⟩
  | 82 => ⟨S4x512x512, .i32⟩
  | 83 => ⟨S4x512x512, .i32⟩
  | 84 => ⟨S4x512x512, .i32⟩
  | 85 => ⟨S4x512x512, .i32⟩
  | 86 => ⟨S4x512x512, .i32⟩
  | 87 => ⟨S_, .i32⟩
  | 88 => ⟨S4x512x512, .i32⟩
  | 89 => ⟨S4x512x512, .i1⟩
  | 90 => ⟨S_, .i32⟩
  | 91 => ⟨S4x512x512, .i32⟩
  | 92 => ⟨S_, .i32⟩
  | 93 => ⟨S4x512x512, .i32⟩
  | 94 => ⟨S4x512x512, .i32⟩
  | 95 => ⟨S_, .i32⟩
  | 96 => ⟨S4x512x512, .i32⟩
  | 97 => ⟨S4x512x512, .i1⟩
  | 98 => ⟨S4x512x512, .i1⟩
  | 99 => ⟨S_, .i32⟩
  | 100 => ⟨S4x512x512, .i32⟩
  | 101 => ⟨S4x512x512, .i1⟩
  | 102 => ⟨S4x512x512, .i1⟩
  | 103 => ⟨S4x512x512, .i32⟩
  | 104 => ⟨S4x512x512, .i32⟩
  | 105 => ⟨S_, .i32⟩
  | 106 => ⟨S4x512x512, .i32⟩
  | 107 => ⟨S4x512x512, .i32⟩
  | 108 => ⟨S_, .i32⟩
  | 109 => ⟨S4x512x512, .i32⟩
  | 110 => ⟨S4x512x512, .i1⟩
  | 111 => ⟨S4x512x512, .i1⟩
  | 112 => ⟨S_, .i32⟩
  | 113 => ⟨S4x512x512, .i32⟩
  | 114 => ⟨S4x512x512, .i1⟩
  | 115 => ⟨S4x512x512, .i1⟩
  | 116 => ⟨S4x512x512, .i32⟩
  | 117 => ⟨S4x512x512, .i32⟩
  | 118 => ⟨S_, .i32⟩
  | 119 => ⟨S4x512x512, .i32⟩
  | 120 => ⟨S4x512x512, .i32⟩
  | 121 => ⟨S_, .i32⟩
  | 122 => ⟨S4x512x512, .i32⟩
  | 123 => ⟨S4x512x512, .i1⟩
  | 124 => ⟨S4x512x512, .i1⟩
  | 125 => ⟨S_, .i32⟩
  | 126 => ⟨S4x512x512, .i32⟩
  | 127 => ⟨S4x512x512, .i1⟩
  | _ => ⟨S4x2048x16x64, .f32⟩

abbrev hbmTy0_1 (i : Nat) : BufTy := match i % 128 with
  | 0 => ⟨S4x512x512, .i1⟩
  | 1 => ⟨S4x512x512, .i32⟩
  | 2 => ⟨S4x512x512, .i32⟩
  | 3 => ⟨S_, .f32⟩
  | 4 => ⟨S_, .f32⟩
  | 5 => ⟨S4x512x512, .f32⟩
  | 6 => ⟨S4x512x512, .f32⟩
  | 7 => ⟨S4x512x512, .f32⟩
  | 8 => ⟨S_, .f32⟩
  | 9 => ⟨S_, .f32⟩
  | 10 => ⟨S_, .f32⟩
  | 11 => ⟨S_, .f32⟩
  | 12 => ⟨S_, .f32⟩
  | 13 => ⟨S_, .i32⟩
  | 14 => ⟨S4x512x512, .i32⟩
  | 15 => ⟨S4x512x512, .i1⟩
  | 16 => ⟨S_, .i32⟩
  | 17 => ⟨S4x512x512, .i32⟩
  | 18 => ⟨S4x512x512, .i1⟩
  | 19 => ⟨S_, .i32⟩
  | 20 => ⟨S4x512x512, .i32⟩
  | 21 => ⟨S4x512x512, .i1⟩
  | 22 => ⟨S_, .f32⟩
  | 23 => ⟨S_, .f32⟩
  | 24 => ⟨S4x512x512, .f32⟩
  | 25 => ⟨S4x512x512, .f32⟩
  | 26 => ⟨S4x512x512, .f32⟩
  | 27 => ⟨S_, .f32⟩
  | 28 => ⟨S4x512x512, .f32⟩
  | 29 => ⟨S4x512x512, .f32⟩
  | 30 => ⟨S4x512x512, .f32⟩
  | 31 => ⟨S4x512x512, .f32⟩
  | 32 => ⟨S4x512x512, .f32⟩
  | 33 => ⟨S4x512x512, .f32⟩
  | 34 => ⟨S1x4x512x512, .f32⟩
  | 35 => ⟨S1x4x512x512, .f32⟩
  | 36 => ⟨S2x4x512x512, .f32⟩
  | 37 => ⟨S8192x1024, .bf16⟩
  | 38 => ⟨S8192x1024, .f32⟩
  | _ => ⟨S4x2048x16x64, .f32⟩

abbrev hbmTy (i : Nat) : BufTy := match i / 128 with
  | 0 => hbmTy0_0 i
  | 1 => hbmTy0_1 i
  | _ => ⟨S4x2048x16x64, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1x4x512x512, .f32⟩
  | .local _ .vmem, ⟨7, _⟩ => ⟨S1x4x512x512, .f32⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_call1_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_5 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_c_6 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_c_7 : Ref sig .tc := ⟨.hbm, 87, rfl⟩
abbrev main_v72 : Ref sig .tc := ⟨.hbm, 88, rfl⟩
abbrev main_v73 : Ref sig .tc := ⟨.hbm, 89, rfl⟩
abbrev main_c_8 : Ref sig .tc := ⟨.hbm, 90, rfl⟩
abbrev main_v74 : Ref sig .tc := ⟨.hbm, 91, rfl⟩
abbrev main_c_9 : Ref sig .tc := ⟨.hbm, 92, rfl⟩
abbrev main_v75 : Ref sig .tc := ⟨.hbm, 93, rfl⟩
abbrev main_v76 : Ref sig .tc := ⟨.hbm, 94, rfl⟩
abbrev main_c_10 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_11 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_12 : Ref sig .tc := ⟨.hbm, 105, rfl⟩
abbrev main_v85 : Ref sig .tc := ⟨.hbm, 106, rfl⟩
abbrev main_v86 : Ref sig .tc := ⟨.hbm, 107, rfl⟩
abbrev main_c_13 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_c_14 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_c_15 : Ref sig .tc := ⟨.hbm, 118, rfl⟩
abbrev main_v95 : Ref sig .tc := ⟨.hbm, 119, rfl⟩
abbrev main_v96 : Ref sig .tc := ⟨.hbm, 120, rfl⟩
abbrev main_c_16 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_c_17 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_18 : Ref sig .tc := ⟨.hbm, 131, rfl⟩
abbrev main_cst_19 : Ref sig .tc := ⟨.hbm, 132, rfl⟩
abbrev main_call2_v0 : Ref sig .tc := ⟨.hbm, 133, rfl⟩
abbrev main_call2_v1 : Ref sig .tc := ⟨.hbm, 134, rfl⟩
abbrev main_v105 : Ref sig .tc := ⟨.hbm, 135, rfl⟩
abbrev main_cst_20 : Ref sig .tc := ⟨.hbm, 136, rfl⟩
abbrev main_v106 : Ref sig .tc := ⟨.hbm, 137, rfl⟩
abbrev main_cst_21 : Ref sig .tc := ⟨.hbm, 138, rfl⟩
abbrev main_v107 : Ref sig .tc := ⟨.hbm, 139, rfl⟩
abbrev main_v108 : Ref sig .tc := ⟨.hbm, 140, rfl⟩
abbrev main_c_22 : Ref sig .tc := ⟨.hbm, 141, rfl⟩
abbrev main_v109 : Ref sig .tc := ⟨.hbm, 142, rfl⟩
abbrev main_v110 : Ref sig .tc := ⟨.hbm, 143, rfl⟩
abbrev main_c_23 : Ref sig .tc := ⟨.hbm, 144, rfl⟩
abbrev main_v111 : Ref sig .tc := ⟨.hbm, 145, rfl⟩
abbrev main_v112 : Ref sig .tc := ⟨.hbm, 146, rfl⟩
abbrev main_c_24 : Ref sig .tc := ⟨.hbm, 147, rfl⟩
abbrev main_v113 : Ref sig .tc := ⟨.hbm, 148, rfl⟩
abbrev main_v114 : Ref sig .tc := ⟨.hbm, 149, rfl⟩
abbrev main_cst_25 : Ref sig .tc := ⟨.hbm, 150, rfl⟩
abbrev main_cst_26 : Ref sig .tc := ⟨.hbm, 151, rfl⟩
abbrev main_call3_v0 : Ref sig .tc := ⟨.hbm, 152, rfl⟩
abbrev main_call3_v1 : Ref sig .tc := ⟨.hbm, 153, rfl⟩
abbrev main_v115 : Ref sig .tc := ⟨.hbm, 154, rfl⟩
abbrev main_cst_27 : Ref sig .tc := ⟨.hbm, 155, rfl⟩
abbrev main_call4_v0 : Ref sig .tc := ⟨.hbm, 156, rfl⟩
abbrev main_v116 : Ref sig .tc := ⟨.hbm, 157, rfl⟩
abbrev main_call5_v0 : Ref sig .tc := ⟨.hbm, 158, rfl⟩
abbrev main_call5_v1 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122_0 : Ref sig .tc := ⟨.hbm, 165, rfl⟩
abbrev main_v122_1 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4x2048x16x64 : Shape := ⟨4, ![4, 2048, 16, 64]⟩
abbrev S4x2048x8 : Shape := ⟨3, ![4, 2048, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x2048x2048 : Shape := ⟨4, ![4, 16, 2048, 2048]⟩
abbrev S_ : Shape := ⟨0, ![]⟩
abbrev S4x8x2048 : Shape := ⟨3, ![4, 8, 2048]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S4x2048x8x64 : Shape := ⟨4, ![4, 2048, 8, 64]⟩
abbrev S4x8x64x2048 : Shape := ⟨4, ![4, 8, 64, 2048]⟩
abbrev S1x2048x2048 : Shape := ⟨3, ![1, 2048, 2048]⟩
abbrev S3x2048x2048 : Shape := ⟨3, ![3, 2048, 2048]⟩
abbrev S3x1x1x2048x2048 : Shape := ⟨5, ![3, 1, 1, 2048, 2048]⟩
abbrev S3x4x8x2048x2048 : Shape := ⟨5, ![3, 4, 8, 2048, 2048]⟩
abbrev S3x4x8x2048 : Shape := ⟨4, ![3, 4, 8, 2048]⟩
abbrev S3x4x8x2048x1 : Shape := ⟨5, ![3, 4, 8, 2048, 1]⟩
abbrev S4x8x64x3x2048 : Shape := ⟨5, ![4, 8, 64, 3, 2048]⟩
abbrev S3x4x2048x8x64 : Shape := ⟨5, ![3, 4, 2048, 8, 64]⟩
abbrev S3x4x2048x8 : Shape := ⟨4, ![3, 4, 2048, 8]⟩
abbrev S1x4x2048x8 : Shape := ⟨4, ![1, 4, 2048, 8]⟩
abbrev S3x4x2048x8x1 : Shape := ⟨5, ![3, 4, 2048, 8, 1]⟩
abbrev S8192x1024 : Shape := ⟨2, ![8192, 1024]⟩

abbrev nBuf : Space → Nat
  | .hbm => 142
  | .vmem => 0
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S4x2048x8, .f32⟩
  | 4 => ⟨S2048, .i32⟩
  | 5 => ⟨S2048x1, .i32⟩
  | 6 => ⟨S2048, .i32⟩
  | 7 => ⟨S1x2048, .i32⟩
  | 8 => ⟨S2048x2048, .i32⟩
  | 9 => ⟨S2048x2048, .i32⟩
  | 10 => ⟨S2048x2048, .i32⟩
  | 11 => ⟨S4x16x2048x2048, .f32⟩
  | 12 => ⟨S_, .f32⟩
  | 13 => ⟨S4x16x2048x2048, .f32⟩
  | 14 => ⟨S4x16x2048x2048, .f32⟩
  | 15 => ⟨S4x8x2048, .f32⟩
  | 16 => ⟨S_, .i32⟩
  | 17 => ⟨S2048x2048, .i32⟩
  | 18 => ⟨S2048x2048, .i1⟩
  | 19 => ⟨S4x8x2048x2048, .f32⟩
  | 20 => ⟨S4x8x2048x1, .f32⟩
  | 21 => ⟨S4x8x1x2048, .f32⟩
  | 22 => ⟨S4x8x2048x2048, .f32⟩
  | 23 => ⟨S4x8x2048x2048, .f32⟩
  | 24 => ⟨S4x8x2048x2048, .f32⟩
  | 25 => ⟨S4x8x2048x2048, .f32⟩
  | 26 => ⟨S_, .f32⟩
  | 27 => ⟨S_, .f32⟩
  | 28 => ⟨S4x8x2048x2048, .i1⟩
  | 29 => ⟨S4x8x2048x2048, .f32⟩
  | 30 => ⟨S4x8x2048x2048, .f32⟩
  | 31 => ⟨S_, .f32⟩
  | 32 => ⟨S4x8x2048, .f32⟩
  | 33 => ⟨S_, .f32⟩
  | 34 => ⟨S4x8x2048, .f32⟩
  | 35 => ⟨S4x8x2048, .f32⟩
  | 36 => ⟨S4x8x2048x1, .f32⟩
  | 37 => ⟨S4x8x2048x2048, .f32⟩
  | 38 => ⟨S4x8x2048x2048, .f32⟩
  | 39 => ⟨S4x8x2048x2048, .f32⟩
  | 40 => ⟨S_, .f32⟩
  | 41 => ⟨S4x8x2048, .f32⟩
  | 42 => ⟨S4x8x2048x1, .f32⟩
  | 43 => ⟨S4x8x2048x2048, .f32⟩
  | 44 => ⟨S4x8x2048x2048, .f32⟩
  | 45 => ⟨S4x2048x8x64, .f32⟩
  | 46 => ⟨S4x8x64x2048, .f32⟩
  | 47 => ⟨S4x2048x8x64, .f32⟩
  | 48 => ⟨S_, .i32⟩
  | 49 => ⟨S2048x2048, .i32⟩
  | 50 => ⟨S2048x2048, .i1⟩
  | 51 => ⟨S_, .i32⟩
  | 52 => ⟨S2048x2048, .i32⟩
  | 53 => ⟨S2048x2048, .i32⟩
  | 54 => ⟨S_, .i32⟩
  | 55 => ⟨S2048x2048, .i32⟩
  | 56 => ⟨S2048x2048, .i1⟩
  | 57 => ⟨S2048x2048, .i1⟩
  | 58 => ⟨S_, .i32⟩
  | 59 => ⟨S2048x2048, .i32⟩
  | 60 => ⟨S2048x2048, .i1⟩
  | 61 => ⟨S2048x2048, .i1⟩
  | 62 => ⟨S_, .i32⟩
  | 63 => ⟨S2048x2048, .i32⟩
  | 64 => ⟨S2048x2048, .i1⟩
  | 65 => ⟨S_, .i32⟩
  | 66 => ⟨S2048x2048, .i32⟩
  | 67 => ⟨S2048x2048, .i32⟩
  | 68 => ⟨S_, .i32⟩
  | 69 => ⟨S2048x2048, .i32⟩
  | 70 => ⟨S2048x2048, .i1⟩
  | 71 => ⟨S2048x2048, .i1⟩
  | 72 => ⟨S_, .i32⟩
  | 73 => ⟨S2048x2048, .i32⟩
  | 74 => ⟨S2048x2048, .i1⟩
  | 75 => ⟨S2048x2048, .i1⟩
  | 76 => ⟨S_, .i32⟩
  | 77 => ⟨S2048x2048, .i32⟩
  | 78 => ⟨S2048x2048, .i1⟩
  | 79 => ⟨S_, .i32⟩
  | 80 => ⟨S2048x2048, .i32⟩
  | 81 => ⟨S2048x2048, .i32⟩
  | 82 => ⟨S_, .i32⟩
  | 83 => ⟨S2048x2048, .i32⟩
  | 84 => ⟨S2048x2048, .i1⟩
  | 85 => ⟨S2048x2048, .i1⟩
  | 86 => ⟨S_, .i32⟩
  | 87 => ⟨S2048x2048, .i32⟩
  | 88 => ⟨S2048x2048, .i1⟩
  | 89 => ⟨S2048x2048, .i1⟩
  | 90 => ⟨S1x2048x2048, .i1⟩
  | 91 => ⟨S1x2048x2048, .i1⟩
  | 92 => ⟨S1x2048x2048, .i1⟩
  | 93 => ⟨S3x2048x2048, .i1⟩
  | 94 => ⟨S3x1x1x2048x2048, .i1⟩
  | 95 => ⟨S4x8x2048x2048, .f32⟩
  | 96 => ⟨S_, .f32⟩
  | 97 => ⟨S_, .f32⟩
  | 98 => ⟨S3x4x8x2048x2048, .i1⟩
  | 99 => ⟨S3x4x8x2048x2048, .f32⟩
  | 100 => ⟨S3x4x8x2048x2048, .f32⟩
  | 101 => ⟨S3x4x8x2048x2048, .f32⟩
  | 102 => ⟨S_, .f32⟩
  | 103 => ⟨S3x4x8x2048, .f32⟩
  | 104 => ⟨S3x4x8x2048x1, .f32⟩
  | 105 => ⟨S3x4x8x2048x2048, .f32⟩
  | 106 => ⟨S3x4x8x2048x2048, .f32⟩
  | 107 => ⟨S3x4x8x2048x2048, .f32⟩
  | 108 => ⟨S_, .f32⟩
  | 109 => ⟨S3x4x8x2048, .f32⟩
  | 110 => ⟨S3x4x8x2048, .f32⟩
  | 111 => ⟨S3x4x8x2048, .f32⟩
  | 112 => ⟨S3x4x8x2048x1, .f32⟩
  | 113 => ⟨S3x4x8x2048x2048, .f32⟩
  | 114 => ⟨S3x4x8x2048x2048, .f32⟩
  | 115 => ⟨S3x4x8x2048x2048, .f32⟩
  | 116 => ⟨S4x2048x8x64, .f32⟩
  | 117 => ⟨S4x8x64x3x2048, .f32⟩
  | 118 => ⟨S3x4x2048x8x64, .f32⟩
  | 119 => ⟨S3x4x2048x8, .f32⟩
  | 120 => ⟨S_, .f32⟩
  | 121 => ⟨S4x2048x8, .f32⟩
  | 122 => ⟨S_, .f32⟩
  | 123 => ⟨S4x2048x8, .f32⟩
  | 124 => ⟨S4x2048x8, .f32⟩
  | 125 => ⟨S1x4x2048x8, .f32⟩
  | 126 => ⟨S3x4x2048x8, .f32⟩
  | 127 => ⟨S3x4x2048x8, .f32⟩
  | _ => ⟨S4x2048x16x64, .f32⟩

abbrev hbmTy0_1 (i : Nat) : BufTy := match i % 128 with
  | 0 => ⟨S3x4x2048x8, .f32⟩
  | 1 => ⟨S_, .f32⟩
  | 2 => ⟨S4x2048x8, .f32⟩
  | 3 => ⟨S1x4x2048x8, .f32⟩
  | 4 => ⟨S3x4x2048x8, .f32⟩
  | 5 => ⟨S3x4x2048x8, .f32⟩
  | 6 => ⟨S3x4x2048x8x1, .f32⟩
  | 7 => ⟨S3x4x2048x8x64, .f32⟩
  | 8 => ⟨S3x4x2048x8x64, .f32⟩
  | 9 => ⟨S_, .f32⟩
  | 10 => ⟨S4x2048x8x64, .f32⟩
  | 11 => ⟨S4x2048x16x64, .f32⟩
  | 12 => ⟨S8192x1024, .f32⟩
  | 13 => ⟨S8192x1024, .bf16⟩
  | _ => ⟨S4x2048x16x64, .f32⟩

abbrev hbmTy (i : Nat) : BufTy := match i / 128 with
  | 0 => hbmTy0_0 i
  | 1 => hbmTy0_1 i
  | _ => ⟨S4x2048x16x64, .f32⟩

abbrev bufTy : (tb : Table) → Fin (tcTables nBuf tb) → BufTy
  | .hbm, ⟨i, _⟩ => hbmTy i
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_12 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_v57 : Ref sig .tc := ⟨.hbm, 80, rfl⟩
abbrev main_v58 : Ref sig .tc := ⟨.hbm, 81, rfl⟩
abbrev main_c_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_v71 : Ref sig .tc := ⟨.hbm, 101, rfl⟩
abbrev main_cst_17 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_19 : Ref sig .tc := ⟨.hbm, 120, rfl⟩
abbrev main_v88 : Ref sig .tc := ⟨.hbm, 121, rfl⟩
abbrev main_cst_20 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_21 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_22 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]
-- ==== Proof.Finite.lean ====
/-
  Extended reals that are real numbers: closure under the arithmetic the gradients use, and what the
  precondition `|x| < inf` says of one element.
-/
module

public import Idealize.ShloMosaic.PureOps.Ideal

@[expose] public section

noncomputable section

namespace Cert.Fv

open Idealize.ShloMosaic

/-- `x` is a real number: neither infinity. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.one : IsReal (1 : EReal) := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The pattern of f32's infinity denotes `⊤`. -/
theorem ofBits_inf : Ideal.ofBits .f32 0x7F800000#32 = ⊤ := by
  simp [Ideal.ofBits, Ideal.ieee]

/-- The pattern of f32's one denotes `1`. -/
theorem ofBits_one : Ideal.ofBits .f32 0x3F800000#32 = 1 := by
  simp [Ideal.ofBits, Ideal.ieee]
  norm_cast
  norm_num

/-- An element whose magnitude compares below infinity is a real number. -/
theorem of_abs_lt {x : EReal} (h : Ideal.cmp .olt (max x (-x)) (Ideal.ofBits .f32 0x7F800000#32) = 1#1) : IsReal x := by
  rw [ofBits_inf] at h
  have h' : max x (-x) < ⊤ := by
    by_contra hn
    simp [Ideal.cmp, hn] at h
  induction x with
  | bot => simp at h'
  | top => simp at h'
  | coe r => exact ⟨r, rfl⟩

end Cert.Fv

end
-- ==== Proof.FfnDownAlg.lean ====
/-
  The arithmetic of the gate's gradient: the kernel's product form of silu's derivative and the
  product rule's sum are the same extended real where the gradient that flows in is a real number.
-/
module

public import proofs.«01_k».proof.Proof.Finite

@[expose] public section

noncomputable section

namespace Cert.FfnDown

open Idealize.ShloMosaic Cert.Fv

/-- The logistic of a real number is a real number. -/
theorem logistic_coe (r : ℝ) : Ideal.logistic (r : EReal) = ((1 + Real.exp (-r))⁻¹ : ℝ) := by
  have h : (1 + Real.exp (-r) : ℝ) ≠ 0 := by positivity
  show Ideal.div 1 (1 + Ideal.exp (-(r : EReal))) = _
  rw [← EReal.coe_neg]
  show Ideal.div 1 (1 + ((Real.exp (-r) : ℝ) : EReal)) = _
  have e : (1 : EReal) + ((Real.exp (-r) : ℝ) : EReal) = ((1 + Real.exp (-r) : ℝ) : EReal) := by
    rw [EReal.coe_add]; rfl
  rw [e, Ideal.div, if_neg (by exact_mod_cast h), one_mul, EReal.coe_inv]

theorem logistic_bot : Ideal.logistic ⊥ = 0 := by
  unfold Ideal.logistic
  rw [EReal.neg_bot]
  show Ideal.div 1 (1 + (⊤ : EReal)) = 0
  have h : (1 : EReal) + ⊤ = ⊤ := by rw [← EReal.coe_one]; exact EReal.coe_add_top 1
  simp [h, Ideal.div]

theorem logistic_top : Ideal.logistic ⊤ = 1 := by
  unfold Ideal.logistic
  rw [EReal.neg_top]
  show Ideal.div 1 (1 + (0 : EReal)) = 1
  simp [Ideal.div]

/-- The gate's gradient: `x·s·(1 + a·(1 − s)) = x·s + (a·x)·(s·(1 − s))` with `s` the logistic of `a`, for every
    extended real `a`, `x` a real number. -/
theorem gate {x : EReal} (hx : IsReal x) (a : EReal) :
    x * Ideal.logistic a * (1 + a * (1 - Ideal.logistic a))
      = x * Ideal.logistic a + a * x * (Ideal.logistic a * (1 - Ideal.logistic a)) := by
  obtain ⟨r, rfl⟩ := hx
  induction a with
  | bot => simp [logistic_bot]
  | top =>
    have h : (1 : EReal) - 1 = 0 := by rw [← EReal.coe_one, ← EReal.coe_sub]; simp
    simp [logistic_top, h]
  | coe a =>
    rw [logistic_coe]
    generalize ((1 + Real.exp (-a))⁻¹ : ℝ) = s
    have h1 : (1 : EReal) = ((1 : ℝ) : EReal) := rfl
    rw [h1]
    norm_cast
    ring

end Cert.FfnDown

end
-- ==== Proof.FfnDown.lean ====
/-
  The value of `d_ffn_down`: the two arrays the kernel leaves are the gradients of the gate's two inputs,
  read off block by block, equal to the reference's stages at every index.
-/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.FfnDownAlg
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDown

open Cert.KernelIdeal Cert.KernelIdeal.Gen Cert.Fv
open Cert.ReferenceIdeal.Read (val_main_v7 val_main_v8)

variable (m : (ℓ : Loc nD τ sig) → Buf (Elt Ideal) ℓ)

/-- The four argument arrays on device `c`. -/
abbrev argA (c : Dev nD) : FVec Ideal S8192x2816 .f32 := m ((c : Thread nD τ).loc main_arg0)
abbrev argU (c : Dev nD) : FVec Ideal S8192x2816 .f32 := m ((c : Thread nD τ).loc main_arg1)
abbrev argW (c : Dev nD) : FVec Ideal S2816x1024 .f32 := m ((c : Thread nD τ).loc main_arg2)
abbrev argDy (c : Dev nD) : FVec Ideal S8192x1024 .f32 := m ((c : Thread nD τ).loc main_arg3)

/-- Where every window's block sits, over the grid's sixteen points. -/
theorem idx : ∀ t : Fin cfg0.N, win0_0.index t = ![(grid0.coords t 1).val, 0] ∧ win0_1.index t = ![(grid0.coords t 0).val, 0]
    ∧ win0_2.index t = ![(grid0.coords t 1).val, (grid0.coords t 0).val] ∧ win0_3.index t = ![(grid0.coords t 1).val, (grid0.coords t 0).val]
    ∧ win0_4.index t = ![(grid0.coords t 1).val, (grid0.coords t 0).val] ∧ win0_5.index t = ![(grid0.coords t 1).val, (grid0.coords t 0).val] :=
  (by decide +kernel : ∀ t : Fin grid0.N, _)

/-- What the body stores for the gate's gradient at a block index: the row of `dy` against the row of `w_down`,
    times `u`, times silu's derivative in its product form. -/
theorem pay4 (D : FVec Ideal S1024x1024 .bf16) (W : FVec Ideal S1408x1024 .bf16) (A U : FVec Ideal S1024x1408 .bf16) (y : S1024x1408.Idx) :
    k0_pay4 D W A U y = (∑ k, D (ix2 (y 0) k) * W (ix2 (y 1) k)) * U y * Ideal.logistic (A y) * (1 + A y * (1 - Ideal.logistic (A y))) := by
  pointwise [k0_pay4, k0_pay3, k0_pay2, k0_pay1]

/-- What the body stores for the other factor's gradient at a block index. -/
theorem pay5 (D : FVec Ideal S1024x1024 .bf16) (W : FVec Ideal S1408x1024 .bf16) (A : FVec Ideal S1024x1408 .bf16) (y : S1024x1408.Idx) :
    k0_pay5 D W A y = (∑ k, D (ix2 (y 0) k) * W (ix2 (y 1) k)) * A y * Ideal.logistic (A y) := by
  pointwise [k0_pay5, k0_pay3, k0_pay2, k0_pay1]

open Cert.ReferenceIdeal.Read in
/-- The reference's logistic stage at an index. -/
theorem ref_sigmoid (A : FVec Ideal S8192x2816 .f32) (i : S8192x2816.Idx) : val_main_v0_2 (F := Ideal) A i = Ideal.logistic (A i) := by
  show Ideal.div (Ideal.ofBits .f32 0x3F800000#32) (Ideal.ofBits .f32 0x3F800000#32 + Ideal.exp (-(A i))) = _
  rw [ofBits_one]; rfl

open Cert.ReferenceIdeal.Read in
/-- The reference's stage `1 - logistic`, as jax's silu derivative spells it. -/
theorem ref_sigmoid' (A : FVec Ideal S8192x2816 .f32) (i : S8192x2816.Idx) :
    val_main_v0_1 (F := Ideal) A i = Ideal.logistic (A i) * (1 - Ideal.logistic (A i)) := by
  show val_main_v0_2 (F := Ideal) A i * (Ideal.ofBits .f32 0x3F800000#32 - val_main_v0_2 (F := Ideal) A i) = _
  rw [ofBits_one, ref_sigmoid]

/-- The reference's stage of the gradient that reaches the gate's output: the row of `dy` against the row of `w_down`. -/
theorem ref_df (W : FVec Ideal S2816x1024 .f32) (D : FVec Ideal S8192x1024 .f32) (i : S8192x2816.Idx) :
    Cert.ReferenceIdeal.Read.val_main_v3 (F := Ideal) W D i = ∑ k, D (ix2 (i 0) k) * W (ix2 (i 1) k) := by
  pointwise [Cert.ReferenceIdeal.Read.val_main_v3]

/-- The reference's gradient of the gate's input at an index. -/
theorem ref_da (A U : FVec Ideal S8192x2816 .f32) (W : FVec Ideal S2816x1024 .f32) (D : FVec Ideal S8192x1024 .f32) (i : S8192x2816.Idx) :
    val_main_v7 (F := Ideal) A U W D i = (∑ k, D (ix2 (i 0) k) * W (ix2 (i 1) k)) * U i * Ideal.logistic (A i)
      + A i * ((∑ k, D (ix2 (i 0) k) * W (ix2 (i 1) k)) * U i) * (Ideal.logistic (A i) * (1 - Ideal.logistic (A i))) := by
  rw [← ref_df, ← ref_sigmoid', ← ref_sigmoid]; rfl

/-- The reference's gradient of the gate's other factor at an index. -/
theorem ref_du (A : FVec Ideal S8192x2816 .f32) (W : FVec Ideal S2816x1024 .f32) (D : FVec Ideal S8192x1024 .f32) (i : S8192x2816.Idx) :
    val_main_v8 (F := Ideal) A W D i = A i * Ideal.logistic (A i) * (∑ k, D (ix2 (i 0) k) * W (ix2 (i 1) k)) := by
  rw [← ref_df, ← ref_sigmoid]; rfl

/-- The gradient that reaches the gate's output is a real number where `dy` and `w_down` are. -/
theorem df_real {W : FVec Ideal S2816x1024 .f32} {D : FVec Ideal S8192x1024 .f32} (hW : ∀ i, IsReal (W i)) (hD : ∀ i, IsReal (D i))
    (i : S8192x2816.Idx) : IsReal (∑ k, D (ix2 (i 0) k) * W (ix2 (i 1) k)) :=
  IsReal.sum _ _ fun k _ => (hD _).mul (hW _)

/-- The reference's gradient of the gate's input in the kernel's product form. -/
theorem ref_da' (A : FVec Ideal S8192x2816 .f32) {U : FVec Ideal S8192x2816 .f32} {W : FVec Ideal S2816x1024 .f32} {D : FVec Ideal S8192x1024 .f32}
    (hU : ∀ i, IsReal (U i)) (hW : ∀ i, IsReal (W i)) (hD : ∀ i, IsReal (D i)) (i : S8192x2816.Idx) :
    val_main_v7 (F := Ideal) A U W D i
      = (∑ k, D (ix2 (i 0) k) * W (ix2 (i 1) k)) * U i * Ideal.logistic (A i) * (1 + A i * (1 - Ideal.logistic (A i))) :=
  (ref_da A U W D i).trans (gate ((df_real hW hD i).mul (hU i)) (A i)).symm

/-- Output window 4's array after the run is the reference's gradient of the gate's input. -/
theorem final4 (c : Dev nD) (hU : ∀ i, IsReal (argU m c i)) (hW : ∀ i, IsReal (argW m c i)) (hD : ∀ i, IsReal (argDy m c i)) :
    (dats m 0 c).arrAt 4 cfg0.N = val_main_v7 (F := Ideal) (argA m c) (argU m c) (argW m c) (argDy m c) := by
  refine (dats m 0 c).arrAt_eq_of_covers 4 _ (by decide +kernel) fun t _ y => ?_
  blk_simp
  rw [after0_4]; frame_out
  rw [ref_da' (argA m c) hU hW hD]
  refine (pay4 _ _ _ _ y).trans ?_
  blk_point [iblk, V, idx t]

/-- Output window 5's array after the run is the reference's gradient of the gate's other factor. -/
theorem final5 (c : Dev nD) : (dats m 0 c).arrAt 5 cfg0.N = val_main_v8 (F := Ideal) (argA m c) (argW m c) (argDy m c) := by
  refine (dats m 0 c).arrAt_eq_of_covers 5 _ (by decide +kernel) fun t _ y => ?_
  blk_simp
  rw [after0_5]; frame_out
  rw [ref_du]
  refine (pay5 _ _ _ y).trans ?_
  rw [mul_assoc, mul_comm]
  blk_point [iblk, V, idx t]

end Cert.FfnDown

end
-- ==== Proof.FfnDownClaim.lean ====
/-
  The claims about `d_ffn_down`: both programs' frames and the value equation.
-/
module

public import proofs.«01_k».proof.Proof.FfnDown
public import proofs.«01_k».proof.Proof.Gen.Kernel.Frame
public import proofs.«01_k».proof.Proof.Gen.Pre_finite
public import Idealize.ShloMosaic.Lib.Claim
public import Idealize.ShloMosaic.Lib.Quiescent

@[expose] public section

noncomputable section

open Idealize.ShloMosaic Idealize.ShloMosaic.TcCoe Idealize.SL.Sem

namespace Cert.FfnDown

open Cert.KernelIdeal Cert.KernelIdeal.Gen Cert.Fv

/-- The precondition, element by element: `u`, `w_down` and `dy` are real numbers. -/
theorem args_real (m : (ℓ : Loc nD τ sig) → Buf (Elt Ideal) ℓ) (h : Cert.Pre_KernelIdeal_finite m) (c : Dev nD) :
    (∀ i, IsReal (argU m c i)) ∧ (∀ i, IsReal (argW m c i)) ∧ (∀ i, IsReal (argDy m c i)) :=
  ⟨fun i => of_abs_lt (congrFun (h c).1 i), fun i => of_abs_lt (congrFun (h c).2.1 i), fun i => of_abs_lt (congrFun (h c).2.2 i)⟩

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite := fun m ρ _ => Cert.KernelIdeal.Gen.frame m ρ
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem frame_ref_pre : Cert.quiescent_ReferenceIdeal_pre_finite := fun m ρ _ => frame_ref m ρ trivial

/-- The kernel's two results are the reference's, where the precondition holds. -/
theorem algebraic : Cert.algebraic_KernelIdeal_ReferenceIdeal_pre_finite := by
  pair_intro
  · run_from Cert.KernelIdeal.Gen.run_main m g
  · run_from Cert.ReferenceIdeal.Value.run m' g'
    · obtain ⟨hU, hW, hD⟩ := args_real m ‹_› c
      exact (final4 m c hU hW hD).symm
    · exact (final5 m c).symm

end Cert.FfnDown

end
-- ==== Proof.Norm.lean ====
/-
  The gradient of a root-mean-square norm over one row, in the form a kernel stores it and in the form the
  derivative of `x * rsqrt(mean(x * x) + eps) * g` takes.
-/
module

public import proofs.«01_k».proof.Proof.Finite

@[expose] public section

noncomputable section

namespace Cert.Norm

open Idealize.ShloMosaic Cert.Fv

/-- The real number `eps` the two programs add under the root. -/
def eps : ℝ := 8796093 / 8796093022208

theorem ofBits_eps : Ideal.ofBits .f32 0x358637BD#32 = (eps : EReal) := by
  simp [Ideal.ofBits, Ideal.ieee, eps]
  rw [← EReal.coe_mul]
  norm_num

theorem ofBits_1024 : Ideal.ofBits .f32 0x44800000#32 = ((1024 : ℝ) : EReal) := by
  simp [Ideal.ofBits, Ideal.ieee]
  norm_cast
  norm_num

theorem ofBits_512 : Ideal.ofBits .f32 0x44000000#32 = ((512 : ℝ) : EReal) := by
  simp [Ideal.ofBits, Ideal.ieee]
  norm_cast
  norm_num

theorem ofBits_mhalf : Ideal.ofBits .f32 0xBF000000#32 = ((-(1 / 2) : ℝ) : EReal) := by
  simp [Ideal.ofBits, Ideal.ieee]
  norm_cast
  norm_num

variable {n : ℕ}

/-- The mean of the squares of a row plus `eps`. -/
def ms (N : ℝ) (x : Fin n → EReal) : EReal := Ideal.div (∑ k, x k * x k) (N : EReal) + (eps : EReal)

/-- One over the root mean square of a row. -/
def inv (N : ℝ) (x : Fin n → EReal) : EReal := Ideal.rsqrt (ms N x)

/-- The norm's gradient at lane `j`, as the kernel writes it: `D` is the cotangent times the gain. -/
def grad (N : ℝ) (x D : Fin n → EReal) (j : Fin n) : EReal :=
  inv N x * (D j - x j * inv N x * Ideal.div (∑ k, D k * (x k * inv N x)) (N : EReal))

/-- The factor the derivative of the mean square is multiplied by. -/
def back (N : ℝ) (x D : Fin n → EReal) : EReal :=
  Ideal.div ((∑ k, x k * D k) * (((-(1 / 2) : ℝ) : EReal) * Ideal.div (inv N x) (ms N x))) (N : EReal)

theorem sum_coe (f : Fin n → ℝ) : (∑ k, (f k : EReal)) = ((∑ k, f k : ℝ) : EReal) := by
  induction n with
  | zero => simp
  | succ n ih => rw [Fin.sum_univ_succ, Fin.sum_univ_succ, ih, EReal.coe_add]

/-- On a row of real numbers the mean square plus `eps` is a positive real number. -/
theorem ms_coe {N : ℝ} (hN : 0 < N) (x : Fin n → ℝ) :
    ms N (fun k => (x k : EReal)) = (((∑ k, x k * x k) * (1 / N) + eps : ℝ) : EReal) := by
  unfold ms
  rw [Ideal.div_coe hN.ne', EReal.coe_add, EReal.coe_mul, ← sum_coe]
  simp only [EReal.coe_mul]

theorem ms_pos {N : ℝ} (hN : 0 < N) (x : Fin n → ℝ) : 0 < (∑ k, x k * x k) * (1 / N) + eps := by
  have h1 : 0 ≤ ∑ k, x k * x k := Finset.sum_nonneg fun k _ => mul_self_nonneg _
  have h2 : (0 : ℝ) < eps := by norm_num [eps]
  positivity

theorem inv_coe {N : ℝ} (hN : 0 < N) (x : Fin n → ℝ) :
    inv N (fun k => (x k : EReal)) = (((Real.sqrt ((∑ k, x k * x k) * (1 / N) + eps))⁻¹ : ℝ) : EReal) := by
  have h := ms_pos hN x
  unfold inv
  rw [ms_coe hN, Ideal.rsqrt_coe, if_neg (not_lt.mpr h.le), if_neg h.ne']

theorem inv_real {N : ℝ} (hN : 0 < N) {x : Fin n → EReal} (hx : ∀ k, IsReal (x k)) : IsReal (inv N x) := by
  choose y hy using hx
  obtain rfl : x = fun k => (y k : EReal) := funext hy
  exact ⟨_, inv_coe hN y⟩

/-- Both forms of the norm's gradient agree on real numbers. -/
theorem grad_eq {N : ℝ} (hN : 0 < N) {x D : Fin n → EReal} (hx : ∀ k, IsReal (x k)) (hD : ∀ k, IsReal (D k)) (j : Fin n) :
    grad N x D j = D j * inv N x + (x j * back N x D + back N x D * x j) := by
  choose y hy using hx
  choose d hd using hD
  obtain rfl : x = fun k => (y k : EReal) := funext hy
  obtain rfl : D = fun k => (d k : EReal) := funext hd
  unfold grad back
  have hv := ms_pos hN y
  rw [inv_coe hN, ms_coe hN]
  generalize hV : (∑ k, y k * y k) * (1 / N) + eps = v at *
  have hs : Real.sqrt v ≠ 0 := (Real.sqrt_pos.mpr hv).ne'
  have hvs : v = Real.sqrt v * Real.sqrt v := (Real.mul_self_sqrt hv.le).symm
  rw [Ideal.div_coe hN.ne', Ideal.div_coe hN.ne', Ideal.div_coe hv.ne']
  simp only [← EReal.coe_mul, sum_coe, ← EReal.coe_add, ← EReal.coe_sub]
  refine congrArg _ ?_
  have e1 : ∑ k, d k * (y k * (Real.sqrt v)⁻¹) = (∑ k, y k * d k) * (Real.sqrt v)⁻¹ := by
    rw [Finset.sum_mul]; exact Finset.sum_congr rfl fun k _ => by ring
  rw [e1]
  generalize (∑ k, y k * d k) = S
  have e2 : 1 / v = (Real.sqrt v)⁻¹ * (Real.sqrt v)⁻¹ := by
    rw [← mul_inv, ← hvs, one_div]
  rw [e2]
  ring

/-- The same below an added residual, bracketed as the derivative's sum is. -/
theorem add_grad_eq {N : ℝ} (hN : 0 < N) {x D : Fin n → EReal} (hx : ∀ k, IsReal (x k)) (hD : ∀ k, IsReal (D k)) (z : EReal) (j : Fin n) :
    z + grad N x D j = z + D j * inv N x + x j * back N x D + back N x D * x j := by
  rw [grad_eq hN hx hD, add_assoc, add_assoc]

end Cert.Norm

end
-- ==== Proof.FfnUp.lean ====
/-
  The value of `d_ffn_up`: the gradient of the norm's input, rows of the two half blocks the kernel takes in turn, and
  of the norm's gain, the sum over all rows that it keeps adding into one block.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnUp

open Cert.Kernel2Ideal Cert.Kernel2Ideal.Gen Cert.Fv
open Cert.Reference2Ideal.Read (val_main_v40 val_main_v41)

/-- The first half block's stored gradient. -/
theorem half1 (H : FVec Ideal S256x1024 .bf16) (A : FVec Ideal S256x2816 .bf16) (W : FVec Ideal S2816x1024 .bf16) (X : FVec Ideal S256x1024 .bf16)
    (G : FVec Ideal S1x1024 .f32) (Z : FVec Ideal S256x1024 .bf16) (a : Fin 256) (b : Fin 1024) :
    k0_pay12 (k0_pay5 (F := Ideal) H A W) (k0_pay7 (F := Ideal) X) (k0_pay8 (F := Ideal) X) (k0_pay9 (F := Ideal) X) G Z (ix2 a b)
      = Z (ix2 a b) + Norm.grad 1024 (fun k => X (ix2 a k))
          (fun k => (H (ix2 a k) + ∑ l, A (ix2 a l) * W (ix2 l k)) * G (ix2 0 k)) b := by
  pointwise [k0_pay12, k0_pay10, k0_pay9, k0_pay8, k0_pay7, k0_pay5]
  rw [Norm.ofBits_1024, Norm.ofBits_eps]
  unfold Norm.grad Norm.inv Norm.ms
  blk_point []

/-- The second half block's stored gradient. -/
theorem half2 (H : FVec Ideal S256x1024 .bf16) (A : FVec Ideal S256x2816 .bf16) (W : FVec Ideal S2816x1024 .bf16) (X : FVec Ideal S256x1024 .bf16)
    (G : FVec Ideal S1x1024 .f32) (Z : FVec Ideal S256x1024 .bf16) (a : Fin 256) (b : Fin 1024) :
    k0_pay3 (k0_pay6 (F := Ideal) H A W) (k0_pay13 (F := Ideal) X) (k0_pay14 (F := Ideal) X) (k0_pay15 (F := Ideal) X) G Z (ix2 a b)
      = Z (ix2 a b) + Norm.grad 1024 (fun k => X (ix2 a k))
          (fun k => (H (ix2 a k) + ∑ l, A (ix2 a l) * W (ix2 l k)) * G (ix2 0 k)) b :=
  half1 H A W X G Z a b

/-- A half block's part of the gain's gradient, added to what stood there. -/
theorem gain1 (H : FVec Ideal S256x1024 .bf16) (A : FVec Ideal S256x2816 .bf16) (W : FVec Ideal S2816x1024 .bf16) (X : FVec Ideal S256x1024 .bf16)
    (P : FVec Ideal S1x1024 .f32) (b : Fin 1024) :
    k0_pay11 (k0_pay5 (F := Ideal) H A W) (k0_pay7 (F := Ideal) X) (k0_pay9 (F := Ideal) X) P (ix2 0 b)
      = P (ix2 0 b) + ∑ i : Fin 256, (H (ix2 i b) + ∑ l, A (ix2 i l) * W (ix2 l b)) * (X (ix2 i b) * Norm.inv 1024 (fun k => X (ix2 i k))) := by
  pointwise [k0_pay11, k0_pay10, k0_pay9, k0_pay8, k0_pay7, k0_pay5]
  rw [Norm.ofBits_1024, Norm.ofBits_eps]
  rfl

theorem gain2 (H : FVec Ideal S256x1024 .bf16) (A : FVec Ideal S256x2816 .bf16) (W : FVec Ideal S2816x1024 .bf16) (X : FVec Ideal S256x1024 .bf16)
    (P : FVec Ideal S1x1024 .f32) (b : Fin 1024) :
    k0_pay2 (k0_pay6 (F := Ideal) H A W) (k0_pay13 (F := Ideal) X) (k0_pay15 (F := Ideal) X) P (ix2 0 b)
      = P (ix2 0 b) + ∑ i : Fin 256, (H (ix2 i b) + ∑ l, A (ix2 i l) * W (ix2 l b)) * (X (ix2 i b) * Norm.inv 1024 (fun k => X (ix2 i k))) :=
  gain1 H A W X P b

/-- The gain's block starts at zero. -/
theorem zero (y : S1x1024.Idx) : k0_pay4 (F := Ideal) y = 0 := by pointwise [k0_pay4]

section Reference

open Cert.Reference2Ideal.Read

variable (X : FVec Ideal S8192x1024 .f32) (G : FVec Ideal Cert.Reference2Ideal.S1024 .f32) (W : FVec Ideal Cert.Reference2Ideal.S1024x2816 .f32)
  (Z H : FVec Ideal S8192x1024 .f32) (A : FVec Ideal S8192x2816 .f32)

/-- The mean square plus `eps` of a row of `x2`. -/
theorem ref_ms (i : Cert.Reference2Ideal.S8192x1.Idx) : val_main_v6 (F := Ideal) X i = Norm.ms 1024 (fun k => X (ix2 (i 0) k)) := by
  pointwise [val_main_v6, val_main_v5, val_main_v4, val_main_v3, val_main_v2, val_main_v1, val_main_v0, val_main_cst, val_main_cst_0, val_main_cst_1]
  rw [Norm.ofBits_1024, Norm.ofBits_eps]; rfl

theorem ref_inv (i : Cert.Reference2Ideal.S8192x1.Idx) : val_main_v7 (F := Ideal) X i = Norm.inv 1024 (fun k => X (ix2 (i 0) k)) :=
  congrArg Ideal.rsqrt (ref_ms X i)

/-- What reaches the norm's output. -/
theorem ref_dh (i : S8192x1024.Idx) : val_main_v18 (F := Ideal) W H A i = H i + ∑ k, A (ix2 (i 0) k) * W (ix2 (i 1) k) := by
  pointwise [val_main_v18, val_main_v17]

/-- The reference's gradient of `x2`, in the kernel's form, where the norm's row and its cotangent are real numbers. -/
theorem ref_dx (hX : ∀ i, IsReal (X i)) (hG : ∀ i, IsReal (G i)) (hW : ∀ i, IsReal (W i)) (hH : ∀ i, IsReal (H i)) (hA : ∀ i, IsReal (A i))
    (a : Fin 8192) (b : Fin 1024) : val_main_v40 (F := Ideal) X G W Z H A (ix2 a b)
      = Z (ix2 a b) + Norm.grad 1024 (fun k => X (ix2 a k))
          (fun k => (H (ix2 a k) + ∑ l, A (ix2 a l) * W (ix2 k l)) * G (ix1 k)) b := by
  rw [Norm.add_grad_eq (by norm_num) (fun k => hX _) (fun k => ((hH _).add (IsReal.sum _ _ fun l _ => (hA _).mul (hW _))).mul (hG _))]
  pointwise [val_main_v40, val_main_v39, val_main_v38, val_main_v37, val_main_v36, val_main_v35, val_main_v34, val_main_v33, val_main_v32, val_main_v31, val_main_v30, val_main_v29, val_main_v28, val_main_v27, val_main_v26, val_main_v25, val_main_v23, val_main_v22, val_main_v13, val_main_v10, val_main_v9, val_main_v8, val_main_cst_2, val_main_cst_5, val_main_cst_6, val_main_cst_7]
  simp only [Fin.sum_univ_one, ref_inv, ref_ms, ref_dh]
  rw [Norm.ofBits_1024, Norm.ofBits_mhalf]
  rfl

/-- The reference's gradient of the gain. -/
theorem ref_dg (b : Fin 1024) : val_main_v41 (F := Ideal) X W H A (ix2 0 b)
      = ∑ r : Fin 8192, (H (ix2 r b) + ∑ l, A (ix2 r l) * W (ix2 b l)) * (X (ix2 r b) * Norm.inv 1024 (fun k => X (ix2 r k))) := by
  pointwise [val_main_v41, val_main_v24, val_main_v21, val_main_v20, val_main_v19, val_main_v12, val_main_v11, val_main_cst_3, val_main_cst_4]
  simp only [Fin.sum_univ_one, ref_inv, ref_dh]
  exact Finset.sum_congr rfl fun r _ => mul_comm _ _

end Reference

end Cert.FfnUp

end
-- ==== Proof.FfnUpEnd.lean ====
/-
  The two arrays `d_ffn_up` leaves, as the reference's stages over the whole arguments.
-/
module

public import proofs.«01_k».proof.Proof.FfnUp

@[expose] public section

set_option maxRecDepth 16384

noncomputable section

open Idealize.ShloMosaic Idealize.ShloMosaic.TcCoe Idealize.SL.Sem
open Idealize.ShloMosaic.Pipeline (Dat)

namespace Cert.FfnUp

open Cert.Kernel2Ideal Cert.Kernel2Ideal.Gen Cert.Fv
open Cert.Reference2Ideal.Read (val_main_v40 val_main_v41)

variable (m : (ℓ : Loc nD τ sig) → Buf (Elt Ideal) ℓ)

/-- The six argument arrays on device `c`. -/
abbrev argX (c : Dev nD) : FVec Ideal S8192x1024 .f32 := m ((c : Thread nD τ).loc main_arg0)
abbrev argG (c : Dev nD) : FVec Ideal Cert.Reference2Ideal.S1024 .f32 := m ((c : Thread nD τ).loc main_arg1)
abbrev argW (c : Dev nD) : FVec Ideal Cert.Reference2Ideal.S1024x2816 .f32 := m ((c : Thread nD τ).loc main_arg2)
abbrev argZ (c : Dev nD) : FVec Ideal S8192x1024 .f32 := m ((c : Thread nD τ).loc main_arg3)
abbrev argH (c : Dev nD) : FVec Ideal S8192x1024 .f32 := m ((c : Thread nD τ).loc main_arg4)
abbrev argA (c : Dev nD) : FVec Ideal S8192x2816 .f32 := m ((c : Thread nD τ).loc main_arg5)

/-- Where every window's block sits, over the grid's sixteen points. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0]
    ∧ win0_6.index t = ![t.val, 0] ∧ win0_7.index t = ![0, 0] :=
  (by decide +kernel : ∀ t : Fin grid0.N, _)

/-- Row `k` of point `t`'s block. -/
def row (t : Fin cfg0.N) (k : ℕ) (hk : k < 512) : Fin 8192 := ⟨t.val * 512 + k, by have := lt_of_lt_of_eq t.isLt N_0; omega⟩

/-- The gradient of `x2` over the whole arrays, row by row. -/
def dx (X : FVec Ideal S8192x1024 .f32) (G : FVec Ideal Cert.Reference2Ideal.S1024 .f32) (W : FVec Ideal Cert.Reference2Ideal.S1024x2816 .f32)
    (Z H : FVec Ideal S8192x1024 .f32) (A : FVec Ideal S8192x2816 .f32) : FVec Ideal S8192x1024 .f32 := fun i =>
  Z i + Norm.grad 1024 (fun k => X (ix2 (i 0) k)) (fun k => (H (ix2 (i 0) k) + ∑ l, A (ix2 (i 0) l) * W (ix2 k l)) * G (ix1 k)) (i 1)

/-- One row's part of the gradient of the gain. -/
def dg (X : FVec Ideal S8192x1024 .f32) (W : FVec Ideal Cert.Reference2Ideal.S1024x2816 .f32)
    (H : FVec Ideal S8192x1024 .f32) (A : FVec Ideal S8192x2816 .f32) (r : Fin 8192) (b : Fin 1024) : EReal :=
  (H (ix2 r b) + ∑ l, A (ix2 r l) * W (ix2 b l)) * (X (ix2 r b) * Norm.inv 1024 (fun k => X (ix2 r k)))

/-- A sum over 512 rows, taken in two halves. -/
theorem sum_halves (f : (k : ℕ) → k < 512 → EReal) :
    ∑ k : Fin 512, f k.val k.isLt = (∑ a : Fin 256, f a.val (by omega)) + ∑ a : Fin 256, f (256 + a.val) (by omega) :=
  Fin.sum_univ_add (a := 256) (b := 256) (fun k => f k.val k.isLt)

section Reads

variable (c : Dev nD) (t : Fin cfg0.N)

theorem rdA0 (a : Fin 256) (b : Fin 2816) (r : Fin 8192) (hr : r.val = t.val * 512 + a.val) :
    View.ld (iblk m c 0 t) (Rect.unit ![0, 0] ![256, 2816] inb_S512x2816_S256x2816_0_0) (ix2 a b) = argA m c (ix2 r b) := by
  blk_point [iblk, V, idx t]

theorem rdA1 (a : Fin 256) (b : Fin 2816) (r : Fin 8192) (hr : r.val = t.val * 512 + (256 + a.val)) :
    View.ld (iblk m c 0 t) (Rect.unit ![256, 0] ![256, 2816] inb_S512x2816_S256x2816_256_0) (ix2 a b) = argA m c (ix2 r b) := by
  blk_point [iblk, V, idx t]

theorem rdX0 (a : Fin 256) (b : Fin 1024) (r : Fin 8192) (hr : r.val = t.val * 512 + a.val) :
    View.ld (iblk m c 2 t) (Rect.unit ![0, 0] ![256, 1024] inb_S512x1024_S256x1024_0_0) (ix2 a b) = argX m c (ix2 r b) := by
  blk_point [iblk, V, idx t]

theorem rdX1 (a : Fin 256) (b : Fin 1024) (r : Fin 8192) (hr : r.val = t.val * 512 + (256 + a.val)) :
    View.ld (iblk m c 2 t) (Rect.unit ![256, 0] ![256, 1024] inb_S512x1024_S256x1024_256_0) (ix2 a b) = argX m c (ix2 r b) := by
  blk_point [iblk, V, idx t]

theorem rdZ0 (a : Fin 256) (b : Fin 1024) (r : Fin 8192) (hr : r.val = t.val * 512 + a.val) :
    View.ld (iblk m c 4 t) (Rect.unit ![0, 0] ![256, 1024] inb_S512x1024_S256x1024_0_0) (ix2 a b) = argZ m c (ix2 r b) := by
  blk_point [iblk, V, idx t]

theorem rdZ1 (a : Fin 256) (b : Fin 1024) (r : Fin 8192) (hr : r.val = t.val * 512 + (256 + a.val)) :
    View.ld (iblk m c 4 t) (Rect.unit ![256, 0] ![256, 1024] inb_S512x1024_S256x1024_256_0) (ix2 a b) = argZ m c (ix2 r b) := by
  blk_point [iblk, V, idx t]

theorem rdH0 (a : Fin 256) (b : Fin 1024) (r : Fin 8192) (hr : r.val = t.val * 512 + a.val) :
    View.ld (iblk m c 5 t) (Rect.unit ![0, 0] ![256, 1024] inb_S512x1024_S256x1024_0_0) (ix2 a b) = argH m c (ix2 r b) := by
  blk_point [iblk, V, idx t]

theorem rdH1 (a : Fin 256) (b : Fin 1024) (r : Fin 8192) (hr : r.val = t.val * 512 + (256 + a.val)) :
    View.ld (iblk m c 5 t) (Rect.unit ![256, 0] ![256, 1024] inb_S512x1024_S256x1024_256_0) (ix2 a b) = argH m c (ix2 r b) := by
  blk_point [iblk, V, idx t]

theorem rdG (b : Fin 1024) : (iblk m c 3 t : FVec Ideal S1x1024 .f32) (ix2 0 b) = argG m c (ix1 b) := by
  blk_point [iblk, V, idx t]

theorem rdW (l : Fin 2816) (b : Fin 1024) : (iblk m c 1 t : FVec Ideal S2816x1024 .bf16) (ix2 l b) = argW m c (ix2 b l) := by
  blk_point [iblk, V, idx t]

/-- Half 0 of point `t`: its stored rows are the whole arrays' rows. -/
theorem row0 (a : Fin 256) (b : Fin 1024) (r : Fin 8192) (hr : r.val = t.val * 512 + a.val) :
    k0_pay12 (k0_pay5 (F := Ideal) (View.ld (iblk m c 5 t) (Rect.unit ![0, 0] ![256, 1024] inb_S512x1024_S256x1024_0_0)) (View.ld (iblk m c 0 t) (Rect.unit ![0, 0] ![256, 2816] inb_S512x2816_S256x2816_0_0)) (iblk m c 1 t)) (k0_pay7 (F := Ideal) (View.ld (iblk m c 2 t) (Rect.unit ![0, 0] ![256, 1024] inb_S512x1024_S256x1024_0_0)))
      (k0_pay8 (F := Ideal) (View.ld (iblk m c 2 t) (Rect.unit ![0, 0] ![256, 1024] inb_S512x1024_S256x1024_0_0))) (k0_pay9 (F := Ideal) (View.ld (iblk m c 2 t) (Rect.unit ![0, 0] ![256, 1024] inb_S512x1024_S256x1024_0_0)))
      (iblk m c 3 t) (View.ld (iblk m c 4 t) (Rect.unit ![0, 0] ![256, 1024] inb_S512x1024_S256x1024_0_0)) (ix2 a b)
      = dx (argX m c) (argG m c) (argW m c) (argZ m c) (argH m c) (argA m c) (ix2 r b) := by
  refine (half1 _ _ _ _ _ _ _ _).trans ?_
  simp only [rdA0 m c t a _ r hr, rdX0 m c t a _ r hr, rdZ0 m c t a _ r hr, rdH0 m c t a _ r hr, rdW m c t, rdG m c t]
  rfl

/-- Half 0 of point `t`: what it adds to the gain's gradient. -/
theorem add0 (P : FVec Ideal S1x1024 .f32) (b : Fin 1024) :
    k0_pay11 (k0_pay5 (F := Ideal) (View.ld (iblk m c 5 t) (Rect.unit ![0, 0] ![256, 1024] inb_S512x1024_S256x1024_0_0)) (View.ld (iblk m c 0 t) (Rect.unit ![0, 0] ![256, 2816] inb_S512x2816_S256x2816_0_0)) (iblk m c 1 t)) (k0_pay7 (F := Ideal) (View.ld (iblk m c 2 t) (Rect.unit ![0, 0] ![256, 1024] inb_S512x1024_S256x1024_0_0)))
      (k0_pay9 (F := Ideal) (View.ld (iblk m c 2 t) (Rect.unit ![0, 0] ![256, 1024] inb_S512x1024_S256x1024_0_0))) P (ix2 0 b)
      = P (ix2 0 b) + ∑ a : Fin 256, dg (argX m c) (argW m c) (argH m c) (argA m c) (row t a.val (by omega)) b := by
  refine (gain1 _ _ _ _ _ _).trans (congrArg _ (Finset.sum_congr rfl fun a _ => ?_))
  simp only [rdA0 m c t a _ (row t a.val (by omega)) rfl, rdX0 m c t a _ (row t a.val (by omega)) rfl, rdH0 m c t a _ (row t a.val (by omega)) rfl, rdW m c t]
  rfl

/-- Half 1 of point `t`: its stored rows are the whole arrays' rows. -/
theorem row1 (a : Fin 256) (b : Fin 1024) (r : Fin 8192) (hr : r.val = t.val * 512 + (256 + a.val)) :
    k0_pay3 (k0_pay6 (F := Ideal) (View.ld (iblk m c 5 t) (Rect.unit ![256, 0] ![256, 1024] inb_S512x1024_S256x1024_256_0)) (View.ld (iblk m c 0 t) (Rect.unit ![256, 0] ![256, 2816] inb_S512x2816_S256x2816_256_0)) (iblk m c 1 t)) (k0_pay13 (F := Ideal) (View.ld (iblk m c 2 t) (Rect.unit ![256, 0] ![256, 1024] inb_S512x1024_S256x1024_256_0)))
      (k0_pay14 (F := Ideal) (View.ld (iblk m c 2 t) (Rect.unit ![256, 0] ![256, 1024] inb_S512x1024_S256x1024_256_0))) (k0_pay15 (F := Ideal) (View.ld (iblk m c 2 t) (Rect.unit ![256, 0] ![256, 1024] inb_S512x1024_S256x1024_256_0)))
      (iblk m c 3 t) (View.ld (iblk m c 4 t) (Rect.unit ![256, 0] ![256, 1024] inb_S512x1024_S256x1024_256_0)) (ix2 a b)
      = dx (argX m c) (argG m c) (argW m c) (argZ m c) (argH m c) (argA m c) (ix2 r b) := by
  refine (half2 _ _ _ _ _ _ _ _).trans ?_
  simp only [rdA1 m c t a _ r hr, rdX1 m c t a _ r hr, rdZ1 m c t a _ r hr, rdH1 m c t a _ r hr, rdW m c t, rdG m c t]
  rfl

/-- Half 1 of point `t`: what it adds to the gain's gradient. -/
theorem add1 (P : FVec Ideal S1x1024 .f32) (b : Fin 1024) :
    k0_pay2 (k0_pay6 (F := Ideal) (View.ld (iblk m c 5 t) (Rect.unit ![256, 0] ![256, 1024] inb_S512x1024_S256x1024_256_0)) (View.ld (iblk m c 0 t) (Rect.unit ![256, 0] ![256, 2816] inb_S512x2816_S256x2816_256_0)) (iblk m c 1 t)) (k0_pay13 (F := Ideal) (View.ld (iblk m c 2 t) (Rect.unit ![256, 0] ![256, 1024] inb_S512x1024_S256x1024_256_0)))
      (k0_pay15 (F := Ideal) (View.ld (iblk m c 2 t) (Rect.unit ![256, 0] ![256, 1024] inb_S512x1024_S256x1024_256_0))) P (ix2 0 b)
      = P (ix2 0 b) + ∑ a : Fin 256, dg (argX m c) (argW m c) (argH m c) (argA m c) (row t (256 + a.val) (by omega)) b := by
  refine (gain2 _ _ _ _ _ _).trans (congrArg _ (Finset.sum_congr rfl fun a _ => ?_))
  simp only [rdA1 m c t a _ (row t (256 + a.val) (by omega)) rfl, rdX1 m c t a _ (row t (256 + a.val) (by omega)) rfl, rdH1 m c t a _ (row t (256 + a.val) (by omega)) rfl, rdW m c t]
  rfl

/-- What point `t` adds to the gain's gradient. -/
theorem both (P : FVec Ideal S1x1024 .f32) (b : Fin 1024) :
    k0_pay2 (k0_pay6 (F := Ideal) (View.ld (iblk m c 5 t) (Rect.unit ![256, 0] ![256, 1024] inb_S512x1024_S256x1024_256_0)) (View.ld (iblk m c 0 t) (Rect.unit ![256, 0] ![256, 2816] inb_S512x2816_S256x2816_256_0)) (iblk m c 1 t)) (k0_pay13 (F := Ideal) (View.ld (iblk m c 2 t) (Rect.unit ![256, 0] ![256, 1024] inb_S512x1024_S256x1024_256_0)))
      (k0_pay15 (F := Ideal) (View.ld (iblk m c 2 t) (Rect.unit ![256, 0] ![256, 1024] inb_S512x1024_S256x1024_256_0)))
      (k0_pay11 (k0_pay5 (F := Ideal) (View.ld (iblk m c 5 t) (Rect.unit ![0, 0] ![256, 1024] inb_S512x1024_S256x1024_0_0)) (View.ld (iblk m c 0 t) (Rect.unit ![0, 0] ![256, 2816] inb_S512x2816_S256x2816_0_0)) (iblk m c 1 t)) (k0_pay7 (F := Ideal) (View.ld (iblk m c 2 t) (Rect.unit ![0, 0] ![256, 1024] inb_S512x1024_S256x1024_0_0)))
      (k0_pay9 (F := Ideal) (View.ld (iblk m c 2 t) (Rect.unit ![0, 0] ![256, 1024] inb_S512x1024_S256x1024_0_0))) P) (ix2 0 b)
      = P (ix2 0 b) + ∑ k : Fin 512, dg (argX m c) (argW m c) (argH m c) (argA m c) (row t k.val k.isLt) b := by
  refine (add1 m c t _ b).trans ?_
  rw [add0 m c t P b, add_assoc, ← sum_halves (fun k hk => dg (argX m c) (argW m c) (argH m c) (argA m c) (row t k hk) b)]

end Reads

/-- Output window 6's array after the run. -/
theorem final6 (c : Dev nD) :
    (dats m 0 c).arrAt 6 cfg0.N = dx (argX m c) (argG m c) (argW m c) (argZ m c) (argH m c) (argA m c) := by
  refine (dats m 0 c).arrAt_eq_of_covers 6 _ (by decide +kernel) fun t _ y => ?_
  blk_simp
  rw [after0_6]
  have ht := lt_of_lt_of_eq t.isLt N_0
  have key : ∀ j : S8192x1024.Idx, j = ((cfg0.win 6).blk t).view.emb y → (outsAt0 m c t.val t.isLt).1 y
      = dx (argX m c) (argG m c) (argW m c) (argZ m c) (argH m c) (argA m c) j := by
    intro j hj
    have j0 : (j 0 : ℕ) = t.val * 512 + y 0 := by rw [hj]; blk_simp [idx t]
    have j1 : (j 1 : ℕ) = y 1 := by rw [hj]; blk_simp [idx t]
    clear hj
    obtain ⟨r, b, rfl⟩ : ∃ (r : Fin 8192) (b : Fin 1024), j = ix2 r b := ⟨j 0, j 1, eq_ix2 j⟩
    replace j0 : (r : ℕ) = t.val * 512 + y 0 := j0
    replace j1 : (b : ℕ) = y 1 := j1
    by_cases h : t.val % 16 = 0
    on_goal 1 => rw [outsAt0_A m c t h]
    on_goal 2 => rw [outsAt0_B m c t h]
    all_goals
      frame_out; clear h
      canon_tiles x h
      all_goals
        idx_vars x
        obtain rfl : b = x1 := Fin.ext (j1.trans h1)
      · exact row1 m c t _ _ r (by omega)
      · exact row0 m c t _ _ r (by omega)
  exact key _ rfl

/-- Output window 7's array after the run. -/
theorem final7 (c : Dev nD) :
    (dats m 0 c).arrAt 7 cfg0.N = fun i : S1x1024.Idx => ∑ r : Fin 8192, dg (argX m c) (argW m c) (argH m c) (argA m c) r (i 1) := by
  refine (dats m 0 c).arrAt_eq_of_after_last 7 t0_15 (by decide +kernel) _ fun j => ?_
  blk_simp
  idx_vars j
  obtain rfl := Subsingleton.elim j0 0
  rw [after0_7, Pipeline.eq_sum_fin_of_reset_step_apply_last (fun n h => (outsAt0 m c n h).2) 16 (fun _ => 0)
    (fun t j => ∑ k : Fin 512, dg (argX m c) (argW m c) (argH m c) (argA m c) (row t k.val k.isLt) (j 1))
    (fun t h j => by
      rw [outsAt0_A m c t h]; frame_out; idx_vars j; obtain rfl := Subsingleton.elim j0 0
      exact (both m c t _ j1).trans (congrArg (· + _) (zero _)))
    (fun t h j => by
      rw [outsAt0_B m c t h]; frame_out; idx_vars j; obtain rfl := Subsingleton.elim j0 0
      exact both m c t _ j1)
    (le_of_eq N_0) t0_15 rfl _, zero_add]
  exact Fin.sum_mul_add_congr fun p k hl => rfl

end Cert.FfnUp

end
-- ==== Proof.FfnUpClaim.lean ====
/-
  The claims about `d_ffn_up`: both programs' frames and the value equation.
-/
module

public import proofs.«01_k».proof.Proof.FfnUpEnd
public import proofs.«01_k».proof.Proof.Gen.Kernel2.Frame
public import proofs.«01_k».proof.Proof.Gen.Pre_finite2
public import Idealize.ShloMosaic.Lib.Claim
public import Idealize.ShloMosaic.Lib.Quiescent

@[expose] public section

noncomputable section

open Idealize.ShloMosaic Idealize.ShloMosaic.TcCoe Idealize.SL.Sem

namespace Cert.FfnUp

open Cert.Kernel2Ideal Cert.Kernel2Ideal.Gen Cert.Fv
open Cert.Reference2Ideal.Read (val_main_v40 val_main_v41)

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_ideal_pre : Cert.quiescent_Kernel2Ideal_pre_finite2 := fun m ρ _ => Cert.Kernel2Ideal.Gen.frame m ρ
theorem frame_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
theorem frame_ref_pre : Cert.quiescent_Reference2Ideal_pre_finite2 := fun m ρ _ => frame_ref m ρ trivial

variable (m : (ℓ : Loc nD τ sig) → Buf (Elt Ideal) ℓ)

/-- Where the arguments the precondition names are real numbers, the stored gradient of `x2` is the reference's. -/
theorem eq_dx (h : Cert.Pre_Kernel2Ideal_finite2 m) (c : Dev nD) :
    val_main_v40 (F := Ideal) (argX m c) (argG m c) (argW m c) (argZ m c) (argH m c) (argA m c) = (dats m 0 c).arrAt 6 cfg0.N := by
  rw [final6 m c]
  funext i
  obtain ⟨r, b, rfl⟩ : ∃ (r : Fin 8192) (b : Fin 1024), i = ix2 r b := ⟨i 0, i 1, eq_ix2 i⟩
  exact ref_dx _ _ _ _ _ _ (fun i => of_abs_lt (congrFun (h c).1 i)) (fun i => of_abs_lt (congrFun (h c).2.1 i))
    (fun i => of_abs_lt (congrFun (h c).2.2.1 i)) (fun i => of_abs_lt (congrFun (h c).2.2.2.1 i))
    (fun i => of_abs_lt (congrFun (h c).2.2.2.2 i)) r b

/-- The stored gradient of the gain is the reference's, on all arguments. -/
theorem eq_dg (c : Dev nD) :
    val_main_v41 (F := Ideal) (argX m c) (argW m c) (argH m c) (argA m c) = (dats m 0 c).arrAt 7 cfg0.N := by
  rw [final7 m c]
  funext i
  obtain ⟨r, b, rfl⟩ : ∃ (r : Fin 1) (b : Fin 1024), i = ix2 r b := ⟨i 0, i 1, eq_ix2 i⟩
  obtain rfl := Subsingleton.elim r 0
  exact ref_dg _ _ _ _ b

/-- The kernel's two results are the reference's, where the precondition holds. -/
theorem algebraic : Cert.algebraic_Kernel2Ideal_Reference2Ideal_pre_finite2 := by
  pair_intro
  · run_from Cert.Kernel2Ideal.Gen.run_main m g
  · run_from Cert.Reference2Ideal.Value.run m' g'
    · obtain ⟨e0, e1, e2, e3, e4, e5⟩ := hagree c
      rw [Cert.Reference2Ideal.Read.val_main_v40_eq, e0, e1, e2, e3, e4, e5]
      exact eq_dx m ‹_› c
    · exact eq_dg m c

end Cert.FfnUp

end
-- ==== Proof.OutProjBlock.lean ====
/-
  What `d_out_proj` computes on one half block of 512 rows and one group of 512 lanes.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProj

open Cert.Kernel3Ideal Cert.Kernel3Ideal.Gen Cert.Fv

/-- Lane `k` of the first and of the second group. -/
def lane0 (k : Fin 512) : Fin 1024 := ⟨k.val, by omega⟩
def lane1 (k : Fin 512) : Fin 1024 := ⟨512 + k.val, by omega⟩

section Payloads

variable (A : FVec Ideal S512x1024 .bf16) (W : FVec Ideal S1024x1024 .bf16) (X : FVec Ideal S512x512 .bf16) (G P : FVec Ideal S1x512 .f32)

/-- The stored gradient of group 0. -/
theorem half0_0 (a : Fin 512) (b : Fin 512) :
    k0_pay10 (k0_pay6 (F := Ideal) A W) (k0_pay7 (F := Ideal) X) (k0_pay8 (F := Ideal) X) G (ix2 a b)
      = Norm.grad 512 (fun k => X (ix2 a k)) (fun k => (∑ l, A (ix2 a l) * W (ix2 (lane0 k) l)) * G (ix2 0 k)) b := by
  pointwise [k0_pay1, k0_pay3, k0_pay5, k0_pay6, k0_pay7, k0_pay8, k0_pay9, k0_pay10, k0_pay11, k0_pay12, k0_pay13, k0_pay14, k0_pay15, k0_pay16]
  rw [Norm.ofBits_512, Norm.ofBits_eps]
  unfold Norm.grad Norm.inv Norm.ms lane0
  blk_point []

theorem half1_0 (a : Fin 512) (b : Fin 512) :
    k0_pay24 (k0_pay19 (F := Ideal) X) (k0_pay20 (F := Ideal) X) (k0_pay22 (k0_pay4 (F := Ideal) A W) G) (k0_pay23 (k0_pay4 (F := Ideal) A W) X G) (ix2 a b)
      = Norm.grad 512 (fun k => X (ix2 a k)) (fun k => (∑ l, A (ix2 a l) * W (ix2 (lane0 k) l)) * G (ix2 0 k)) b :=
  half0_0 A W X G a b

/-- What is added to the gain's gradient of group 0. -/
theorem gain0_0 (b : Fin 512) :
    k0_pay9 A W X P (ix2 0 b)
      = P (ix2 0 b) + ∑ a : Fin 512, (∑ l, A (ix2 a l) * W (ix2 (lane0 b) l)) * (X (ix2 a b) * Norm.inv 512 (fun k => X (ix2 a k))) := by
  pointwise [k0_pay1, k0_pay3, k0_pay5, k0_pay6, k0_pay7, k0_pay8, k0_pay9, k0_pay10, k0_pay11, k0_pay12, k0_pay13, k0_pay14, k0_pay15, k0_pay16]
  rw [Norm.ofBits_512, Norm.ofBits_eps]
  unfold Norm.inv Norm.ms lane0
  blk_point []

theorem gain1_0 (b : Fin 512) :
    k0_pay21 (k0_pay4 (F := Ideal) A W) X P (ix2 0 b)
      = P (ix2 0 b) + ∑ a : Fin 512, (∑ l, A (ix2 a l) * W (ix2 (lane0 b) l)) * (X (ix2 a b) * Norm.inv 512 (fun k => X (ix2 a k))) :=
  gain0_0 A W X P b

/-- The stored gradient of group 1. -/
theorem half0_1 (a : Fin 512) (b : Fin 512) :
    k0_pay16 (k0_pay12 (k0_pay3 (F := Ideal) A W)) (k0_pay13 (F := Ideal) X) (k0_pay14 (F := Ideal) X) G (ix2 a b)
      = Norm.grad 512 (fun k => X (ix2 a k)) (fun k => (∑ l, A (ix2 a l) * W (ix2 (lane1 k) l)) * G (ix2 0 k)) b := by
  pointwise [k0_pay1, k0_pay3, k0_pay5, k0_pay6, k0_pay7, k0_pay8, k0_pay9, k0_pay10, k0_pay11, k0_pay12, k0_pay13, k0_pay14, k0_pay15, k0_pay16]
  rw [Norm.ofBits_512, Norm.ofBits_eps]
  unfold Norm.grad Norm.inv Norm.ms lane1
  blk_point []

theorem half1_1 (a : Fin 512) (b : Fin 512) :
    k0_pay1 (k0_pay27 (F := Ideal) X) (k0_pay28 (F := Ideal) X) (k0_pay30 (k0_pay4 (F := Ideal) A W) G) (k0_pay31 (k0_pay4 (F := Ideal) A W) X G) (k0_pay32 (F := Ideal)) (ix2 a b)
      = Norm.grad 512 (fun k => X (ix2 a k)) (fun k => (∑ l, A (ix2 a l) * W (ix2 (lane1 k) l)) * G (ix2 0 k)) b :=
  half0_1 A W X G a b

/-- What is added to the gain's gradient of group 1. -/
theorem gain0_1 (b : Fin 512) :
    k0_pay15 (k0_pay3 (F := Ideal) A W) X P (ix2 0 b)
      = P (ix2 0 b) + ∑ a : Fin 512, (∑ l, A (ix2 a l) * W (ix2 (lane1 b) l)) * (X (ix2 a b) * Norm.inv 512 (fun k => X (ix2 a k))) := by
  pointwise [k0_pay1, k0_pay3, k0_pay5, k0_pay6, k0_pay7, k0_pay8, k0_pay9, k0_pay10, k0_pay11, k0_pay12, k0_pay13, k0_pay14, k0_pay15, k0_pay16]
  rw [Norm.ofBits_512, Norm.ofBits_eps]
  unfold Norm.inv Norm.ms lane1
  blk_point []

theorem gain1_1 (b : Fin 512) :
    k0_pay29 (k0_pay4 (F := Ideal) A W) X P (ix2 0 b)
      = P (ix2 0 b) + ∑ a : Fin 512, (∑ l, A (ix2 a l) * W (ix2 (lane1 b) l)) * (X (ix2 a b) * Norm.inv 512 (fun k => X (ix2 a k))) :=
  gain0_1 A W X P b

end Payloads

/-- The gain's block starts at zero. -/
theorem zero (y : S1x1024.Idx) : k0_pay2 (F := Ideal) y = 0 := by pointwise [k0_pay2]

end Cert.OutProj

end
-- ==== Proof.OutProjEnd.lean ====
/-
  The two arrays `d_out_proj` leaves, over the whole arguments.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.OutProjBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProj

open Cert.Kernel3Ideal Cert.Kernel3Ideal.Gen Cert.Fv

/-- Where the two latest writes cover an index, the earlier ones are not seen at it. -/
theorem canon_two {s : Shape} {e : EltTy} [∀ e, Nonempty (Elt Ideal e)] (p q : View.Piece (Elt Ideal) s e) (L : List (View.Piece (Elt Ideal) s e)) {y : s.Idx}
    (h : y ∈ p.1.set ∨ y ∈ q.1.set) : View.canon (p :: q :: L) y = View.canon [p, q] y := by
  by_cases hp : y ∈ p.1.set
  · obtain ⟨x, rfl⟩ : ∃ x, p.1.emb x = y := p.1.exists_idx_of_mem hp
    exact (View.canon_cons_emb p.1 p.2 _ x).trans (View.canon_cons_emb p.1 p.2 _ x).symm
  · rw [View.canon_cons_of_not_mem p _ hp, View.canon_cons_of_not_mem p _ hp]
    obtain ⟨x, rfl⟩ : ∃ x, q.1.emb x = y := q.1.exists_idx_of_mem (h.resolve_left hp)
    exact (View.canon_cons_emb q.1 q.2 _ x).trans (View.canon_cons_emb q.1 q.2 _ x).symm

/-- The two groups of lanes cover the gain's block. -/
theorem halves (h1 h2) (y : S1x1024.Idx) : y ∈ (Rect.unit (s := S1x1024) ![0, 512] ![1, 512] h1).set ∨ y ∈ (Rect.unit (s := S1x1024) ![0, 0] ![1, 512] h2).set := by
  rw [Rect.mem_set_unit, Rect.mem_set_unit, Fin.forall_fin_two, Fin.forall_fin_two]
  have h0 : (y 0).val < 1 := (y 0).isLt
  have h1 : (y 1).val < 1024 := (y 1).isLt
  simp only [Matrix.cons_val_zero, Matrix.cons_val_one]
  omega

/-- A group of the gain's block, read. -/
theorem ld0 (P : FVec Ideal S1x1024 .f32) (b : Fin 512) : View.ld (Val := Elt Ideal) (S := S1x1024) (e' := EltTy.f32) P (Rect.unit ![0, 0] ![1, 512] inb_S1x1024_S1x512_0_0) (ix2 0 b) = P (ix2 0 (lane0 b)) := by
  refine congrArg P ((eq_ix2 _).trans ?_)
  exact congrArg₂ ix2 (Subsingleton.elim (α := Fin 1) _ _) (Fin.ext (show 0 + 1 * b.val = b.val by omega))

theorem ld1 (P : FVec Ideal S1x1024 .f32) (b : Fin 512) : View.ld (Val := Elt Ideal) (S := S1x1024) (e' := EltTy.f32) P (Rect.unit ![0, 512] ![1, 512] inb_S1x1024_S1x512_0_512) (ix2 0 b) = P (ix2 0 (lane1 b)) := by
  refine congrArg P ((eq_ix2 _).trans ?_)
  exact congrArg₂ ix2 (Subsingleton.elim (α := Fin 1) _ _) (Fin.ext (show 512 + 1 * b.val = 512 + b.val by omega))

variable (m : (ℓ : Loc nD τ sig) → Buf (Elt Ideal) ℓ)

/-- The five argument arrays on device `c`. -/
abbrev argO (c : Dev nD) : FVec Ideal S8192x1024 .f32 := m ((c : Thread nD τ).loc main_arg0)
abbrev argGf (c : Dev nD) : FVec Ideal Cert.Reference3Ideal.S512 .f32 := m ((c : Thread nD τ).loc main_arg1)
abbrev argGd (c : Dev nD) : FVec Ideal Cert.Reference3Ideal.S512 .f32 := m ((c : Thread nD τ).loc main_arg2)
abbrev argW (c : Dev nD) : FVec Ideal S1024x1024 .f32 := m ((c : Thread nD τ).loc main_arg3)
abbrev argA (c : Dev nD) : FVec Ideal S8192x1024 .f32 := m ((c : Thread nD τ).loc main_arg4)

/-- Where every window's block sits, over the grid's eight points. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![0, 0] :=
  (by decide +kernel : ∀ t : Fin grid0.N, _)

/-- Row `k` of point `t`'s block. -/
def row (t : Fin cfg0.N) (k : ℕ) (hk : k < 1024) : Fin 8192 := ⟨t.val * 1024 + k, by have := lt_of_lt_of_eq t.isLt N_0; omega⟩

/-- The gradient of `o` on the group of lanes `L`, row by row. -/
def dog (L : Fin 512 → Fin 1024) (O : FVec Ideal S8192x1024 .f32) (G : FVec Ideal Cert.Reference3Ideal.S512 .f32) (W : FVec Ideal S1024x1024 .f32)
    (A : FVec Ideal S8192x1024 .f32) (r : Fin 8192) (b : Fin 512) : EReal :=
  Norm.grad 512 (fun k => O (ix2 r (L k))) (fun k => (∑ l, A (ix2 r l) * W (ix2 (L k) l)) * G (ix1 k)) b

/-- One row's part of the gradient of the gain, on the group of lanes `L`. -/
def dgg (L : Fin 512 → Fin 1024) (O : FVec Ideal S8192x1024 .f32) (W : FVec Ideal S1024x1024 .f32)
    (A : FVec Ideal S8192x1024 .f32) (r : Fin 8192) (b : Fin 512) : EReal :=
  (∑ l, A (ix2 r l) * W (ix2 (L b) l)) * (O (ix2 r (L b)) * Norm.inv 512 (fun k => O (ix2 r (L k))))

/-- A sum over 1024 rows, taken in two halves. -/
theorem sum_halves (f : (k : ℕ) → k < 1024 → EReal) :
    ∑ k : Fin 1024, f k.val k.isLt = (∑ a : Fin 512, f a.val (by omega)) + ∑ a : Fin 512, f (512 + a.val) (by omega) :=
  Fin.sum_univ_add (a := 512) (b := 512) (fun k => f k.val k.isLt)

section Reads

variable (c : Dev nD) (t : Fin cfg0.N)

theorem rdA0 (a : Fin 512) (b : Fin 1024) (r : Fin 8192) (hr : r.val = t.val * 1024 + a.val) :
    View.ld (iblk m c 0 t) (Rect.unit ![0, 0] ![512, 1024] inb_S1024x1024_S512x1024_0_0) (ix2 a b) = argA m c (ix2 r b) := by
  blk_point [iblk, V, idx t]

theorem rdX00 (a : Fin 512) (b : Fin 512) (r : Fin 8192) (hr : r.val = t.val * 1024 + a.val) :
    View.ld (iblk m c 2 t) (Rect.unit ![0, 0] ![512, 512] inb_S1024x1024_S512x512_0_0) (ix2 a b) = argO m c (ix2 r (lane0 b)) := by
  unfold lane0
  blk_point [iblk, V, idx t]

theorem rdX01 (a : Fin 512) (b : Fin 512) (r : Fin 8192) (hr : r.val = t.val * 1024 + a.val) :
    View.ld (iblk m c 2 t) (Rect.unit ![0, 512] ![512, 512] inb_S1024x1024_S512x512_0_512) (ix2 a b) = argO m c (ix2 r (lane1 b)) := by
  unfold lane1
  blk_point [iblk, V, idx t]

theorem rdA1 (a : Fin 512) (b : Fin 1024) (r : Fin 8192) (hr : r.val = t.val * 1024 + (512 + a.val)) :
    View.ld (iblk m c 0 t) (Rect.unit ![512, 0] ![512, 1024] inb_S1024x1024_S512x1024_512_0) (ix2 a b) = argA m c (ix2 r b) := by
  blk_point [iblk, V, idx t]

theorem rdX10 (a : Fin 512) (b : Fin 512) (r : Fin 8192) (hr : r.val = t.val * 1024 + (512 + a.val)) :
    View.ld (iblk m c 2 t) (Rect.unit ![512, 0] ![512, 512] inb_S1024x1024_S512x512_512_0) (ix2 a b) = argO m c (ix2 r (lane0 b)) := by
  unfold lane0
  blk_point [iblk, V, idx t]

theorem rdX11 (a : Fin 512) (b : Fin 512) (r : Fin 8192) (hr : r.val = t.val * 1024 + (512 + a.val)) :
    View.ld (iblk m c 2 t) (Rect.unit ![512, 512] ![512, 512] inb_S1024x1024_S512x512_512_512) (ix2 a b) = argO m c (ix2 r (lane1 b)) := by
  unfold lane1
  blk_point [iblk, V, idx t]

/-- The host's joined gain vector, on group 0. -/
theorem gains0 (f g : FVec Ideal S512 .f32) (b : Fin 512) (j : S1x1024.Idx) (hj : (j 1).val = b.val) :
    shapeCast S1x1024 (concatenate S1024 0 [⟨S512, f⟩, ⟨S512, g⟩] concatenates_S512_S512_S1024_d0) shapeCasts_S1024_S1x1024 j = f (ix1 b) := by
  obtain rfl : j = ix2 0 (lane0 b) := by
    obtain ⟨x, y, rfl⟩ : ∃ (x : Fin 1) (y : Fin 1024), j = ix2 x y := ⟨j 0, j 1, eq_ix2 j⟩
    obtain rfl := Subsingleton.elim x 0
    exact congrArg (ix2 0) (Fin.ext hj)
  unfold lane0; pointwise []

theorem rdG0 (b : Fin 512) : View.ld (iblk m c 3 t) (Rect.unit ![0, 0] ![1, 512] inb_S1x1024_S1x512_0_0) (ix2 0 b) = argGf m c (ix1 b) :=
  gains0 _ _ b _ (by blk_simp [idx t]; show 0 + 1 * b.val = _; omega)

/-- The host's joined gain vector, on group 1. -/
theorem gains1 (f g : FVec Ideal S512 .f32) (b : Fin 512) (j : S1x1024.Idx) (hj : (j 1).val = 512 + b.val) :
    shapeCast S1x1024 (concatenate S1024 0 [⟨S512, f⟩, ⟨S512, g⟩] concatenates_S512_S512_S1024_d0) shapeCasts_S1024_S1x1024 j = g (ix1 b) := by
  obtain rfl : j = ix2 0 (lane1 b) := by
    obtain ⟨x, y, rfl⟩ : ∃ (x : Fin 1) (y : Fin 1024), j = ix2 x y := ⟨j 0, j 1, eq_ix2 j⟩
    obtain rfl := Subsingleton.elim x 0
    exact congrArg (ix2 0) (Fin.ext hj)
  unfold lane1; pointwise []

theorem rdG1 (b : Fin 512) : View.ld (iblk m c 3 t) (Rect.unit ![0, 512] ![1, 512] inb_S1x1024_S1x512_0_512) (ix2 0 b) = argGd m c (ix1 b) :=
  gains1 _ _ b _ (by blk_simp [idx t]; show 512 + 1 * b.val = _; omega)

theorem rdW (l : Fin 1024) (b : Fin 1024) : (iblk m c 1 t : FVec Ideal S1024x1024 .bf16) (ix2 l b) = argW m c (ix2 l b) := by
  blk_point [iblk, V, idx t]

/-- Half 0, group 0 of point `t`: its stored rows are the whole arrays' rows. -/
theorem row00 (a b : Fin 512) (r : Fin 8192) (hr : r.val = t.val * 1024 + a.val) :
    k0_pay10 (k0_pay6 (F := Ideal) (View.ld (iblk m c 0 t) (Rect.unit ![0, 0] ![512, 1024] inb_S1024x1024_S512x1024_0_0)) (iblk m c 1 t)) (k0_pay7 (F := Ideal) (View.ld (iblk m c 2 t) (Rect.unit ![0, 0] ![512, 512] inb_S1024x1024_S512x512_0_0))) (k0_pay8 (F := Ideal) (View.ld (iblk m c 2 t) (Rect.unit ![0, 0] ![512, 512] inb_S1024x1024_S512x512_0_0))) (View.ld (iblk m c 3 t) (Rect.unit ![0, 0] ![1, 512] inb_S1x1024_S1x512_0_0)) (ix2 a b)
      = dog lane0 (argO m c) (argGf m c) (argW m c) (argA m c) r b := by
  refine (half0_0 _ _ _ _ _ _).trans ?_
  simp only [rdA0 m c t a _ r hr, rdX00 m c t a _ r hr, rdW m c t, rdG0 m c t]
  rfl

/-- Half 0, group 0 of point `t`: what it adds to the gain's gradient. -/
theorem add00 (P : FVec Ideal S1x512 .f32) (b : Fin 512) :
    k0_pay9 (View.ld (iblk m c 0 t) (Rect.unit ![0, 0] ![512, 1024] inb_S1024x1024_S512x1024_0_0)) (iblk m c 1 t) (View.ld (iblk m c 2 t) (Rect.unit ![0, 0] ![512, 512] inb_S1024x1024_S512x512_0_0)) P (ix2 0 b)
      = P (ix2 0 b) + ∑ a : Fin 512, dgg lane0 (argO m c) (argW m c) (argA m c) (row t a.val (by omega)) b := by
  refine (gain0_0 _ _ _ _ _).trans (congrArg _ (Finset.sum_congr rfl fun a _ => ?_))
  simp only [rdA0 m c t a _ (row t a.val (by omega)) rfl, rdX00 m c t a _ (row t a.val (by omega)) rfl, rdW m c t]
  rfl

/-- Half 0, group 1 of point `t`: its stored rows are the whole arrays' rows. -/
theorem row01 (a b : Fin 512) (r : Fin 8192) (hr : r.val = t.val * 1024 + a.val) :
    k0_pay16 (k0_pay12 (k0_pay3 (F := Ideal) (View.ld (iblk m c 0 t) (Rect.unit ![0, 0] ![512, 1024] inb_S1024x1024_S512x1024_0_0)) (iblk m c 1 t))) (k0_pay13 (F := Ideal) (View.ld (iblk m c 2 t) (Rect.unit ![0, 512] ![512, 512] inb_S1024x1024_S512x512_0_512))) (k0_pay14 (F := Ideal) (View.ld (iblk m c 2 t) (Rect.unit ![0, 512] ![512, 512] inb_S1024x1024_S512x512_0_512))) (View.ld (iblk m c 3 t) (Rect.unit ![0, 512] ![1, 512] inb_S1x1024_S1x512_0_512)) (ix2 a b)
      = dog lane1 (argO m c) (argGd m c) (argW m c) (argA m c) r b := by
  refine (half0_1 _ _ _ _ _ _).trans ?_
  simp only [rdA0 m c t a _ r hr, rdX01 m c t a _ r hr, rdW m c t, rdG1 m c t]
  rfl

/-- Half 0, group 1 of point `t`: what it adds to the gain's gradient. -/
theorem add01 (P : FVec Ideal S1x512 .f32) (b : Fin 512) :
    k0_pay15 (k0_pay3 (F := Ideal) (View.ld (iblk m c 0 t) (Rect.unit ![0, 0] ![512, 1024] inb_S1024x1024_S512x1024_0_0)) (iblk m c 1 t)) (View.ld (iblk m c 2 t) (Rect.unit ![0, 512] ![512, 512] inb_S1024x1024_S512x512_0_512)) P (ix2 0 b)
      = P (ix2 0 b) + ∑ a : Fin 512, dgg lane1 (argO m c) (argW m c) (argA m c) (row t a.val (by omega)) b := by
  refine (gain0_1 _ _ _ _ _).trans (congrArg _ (Finset.sum_congr rfl fun a _ => ?_))
  simp only [rdA0 m c t a _ (row t a.val (by omega)) rfl, rdX01 m c t a _ (row t a.val (by omega)) rfl, rdW m c t]
  rfl

/-- Half 1, group 0 of point `t`: its stored rows are the whole arrays' rows. -/
theorem row10 (a b : Fin 512) (r : Fin 8192) (hr : r.val = t.val * 1024 + (512 + a.val)) :
    k0_pay24 (k0_pay19 (F := Ideal) (View.ld (iblk m c 2 t) (Rect.unit ![512, 0] ![512, 512] inb_S1024x1024_S512x512_512_0))) (k0_pay20 (F := Ideal) (View.ld (iblk m c 2 t) (Rect.unit ![512, 0] ![512, 512] inb_S1024x1024_S512x512_512_0))) (k0_pay22 (k0_pay4 (F := Ideal) (View.ld (iblk m c 0 t) (Rect.unit ![512, 0] ![512, 1024] inb_S1024x1024_S512x1024_512_0)) (iblk m c 1 t)) (View.ld (iblk m c 3 t) (Rect.unit ![0, 0] ![1, 512] inb_S1x1024_S1x512_0_0))) (k0_pay23 (k0_pay4 (F := Ideal) (View.ld (iblk m c 0 t) (Rect.unit ![512, 0] ![512, 1024] inb_S1024x1024_S512x1024_512_0)) (iblk m c 1 t)) (View.ld (iblk m c 2 t) (Rect.unit ![512, 0] ![512, 512] inb_S1024x1024_S512x512_512_0)) (View.ld (iblk m c 3 t) (Rect.unit ![0, 0] ![1, 512] inb_S1x1024_S1x512_0_0))) (ix2 a b)
      = dog lane0 (argO m c) (argGf m c) (argW m c) (argA m c) r b := by
  refine (half1_0 _ _ _ _ _ _).trans ?_
  simp only [rdA1 m c t a _ r hr, rdX10 m c t a _ r hr, rdW m c t, rdG0 m c t]
  rfl

/-- Half 1, group 0 of point `t`: what it adds to the gain's gradient. -/
theorem add10 (P : FVec Ideal S1x512 .f32) (b : Fin 512) :
    k0_pay21 (k0_pay4 (F := Ideal) (View.ld (iblk m c 0 t) (Rect.unit ![512, 0] ![512, 1024] inb_S1024x1024_S512x1024_512_0)) (iblk m c 1 t)) (View.ld (iblk m c 2 t) (Rect.unit ![512, 0] ![512, 512] inb_S1024x1024_S512x512_512_0)) P (ix2 0 b)
      = P (ix2 0 b) + ∑ a : Fin 512, dgg lane0 (argO m c) (argW m c) (argA m c) (row t (512 + a.val) (by omega)) b := by
  refine (gain1_0 _ _ _ _ _).trans (congrArg _ (Finset.sum_congr rfl fun a _ => ?_))
  simp only [rdA1 m c t a _ (row t (512 + a.val) (by omega)) rfl, rdX10 m c t a _ (row t (512 + a.val) (by omega)) rfl, rdW m c t]
  rfl

/-- Half 1, group 1 of point `t`: its stored rows are the whole arrays' rows. -/
theorem row11 (a b : Fin 512) (r : Fin 8192) (hr : r.val = t.val * 1024 + (512 + a.val)) :
    k0_pay1 (k0_pay27 (F := Ideal) (View.ld (iblk m c 2 t) (Rect.unit ![512, 512] ![512, 512] inb_S1024x1024_S512x512_512_512))) (k0_pay28 (F := Ideal) (View.ld (iblk m c 2 t) (Rect.unit ![512, 512] ![512, 512] inb_S1024x1024_S512x512_512_512))) (k0_pay30 (k0_pay4 (F := Ideal) (View.ld (iblk m c 0 t) (Rect.unit ![512, 0] ![512, 1024] inb_S1024x1024_S512x1024_512_0)) (iblk m c 1 t)) (View.ld (iblk m c 3 t) (Rect.unit ![0, 512] ![1, 512] inb_S1x1024_S1x512_0_512))) (k0_pay31 (k0_pay4 (F := Ideal) (View.ld (iblk m c 0 t) (Rect.unit ![512, 0] ![512, 1024] inb_S1024x1024_S512x1024_512_0)) (iblk m c 1 t)) (View.ld (iblk m c 2 t) (Rect.unit ![512, 512] ![512, 512] inb_S1024x1024_S512x512_512_512)) (View.ld (iblk m c 3 t) (Rect.unit ![0, 512] ![1, 512] inb_S1x1024_S1x512_0_512))) (k0_pay32 (F := Ideal)) (ix2 a b)
      = dog lane1 (argO m c) (argGd m c) (argW m c) (argA m c) r b := by
  refine (half1_1 _ _ _ _ _ _).trans ?_
  simp only [rdA1 m c t a _ r hr, rdX11 m c t a _ r hr, rdW m c t, rdG1 m c t]
  rfl

/-- Half 1, group 1 of point `t`: what it adds to the gain's gradient. -/
theorem add11 (P : FVec Ideal S1x512 .f32) (b : Fin 512) :
    k0_pay29 (k0_pay4 (F := Ideal) (View.ld (iblk m c 0 t) (Rect.unit ![512, 0] ![512, 1024] inb_S1024x1024_S512x1024_512_0)) (iblk m c 1 t)) (View.ld (iblk m c 2 t) (Rect.unit ![512, 512] ![512, 512] inb_S1024x1024_S512x512_512_512)) P (ix2 0 b)
      = P (ix2 0 b) + ∑ a : Fin 512, dgg lane1 (argO m c) (argW m c) (argA m c) (row t (512 + a.val) (by omega)) b := by
  refine (gain1_1 _ _ _ _ _).trans (congrArg _ (Finset.sum_congr rfl fun a _ => ?_))
  simp only [rdA1 m c t a _ (row t (512 + a.val) (by omega)) rfl, rdX11 m c t a _ (row t (512 + a.val) (by omega)) rfl, rdW m c t]
  rfl

/-- What point `t` adds to the gain's gradient on group 0. -/
theorem both0 (P : FVec Ideal S1x512 .f32) (b : Fin 512) :
    k0_pay21 (k0_pay4 (F := Ideal) (View.ld (iblk m c 0 t) (Rect.unit ![512, 0] ![512, 1024] inb_S1024x1024_S512x1024_512_0)) (iblk m c 1 t)) (View.ld (iblk m c 2 t) (Rect.unit ![512, 0] ![512, 512] inb_S1024x1024_S512x512_512_0)) (k0_pay9 (View.ld (iblk m c 0 t) (Rect.unit ![0, 0] ![512, 1024] inb_S1024x1024_S512x1024_0_0)) (iblk m c 1 t) (View.ld (iblk m c 2 t) (Rect.unit ![0, 0] ![512, 512] inb_S1024x1024_S512x512_0_0)) P) (ix2 0 b)
      = P (ix2 0 b) + ∑ k : Fin 1024, dgg lane0 (argO m c) (argW m c) (argA m c) (row t k.val k.isLt) b := by
  refine (add10 m c t _ b).trans ?_
  rw [add00 m c t P b, add_assoc, ← sum_halves (fun k hk => dgg lane0 (argO m c) (argW m c) (argA m c) (row t k hk) b)]

/-- What point `t` adds to the gain's gradient on group 1. -/
theorem both1 (P : FVec Ideal S1x512 .f32) (b : Fin 512) :
    k0_pay29 (k0_pay4 (F := Ideal) (View.ld (iblk m c 0 t) (Rect.unit ![512, 0] ![512, 1024] inb_S1024x1024_S512x1024_512_0)) (iblk m c 1 t)) (View.ld (iblk m c 2 t) (Rect.unit ![512, 512] ![512, 512] inb_S1024x1024_S512x512_512_512)) (k0_pay15 (k0_pay3 (F := Ideal) (View.ld (iblk m c 0 t) (Rect.unit ![0, 0] ![512, 1024] inb_S1024x1024_S512x1024_0_0)) (iblk m c 1 t)) (View.ld (iblk m c 2 t) (Rect.unit ![0, 512] ![512, 512] inb_S1024x1024_S512x512_0_512)) P) (ix2 0 b)
      = P (ix2 0 b) + ∑ k : Fin 1024, dgg lane1 (argO m c) (argW m c) (argA m c) (row t k.val k.isLt) b := by
  refine (add11 m c t _ b).trans ?_
  rw [add01 m c t P b, add_assoc, ← sum_halves (fun k hk => dgg lane1 (argO m c) (argW m c) (argA m c) (row t k hk) b)]

end Reads

/-- The group of a lane and its place in the group. -/
def dod (O : FVec Ideal S8192x1024 .f32) (Gf Gd : FVec Ideal Cert.Reference3Ideal.S512 .f32) (W : FVec Ideal S1024x1024 .f32)
    (A : FVec Ideal S8192x1024 .f32) : FVec Ideal S8192x1024 .bf16 := fun i =>
  if h : (i 1).val < 512 then dog lane0 O Gf W A (i 0) ⟨(i 1).val, h⟩ else dog lane1 O Gd W A (i 0) ⟨(i 1).val - 512, by have := (i 1).isLt; change (i 1).val < 1024 at this; omega⟩

theorem dod0 (O : FVec Ideal S8192x1024 .f32) (Gf Gd : FVec Ideal Cert.Reference3Ideal.S512 .f32) (W : FVec Ideal S1024x1024 .f32)
    (A : FVec Ideal S8192x1024 .f32) (r : Fin 8192) (b : Fin 512) : dod O Gf Gd W A (ix2 r (lane0 b)) = dog lane0 O Gf W A r b :=
  dif_pos (show (lane0 b).val < 512 from b.isLt)

theorem dod1 (O : FVec Ideal S8192x1024 .f32) (Gf Gd : FVec Ideal Cert.Reference3Ideal.S512 .f32) (W : FVec Ideal S1024x1024 .f32)
    (A : FVec Ideal S8192x1024 .f32) (r : Fin 8192) (b : Fin 512) : dod O Gf Gd W A (ix2 r (lane1 b)) = dog lane1 O Gd W A r b :=
  (dif_neg (show ¬ (lane1 b).val < 512 from by unfold lane1; simp)).trans
    (congrArg (dog lane1 O Gd W A r) (Fin.ext (Nat.add_sub_cancel_left (n := 512) (m := b.val))))

/-- One row's part of the gain's gradient, at any lane. -/
def dgd (O : FVec Ideal S8192x1024 .f32) (W : FVec Ideal S1024x1024 .f32) (A : FVec Ideal S8192x1024 .f32) (r : Fin 8192) (b : Fin 1024) : EReal :=
  if h : b.val < 512 then dgg lane0 O W A r ⟨b.val, h⟩ else dgg lane1 O W A r ⟨b.val - 512, by omega⟩

theorem dgd0 (O : FVec Ideal S8192x1024 .f32) (W : FVec Ideal S1024x1024 .f32) (A : FVec Ideal S8192x1024 .f32) (r : Fin 8192) (b : Fin 512) :
    dgd O W A r (lane0 b) = dgg lane0 O W A r b :=
  dif_pos (show (lane0 b).val < 512 from b.isLt)

theorem dgd1 (O : FVec Ideal S8192x1024 .f32) (W : FVec Ideal S1024x1024 .f32) (A : FVec Ideal S8192x1024 .f32) (r : Fin 8192) (b : Fin 512) :
    dgd O W A r (lane1 b) = dgg lane1 O W A r b :=
  (dif_neg (show ¬ (lane1 b).val < 512 from by unfold lane1; simp)).trans
    (congrArg (dgg lane1 O W A r) (Fin.ext (Nat.add_sub_cancel_left (n := 512) (m := b.val))))

/-- Output window 4's array after the run. -/
theorem final4 (c : Dev nD) :
    (dats m 0 c).arrAt 4 cfg0.N = dod (argO m c) (argGf m c) (argGd m c) (argW m c) (argA m c) := by
  refine (dats m 0 c).arrAt_eq_of_covers 4 _ (by decide +kernel) fun t _ y => ?_
  blk_simp
  rw [after0_4]
  have ht := lt_of_lt_of_eq t.isLt N_0
  have key : ∀ j : S8192x1024.Idx, j = ((cfg0.win 4).blk t).view.emb y → (outsAt0 m c t.val t.isLt).1 y
      = dod (argO m c) (argGf m c) (argGd m c) (argW m c) (argA m c) j := by
    intro j hj
    have j0 : (j 0 : ℕ) = t.val * 1024 + y 0 := by rw [hj]; blk_simp [idx t]
    have j1 : (j 1 : ℕ) = y 1 := by rw [hj]; blk_simp [idx t]
    clear hj
    obtain ⟨r, b, rfl⟩ : ∃ (r : Fin 8192) (b : Fin 1024), j = ix2 r b := ⟨j 0, j 1, eq_ix2 j⟩
    replace j0 : (r : ℕ) = t.val * 1024 + y 0 := j0
    replace j1 : (b : ℕ) = y 1 := j1
    by_cases h : t.val % 8 = 0
    on_goal 1 => rw [outsAt0_A m c t h]
    on_goal 2 => rw [outsAt0_B m c t h]
    all_goals
      frame_out; clear h
      canon_tiles x h
      all_goals idx_vars x
      · obtain rfl : b = lane1 x1 := Fin.ext (j1.trans h1)
        exact (row11 m c t _ _ r (by omega)).trans (dod1 _ _ _ _ _ _ _).symm
      · obtain rfl : b = lane0 x1 := Fin.ext (j1.trans h1)
        exact (row10 m c t _ _ r (by omega)).trans (dod0 _ _ _ _ _ _ _).symm
      · obtain rfl : b = lane1 x1 := Fin.ext (j1.trans h1)
        exact (row01 m c t _ _ r (by omega)).trans (dod1 _ _ _ _ _ _ _).symm
      · obtain rfl : b = lane0 x1 := Fin.ext (j1.trans h1)
        exact (row00 m c t _ _ r (by omega)).trans (dod0 _ _ _ _ _ _ _).symm
  exact key _ rfl

/-- What one point leaves of the gain's gradient, from what the point before left. -/
theorem step5 (c : Dev nD) (t : Fin cfg0.N) (h : ¬ t.val % 8 = 0) (b : Fin 1024) :
    (outsAt0 m c t.val t.isLt).2 (ix2 0 b) = (outsAt0 m c (t.val - 1) (by omega)).2 (ix2 0 b)
      + ∑ k : Fin 1024, dgd (argO m c) (argW m c) (argA m c) (row t k.val k.isLt) b := by
  rw [outsAt0_B m c t h]; frame_open
  simp (disch := decide) only [↓ View.readCov_skip, ↓ View.readCov_cons_toLoadRect, ↓ View.readCov_fill]
  frame_out
  clear h
  refine (canon_two _ _ _ ?_).trans ?_
  · exact halves inb_S1x1024_S1x512_0_512 inb_S1x1024_S1x512_0_0 (ix2 0 b)
  canon_tiles x h
  all_goals
    idx_vars x
    obtain rfl := Subsingleton.elim x0 0
  · obtain rfl : b = lane1 x1 := Fin.ext h1
    simp only [dgd1]
    exact (both1 m c t _ _).trans (congrArg (· + _) (ld1 _ _))
  · obtain rfl : b = lane0 x1 := Fin.ext h1
    simp only [dgd0]
    exact (both0 m c t _ _).trans (congrArg (· + _) (ld0 _ _))

/-- What the first point leaves of it. -/
theorem first5 (c : Dev nD) (t : Fin cfg0.N) (h : t.val % 8 = 0) (b : Fin 1024) :
    (outsAt0 m c t.val t.isLt).2 (ix2 0 b) = 0
      + ∑ k : Fin 1024, dgd (argO m c) (argW m c) (argA m c) (row t k.val k.isLt) b := by
  rw [outsAt0_A m c t h]; frame_open
  simp (disch := decide) only [↓ View.readCov_skip, ↓ View.readCov_cons_toLoadRect, ↓ View.readCov_fill]
  frame_out
  clear h
  refine (canon_two _ _ _ ?_).trans ?_
  · exact halves inb_S1x1024_S1x512_0_512 inb_S1x1024_S1x512_0_0 (ix2 0 b)
  canon_tiles x h
  all_goals
    idx_vars x
    obtain rfl := Subsingleton.elim x0 0
  · obtain rfl : b = lane1 x1 := Fin.ext h1
    simp only [dgd1]
    exact (both1 m c t _ _).trans (congrArg (· + _) (zero _))
  · obtain rfl : b = lane0 x1 := Fin.ext h1
    simp only [dgd0]
    exact (both0 m c t _ _).trans (congrArg (· + _) (zero _))

/-- Output window 5's array after the run. -/
theorem final5 (c : Dev nD) :
    (dats m 0 c).arrAt 5 cfg0.N = fun i : S1x1024.Idx => ∑ r : Fin 8192, dgd (argO m c) (argW m c) (argA m c) r (i 1) := by
  refine (dats m 0 c).arrAt_eq_of_after_last 5 t0_7 (by decide +kernel) _ fun j => ?_
  blk_simp
  idx_vars j
  obtain rfl := Subsingleton.elim j0 0
  rw [after0_5, Pipeline.eq_sum_fin_of_reset_step_apply_last (fun n h => (outsAt0 m c n h).2) 8 (fun _ => 0)
    (fun t j => ∑ k : Fin 1024, dgd (argO m c) (argW m c) (argA m c) (row t k.val k.isLt) (j 1))
    (fun t h j => by
      idx_vars j; obtain rfl := Subsingleton.elim j0 0
      exact first5 m c t h j1)
    (fun t h j => by
      idx_vars j; obtain rfl := Subsingleton.elim j0 0
      exact step5 m c t h j1)
    (le_of_eq N_0) t0_7 rfl _, zero_add]
  exact Fin.sum_mul_add_congr fun p k hl => rfl

end Cert.OutProj

end
-- ==== Proof.OutProjRef.lean ====
/-
  The reference of `d_out_proj`, read at an index of each group of lanes.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.OutProjBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProj

open Cert.Kernel3Ideal Cert.Fv Cert.Reference3Ideal.Read

variable (O : FVec Ideal S8192x1024 .f32) (Gf Gd : FVec Ideal Cert.Reference3Ideal.S512 .f32) (W : FVec Ideal S1024x1024 .f32) (A : FVec Ideal S8192x1024 .f32)

/-- What reaches the norm's output. -/
theorem ref_cot (r : Fin 8192) (j : Fin 1024) : val_main_v36 (F := Ideal) W A (ix2 r j) = ∑ l, A (ix2 r l) * W (ix2 j l) := by
  pointwise [val_main_v36]

theorem ref_ms0 (i : Cert.Reference3Ideal.S8192x1.Idx) : val_main_v8 (F := Ideal) O i = Norm.ms 512 (fun k => O (ix2 (i 0) (lane0 k))) := by
  pointwise [val_main_v8, val_main_v7, val_main_v6, val_main_v5, val_main_v4, val_main_v3, val_main_v2, val_main_v0, val_main_cst, val_main_cst_0, val_main_cst_1]
  rw [Norm.ofBits_512, Norm.ofBits_eps]
  unfold Norm.ms lane0
  blk_point []

theorem ref_inv0 (i : Cert.Reference3Ideal.S8192x1.Idx) : val_main_v9 (F := Ideal) O i = Norm.inv 512 (fun k => O (ix2 (i 0) (lane0 k))) :=
  congrArg Ideal.rsqrt (ref_ms0 O i)

/-- The reference's gradient of `o` on group 0, in the kernel's form. -/
theorem ref_do0 (hO : ∀ i, IsReal (O i)) (hG : ∀ i, IsReal (Gf i)) (hW : ∀ i, IsReal (W i)) (hA : ∀ i, IsReal (A i)) (r : Fin 8192) (b : Fin 512) :
    val_main_v78 (F := Ideal) O Gf W A (ix2 r b)
      = Norm.grad 512 (fun k => O (ix2 r (lane0 k))) (fun k => (∑ l, A (ix2 r l) * W (ix2 (lane0 k) l)) * Gf (ix1 k)) b := by
  rw [Norm.grad_eq (by norm_num) (fun k => hO _) (fun k => (IsReal.sum _ _ fun l _ => (hA _).mul (hW _)).mul (hG _)), ← add_assoc]
  pointwise [val_main_v78, val_main_v77, val_main_v76, val_main_v75, val_main_v74, val_main_v73, val_main_v72, val_main_v71, val_main_v70, val_main_v69, val_main_v68, val_main_v67, val_main_v66, val_main_v65, val_main_v63, val_main_v62, val_main_v15, val_main_v12, val_main_v11, val_main_v10, val_main_v0, val_main_v37, val_main_cst_2, val_main_cst_14, val_main_cst_15, val_main_cst_16]
  simp only [Fin.sum_univ_one, ref_inv0, ref_ms0, ref_cot]
  rw [Norm.ofBits_512, Norm.ofBits_mhalf]
  unfold Norm.back lane0
  blk_point []

/-- The reference's gradient of group 0's gain. -/
theorem ref_dg0 (b : Fin 512) : val_main_v64 (F := Ideal) O W A (ix1 b)
      = ∑ r : Fin 8192, (∑ l, A (ix2 r l) * W (ix2 (lane0 b) l)) * (O (ix2 r (lane0 b)) * Norm.inv 512 (fun k => O (ix2 r (lane0 k)))) := by
  pointwise [val_main_v64, val_main_v61, val_main_v60, val_main_v59, val_main_v14, val_main_v13, val_main_v0, val_main_v37, val_main_cst_12, val_main_cst_13]
  simp only [Fin.sum_univ_one, ref_inv0, ref_cot]
  refine Finset.sum_congr rfl fun r _ => (mul_comm _ _).trans ?_
  unfold lane0
  blk_point []

theorem ref_ms1 (i : Cert.Reference3Ideal.S8192x1.Idx) : val_main_v24 (F := Ideal) O i = Norm.ms 512 (fun k => O (ix2 (i 0) (lane1 k))) := by
  pointwise [val_main_v24, val_main_v23, val_main_v22, val_main_v21, val_main_v20, val_main_v19, val_main_v18, val_main_v1, val_main_cst_3, val_main_cst_4, val_main_cst_5]
  rw [Norm.ofBits_512, Norm.ofBits_eps]
  unfold Norm.ms lane1
  blk_point []

theorem ref_inv1 (i : Cert.Reference3Ideal.S8192x1.Idx) : val_main_v25 (F := Ideal) O i = Norm.inv 512 (fun k => O (ix2 (i 0) (lane1 k))) :=
  congrArg Ideal.rsqrt (ref_ms1 O i)

/-- The reference's gradient of `o` on group 1, in the kernel's form. -/
theorem ref_do1 (hO : ∀ i, IsReal (O i)) (hG : ∀ i, IsReal (Gd i)) (hW : ∀ i, IsReal (W i)) (hA : ∀ i, IsReal (A i)) (r : Fin 8192) (b : Fin 512) :
    val_main_v58 (F := Ideal) O Gd W A (ix2 r b)
      = Norm.grad 512 (fun k => O (ix2 r (lane1 k))) (fun k => (∑ l, A (ix2 r l) * W (ix2 (lane1 k) l)) * Gd (ix1 k)) b := by
  rw [Norm.grad_eq (by norm_num) (fun k => hO _) (fun k => (IsReal.sum _ _ fun l _ => (hA _).mul (hW _)).mul (hG _)), ← add_assoc]
  pointwise [val_main_v58, val_main_v57, val_main_v56, val_main_v55, val_main_v54, val_main_v53, val_main_v52, val_main_v51, val_main_v50, val_main_v49, val_main_v48, val_main_v47, val_main_v46, val_main_v45, val_main_v43, val_main_v42, val_main_v31, val_main_v28, val_main_v27, val_main_v26, val_main_v1, val_main_v38, val_main_cst_6, val_main_cst_9, val_main_cst_10, val_main_cst_11]
  simp only [Fin.sum_univ_one, ref_inv1, ref_ms1, ref_cot]
  rw [Norm.ofBits_512, Norm.ofBits_mhalf]
  unfold Norm.back lane1
  blk_point []

/-- The reference's gradient of group 1's gain. -/
theorem ref_dg1 (b : Fin 512) : val_main_v44 (F := Ideal) O W A (ix1 b)
      = ∑ r : Fin 8192, (∑ l, A (ix2 r l) * W (ix2 (lane1 b) l)) * (O (ix2 r (lane1 b)) * Norm.inv 512 (fun k => O (ix2 r (lane1 k)))) := by
  pointwise [val_main_v44, val_main_v41, val_main_v40, val_main_v39, val_main_v30, val_main_v29, val_main_v1, val_main_v38, val_main_cst_7, val_main_cst_8]
  simp only [Fin.sum_univ_one, ref_inv1, ref_cot]
  refine Finset.sum_congr rfl fun r _ => (mul_comm _ _).trans ?_
  unfold lane1
  blk_point []

end Cert.OutProj

end
-- ==== Proof.OutProjClaim.lean ====
/-
  The claims about `d_out_proj`: both programs' frames and the value equation.
-/
module

public import proofs.«01_k».proof.Proof.OutProjEnd
public import proofs.«01_k».proof.Proof.OutProjRef
public import proofs.«01_k».proof.Proof.Gen.Kernel3.Frame
public import proofs.«01_k».proof.Proof.Gen.Pre_finite3
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.OutProj

open Cert.Kernel3Ideal Cert.Kernel3Ideal.Gen Cert.Fv
open Cert.Reference3Ideal.Read (val_main_v80 val_main_v79 val_main_v78 val_main_v58 val_main_v81 val_main_v82 val_main_v64 val_main_v44)

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_ideal_pre : Cert.quiescent_Kernel3Ideal_pre_finite3 := fun m ρ _ => Cert.Kernel3Ideal.Gen.frame m ρ
theorem frame_ref : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)
theorem frame_ref_pre : Cert.quiescent_Reference3Ideal_pre_finite3 := fun m ρ _ => frame_ref m ρ trivial

variable (m : (ℓ : Loc nD τ sig) → Buf (Elt Ideal) ℓ)

/-- The reference's joined gradient of `o`, group by group. -/
theorem join (O : FVec Ideal S8192x1024 .f32) (Gf Gd : FVec Ideal Cert.Reference3Ideal.S512 .f32) (W : FVec Ideal S1024x1024 .f32) (A : FVec Ideal S8192x1024 .f32)
    (r : Fin 8192) (b : Fin 1024) : val_main_v80 (F := Ideal) O Gf Gd W A (ix2 r b)
      = if h : b.val < 512 then val_main_v78 (F := Ideal) O Gf W A (ix2 r ⟨b.val, h⟩) else val_main_v58 (F := Ideal) O Gd W A (ix2 r ⟨b.val - 512, by omega⟩) := by
  pointwise [val_main_v80, val_main_v79]

/-- The reference's joined gradient of the gain, group by group. -/
theorem join_gain (O : FVec Ideal S8192x1024 .f32) (W : FVec Ideal S1024x1024 .f32) (A : FVec Ideal S8192x1024 .f32)
    (b : Fin 1024) : val_main_v82 (F := Ideal) O W A (ix2 0 b)
      = if h : b.val < 512 then val_main_v64 (F := Ideal) O W A (ix1 ⟨b.val, h⟩) else val_main_v44 (F := Ideal) O W A (ix1 ⟨b.val - 512, by omega⟩) := by
  pointwise [val_main_v82, val_main_v81]

/-- Where the arguments are real numbers, the stored gradient of `o` is the reference's. -/
theorem eq_do (h : Cert.Pre_Kernel3Ideal_finite3 m) (c : Dev nD) :
    val_main_v80 (F := Ideal) (argO m c) (argGf m c) (argGd m c) (argW m c) (argA m c) = (dats m 0 c).arrAt 4 cfg0.N := by
  rw [final4 m c]
  funext i
  obtain ⟨r, b, rfl⟩ : ∃ (r : Fin 8192) (b : Fin 1024), i = ix2 r b := ⟨i 0, i 1, eq_ix2 i⟩
  refine (join _ _ _ _ _ r b).trans (dite_congr rfl (fun _ => ?_) fun _ => ?_)
  · exact ref_do0 _ _ _ _ (fun i => of_abs_lt (congrFun (h c).1 i)) (fun i => of_abs_lt (congrFun (h c).2.1 i))
      (fun i => of_abs_lt (congrFun (h c).2.2.2.1 i)) (fun i => of_abs_lt (congrFun (h c).2.2.2.2 i)) r _
  · exact ref_do1 _ _ _ _ (fun i => of_abs_lt (congrFun (h c).1 i)) (fun i => of_abs_lt (congrFun (h c).2.2.1 i))
      (fun i => of_abs_lt (congrFun (h c).2.2.2.1 i)) (fun i => of_abs_lt (congrFun (h c).2.2.2.2 i)) r _

/-- The stored gradient of the gain is the reference's, on all arguments. -/
theorem eq_dg (c : Dev nD) :
    val_main_v82 (F := Ideal) (argO m c) (argW m c) (argA m c) = (dats m 0 c).arrAt 5 cfg0.N := by
  rw [final5 m c]
  funext i
  obtain ⟨r, b, rfl⟩ : ∃ (r : Fin 1) (b : Fin 1024), i = ix2 r b := ⟨i 0, i 1, eq_ix2 i⟩
  obtain rfl := Subsingleton.elim r 0
  refine (join_gain _ _ _ b).trans ?_
  show _ = ∑ r : Fin 8192, dgd (argO m c) (argW m c) (argA m c) r b
  unfold dgd
  by_cases hb : b.val < 512
  · simp only [dif_pos hb]; exact ref_dg0 _ _ _ _
  · simp only [dif_neg hb]; exact ref_dg1 _ _ _ _

/-- The kernel's two results are the reference's, where the precondition holds. -/
theorem algebraic : Cert.algebraic_Kernel3Ideal_Reference3Ideal_pre_finite3 := by
  pair_intro
  · run_from Cert.Kernel3Ideal.Gen.run_main m g
  · run_from Cert.Reference3Ideal.Value.run m' g'
    · obtain ⟨e0, e1, e2, e3, e4⟩ := hagree c
      rw [Cert.Reference3Ideal.Read.val_main_v80_eq, e0, e1, e2, e3, e4]
      exact eq_do m ‹_› c
    · obtain ⟨_, _, _, e3, e4⟩ := hagree c
      rw [e3, e4]
      exact eq_dg m c

end Cert.OutProj

end
-- ==== Proof.InProj.lean ====
/-
  What `d_in_proj` computes on one half block of 256 rows, and its reference, at an index.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProj

open Cert.Kernel4Ideal Cert.Kernel4Ideal.Gen Cert.Fv

section Payloads

variable (A : FVec Ideal S256x3200 .bf16) (W : FVec Ideal S3200x1024 .bf16) (X : FVec Ideal S256x1024 .bf16) (G P : FVec Ideal S1x1024 .f32) (Z : FVec Ideal S256x1024 .bf16)

/-- The stored gradient of a half block. -/
theorem half0 (a : Fin 256) (b : Fin 1024) :
    k0_pay9 (k0_pay3 (F := Ideal) A W) (k0_pay6 (F := Ideal) X) (k0_pay7 (F := Ideal) X) G Z (ix2 a b)
      = Z (ix2 a b) + Norm.grad 1024 (fun k => X (ix2 a k)) (fun k => (∑ l, A (ix2 a l) * W (ix2 l k)) * G (ix2 0 k)) b := by
  pointwise [k0_pay1, k0_pay3, k0_pay5, k0_pay6, k0_pay7, k0_pay8, k0_pay9]
  rw [Norm.ofBits_1024, Norm.ofBits_eps]
  unfold Norm.grad Norm.inv Norm.ms
  blk_point []

theorem half1 (a : Fin 256) (b : Fin 1024) :
    k0_pay1 (k0_pay4 (F := Ideal) A W) (k0_pay11 (F := Ideal) X) (k0_pay12 (F := Ideal) X) G Z (ix2 a b)
      = Z (ix2 a b) + Norm.grad 1024 (fun k => X (ix2 a k)) (fun k => (∑ l, A (ix2 a l) * W (ix2 l k)) * G (ix2 0 k)) b :=
  half0 A W X G Z a b

/-- What a half block adds to the gain's gradient. -/
theorem gain0 (b : Fin 1024) :
    k0_pay8 A W X P (ix2 0 b)
      = P (ix2 0 b) + ∑ a : Fin 256, (∑ l, A (ix2 a l) * W (ix2 l b)) * (X (ix2 a b) * Norm.inv 1024 (fun k => X (ix2 a k))) := by
  pointwise [k0_pay1, k0_pay3, k0_pay5, k0_pay6, k0_pay7, k0_pay8, k0_pay9]
  rw [Norm.ofBits_1024, Norm.ofBits_eps]
  rfl

theorem gain1 (b : Fin 1024) :
    k0_pay13 (k0_pay4 (F := Ideal) A W) X P (ix2 0 b)
      = P (ix2 0 b) + ∑ a : Fin 256, (∑ l, A (ix2 a l) * W (ix2 l b)) * (X (ix2 a b) * Norm.inv 1024 (fun k => X (ix2 a k))) :=
  gain0 A W X P b

end Payloads

/-- The gain's block starts at zero. -/
theorem zero (y : S1x1024.Idx) : k0_pay2 (F := Ideal) y = 0 := by pointwise [k0_pay2]

section Reference

open Cert.Reference4Ideal.Read

variable (X : FVec Ideal S8192x1024 .f32) (G : FVec Ideal Cert.Reference4Ideal.S1024 .f32) (W : FVec Ideal S1024x3080 .f32)
  (Z : FVec Ideal S8192x1024 .f32) (D : FVec Ideal S8192x3080 .f32)

/-- The mean square plus `eps` of a row. -/
theorem ref_ms (i : Cert.Reference4Ideal.S8192x1.Idx) : val_main_v6 (F := Ideal) X i = Norm.ms 1024 (fun k => X (ix2 (i 0) k)) := by
  pointwise [val_main_v0, val_main_v1, val_main_v2, val_main_v3, val_main_v4, val_main_v5, val_main_v6, val_main_cst, val_main_cst_0, val_main_cst_1]
  rw [Norm.ofBits_1024, Norm.ofBits_eps]; rfl

theorem ref_inv (i : Cert.Reference4Ideal.S8192x1.Idx) : val_main_v7 (F := Ideal) X i = Norm.inv 1024 (fun k => X (ix2 (i 0) k)) :=
  congrArg Ideal.rsqrt (ref_ms X i)

/-- What reaches the norm's output. -/
theorem ref_dh (i : S8192x1024.Idx) : val_main_v17 (F := Ideal) W D i = ∑ k, D (ix2 (i 0) k) * W (ix2 (i 1) k) := by
  pointwise [val_main_v17]

/-- The reference's gradient of `x`, in the kernel's form, where the norm's row and its cotangent are real numbers. -/
theorem ref_dx (hX : ∀ i, IsReal (X i)) (hG : ∀ i, IsReal (G i)) (hW : ∀ i, IsReal (W i)) (hD : ∀ i, IsReal (D i))
    (a : Fin 8192) (b : Fin 1024) : val_main_v38 (F := Ideal) X G W Z D (ix2 a b)
      = Z (ix2 a b) + Norm.grad 1024 (fun k => X (ix2 a k)) (fun k => (∑ l, D (ix2 a l) * W (ix2 k l)) * G (ix1 k)) b := by
  rw [Norm.add_grad_eq (by norm_num) (fun k => hX _) (fun k => (IsReal.sum _ _ fun l _ => (hD _).mul (hW _)).mul (hG _))]
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v13, val_main_v10, val_main_v9, val_main_v8, val_main_cst_2, val_main_cst_5, val_main_cst_6, val_main_cst_7]
  simp only [Fin.sum_univ_one, ref_inv, ref_ms, ref_dh]
  rw [Norm.ofBits_1024, Norm.ofBits_mhalf]
  rfl

/-- The reference's gradient of the gain. -/
theorem ref_dg (b : Fin 1024) : val_main_v39 (F := Ideal) X W D (ix2 0 b)
      = ∑ r : Fin 8192, (∑ l, D (ix2 r l) * W (ix2 b l)) * (X (ix2 r b) * Norm.inv 1024 (fun k => X (ix2 r k))) := by
  pointwise [val_main_v39, val_main_v23, val_main_v20, val_main_v19, val_main_v18, val_main_v12, val_main_v11, val_main_cst_3, val_main_cst_4]
  simp only [Fin.sum_univ_one, ref_inv, ref_dh]
  exact Finset.sum_congr rfl fun r _ => mul_comm _ _

end Reference

end Cert.InProj

end
-- ==== Proof.InProjPack.lean ====
/-
  The columns of the projection in the order `d_in_proj` takes them.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Finite
public import Idealize.ShloMosaic.Lib.StableHlo.RunRead
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProj

open Cert.Kernel4Ideal Cert.Kernel4Ideal.Gen Cert.Fv

/-- The 3080 columns in the kernel's order, the eight gate columns last, zeros behind them. -/
def pack (f : Fin 3080 → EReal) (l : Fin 3200) : EReal :=
  if h : l.val < 3072 then
    if h1 : l.val < 512 then f ⟨l.val, by omega⟩
    else if h2 : l.val - 512 < 512 then f ⟨1544 + (l.val - 512), by omega⟩
    else if h3 : l.val - 512 - 512 < 512 then f ⟨512 + (l.val - 512 - 512), by omega⟩
    else if h4 : l.val - 512 - 512 - 512 < 512 then f ⟨2056 + (l.val - 512 - 512 - 512), by omega⟩
    else if h5 : l.val - 512 - 512 - 512 - 512 < 512 then f ⟨1024 + (l.val - 512 - 512 - 512 - 512), by omega⟩
    else f ⟨2568 + (l.val - 512 - 512 - 512 - 512 - 512), by omega⟩
  else if h1 : l.val - 3072 < 8 then f ⟨1536 + (l.val - 3072), by omega⟩ else 0

theorem pack0 (f : Fin 3080 → EReal) (k : ℕ) (hk : k < 512) : pack f ⟨0 + k, by omega⟩ = f ⟨0 + k, by omega⟩ := by
  have d0 : 0 + k < 3072 := by omega
  have c0 : 0 + k < 512 := by omega
  unfold pack; dsimp only
  rw [dif_pos d0, dif_pos c0]

theorem pack1 (f : Fin 3080 → EReal) (k : ℕ) (hk : k < 512) : pack f ⟨512 + k, by omega⟩ = f ⟨1544 + k, by omega⟩ := by
  have d0 : 512 + k < 3072 := by omega
  have c0 : ¬ 512 + k < 512 := by omega
  have c1 : 512 + k - 512 < 512 := by omega
  unfold pack; dsimp only
  rw [dif_pos d0, dif_neg c0, dif_pos c1]
  exact congrArg f (Fin.ext (by dsimp only; omega))

theorem pack2 (f : Fin 3080 → EReal) (k : ℕ) (hk : k < 512) : pack f ⟨1024 + k, by omega⟩ = f ⟨512 + k, by omega⟩ := by
  have d0 : 1024 + k < 3072 := by omega
  have c0 : ¬ 1024 + k < 512 := by omega
  have c1 : ¬ 1024 + k - 512 < 512 := by omega
  have c2 : 1024 + k - 512 - 512 < 512 := by omega
  unfold pack; dsimp only
  rw [dif_pos d0, dif_neg c0, dif_neg c1, dif_pos c2]
  exact congrArg f (Fin.ext (by dsimp only; omega))

theorem pack3 (f : Fin 3080 → EReal) (k : ℕ) (hk : k < 512) : pack f ⟨1536 + k, by omega⟩ = f ⟨2056 + k, by omega⟩ := by
  have d0 : 1536 + k < 3072 := by omega
  have c0 : ¬ 1536 + k < 512 := by omega
  have c1 : ¬ 1536 + k - 512 < 512 := by omega
  have c2 : ¬ 1536 + k - 512 - 512 < 512 := by omega
  have c3 : 1536 + k - 512 - 512 - 512 < 512 := by omega
  unfold pack; dsimp only
  rw [dif_pos d0, dif_neg c0, dif_neg c1, dif_neg c2, dif_pos c3]
  exact congrArg f (Fin.ext (by dsimp only; omega))

theorem pack4 (f : Fin 3080 → EReal) (k : ℕ) (hk : k < 512) : pack f ⟨2048 + k, by omega⟩ = f ⟨1024 + k, by omega⟩ := by
  have d0 : 2048 + k < 3072 := by omega
  have c0 : ¬ 2048 + k < 512 := by omega
  have c1 : ¬ 2048 + k - 512 < 512 := by omega
  have c2 : ¬ 2048 + k - 512 - 512 < 512 := by omega
  have c3 : ¬ 2048 + k - 512 - 512 - 512 < 512 := by omega
  have c4 : 2048 + k - 512 - 512 - 512 - 512 < 512 := by omega
  unfold pack; dsimp only
  rw [dif_pos d0, dif_neg c0, dif_neg c1, dif_neg c2, dif_neg c3, dif_pos c4]
  exact congrArg f (Fin.ext (by dsimp only; omega))

theorem pack5 (f : Fin 3080 → EReal) (k : ℕ) (hk : k < 512) : pack f ⟨2560 + k, by omega⟩ = f ⟨2568 + k, by omega⟩ := by
  have d0 : 2560 + k < 3072 := by omega
  have c0 : ¬ 2560 + k < 512 := by omega
  have c1 : ¬ 2560 + k - 512 < 512 := by omega
  have c2 : ¬ 2560 + k - 512 - 512 < 512 := by omega
  have c3 : ¬ 2560 + k - 512 - 512 - 512 < 512 := by omega
  have c4 : ¬ 2560 + k - 512 - 512 - 512 - 512 < 512 := by omega
  unfold pack; dsimp only
  rw [dif_pos d0, dif_neg c0, dif_neg c1, dif_neg c2, dif_neg c3, dif_neg c4]
  exact congrArg f (Fin.ext (by dsimp only; omega))

theorem pack6 (f : Fin 3080 → EReal) (k : ℕ) (hk : k < 8) : pack f ⟨3072 + k, by omega⟩ = f ⟨1536 + k, by omega⟩ := by
  have d0 : ¬ 3072 + k < 3072 := by omega
  have c0 : 3072 + k - 3072 < 8 := by omega
  unfold pack; dsimp only
  rw [dif_neg d0, dif_pos c0]
  exact congrArg f (Fin.ext (by dsimp only; omega))

theorem pack7 (f : Fin 3080 → EReal) (k : ℕ) (hk : k < 120) : pack f ⟨3080 + k, by omega⟩ = 0 := by
  have d0 : ¬ 3080 + k < 3072 := by omega
  have c0 : ¬ 3080 + k - 3072 < 8 := by omega
  unfold pack; dsimp only
  rw [dif_neg d0, dif_neg c0]

/-- A sum over a stretch of columns, moved. -/
theorem sum_move (P F : ℕ → EReal) (n a b : ℕ) (h : ∀ k < n, P (a + k) = F (b + k)) :
    ∑ k ∈ Finset.range n, P (a + k) = ∑ k ∈ Finset.range n, F (b + k) :=
  Finset.sum_congr rfl fun k hk => h k (Finset.mem_range.mp hk)

/-- A contraction over the packed columns is one over the columns. -/
theorem sum_pack (f g : Fin 3080 → EReal) : ∑ l : Fin 3200, pack f l * pack g l = ∑ j : Fin 3080, f j * g j := by
  set F : ℕ → EReal := fun n => if h : n < 3080 then f ⟨n, h⟩ * g ⟨n, h⟩ else 0 with hF
  set P : ℕ → EReal := fun n => if h : n < 3200 then pack f ⟨n, h⟩ * pack g ⟨n, h⟩ else 0 with hP
  have e1 : ∑ l : Fin 3200, pack f l * pack g l = ∑ n ∈ Finset.range (512 + 512 + 512 + 512 + 512 + 512 + 8 + 120), P n := by
    rw [← Fin.sum_univ_eq_sum_range]
    exact Finset.sum_congr rfl fun l _ => by rw [hP]; simp only [l.isLt, dif_pos]
  have e2 : ∑ j : Fin 3080, f j * g j = ∑ n ∈ Finset.range (512 + 512 + 512 + 8 + 512 + 512 + 512), F n := by
    rw [← Fin.sum_univ_eq_sum_range]
    exact Finset.sum_congr rfl fun l _ => by rw [hF]; simp only [l.isLt, dif_pos]
  rw [e1, e2]
  simp only [Finset.sum_range_add]
  have z : ∑ k ∈ Finset.range 120, P (512 + 512 + 512 + 512 + 512 + 512 + 8 + k) = 0 :=
    Finset.sum_eq_zero fun k hk => by
      have hk := Finset.mem_range.mp hk
      rw [hP]; dsimp only [Nat.reduceAdd]
      rw [dif_pos (show 3080 + k < 3200 by omega), pack7 f k hk, zero_mul]
  have s0 : ∀ k < 512, P (0 + k) = F (0 + k) := fun k hk => by
    rw [hP, hF]; dsimp only
    rw [dif_pos (show 0 + k < 3200 by omega), dif_pos (show 0 + k < 3080 by omega), pack0 f k hk, pack0 g k hk]
  have s1 : ∀ k < 512, P (512 + k) = F (1544 + k) := fun k hk => by
    rw [hP, hF]; dsimp only
    rw [dif_pos (show 512 + k < 3200 by omega), dif_pos (show 1544 + k < 3080 by omega), pack1 f k hk, pack1 g k hk]
  have s2 : ∀ k < 512, P (1024 + k) = F (512 + k) := fun k hk => by
    rw [hP, hF]; dsimp only
    rw [dif_pos (show 1024 + k < 3200 by omega), dif_pos (show 512 + k < 3080 by omega), pack2 f k hk, pack2 g k hk]
  have s3 : ∀ k < 512, P (1536 + k) = F (2056 + k) := fun k hk => by
    rw [hP, hF]; dsimp only
    rw [dif_pos (show 1536 + k < 3200 by omega), dif_pos (show 2056 + k < 3080 by omega), pack3 f k hk, pack3 g k hk]
  have s4 : ∀ k < 512, P (2048 + k) = F (1024 + k) := fun k hk => by
    rw [hP, hF]; dsimp only
    rw [dif_pos (show 2048 + k < 3200 by omega), dif_pos (show 1024 + k < 3080 by omega), pack4 f k hk, pack4 g k hk]
  have s5 : ∀ k < 512, P (2560 + k) = F (2568 + k) := fun k hk => by
    rw [hP, hF]; dsimp only
    rw [dif_pos (show 2560 + k < 3200 by omega), dif_pos (show 2568 + k < 3080 by omega), pack5 f k hk, pack5 g k hk]
  have s6 : ∀ k < 8, P (3072 + k) = F (1536 + k) := fun k hk => by
    rw [hP, hF]; dsimp only
    rw [dif_pos (show 3072 + k < 3200 by omega), dif_pos (show 1536 + k < 3080 by omega), pack6 f k hk, pack6 g k hk]
  have t0 := sum_move P F 512 0 0 s0
  simp only [Nat.zero_add] at t0
  have t1 := sum_move P F 512 512 1544 s1
  have t2 := sum_move P F 512 1024 512 s2
  have t3 := sum_move P F 512 1536 2056 s3
  have t4 := sum_move P F 512 2048 1024 s4
  have t5 := sum_move P F 512 2560 2568 s5
  have t6 := sum_move P F 8 3072 1536 s6
  simp only [Nat.reduceAdd] at z ⊢
  rw [z, t0, t1, t2, t3, t4, t5, t6, add_zero]
  ac_rfl

variable (m : (ℓ : Loc nD τ sig) → Buf (Elt Ideal) ℓ)

theorem sitofp_zero : (FloatOps.sitofp (F := Ideal) FTy.f32 (0#32 : BitVec 32) : Ideal .f32) = (0 : EReal) := by
  show (((0#32 : BitVec 32).toInt : ℝ) : EReal) = 0
  simp

/-- The packed weight, as the host leaves it. -/
theorem vW (c : Dev nD) (l : Fin 3200) (b : Fin 1024) :
    (V m c main_v24 : FVec Ideal S3200x1024 .bf16) (ix2 l b) = pack (fun j => (m ((c : Thread nD τ).loc main_arg2) : FVec Ideal S1024x3080 .f32) (ix2 b j)) l := by
  simp only [V, List.flatten_cons, List.flatten_nil, List.append_nil, List.cons_append, List.nil_append, hostOps0, hostOps0_1, hostOps0_2, hostOps0_3, hostOps0_4, StableHlo.TRef.unary, StableHlo.TRef.binary, StableHlo.TRef.of]
  after_reads_simp
  pointwise []
  after_reads_simp
  simp only [StableHlo.TRef.toBuf, StableHlo.TRef.ofBuf, cast_eq]
  pointwise []
  after_reads_simp
  pointwise []
  exact dite_congr rfl (fun _ => rfl) fun _ => dite_congr rfl (fun _ => rfl) fun _ => sitofp_zero

/-- The gain, as the host leaves it. -/
theorem vG (c : Dev nD) (b : Fin 1024) :
    (V m c main_v27 : FVec Ideal S1x1024 .f32) (ix2 0 b) = (m ((c : Thread nD τ).loc main_arg1) : FVec Ideal S1024 .f32) (ix1 b) := by
  simp only [V, List.flatten_cons, List.flatten_nil, List.append_nil, List.cons_append, List.nil_append, hostOps0, hostOps0_1, hostOps0_2, hostOps0_3, hostOps0_4, StableHlo.TRef.unary, StableHlo.TRef.binary, StableHlo.TRef.of]
  after_reads_simp
  pointwise []

/-- The packed cotangent, as the host leaves it. -/
theorem vD (c : Dev nD) (r : Fin 8192) (l : Fin 3200) :
    (V m c main_v26 : FVec Ideal S8192x3200 .bf16) (ix2 r l) = pack (fun j => (m ((c : Thread nD τ).loc main_arg4) : FVec Ideal S8192x3080 .f32) (ix2 r j)) l := by
  simp only [V, List.flatten_cons, List.flatten_nil, List.append_nil, List.cons_append, List.nil_append, hostOps0, hostOps0_1, hostOps0_2, hostOps0_3, hostOps0_4, StableHlo.TRef.unary, StableHlo.TRef.binary, StableHlo.TRef.of]
  after_reads_simp
  pointwise []
  after_reads_simp
  simp only [StableHlo.TRef.toBuf, StableHlo.TRef.ofBuf, cast_eq]
  pointwise []
  after_reads_simp
  pointwise []
  exact dite_congr rfl (fun _ => rfl) fun _ => dite_congr rfl (fun _ => rfl) fun _ => sitofp_zero

end Cert.InProj

end
-- ==== Proof.InProjEnd.lean ====
/-
  The two arrays `d_in_proj` leaves, as the reference's stages over the whole arguments.
-/
module

public import proofs.«01_k».proof.Proof.InProj
public import proofs.«01_k».proof.Proof.InProjPack

@[expose] public section

set_option maxRecDepth 16384

noncomputable section

open Idealize.ShloMosaic Idealize.ShloMosaic.TcCoe Idealize.SL.Sem
open Idealize.ShloMosaic.Pipeline (Dat)

namespace Cert.InProj

open Cert.Kernel4Ideal Cert.Kernel4Ideal.Gen Cert.Fv
open Cert.Reference4Ideal.Read (val_main_v38 val_main_v39)

variable (m : (ℓ : Loc nD τ sig) → Buf (Elt Ideal) ℓ)

/-- The five argument arrays on device `c`. -/
abbrev argX (c : Dev nD) : FVec Ideal S8192x1024 .f32 := m ((c : Thread nD τ).loc main_arg0)
abbrev argG (c : Dev nD) : FVec Ideal Cert.Reference4Ideal.S1024 .f32 := m ((c : Thread nD τ).loc main_arg1)
abbrev argW (c : Dev nD) : FVec Ideal S1024x3080 .f32 := m ((c : Thread nD τ).loc main_arg2)
abbrev argZ (c : Dev nD) : FVec Ideal S8192x1024 .f32 := m ((c : Thread nD τ).loc main_arg3)
abbrev argD (c : Dev nD) : FVec Ideal S8192x3080 .f32 := m ((c : Thread nD τ).loc main_arg4)

/-- Where every window's block sits, over the grid's sixteen points. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

/-- Row `k` of point `t`'s block. -/
def row (t : Fin cfg0.N) (k : ℕ) (hk : k < 512) : Fin 8192 := ⟨t.val * 512 + k, by have := lt_of_lt_of_eq t.isLt N_0; omega⟩

/-- The gradient of `x` over the whole arrays, row by row. -/
def dx (X : FVec Ideal S8192x1024 .f32) (G : FVec Ideal Cert.Reference4Ideal.S1024 .f32) (W : FVec Ideal S1024x3080 .f32)
    (Z : FVec Ideal S8192x1024 .f32) (D : FVec Ideal S8192x3080 .f32) : FVec Ideal S8192x1024 .f32 := fun i =>
  Z i + Norm.grad 1024 (fun k => X (ix2 (i 0) k)) (fun k => (∑ l, D (ix2 (i 0) l) * W (ix2 k l)) * G (ix1 k)) (i 1)

/-- One row's part of the gradient of the gain. -/
def dg (X : FVec Ideal S8192x1024 .f32) (W : FVec Ideal S1024x3080 .f32) (D : FVec Ideal S8192x3080 .f32) (r : Fin 8192) (b : Fin 1024) : EReal :=
  (∑ l, D (ix2 r l) * W (ix2 b l)) * (X (ix2 r b) * Norm.inv 1024 (fun k => X (ix2 r k)))

/-- A sum over 512 rows, taken in two halves. -/
theorem sum_halves (f : (k : ℕ) → k < 512 → EReal) :
    ∑ k : Fin 512, f k.val k.isLt = (∑ a : Fin 256, f a.val (by omega)) + ∑ a : Fin 256, f (256 + a.val) (by omega) :=
  Fin.sum_univ_add (a := 256) (b := 256) (fun k => f k.val k.isLt)

section Reads

variable (c : Dev nD) (t : Fin cfg0.N)

theorem rdG (b : Fin 1024) : (iblk m c 3 t : FVec Ideal S1x1024 .f32) (ix2 0 b) = argG m c (ix1 b) := by
  refine Eq.trans (congrArg (V m c main_v27 : FVec Ideal S1x1024 .f32) ?_) (vG m c b)
  refine (eq_ix2 _).trans (congrArg₂ ix2 (Fin.ext ?_) (Fin.ext ?_)) <;> blk_simp [idx t]

theorem rdW (l : Fin 3200) (b : Fin 1024) : (iblk m c 1 t : FVec Ideal S3200x1024 .bf16) (ix2 l b) = pack (fun j => argW m c (ix2 b j)) l := by
  refine Eq.trans (congrArg (V m c main_v24 : FVec Ideal S3200x1024 .bf16) ?_) (vW m c l b)
  refine (eq_ix2 _).trans (congrArg₂ ix2 (Fin.ext ?_) (Fin.ext ?_)) <;> blk_simp [idx t]

theorem rdA0 (a : Fin 256) (l : Fin 3200) (r : Fin 8192) (hr : r.val = t.val * 512 + a.val) :
    View.ld (iblk m c 0 t) (Rect.unit ![0, 0] ![256, 3200] inb_S512x3200_S256x3200_0_0) (ix2 a l) = pack (fun j => argD m c (ix2 r j)) l := by
  refine Eq.trans (congrArg (V m c main_v26 : FVec Ideal S8192x3200 .bf16) ?_) (vD m c r l)
  refine (eq_ix2 _).trans (congrArg₂ ix2 (Fin.ext ?_) (Fin.ext ?_))
  · blk_simp [idx t]
    show t.val * 512 + (0 + 1 * a.val) = _
    omega
  · blk_simp [idx t]
    show 0 + 1 * l.val = _
    omega

theorem rdX0 (a : Fin 256) (b : Fin 1024) (r : Fin 8192) (hr : r.val = t.val * 512 + a.val) :
    View.ld (iblk m c 2 t) (Rect.unit ![0, 0] ![256, 1024] inb_S512x1024_S256x1024_0_0) (ix2 a b) = argX m c (ix2 r b) := by
  blk_point [iblk, V, idx t]

theorem rdZ0 (a : Fin 256) (b : Fin 1024) (r : Fin 8192) (hr : r.val = t.val * 512 + a.val) :
    View.ld (iblk m c 4 t) (Rect.unit ![0, 0] ![256, 1024] inb_S512x1024_S256x1024_0_0) (ix2 a b) = argZ m c (ix2 r b) := by
  blk_point [iblk, V, idx t]

theorem rdA1 (a : Fin 256) (l : Fin 3200) (r : Fin 8192) (hr : r.val = t.val * 512 + (256 + a.val)) :
    View.ld (iblk m c 0 t) (Rect.unit ![256, 0] ![256, 3200] inb_S512x3200_S256x3200_256_0) (ix2 a l) = pack (fun j => argD m c (ix2 r j)) l := by
  refine Eq.trans (congrArg (V m c main_v26 : FVec Ideal S8192x3200 .bf16) ?_) (vD m c r l)
  refine (eq_ix2 _).trans (congrArg₂ ix2 (Fin.ext ?_) (Fin.ext ?_))
  · blk_simp [idx t]
    show t.val * 512 + (256 + 1 * a.val) = _
    omega
  · blk_simp [idx t]
    show 0 + 1 * l.val = _
    omega

theorem rdX1 (a : Fin 256) (b : Fin 1024) (r : Fin 8192) (hr : r.val = t.val * 512 + (256 + a.val)) :
    View.ld (iblk m c 2 t) (Rect.unit ![256, 0] ![256, 1024] inb_S512x1024_S256x1024_256_0) (ix2 a b) = argX m c (ix2 r b) := by
  blk_point [iblk, V, idx t]

theorem rdZ1 (a : Fin 256) (b : Fin 1024) (r : Fin 8192) (hr : r.val = t.val * 512 + (256 + a.val)) :
    View.ld (iblk m c 4 t) (Rect.unit ![256, 0] ![256, 1024] inb_S512x1024_S256x1024_256_0) (ix2 a b) = argZ m c (ix2 r b) := by
  blk_point [iblk, V, idx t]

/-- Half 0 of point `t`: its stored rows are the whole arrays' rows. -/
theorem row0 (a : Fin 256) (b : Fin 1024) (r : Fin 8192) (hr : r.val = t.val * 512 + a.val) :
    k0_pay9 (k0_pay3 (F := Ideal) (View.ld (iblk m c 0 t) (Rect.unit ![0, 0] ![256, 3200] inb_S512x3200_S256x3200_0_0)) (iblk m c 1 t)) (k0_pay6 (F := Ideal) (View.ld (iblk m c 2 t) (Rect.unit ![0, 0] ![256, 1024] inb_S512x1024_S256x1024_0_0))) (k0_pay7 (F := Ideal) (View.ld (iblk m c 2 t) (Rect.unit ![0, 0] ![256, 1024] inb_S512x1024_S256x1024_0_0))) (iblk m c 3 t) (View.ld (iblk m c 4 t) (Rect.unit ![0, 0] ![256, 1024] inb_S512x1024_S256x1024_0_0)) (ix2 a b)
      = dx (argX m c) (argG m c) (argW m c) (argZ m c) (argD m c) (ix2 r b) := by
  refine (half0 _ _ _ _ _ _ _).trans ?_
  simp only [rdA0 m c t a _ r hr, rdX0 m c t a _ r hr, rdZ0 m c t a _ r hr, rdW m c t, rdG m c t, sum_pack]
  rfl

/-- Half 0 of point `t`: what it adds to the gain's gradient. -/
theorem add0 (P : FVec Ideal S1x1024 .f32) (b : Fin 1024) :
    k0_pay8 (View.ld (iblk m c 0 t) (Rect.unit ![0, 0] ![256, 3200] inb_S512x3200_S256x3200_0_0)) (iblk m c 1 t) (View.ld (iblk m c 2 t) (Rect.unit ![0, 0] ![256, 1024] inb_S512x1024_S256x1024_0_0)) P (ix2 0 b)
      = P (ix2 0 b) + ∑ a : Fin 256, dg (argX m c) (argW m c) (argD m c) (row t a.val (by omega)) b := by
  refine (gain0 _ _ _ _ _).trans (congrArg _ (Finset.sum_congr rfl fun a _ => ?_))
  simp only [rdA0 m c t a _ (row t a.val (by omega)) rfl, rdX0 m c t a _ (row t a.val (by omega)) rfl, rdW m c t, sum_pack]
  rfl

/-- Half 1 of point `t`: its stored rows are the whole arrays' rows. -/
theorem row1 (a : Fin 256) (b : Fin 1024) (r : Fin 8192) (hr : r.val = t.val * 512 + (256 + a.val)) :
    k0_pay1 (k0_pay4 (F := Ideal) (View.ld (iblk m c 0 t) (Rect.unit ![256, 0] ![256, 3200] inb_S512x3200_S256x3200_256_0)) (iblk m c 1 t)) (k0_pay11 (F := Ideal) (View.ld (iblk m c 2 t) (Rect.unit ![256, 0] ![256, 1024] inb_S512x1024_S256x1024_256_0))) (k0_pay12 (F := Ideal) (View.ld (iblk m c 2 t) (Rect.unit ![256, 0] ![256, 1024] inb_S512x1024_S256x1024_256_0))) (iblk m c 3 t) (View.ld (iblk m c 4 t) (Rect.unit ![256, 0] ![256, 1024] inb_S512x1024_S256x1024_256_0)) (ix2 a b)
      = dx (argX m c) (argG m c) (argW m c) (argZ m c) (argD m c) (ix2 r b) := by
  refine (half1 _ _ _ _ _ _ _).trans ?_
  simp only [rdA1 m c t a _ r hr, rdX1 m c t a _ r hr, rdZ1 m c t a _ r hr, rdW m c t, rdG m c t, sum_pack]
  rfl

/-- Half 1 of point `t`: what it adds to the gain's gradient. -/
theorem add1 (P : FVec Ideal S1x1024 .f32) (b : Fin 1024) :
    k0_pay13 (k0_pay4 (F := Ideal) (View.ld (iblk m c 0 t) (Rect.unit ![256, 0] ![256, 3200] inb_S512x3200_S256x3200_256_0)) (iblk m c 1 t)) (View.ld (iblk m c 2 t) (Rect.unit ![256, 0] ![256, 1024] inb_S512x1024_S256x1024_256_0)) P (ix2 0 b)
      = P (ix2 0 b) + ∑ a : Fin 256, dg (argX m c) (argW m c) (argD m c) (row t (256 + a.val) (by omega)) b := by
  refine (gain1 _ _ _ _ _).trans (congrArg _ (Finset.sum_congr rfl fun a _ => ?_))
  simp only [rdA1 m c t a _ (row t (256 + a.val) (by omega)) rfl, rdX1 m c t a _ (row t (256 + a.val) (by omega)) rfl, rdW m c t, sum_pack]
  rfl

/-- What point `t` adds to the gain's gradient. -/
theorem both (P : FVec Ideal S1x1024 .f32) (b : Fin 1024) :
    k0_pay13 (k0_pay4 (F := Ideal) (View.ld (iblk m c 0 t) (Rect.unit ![256, 0] ![256, 3200] inb_S512x3200_S256x3200_256_0)) (iblk m c 1 t)) (View.ld (iblk m c 2 t) (Rect.unit ![256, 0] ![256, 1024] inb_S512x1024_S256x1024_256_0)) (k0_pay8 (View.ld (iblk m c 0 t) (Rect.unit ![0, 0] ![256, 3200] inb_S512x3200_S256x3200_0_0)) (iblk m c 1 t) (View.ld (iblk m c 2 t) (Rect.unit ![0, 0] ![256, 1024] inb_S512x1024_S256x1024_0_0)) P) (ix2 0 b)
      = P (ix2 0 b) + ∑ k : Fin 512, dg (argX m c) (argW m c) (argD m c) (row t k.val k.isLt) b := by
  refine (add1 m c t _ b).trans ?_
  rw [add0 m c t P b, add_assoc, ← sum_halves (fun k hk => dg (argX m c) (argW m c) (argD m c) (row t k hk) b)]

end Reads

/-- Output window 5's array after the run. -/
theorem final5 (c : Dev nD) :
    (dats m 0 c).arrAt 5 cfg0.N = dx (argX m c) (argG m c) (argW m c) (argZ m c) (argD m c) := by
  refine (dats m 0 c).arrAt_eq_of_covers 5 _ (by decide +kernel) fun t _ y => ?_
  blk_simp
  rw [after0_5]
  have ht := lt_of_lt_of_eq t.isLt N_0
  have key : ∀ j : S8192x1024.Idx, j = ((cfg0.win 5).blk t).view.emb y → (outsAt0 m c t.val t.isLt).1 y
      = dx (argX m c) (argG m c) (argW m c) (argZ m c) (argD m c) j := by
    intro j hj
    have j0 : (j 0 : ℕ) = t.val * 512 + y 0 := by rw [hj]; blk_simp [idx t]
    have j1 : (j 1 : ℕ) = y 1 := by rw [hj]; blk_simp [idx t]
    clear hj
    obtain ⟨r, b, rfl⟩ : ∃ (r : Fin 8192) (b : Fin 1024), j = ix2 r b := ⟨j 0, j 1, eq_ix2 j⟩
    replace j0 : (r : ℕ) = t.val * 512 + y 0 := j0
    replace j1 : (b : ℕ) = y 1 := j1
    by_cases h : t.val % 16 = 0
    on_goal 1 => rw [outsAt0_A m c t h]
    on_goal 2 => rw [outsAt0_B m c t h]
    all_goals
      frame_out; clear h
      canon_tiles x h
      all_goals
        idx_vars x
        obtain rfl : b = x1 := Fin.ext (j1.trans h1)
      · exact row1 m c t _ _ r (by omega)
      · exact row0 m c t _ _ r (by omega)
  exact key _ rfl

/-- Output window 6's array after the run. -/
theorem final6 (c : Dev nD) :
    (dats m 0 c).arrAt 6 cfg0.N = fun i : S1x1024.Idx => ∑ r : Fin 8192, dg (argX m c) (argW m c) (argD m c) r (i 1) := by
  refine (dats m 0 c).arrAt_eq_of_after_last 6 t0_15 (by decide +kernel) _ fun j => ?_
  blk_simp
  idx_vars j
  obtain rfl := Subsingleton.elim j0 0
  rw [after0_6, Pipeline.eq_sum_fin_of_reset_step_apply_last (fun n h => (outsAt0 m c n h).2) 16 (fun _ => 0)
    (fun t j => ∑ k : Fin 512, dg (argX m c) (argW m c) (argD m c) (row t k.val k.isLt) (j 1))
    (fun t h j => by
      rw [outsAt0_A m c t h]; frame_out; idx_vars j; obtain rfl := Subsingleton.elim j0 0
      exact (both m c t _ j1).trans (congrArg (· + _) (zero _)))
    (fun t h j => by
      rw [outsAt0_B m c t h]; frame_out; idx_vars j; obtain rfl := Subsingleton.elim j0 0
      exact both m c t _ j1)
    (le_of_eq N_0) t0_15 rfl _, zero_add]
  exact Fin.sum_mul_add_congr fun p k hl => rfl

end Cert.InProj

end
-- ==== Proof.InProjClaim.lean ====
/-
  The claims about `d_in_proj`: both programs' frames and the value equation.
-/
module

public import proofs.«01_k».proof.Proof.InProjEnd
public import proofs.«01_k».proof.Proof.Gen.Kernel4.Frame
public import proofs.«01_k».proof.Proof.Gen.Pre_finite4
public import Idealize.ShloMosaic.Lib.Claim
public import Idealize.ShloMosaic.Lib.Quiescent

@[expose] public section

noncomputable section

open Idealize.ShloMosaic Idealize.ShloMosaic.TcCoe Idealize.SL.Sem

namespace Cert.InProj

open Cert.Kernel4Ideal Cert.Kernel4Ideal.Gen Cert.Fv
open Cert.Reference4Ideal.Read (val_main_v38 val_main_v39)

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_ideal_pre : Cert.quiescent_Kernel4Ideal_pre_finite4 := fun m ρ _ => Cert.Kernel4Ideal.Gen.frame m ρ
theorem frame_ref : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)
theorem frame_ref_pre : Cert.quiescent_Reference4Ideal_pre_finite4 := fun m ρ _ => frame_ref m ρ trivial

variable (m : (ℓ : Loc nD τ sig) → Buf (Elt Ideal) ℓ)

/-- Where the arguments the precondition names are real numbers, the stored gradient of `x` is the reference's. -/
theorem eq_dx (h : Cert.Pre_Kernel4Ideal_finite4 m) (c : Dev nD) :
    val_main_v38 (F := Ideal) (argX m c) (argG m c) (argW m c) (argZ m c) (argD m c) = (dats m 0 c).arrAt 5 cfg0.N := by
  rw [final5 m c]
  funext i
  obtain ⟨r, b, rfl⟩ : ∃ (r : Fin 8192) (b : Fin 1024), i = ix2 r b := ⟨i 0, i 1, eq_ix2 i⟩
  exact ref_dx _ _ _ _ _ (fun i => of_abs_lt (congrFun (h c).1 i)) (fun i => of_abs_lt (congrFun (h c).2.1 i))
    (fun i => of_abs_lt (congrFun (h c).2.2.1 i)) (fun i => of_abs_lt (congrFun (h c).2.2.2 i)) r b

/-- The stored gradient of the gain is the reference's, on all arguments. -/
theorem eq_dg (c : Dev nD) :
    val_main_v39 (F := Ideal) (argX m c) (argW m c) (argD m c) = (dats m 0 c).arrAt 6 cfg0.N := by
  rw [final6 m c]
  funext i
  obtain ⟨r, b, rfl⟩ : ∃ (r : Fin 1) (b : Fin 1024), i = ix2 r b := ⟨i 0, i 1, eq_ix2 i⟩
  obtain rfl := Subsingleton.elim r 0
  exact ref_dg _ _ _ b

/-- The kernel's two results are the reference's, where the precondition holds. -/
theorem algebraic : Cert.algebraic_Kernel4Ideal_Reference4Ideal_pre_finite4 := by
  pair_intro
  · run_from Cert.Kernel4Ideal.Gen.run_main m g
    all_goals
      simp only [List.flatten_cons, List.flatten_nil, List.append_nil, List.cons_append, List.nil_append, hostOps0, hostOps0_1, hostOps0_2, hostOps0_3, hostOps0_4, StableHlo.TRef.unary, StableHlo.TRef.binary, StableHlo.TRef.of]
      after_reads_simp
  · run_from Cert.Reference4Ideal.Value.run m' g'
    · obtain ⟨e0, e1, e2, e3, e4⟩ := hagree c
      rw [Cert.Reference4Ideal.Read.val_main_v38_eq, e0, e1, e2, e3, e4]
      exact eq_dx m ‹_› c
    · exact eq_dg m c

end Cert.InProj

end
-- ==== Proof.Loss.lean ====
/-
  The value of `ffn_down_loss`: half the mean squared error of each row, added up over all rows, and the gradient of
  that loss with respect to the last sum of the network.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Loss

open Cert.Kernel5Ideal Cert.Kernel5Ideal.Gen Cert.Fv

theorem ofBits_inv : Ideal.ofBits .f32 0x3A800000#32 = ((1 / 1024 : ℝ) : EReal) := by
  simp [Ideal.ofBits, Ideal.ieee]
  rw [← EReal.coe_mul]
  norm_num

theorem ofBits_half : Ideal.ofBits .f32 0x3F000000#32 = ((1 / 2 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

/-- A square is not negative. -/
theorem sq_nonneg' (x : EReal) : 0 ≤ x * x := by
  rcases le_total 0 x with h | h
  · exact mul_nonneg h h
  · rw [← neg_mul_neg]; exact mul_nonneg (EReal.neg_nonneg.mpr h) (EReal.neg_nonneg.mpr h)

/-- The mean of the squares of a row of errors. -/
def mean (e : Fin 1024 → EReal) : EReal := Ideal.div (∑ k, e k * e k) ((1024 : ℝ) : EReal)

theorem mean_nonneg (e : Fin 1024 → EReal) : 0 ≤ mean e := by
  unfold mean
  rw [Ideal.div_coe (by norm_num)]
  exact mul_nonneg (Finset.sum_nonneg fun k _ => sq_nonneg' _) (EReal.coe_nonneg.mpr (by norm_num))

/-- A factor moves out of a sum of terms that are not negative. -/
theorem half_sum {n : ℕ} (f : Fin n → EReal) (hf : ∀ k, 0 ≤ f k) :
    ((1 / 2 : ℝ) : EReal) * ∑ k, f k = ∑ k, ((1 / 2 : ℝ) : EReal) * f k := by
  induction n with
  | zero => simp
  | succ n ih =>
    rw [Fin.sum_univ_succ, Fin.sum_univ_succ, EReal.left_distrib_of_nonneg (hf 0) (Finset.sum_nonneg fun k _ => hf _), ih _ fun k => hf _]

/-- The error at one place. -/
def err (X : EReal) (F W : Fin 2816 → EReal) (T : EReal) : EReal := X + ∑ l, F l * W l - T

section Kernel

variable (X : FVec Ideal S1024x1024 .bf16) (F : FVec Ideal S1024x2816 .bf16) (W : FVec Ideal S2816x1024 .bf16) (T : FVec Ideal S1024x1024 .f32)

theorem pay2 (a b : Fin 1024) : k0_pay2 (F := Ideal) X F W T (ix2 a b)
    = err (X (ix2 a b)) (fun l => F (ix2 a l)) (fun l => W (ix2 l b)) (T (ix2 a b)) := by
  pointwise [k0_pay2]
  rfl

/-- The stored gradient. -/
theorem pay3 (a b : Fin 1024) : k0_pay3 (F := Ideal) X F W T (ix2 a b)
    = err (X (ix2 a b)) (fun l => F (ix2 a l)) (fun l => W (ix2 l b)) (T (ix2 a b)) * ((1 / 1024 : ℝ) : EReal) := by
  pointwise [k0_pay3]
  rw [ofBits_inv, pay2]

/-- What one point adds to the loss. -/
theorem pay4 (P : FVec Ideal S8x128 .f32) (a : Fin 8) (b : Fin 128) : k0_pay4 (F := Ideal) X F W T P (ix2 a b)
    = P (ix2 a b) + ((1 / 2 : ℝ) : EReal) * ∑ r : Fin 1024, mean (fun k => err (X (ix2 r k)) (fun l => F (ix2 r l)) (fun l => W (ix2 l k)) (T (ix2 r k))) := by
  pointwise [k0_pay4]
  simp only [ofBits_half, Norm.ofBits_1024, pay2]
  rfl

theorem zero (y : S8x128.Idx) : k0_pay1 (F := Ideal) y = 0 := by pointwise [k0_pay1]

end Kernel

section Reference

open Cert.Reference5Ideal.Read

variable (X : FVec Ideal S8192x1024 .f32) (F : FVec Ideal S8192x2816 .f32) (W : FVec Ideal S2816x1024 .f32) (T : FVec Ideal S8192x1024 .f32)

theorem ref_err (a : Fin 8192) (b : Fin 1024) : val_main_v2 (F := Ideal) X F W T (ix2 a b)
    = err (X (ix2 a b)) (fun l => F (ix2 a l)) (fun l => W (ix2 l b)) (T (ix2 a b)) := by
  pointwise [val_main_v2, val_main_v1, val_main_v0]
  rfl

/-- The reference's gradient. -/
theorem ref_dy (a : Fin 8192) (b : Fin 1024) : val_main_v17 (F := Ideal) X F W T (ix2 a b)
    = err (X (ix2 a b)) (fun l => F (ix2 a l)) (fun l => W (ix2 l b)) (T (ix2 a b)) * ((1 / 1024 : ℝ) : EReal) := by
  pointwise [val_main_v17, val_main_v16, val_main_v15, val_main_v14, val_main_v13, val_main_v12, val_main_v11, val_main_v5, val_main_v4, val_main_cst, val_main_cst_4, val_main_cst_5, val_main_cst_6]
  simp only [ref_err]
  rw [ofBits_half, ofBits_two, Norm.ofBits_1024, Ideal.div_coe (by norm_num), ← mul_assoc, mul_comm _ (err _ _ _ _)]
  congr 1
  norm_cast
  norm_num

/-- The reference's loss. -/
theorem ref_loss (a : Fin 8) (b : Fin 128) : val_main_v18 (F := Ideal) X F W T (ix2 a b)
    = ((1 / 2 : ℝ) : EReal) * ∑ r : Fin 8192, mean (fun k => err (X (ix2 r k)) (fun l => F (ix2 r l)) (fun l => W (ix2 l k)) (T (ix2 r k))) := by
  pointwise [val_main_v18, val_main_v10, val_main_v9, val_main_v8, val_main_v7, val_main_v6, val_main_v3, val_main_cst_0, val_main_cst_1, val_main_cst_2, val_main_cst_3]
  simp only [ref_err, ofBits_half, Norm.ofBits_1024]
  rfl

end Reference

end Cert.Loss

end
-- ==== Proof.LossEnd.lean ====
/-
  The two arrays `ffn_down_loss` leaves: the gradient row by row, and the loss added up over the grid's points.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Loss
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Loss

open Cert.Kernel5Ideal Cert.Kernel5Ideal.Gen Cert.Fv

open Cert.Reference5Ideal.Read (val_main_v17 val_main_v18)

variable (m : (ℓ : Loc nD τ sig) → Buf (Elt Ideal) ℓ)

abbrev argX (c : Dev nD) : FVec Ideal S8192x1024 .f32 := m ((c : Thread nD τ).loc main_arg0)
abbrev argF (c : Dev nD) : FVec Ideal S8192x2816 .f32 := m ((c : Thread nD τ).loc main_arg1)
abbrev argW (c : Dev nD) : FVec Ideal S2816x1024 .f32 := m ((c : Thread nD τ).loc main_arg2)
abbrev argT (c : Dev nD) : FVec Ideal S8192x1024 .f32 := m ((c : Thread nD τ).loc main_arg3)

/-- Where every window's block sits, over the grid's eight points. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![0, 0] :=
  (by decide +kernel : ∀ t : Fin grid0.N, _)

/-- Row `k` of point `t`'s block. -/
def row (t : Fin cfg0.N) (k : ℕ) (hk : k < 1024) : Fin 8192 := ⟨t.val * 1024 + k, by have := lt_of_lt_of_eq t.isLt N_0; omega⟩

/-- The errors of a row. -/
def errs (X : FVec Ideal S8192x1024 .f32) (F : FVec Ideal S8192x2816 .f32) (W : FVec Ideal S2816x1024 .f32) (T : FVec Ideal S8192x1024 .f32)
    (r : Fin 8192) (k : Fin 1024) : EReal :=
  err (X (ix2 r k)) (fun l => F (ix2 r l)) (fun l => W (ix2 l k)) (T (ix2 r k))

section Reads

variable (c : Dev nD) (t : Fin cfg0.N)

theorem rdF (a : Fin 1024) (b : Fin 2816) (r : Fin 8192) (hr : r.val = t.val * 1024 + a.val) :
    (iblk m c 0 t : FVec Ideal S1024x2816 .bf16) (ix2 a b) = argF m c (ix2 r b) := by
  blk_point [iblk, V, idx t]

theorem rdW (a : Fin 2816) (b : Fin 1024) : (iblk m c 1 t : FVec Ideal S2816x1024 .bf16) (ix2 a b) = argW m c (ix2 a b) := by
  blk_point [iblk, V, idx t]

theorem rdX (a b : Fin 1024) (r : Fin 8192) (hr : r.val = t.val * 1024 + a.val) :
    (iblk m c 2 t : FVec Ideal S1024x1024 .bf16) (ix2 a b) = argX m c (ix2 r b) := by
  blk_point [iblk, V, idx t]

theorem rdT (a b : Fin 1024) (r : Fin 8192) (hr : r.val = t.val * 1024 + a.val) :
    (iblk m c 3 t : FVec Ideal S1024x1024 .f32) (ix2 a b) = argT m c (ix2 r b) := by
  blk_point [iblk, V, idx t]

/-- The rows point `t` stores. -/
theorem rows (a b : Fin 1024) (r : Fin 8192) (hr : r.val = t.val * 1024 + a.val) :
    k0_pay3 (F := Ideal) (iblk m c 2 t) (iblk m c 0 t) (iblk m c 1 t) (iblk m c 3 t) (ix2 a b)
      = errs (argX m c) (argF m c) (argW m c) (argT m c) r b * ((1 / 1024 : ℝ) : EReal) := by
  refine (pay3 _ _ _ _ _ _).trans ?_
  simp only [rdF m c t a _ r hr, rdX m c t a _ r hr, rdT m c t a _ r hr, rdW m c t]
  rfl

/-- What point `t` adds to the loss. -/
theorem adds (P : FVec Ideal S8x128 .f32) (a : Fin 8) (b : Fin 128) :
    k0_pay4 (F := Ideal) (iblk m c 2 t) (iblk m c 0 t) (iblk m c 1 t) (iblk m c 3 t) P (ix2 a b)
      = P (ix2 a b) + ∑ k : Fin 1024, ((1 / 2 : ℝ) : EReal) * mean (errs (argX m c) (argF m c) (argW m c) (argT m c) (row t k.val k.isLt)) := by
  refine (pay4 _ _ _ _ _ _ _).trans ?_
  rw [half_sum _ fun _ => mean_nonneg _]
  refine congrArg _ (Finset.sum_congr rfl fun k _ => ?_)
  simp only [rdF m c t k _ (row t k.val k.isLt) rfl, rdX m c t k _ (row t k.val k.isLt) rfl, rdT m c t k _ (row t k.val k.isLt) rfl, rdW m c t]
  rfl

end Reads

/-- Output window 4's array after the run. -/
theorem final4 (c : Dev nD) :
    (dats m 0 c).arrAt 4 cfg0.N = fun i : S8192x1024.Idx => errs (argX m c) (argF m c) (argW m c) (argT m c) (i 0) (i 1) * ((1 / 1024 : ℝ) : EReal) := by
  refine (dats m 0 c).arrAt_eq_of_covers 4 _ (by decide +kernel) fun t _ y => ?_
  blk_simp
  rw [after0_4]
  have ht := lt_of_lt_of_eq t.isLt N_0
  have key : ∀ j : S8192x1024.Idx, j = ((cfg0.win 4).blk t).view.emb y → (outsAt0 m c t.val t.isLt).1 y
      = errs (argX m c) (argF m c) (argW m c) (argT m c) (j 0) (j 1) * ((1 / 1024 : ℝ) : EReal) := by
    intro j hj
    have j0 : (j 0 : ℕ) = t.val * 1024 + y 0 := by rw [hj]; blk_simp [idx t]
    have j1 : (j 1 : ℕ) = y 1 := by rw [hj]; blk_simp [idx t]
    clear hj
    obtain ⟨r, b, rfl⟩ : ∃ (r : Fin 8192) (b : Fin 1024), j = ix2 r b := ⟨j 0, j 1, eq_ix2 j⟩
    obtain ⟨a, b', rfl⟩ : ∃ (a b : Fin 1024), y = ix2 a b := ⟨y 0, y 1, eq_ix2 y⟩
    replace j0 : (r : ℕ) = t.val * 1024 + a.val := j0
    obtain rfl : b = b' := Fin.ext j1
    by_cases h : t.val % 8 = 0
    on_goal 1 => rw [outsAt0_A m c t h]
    on_goal 2 => rw [outsAt0_B m c t h]
    all_goals
      frame_out; clear h
      exact rows m c t _ _ r j0
  exact key _ rfl

/-- Output window 5's array after the run. -/
theorem final5 (c : Dev nD) :
    (dats m 0 c).arrAt 5 cfg0.N = fun _ : S8x128.Idx => ∑ r : Fin 8192, ((1 / 2 : ℝ) : EReal) * mean (errs (argX m c) (argF m c) (argW m c) (argT m c) r) := by
  refine (dats m 0 c).arrAt_eq_of_after_last 5 t0_7 (by decide +kernel) _ fun j => ?_
  blk_simp
  idx_vars j
  rw [after0_5, Pipeline.eq_sum_fin_of_reset_step_apply_last (fun n h => (outsAt0 m c n h).2) 8 (fun _ => 0)
    (fun t j => ∑ k : Fin 1024, ((1 / 2 : ℝ) : EReal) * mean (errs (argX m c) (argF m c) (argW m c) (argT m c) (row t k.val k.isLt)))
    (fun t h j => by
      rw [outsAt0_A m c t h]; frame_out; idx_vars j
      exact (adds m c t _ j0 j1).trans (congrArg (· + _) (zero _)))
    (fun t h j => by
      rw [outsAt0_B m c t h]; frame_out; idx_vars j
      exact adds m c t _ j0 j1)
    (le_of_eq N_0) t0_7 rfl _, zero_add]
  exact Fin.sum_mul_add_congr fun p k hl => rfl

end Cert.Loss

end
-- ==== Proof.LossClaim.lean ====
/-
  The claims about `ffn_down_loss`: both programs' frames and the value equation, on all arguments.
-/
module

public import proofs.«01_k».proof.Proof.LossEnd
public import proofs.«01_k».proof.Proof.Gen.Kernel5.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Loss

open Cert.Kernel5Ideal Cert.Kernel5Ideal.Gen Cert.Fv
open Cert.Reference5Ideal.Read (val_main_v17 val_main_v18)

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_ref : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

variable (m : (ℓ : Loc nD τ sig) → Buf (Elt Ideal) ℓ)

/-- The stored gradient is the reference's. -/
theorem eq_dy (c : Dev nD) : val_main_v17 (F := Ideal) (argX m c) (argF m c) (argW m c) (argT m c) = (dats m 0 c).arrAt 4 cfg0.N := by
  rw [final4 m c]
  funext i
  obtain ⟨r, b, rfl⟩ : ∃ (r : Fin 8192) (b : Fin 1024), i = ix2 r b := ⟨i 0, i 1, eq_ix2 i⟩
  exact ref_dy _ _ _ _ r b

/-- The stored loss is the reference's. -/
theorem eq_loss (c : Dev nD) : val_main_v18 (F := Ideal) (argX m c) (argF m c) (argW m c) (argT m c) = (dats m 0 c).arrAt 5 cfg0.N := by
  rw [final5 m c]
  funext i
  obtain ⟨r, b, rfl⟩ : ∃ (r : Fin 8) (b : Fin 128), i = ix2 r b := ⟨i 0, i 1, eq_ix2 i⟩
  exact (ref_loss _ _ _ _ r b).trans (half_sum _ fun _ => mean_nonneg _)

/-- The kernel's two results are the reference's. -/
theorem algebraic : Cert.algebraic_Kernel5Ideal_Reference5Ideal := by
  pair_intro
  · run_from Cert.Kernel5Ideal.Gen.run_main m g
  · run_from Cert.Reference5Ideal.Value.run m' g'
    · exact eq_dy m c
    · exact eq_loss m c

end Cert.Loss

end
-- ==== Proof.AttnRun.lean ====
/-
  One point of the attention gradient's grid: the kernel run on its arguments' staging buffers. The counted loop over
  the key blocks before the query group makes no trip, for the group is the whole row of queries.
-/
module

public import proofs.«01_k».proof.Proof.Gen.Kernel7Ideal.Frame
public import proofs.«01_k».proof.Proof.Gen.Kernel7Ideal.Loops

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Attn

open Cert.Kernel7Ideal Cert.Kernel7Ideal.Gen

variable {F : FTy → Type} [FloatOps F]

local notation "𝕄" => MT nD τ sig Unit (Elt F) ℕ (UR sig nD τ) ℕ

section Body

variable (c : Dev nD) (i : grid0.Coords)
  (qR : Memref sig .tc .vmem S2048x256 .bf16) (hq : qR.IsWhole)
  (kR : Memref sig .tc .vmem S2048x256 .bf16) (hk : kR.IsWhole)
  (vR : Memref sig .tc .vmem S2048x128 .bf16) (hv : vR.IsWhole)
  (tabR : Memref sig .tc .vmem S1x4x512x512 .f32) (htab : tabR.IsWhole)
  (oR : Memref sig .tc .vmem S2048x128 .bf16) (ho : oR.IsWhole)
  (lseR : Memref sig .tc .vmem S2048x128 .f32) (hlse : lseR.IsWhole)
  (gR : Memref sig .tc .vmem S2048x128 .bf16) (hg : gR.IsWhole)
  (dqR : Memref sig .tc .vmem S2048x128 .bf16) (hdq : dqR.IsWhole)
  (dkR : Memref sig .tc .vmem S2048x128 .bf16) (hdk : dkR.IsWhole)
  (dvR : Memref sig .tc .vmem S2048x128 .bf16) (hdv : dvR.IsWhole)
  (dqxR : Memref sig .tc .vmem S2048x128 .f32) (hdqx : dqxR.IsWhole)
  (dkxR : Memref sig .tc .vmem S2048x128 .f32) (hdkx : dkxR.IsWhole)
  (acckR : Memref sig .tc .vmem S2x2048x128 .f32) (hacck : acckR.IsWhole)
  (accvR : Memref sig .tc .vmem S2048x128 .f32) (haccv : accvR.IsWhole)
  (xq : Vec F S2048x256 .bf16) (xk : Vec F S2048x256 .bf16) (xv : Vec F S2048x128 .bf16) (xtab : Vec F S1x4x512x512 .f32) (xo : Vec F S2048x128 .bf16) (xlse : Vec F S2048x128 .f32) (xg : Vec F S2048x128 .bf16)

/-- The point's inputs, held at their contents. -/
abbrev inputs : sProp 𝕄 :=
  iprop(owns (c : Thread nD τ) qR fullShare xq ∗ owns (c : Thread nD τ) kR fullShare xk ∗ owns (c : Thread nD τ) vR fullShare xv ∗ owns (c : Thread nD τ) tabR fullShare xtab ∗ owns (c : Thread nD τ) oR fullShare xo ∗ owns (c : Thread nD τ) lseR fullShare xlse ∗ owns (c : Thread nD τ) gR fullShare xg)

/-- The buffers the point overwrites, held at anything: the five outputs and the two accumulators. -/
abbrev buffers : sProp 𝕄 :=
  iprop((∃ d, owns (c : Thread nD τ) dqR fullShare d) ∗ (∃ d, owns (c : Thread nD τ) dkR fullShare d) ∗ (∃ d, owns (c : Thread nD τ) dvR fullShare d) ∗ (∃ d, owns (c : Thread nD τ) dqxR fullShare d) ∗ (∃ d, owns (c : Thread nD τ) dkxR fullShare d) ∗ (∃ d, owns (c : Thread nD τ) acckR fullShare d) ∗ (∃ d, owns (c : Thread nD τ) accvR fullShare d))

/-- The outputs with the point's stores in them, and the accumulators at anything. -/
abbrev stored (Ldq : List (View.Piece (Elt F) S2048x128 .bf16)) (Ldk : List (View.Piece (Elt F) S2048x128 .bf16)) (Ldv : List (View.Piece (Elt F) S2048x128 .bf16)) (Ldqx : List (View.Piece (Elt F) S2048x128 .f32)) (Ldkx : List (View.Piece (Elt F) S2048x128 .f32)) : sProp 𝕄 :=
  iprop((∃ f, dqR.view.loc (c : Thread nD τ) ↦[dqR.view.set]{fullShare} dqR.view.writes (Elt F) f Ldq) ∗ (∃ f, dkR.view.loc (c : Thread nD τ) ↦[dkR.view.set]{fullShare} dkR.view.writes (Elt F) f Ldk) ∗ (∃ f, dvR.view.loc (c : Thread nD τ) ↦[dvR.view.set]{fullShare} dvR.view.writes (Elt F) f Ldv) ∗ (∃ f, dqxR.view.loc (c : Thread nD τ) ↦[dqxR.view.set]{fullShare} dqxR.view.writes (Elt F) f Ldqx) ∗ (∃ f, dkxR.view.loc (c : Thread nD τ) ↦[dkxR.view.set]{fullShare} dkxR.view.writes (Elt F) f Ldkx) ∗ (∃ d, owns (c : Thread nD τ) acckR fullShare d) ∗ (∃ d, owns (c : Thread nD τ) accvR fullShare d))

set_option maxHeartbeats 1600000 in
/-- The stores of one point, with the proof that the kernel makes them: from its inputs at their contents and the other
    buffers at anything it runs to the inputs unchanged and its outputs with the stores in them. -/
def run :
    Σ' (Ldq : List (View.Piece (Elt F) S2048x128 .bf16)) (Ldk : List (View.Piece (Elt F) S2048x128 .bf16)) (Ldv : List (View.Piece (Elt F) S2048x128 .bf16)) (Ldqx : List (View.Piece (Elt F) S2048x128 .f32)), { Ldkx : List (View.Piece (Elt F) S2048x128 .f32) // ∀ (E : Set ℕ) (K : PUnit → sProp 𝕄),
    iprop(inputs c qR kR vR tabR oR lseR gR xq xk xv xtab xo xlse xg ∗ buffers c dqR dkR dvR dqxR dkxR acckR accvR
        ∗ (iprop(inputs c qR kR vR tabR oR lseR gR xq xk xv xtab xo xlse xg ∗ stored c dqR dkR dvR dqxR dkxR acckR accvR Ldq Ldk Ldv Ldqx Ldkx) -∗ K ⟨⟩))
      ⊢ wp frame (wpE (defs₀ (F := F)) Variants.none c none) E (cc0_attn_bwd i qR hq kR hk vR hv tabR htab oR ho lseR hlse gR hg dqR hdq dkR hdk dvR hdv dqxR hdqx dkxR hdkx acckR hacck accvR haccv) K } := by
  have none1 : k0_t1_loop.trips = 0 := Nat.le_zero.mp k0_t1_abs.2.1
  have none2 : k0_t2_loop.trips = 0 := Nat.le_zero.mp k0_t2_abs.2.1
  refine ⟨?_, ?_, ?_, ?_, ?_, fun E K => ?run⟩
  case run =>
    simp only [cc0_attn_bwd_eq_skeleton]
    unfold cc0_attn_bwd_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold inputs buffers stored owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
    obtain rfl := hq.eq_unread e2; obtain rfl := hk.eq_unread e3; obtain rfl := hv.eq_unread e4; obtain rfl := htab.eq_unread e5; obtain rfl := ho.eq_unread e6; obtain rfl := hlse.eq_unread e7; obtain rfl := hg.eq_unread e8
    sl_exec
    sl_step
    iapply Hk
    isplitl [H2 H3 H4 H5 H6 H7 H8]
    · isplitl [H2]
      · iexists _; isplitr; · ipureintro; exact hq.read_unread _
        iexact H2
      isplitl [H3]
      · iexists _; isplitr; · ipureintro; exact hk.read_unread _
        iexact H3
      isplitl [H4]
      · iexists _; isplitr; · ipureintro; exact hv.read_unread _
        iexact H4
      isplitl [H5]
      · iexists _; isplitr; · ipureintro; exact htab.read_unread _
        iexact H5
      isplitl [H6]
      · iexists _; isplitr; · ipureintro; exact ho.read_unread _
        iexact H6
      isplitl [H7]
      · iexists _; isplitr; · ipureintro; exact hlse.read_unread _
        iexact H7
      iexists _; isplitr; · ipureintro; exact hg.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _, _; isplitr; swap; · iexact H14
      ipureintro; rfl
    iexists _, _; isplitr; swap; · iexact H15
    ipureintro; rfl

end Body

end Cert.Attn

end
-- ==== Proof.AttnFrame.lean ====
/-
  The attention gradient's launch: what each point leaves in its outputs, the run of the whole program, and the frame.
-/
module

public import proofs.«01_k».proof.Proof.AttnRun
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Attn

open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at a point, and that it is a whole buffer. -/
abbrev mem0 (t : Fin cfg0.N) : Memref sig .tc .vmem S2048x256 .bf16 := win0_0.stage (cfg0.slots t 0)
abbrev whole0 (t : Fin cfg0.N) : (mem0 t).IsWhole := hstage0_0 ((cfg0.slots t 0).cast nbuf0_0)
/-- Window 1's staging buffer at a point, and that it is a whole buffer. -/
abbrev mem1 (t : Fin cfg0.N) : Memref sig .tc .vmem S2048x256 .bf16 := win0_1.stage (cfg0.slots t 1)
abbrev whole1 (t : Fin cfg0.N) : (mem1 t).IsWhole := hstage0_1 ((cfg0.slots t 1).cast nbuf0_1)
/-- Window 2's staging buffer at a point, and that it is a whole buffer. -/
abbrev mem2 (t : Fin cfg0.N) : Memref sig .tc .vmem S2048x128 .bf16 := win0_2.stage (cfg0.slots t 2)
abbrev whole2 (t : Fin cfg0.N) : (mem2 t).IsWhole := hstage0_2 ((cfg0.slots t 2).cast nbuf0_2)
/-- Window 3's staging buffer at a point, and that it is a whole buffer. -/
abbrev mem3 (t : Fin cfg0.N) : Memref sig .tc .vmem S1x4x512x512 .f32 := win0_3.stage (cfg0.slots t 3)
abbrev whole3 (t : Fin cfg0.N) : (mem3 t).IsWhole := hstage0_3 ((cfg0.slots t 3).cast nbuf0_3)
/-- Window 4's staging buffer at a point, and that it is a whole buffer. -/
abbrev mem4 (t : Fin cfg0.N) : Memref sig .tc .vmem S2048x128 .bf16 := win0_4.stage (cfg0.slots t 4)
abbrev whole4 (t : Fin cfg0.N) : (mem4 t).IsWhole := hstage0_4 ((cfg0.slots t 4).cast nbuf0_4)
/-- Window 5's staging buffer at a point, and that it is a whole buffer. -/
abbrev mem5 (t : Fin cfg0.N) : Memref sig .tc .vmem S2048x128 .f32 := win0_5.stage (cfg0.slots t 5)
abbrev whole5 (t : Fin cfg0.N) : (mem5 t).IsWhole := hstage0_5 ((cfg0.slots t 5).cast nbuf0_5)
/-- Window 6's staging buffer at a point, and that it is a whole buffer. -/
abbrev mem6 (t : Fin cfg0.N) : Memref sig .tc .vmem S2048x128 .bf16 := win0_6.stage (cfg0.slots t 6)
abbrev whole6 (t : Fin cfg0.N) : (mem6 t).IsWhole := hstage0_6 ((cfg0.slots t 6).cast nbuf0_6)
/-- Window 7's staging buffer at a point, and that it is a whole buffer. -/
abbrev mem7 (t : Fin cfg0.N) : Memref sig .tc .vmem S2048x128 .bf16 := win0_7.stage (cfg0.slots t 7)
abbrev whole7 (t : Fin cfg0.N) : (mem7 t).IsWhole := hstage0_7 ((cfg0.slots t 7).cast nbuf0_7)
/-- Window 8's staging buffer at a point, and that it is a whole buffer. -/
abbrev mem8 (t : Fin cfg0.N) : Memref sig .tc .vmem S2048x128 .bf16 := win0_8.stage (cfg0.slots t 8)
abbrev whole8 (t : Fin cfg0.N) : (mem8 t).IsWhole := hstage0_8 ((cfg0.slots t 8).cast nbuf0_8)
/-- Window 9's staging buffer at a point, and that it is a whole buffer. -/
abbrev mem9 (t : Fin cfg0.N) : Memref sig .tc .vmem S2048x128 .bf16 := win0_9.stage (cfg0.slots t 9)
abbrev whole9 (t : Fin cfg0.N) : (mem9 t).IsWhole := hstage0_9 ((cfg0.slots t 9).cast nbuf0_9)
/-- Window 10's staging buffer at a point, and that it is a whole buffer. -/
abbrev mem10 (t : Fin cfg0.N) : Memref sig .tc .vmem S2048x128 .f32 := win0_10.stage (cfg0.slots t 10)
abbrev whole10 (t : Fin cfg0.N) : (mem10 t).IsWhole := hstage0_10 ((cfg0.slots t 10).cast nbuf0_10)
/-- Window 11's staging buffer at a point, and that it is a whole buffer. -/
abbrev mem11 (t : Fin cfg0.N) : Memref sig .tc .vmem S2048x128 .f32 := win0_11.stage (cfg0.slots t 11)
abbrev whole11 (t : Fin cfg0.N) : (mem11 t).IsWhole := hstage0_11 ((cfg0.slots t 11).cast nbuf0_11)

/-- The two accumulators. -/
abbrev acck : Memref sig .tc .vmem S2x2048x128 .f32 := Memref.whole cc0_scratch0
abbrev accv : Memref sig .tc .vmem S2048x128 .f32 := Memref.whole cc0_scratch1

/-- The run of the kernel at a grid point, on the blocks the pipeline stages there. -/
abbrev runAt (c : Dev nD) (t : Fin cfg0.N) :=
  run c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) acck (Memref.isWhole_whole _) accv (Memref.isWhole_whole _)
    (iblk m c 0 t) (iblk m c 1 t) (iblk m c 2 t) (iblk m c 3 t) (iblk m c 4 t) (iblk m c 5 t) (iblk m c 6 t)

/-- The stores of `dq` cover its block, -/
theorem cover_dq (c : Dev nD) (t : Fin cfg0.N) (y : S2048x128.Idx) : ∃ pc ∈ (runAt m c t).1, y ∈ pc.1.set :=
  View.cover_of_tiledL (runAt m c t).1 S512x128.size (by sl_kernel_rfl) y

/-- so the block holds them whatever it held before. -/
abbrev view_dq : View sig .tc .vmem S2048x128 .bf16 := (Memref.whole cc0_stg7_0 : Memref sig .tc .vmem S2048x128 .bf16).view
def left_dq (c : Dev nD) (t : Fin cfg0.N) : Vec F S2048x128 .bf16 :=
  view_dq.read (Elt F) (view_dq.writes (Elt F) view_dq.junk (runAt m c t).1)

/-- The stores of `dk` cover its block, -/
theorem cover_dk (c : Dev nD) (t : Fin cfg0.N) (y : S2048x128.Idx) : ∃ pc ∈ (runAt m c t).2.1, y ∈ pc.1.set :=
  View.cover_of_tiledL (runAt m c t).2.1 S2048x128.size (by sl_kernel_rfl) y

/-- so the block holds them whatever it held before. -/
abbrev view_dk : View sig .tc .vmem S2048x128 .bf16 := (Memref.whole cc0_stg8_0 : Memref sig .tc .vmem S2048x128 .bf16).view
def left_dk (c : Dev nD) (t : Fin cfg0.N) : Vec F S2048x128 .bf16 :=
  view_dk.read (Elt F) (view_dk.writes (Elt F) view_dk.junk (runAt m c t).2.1)

/-- The stores of `dv` cover its block, -/
theorem cover_dv (c : Dev nD) (t : Fin cfg0.N) (y : S2048x128.Idx) : ∃ pc ∈ (runAt m c t).2.2.1, y ∈ pc.1.set :=
  View.cover_of_tiledL (runAt m c t).2.2.1 S2048x128.size (by sl_kernel_rfl) y

/-- so the block holds them whatever it held before. -/
abbrev view_dv : View sig .tc .vmem S2048x128 .bf16 := (Memref.whole cc0_stg9_0 : Memref sig .tc .vmem S2048x128 .bf16).view
def left_dv (c : Dev nD) (t : Fin cfg0.N) : Vec F S2048x128 .bf16 :=
  view_dv.read (Elt F) (view_dv.writes (Elt F) view_dv.junk (runAt m c t).2.2.1)

/-- The stores of `dqx` cover its block, -/
theorem cover_dqx (c : Dev nD) (t : Fin cfg0.N) (y : S2048x128.Idx) : ∃ pc ∈ (runAt m c t).2.2.2.1, y ∈ pc.1.set :=
  View.cover_of_tiledL (runAt m c t).2.2.2.1 S512x128.size (by sl_kernel_rfl) y

/-- so the block holds them whatever it held before. -/
abbrev view_dqx : View sig .tc .vmem S2048x128 .f32 := (Memref.whole cc0_stg10_0 : Memref sig .tc .vmem S2048x128 .f32).view
def left_dqx (c : Dev nD) (t : Fin cfg0.N) : Vec F S2048x128 .f32 :=
  view_dqx.read (Elt F) (view_dqx.writes (Elt F) view_dqx.junk (runAt m c t).2.2.2.1)

/-- The stores of `dkx` cover its block, -/
theorem cover_dkx (c : Dev nD) (t : Fin cfg0.N) (y : S2048x128.Idx) : ∃ pc ∈ (runAt m c t).2.2.2.2.1, y ∈ pc.1.set :=
  View.cover_of_tiledL (runAt m c t).2.2.2.2.1 S2048x128.size (by sl_kernel_rfl) y

/-- so the block holds them whatever it held before. -/
abbrev view_dkx : View sig .tc .vmem S2048x128 .f32 := (Memref.whole cc0_stg11_0 : Memref sig .tc .vmem S2048x128 .f32).view
def left_dkx (c : Dev nD) (t : Fin cfg0.N) : Vec F S2048x128 .f32 :=
  view_dkx.read (Elt F) (view_dkx.writes (Elt F) view_dkx.junk (runAt m c t).2.2.2.2.1)

/-- The pipeline's data: its arrays as the host code leaves them, and what every point leaves in its windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left_dq m c t
    | ⟨8, _⟩ => left_dk m c t
    | ⟨9, _⟩ => left_dv m c t
    | ⟨10, _⟩ => left_dqx m c t
    | ⟨11, _⟩ => left_dkx m c t
  Φ _ := Pipeline.ΦA spec0 c
  q w := Pipeline.shareOf spec0 w
  owed _ := 0

/-- The data's arrays are the ones the host code leaves. -/
theorem arrays (c : Dev nD) (w : Fin cfg0.W) : (dats m 0 c).A w = V m c (Pipeline.arrRef spec0 w) := by
  dsimp only [dats]

/-- Window 0 holds its block before a point and after it. -/
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (arrays m c 0) (after0 m c) t d
/-- Window 1 holds its block before a point and after it. -/
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (arrays m c 1) (after1 m c) t d
/-- Window 2 holds its block before a point and after it. -/
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (arrays m c 2) (after2 m c) t d
/-- Window 3 holds its block before a point and after it. -/
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (arrays m c 3) (after3 m c) t d
/-- Window 4 holds its block before a point and after it. -/
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (arrays m c 4) (after4 m c) t d
/-- Window 5 holds its block before a point and after it. -/
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (arrays m c 5) (after5 m c) t d
/-- Window 6 holds its block before a point and after it. -/
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (arrays m c 6) (after6 m c) t d
/-- Window 7 holds the point's stores of `dq`. -/
theorem after7 (c : Dev nD) (t : Fin cfg0.N) : (dats m 0 c).after 7 t = left_dq m c t := by dsimp only [dats]
/-- Window 8 holds the point's stores of `dk`. -/
theorem after8 (c : Dev nD) (t : Fin cfg0.N) : (dats m 0 c).after 8 t = left_dk m c t := by dsimp only [dats]
/-- Window 9 holds the point's stores of `dv`. -/
theorem after9 (c : Dev nD) (t : Fin cfg0.N) : (dats m 0 c).after 9 t = left_dv m c t := by dsimp only [dats]
/-- Window 10 holds the point's stores of `dqx`. -/
theorem after10 (c : Dev nD) (t : Fin cfg0.N) : (dats m 0 c).after 10 t = left_dqx m c t := by dsimp only [dats]
/-- Window 11 holds the point's stores of `dkx`. -/
theorem after11 (c : Dev nD) (t : Fin cfg0.N) : (dats m 0 c).after 11 t = left_dkx m c t := by dsimp only [dats]

/-- What the body finds at a point, window by window, -/
def found (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d)))

/-- and what it leaves. -/
def leaves (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t)
    ∗ owns (c : Thread nD τ) (mem9 t) fullShare ((dats m 0 c).after 9 t)
    ∗ owns (c : Thread nD τ) (mem10 t) fullShare ((dats m 0 c).after 10 t)
    ∗ owns (c : Thread nD τ) (mem11 t) fullShare ((dats m 0 c).after 11 t))

/-- Between points the pipeline keeps the accumulators at some contents, and the generator register. -/
theorem kept (c : Dev nD) :
    (Pipeline.ΦA spec0 c : sProp 𝕄)
      = iprop(iprop((∃ d, owns (c : Thread nD τ) acck fullShare d) ∗ (∃ d, owns (c : Thread nD τ) accv fullShare d)) ∗ (∃ r, prngReg c r)) := by
  unfold Pipeline.ΦA; rw [scopedRest0_eq]; simp only [acck, accv, owns_whole]; try rfl

set_option maxHeartbeats 1600000 in
/-- The body at a point: it finds its blocks, and leaves its stores in the outputs. -/
theorem body (c : Dev nD) (t : Fin cfg0.N) :
    found m c t ⊢ wp frame (wpE (defs₀ (F := F)) Variants.none c none) Set.univ (bodyAt0 t) (fun _ => leaves m c t) := by
  unfold found leaves bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl, kept]
  unfold left_dq left_dk left_dv left_dqx left_dkx
  iintro ⟨⟨⟨Hak, Hav⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runAt m c t).2.2.2.2.2 Set.univ _)
  unfold inputs buffers stored
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 H8 H9 H10 H11 Hak Hav]
  · isplitl [H7]; · iexists _; iexact H7
    isplitl [H8]; · iexists _; iexact H8
    isplitl [H9]; · iexists _; iexact H9
    isplitl [H10]; · iexists _; iexact H10
    isplitl [H11]; · iexists _; iexact H11
    isplitl [Hak]; · iexact Hak
    iexact Hav
  iintro ⟨⟨H0, H1, H2, H3, H4, H5, H6⟩, ⟨%e7, H7⟩, ⟨%e8, H8⟩, ⟨%e9, H9⟩, ⟨%e10, H10⟩, ⟨%e11, H11⟩, Hak, Hav⟩
  isplitl [Hak Hav Hg]
  · isplitl [Hak Hav]
    · isplitl [Hak]
      · iexact Hak
      iexact Hav
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover_dq m c t)
  isplitl [H8]
  · unfold owns; iexists _; isplitr
    swap; · iexact H8
    ipureintro; exact View.read_writes_of_cover _ _ _ _ _ (cover_dk m c t)
  isplitl [H9]
  · unfold owns; iexists _; isplitr
    swap; · iexact H9
    ipureintro; exact View.read_writes_of_cover _ _ _ _ _ (cover_dv m c t)
  isplitl [H10]
  · unfold owns; iexists _; isplitr
    swap; · iexact H10
    ipureintro; exact View.read_writes_of_cover _ _ _ _ _ (cover_dqx m c t)
  unfold owns; iexists _; isplitr
  swap; · iexact H11
  ipureintro; exact View.read_writes_of_cover _ _ _ _ _ (cover_dkx m c t)

/-- The pipeline's call of the body at a point is the body. -/
theorem call (t : Fin cfg0.N) :
    defs₀ (F := F) .tc cfg0.body (cfg0.bodyArgs t (cfg0.slots t)) = bodyAt0 t := by
  unfold defs₀; rw [Defs.onTc_tc]

/-- The body at every point, as the library asks for it. -/
theorem bodies (c : Dev nD) : BodyObligation (dats (F := F) m 0 c) (defs₀ (F := F)) Variants.none () Set.univ := fun t => by
  rw [bigSep_W0, bigSep_W0, call]
  exact triple_restated (body m c t) rfl .rfl fun _ => .rfl

set_option backward.isDefEq.respectTransparency.types false in
set_option maxHeartbeats 800000 in
/-- The whole program ends, its arrays as the points left them and the lines after the launch made of them, and its
    semaphores at zero. -/
theorem run_zero : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (bodies m c).loose) (hq := fun _ _ _ => rfl)
    (howed := fun _ _ => rfl) (V₀ := V0 m) (opss := [hostOps1]) (hsub := sfx_sub) (hfresh := sfx_fresh) (hkeep := sfx_keeps)
    (hmain := hmain m Variants.none) (hA := arrays m) (hΦ := fun _ _ => rfl)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_zero m ρ)

/-- The program ends with its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays m) (run_main m ρ)) ((θ_run defs _ _).mono (fun _ h => h.2) (run_zero m ρ))

end Cert.Attn

end
-- ==== Proof.AttnHost.lean ====
module

public import proofs.«01_k».proof.Proof.Gen.Kernel7Ideal.Frame
public import Idealize.ShloMosaic.Lib.StableHlo.RunRead
public import Idealize.ShloMosaic.Lib.Pipeline.ValueKit

/-! The host arrays that the backward attention's launch is given, each at one index, in terms of the program's five arguments. -/

@[expose] public section

set_option maxRecDepth 16384

noncomputable section

open Idealize.ShloMosaic Idealize.ShloMosaic.TcCoe Idealize.SL.Sem

namespace Cert.Attn

open Cert.Kernel7Ideal Cert.Kernel7Ideal.Gen

/-- The natural logarithm of two, computed by the program. -/
def ln2 : EReal := Ideal.log (Ideal.ofBits .f32 1073741824#32)
/-- The scale of a score, one eighth. -/
def eighth : EReal := Ideal.ofBits .f32 1040187392#32
/-- One pattern of the dilated heads: keys no later than the query, at a multiple of the dilation and inside the window. -/
def within (dilation window gap : BitVec 32) : BitVec 1 :=
  IntOp.andi (IntOp.andi (IntOp.cmpi .sge gap 0#32) (IntOp.cmpi .eq (IntOp.remsi .host gap dilation) 0#32)) (IntOp.cmpi .sle gap window)
/-- How many of the three patterns hold a key. -/
def patterns (gap : BitVec 32) : BitVec 32 :=
  IntOp.addi (IntOp.addi (IntOp.addi 0#32 ((within 1#32 128#32 gap).setWidth 32)) ((within 4#32 512#32 gap).setWidth 32))
    ((within 16#32 2048#32 gap).setWidth 32)
/-- The first eight heads' bias: none up to the query, minus infinity after it. -/
def foxBias (gap : BitVec 32) : EReal := Scalar.select (IntOp.cmpi .sge gap 0#32) 0 (Ideal.ofBits .f32 4286578688#32)
/-- The other heads' bias: the base-two logarithm of the number of patterns. -/
def dilBias (gap : BitVec 32) : EReal :=
  Scalar.select (IntOp.cmpi .eq (patterns gap) 3#32) (Ideal.div (Ideal.log (Ideal.ofBits .f32 1077936128#32)) ln2)
    (Scalar.select (IntOp.cmpi .eq (patterns gap) 2#32) 1
      (Scalar.select (IntOp.cmpi .eq (patterns gap) 1#32) 0 (Ideal.ofBits .f32 4286578688#32)))
/-- A query's distance to a key. -/
def gap (i j : ℕ) : BitVec 32 := IntOp.subi (BitVec.ofNat 32 i) (BitVec.ofNat 32 j)

theorem toF_zero : FloatOps.sitofp (F := Ideal) .f32 (0#32 : BitVec 32) = 0 := by
  show ((((0#32 : BitVec 32).toInt : ℝ)) : EReal) = 0
  simp

variable (m : (ℓ : Loc nD τ sig) → Buf (Elt Ideal) ℓ) (c : Dev nD)

/-- The queries, keys, values, gate sums and cotangent the program is given. -/
abbrev argQ (b : Fin 4) (i : Fin 2048) (h : Fin 16) (k : Fin 64) : EReal := m (c, Proc.tc.devRef main_arg0) (ix4 b i h k)
abbrev argK (b : Fin 4) (i : Fin 2048) (h : Fin 16) (k : Fin 64) : EReal := m (c, Proc.tc.devRef main_arg1) (ix4 b i h k)
abbrev argV (b : Fin 4) (i : Fin 2048) (h : Fin 16) (k : Fin 64) : EReal := m (c, Proc.tc.devRef main_arg2) (ix4 b i h k)
abbrev argC (b : Fin 4) (i : Fin 2048) (h : Fin 8) : EReal := m (c, Proc.tc.devRef main_arg3) (ix3 b i h)
abbrev argD (b : Fin 4) (i : Fin 2048) (h : Fin 16) (k : Fin 64) : EReal := m (c, Proc.tc.devRef main_arg4) (ix4 b i h k)

/-- The gate sum of a head, zero for the heads that have none. -/
def gate (b : Fin 4) (h : Fin 16) (i : Fin 2048) : EReal := if hh : h.val < 8 then argC m c b i ⟨h.val, hh⟩ else 0
/-- The bias of a head. -/
def biasOf (h : ℕ) (gap : BitVec 32) : EReal := if h / 8 < 1 then foxBias gap else dilBias gap
/-- The score of a query and a key in base two. -/
def score (b : Fin 4) (h : Fin 16) (i j : Fin 2048) : EReal :=
  ∑ k, argQ m c b i h k * Ideal.div eighth ln2 * argK m c b j h k
    + (gate m c b h i * Ideal.div 1 ln2 - gate m c b h j * Ideal.div 1 ln2) + biasOf h.val (gap i.val j.val)
/-- A row's largest score. -/
def top (b : Fin 4) (h : Fin 16) (i : Fin 2048) : EReal := Finset.fold max (Ideal.ofBits .f32 4286578688#32) (score m c b h i) Finset.univ
/-- The power of two of a score below its row's largest. -/
def power (b : Fin 4) (h : Fin 16) (i j : Fin 2048) : EReal := Ideal.exp ((score m c b h i j - top m c b h i) * ln2)

set_option maxHeartbeats 2000000 in
theorem v54_at (h : Fin 16) (i j : Fin 2048) : V (F := Ideal) m c main_v54 (ix3 h i j) = biasOf h.val (gap i.val j.val) := by
  simp only [V, V0, List.flatten_cons, List.flatten_nil, List.append_nil, List.cons_append, List.nil_append]
  after_reads_simp
  try simp only [StableHlo.TRef.toBuf, StableHlo.TRef.ofBuf, cast_eq]
  pointwise []
  after_reads_simp
  simp only [StableHlo.TRef.toBuf, StableHlo.TRef.ofBuf, cast_eq, id]
  pointwise []
  rfl

set_option maxHeartbeats 2000000 in
theorem v56_at (b : Fin 4) (h : Fin 16) (i : Fin 2048) : V (F := Ideal) m c main_v56 (ix3 b h i) = gate m c b h i := by
  simp only [V, V0, List.flatten_cons, List.flatten_nil, List.append_nil, List.cons_append, List.nil_append]
  after_reads_simp
  simp only [StableHlo.TRef.toBuf, StableHlo.TRef.ofBuf, cast_eq]
  pointwise []
  simp only [toF_zero]
  rfl

set_option maxHeartbeats 2000000 in
theorem v74_of (b : Fin 4) (h : Fin 16) (i j : Fin 2048) (B0 : _) (hB0 : V (F := Ideal) m c main_v54 = B0) (B1 : _)
    (hB1 : V (F := Ideal) m c main_v56 = B1) :
    V (F := Ideal) m c main_v74 (ix4 b h i j) =
      (fun (B : S16x2048x2048.Idx → EReal) (G : S4x16x2048.Idx → EReal) => ∑ k, argQ m c b i h k * Ideal.div eighth ln2 * argK m c b j h k
        + (G (ix3 b h i) * Ideal.div 1 ln2 - G (ix3 b h j) * Ideal.div 1 ln2) + B (ix3 h i j)) B0 B1 := by
  revert hB0 hB1
  simp only [V, V0, List.flatten_cons, List.flatten_nil, List.append_nil, List.cons_append, List.nil_append]
  after_reads_simp
  try simp only [StableHlo.TRef.toBuf, StableHlo.TRef.ofBuf, cast_eq]
  intro hB0 hB1
  simp only [hB0, hB1]
  clear hB0 hB1
  pointwise []
  rfl

theorem v74_at (b : Fin 4) (h : Fin 16) (i j : Fin 2048) : V (F := Ideal) m c main_v74 (ix4 b h i j) = score m c b h i j := by
  refine (v74_of m c b h i j _ rfl _ rfl).trans ?_
  beta_reduce
  rw [v54_at, v56_at, v56_at]
  rfl

theorem v74_eq : V (F := Ideal) m c main_v74 = fun x : S4x16x2048x2048.Idx => score m c (x 0) (x 1) (x 2) (x 3) :=
  funext fun x => (congrArg _ (eq_ix4 x)).trans (v74_at m c (x 0) (x 1) (x 2) (x 3))

set_option maxHeartbeats 2000000 in
theorem v99_of (b : Fin 4) (i : Fin 2048) (h : Fin 16) (k : Fin 64) (B0 : _) (hB0 : V (F := Ideal) m c main_v74 = B0)
    (r : Fin 8192) (l : Fin 1024) (hr : r.val = 2048 * b.val + i.val) (hl : l.val = 64 * h.val + k.val) :
    V (F := Ideal) m c main_v99 (ix2 r l) =
      (fun B : S4x16x2048x2048.Idx → EReal =>
        Ideal.div (∑ j, argV m c b j h k * Ideal.exp ((B (ix4 b h i j) - Finset.fold max (Ideal.ofBits .f32 4286578688#32)
          (fun j => B (ix4 b h i j)) Finset.univ) * ln2))
          (∑ j, Ideal.exp ((B (ix4 b h i j) - Finset.fold max (Ideal.ofBits .f32 4286578688#32) (fun j => B (ix4 b h i j)) Finset.univ) * ln2))) B0 := by
  have e1 : (⟨r.val / 2048, by omega⟩ : Fin 4) = b := Fin.ext (by show r.val / 2048 = b.val; omega)
  have e2 : (⟨r.val % 2048, by omega⟩ : Fin 2048) = i := Fin.ext (by show r.val % 2048 = i.val; omega)
  have e3 : (⟨l.val / 64, by omega⟩ : Fin 16) = h := Fin.ext (by show l.val / 64 = h.val; omega)
  have e4 : (⟨l.val % 64, by omega⟩ : Fin 64) = k := Fin.ext (by show l.val % 64 = k.val; omega)
  revert hB0
  simp only [V, V0, List.flatten_cons, List.flatten_nil, List.append_nil, List.cons_append, List.nil_append]
  after_reads_simp
  try simp only [StableHlo.TRef.toBuf, StableHlo.TRef.ofBuf, cast_eq]
  intro hB0
  simp only [hB0]
  clear hB0
  pointwise []
  simp only [e1, e2, e3, e4]
  rfl

/-- The forward pass's output. -/
theorem v99_at (b : Fin 4) (i : Fin 2048) (h : Fin 16) (k : Fin 64) (r : Fin 8192) (l : Fin 1024) (hr : r.val = 2048 * b.val + i.val)
    (hl : l.val = 64 * h.val + k.val) :
    V (F := Ideal) m c main_v99 (ix2 r l) = Ideal.div (∑ j, argV m c b j h k * power m c b h i j) (∑ j, power m c b h i j) := by
  exact v99_of m c b i h k _ (v74_eq m c) r l hr hl

set_option maxHeartbeats 2000000 in
/-- The cotangent. -/
theorem v167_at (b : Fin 4) (i : Fin 2048) (h : Fin 16) (k : Fin 64) (r : Fin 8192) (l : Fin 1024) (hr : r.val = 2048 * b.val + i.val)
    (hl : l.val = 64 * h.val + k.val) : V (F := Ideal) m c main_v167 (ix2 r l) = argD m c b i h k := by
  have e1 : (⟨r.val / 2048, by omega⟩ : Fin 4) = b := Fin.ext (by show r.val / 2048 = b.val; omega)
  have e2 : (⟨r.val % 2048, by omega⟩ : Fin 2048) = i := Fin.ext (by show r.val % 2048 = i.val; omega)
  have e3 : (⟨l.val / 64, by omega⟩ : Fin 16) = h := Fin.ext (by show l.val / 64 = h.val; omega)
  have e4 : (⟨l.val % 64, by omega⟩ : Fin 64) = k := Fin.ext (by show l.val % 64 = k.val; omega)
  simp only [V, V0, List.flatten_cons, List.flatten_nil, List.append_nil, List.cons_append, List.nil_append]
  after_reads_simp
  pointwise []
  simp only [e1, e2, e3, e4]

set_option maxHeartbeats 2000000 in
/-- The values. -/
theorem v165_at (b : Fin 4) (i : Fin 2048) (h : Fin 16) (k : Fin 64) (r : Fin 8192) (l : Fin 3072) (hr : r.val = 2048 * b.val + i.val)
    (hl : l.val = 2048 + (64 * h.val + k.val)) : V (F := Ideal) m c main_v165 (ix2 r l) = argV m c b i h k := by
  have hge : ¬ l.val < 2048 := by omega
  have e1 : (⟨r.val / 2048, by omega⟩ : Fin 4) = b := Fin.ext (by show r.val / 2048 = b.val; omega)
  have e2 : (⟨r.val % 2048, by omega⟩ : Fin 2048) = i := Fin.ext (by show r.val % 2048 = i.val; omega)
  have e3 : (⟨(l.val - 2048) / 64, by omega⟩ : Fin 16) = h := Fin.ext (by show (l.val - 2048) / 64 = h.val; omega)
  have e4 : (⟨(l.val - 2048) % 64, by omega⟩ : Fin 64) = k := Fin.ext (by show (l.val - 2048) % 64 = k.val; omega)
  simp only [V, V0, List.flatten_cons, List.flatten_nil, List.append_nil, List.cons_append, List.nil_append]
  after_reads_simp
  pointwise []
  rw [dif_neg hge]
  simp only [e1, e2, e3, e4]

set_option maxHeartbeats 2000000 in
/-- The tables, transposed and cut by the distance of their blocks. -/
theorem v224_at (h : Fin 2) (n : Fin 4) (j i : Fin 512) : V (F := Ideal) m c main_v224 (ix4 h n j i) =
    if h.val < 1 then foxBias (IntOp.subi (IntOp.addi (IntOp.muli (BitVec.ofNat 32 n.val) 512#32) (BitVec.ofNat 32 i.val)) (BitVec.ofNat 32 j.val))
    else dilBias (IntOp.subi (IntOp.addi (IntOp.muli (BitVec.ofNat 32 n.val) 512#32) (BitVec.ofNat 32 i.val)) (BitVec.ofNat 32 j.val)) := by
  simp only [V, V0, List.flatten_cons, List.flatten_nil, List.append_nil, List.cons_append, List.nil_append]
  after_reads_simp
  try simp only [StableHlo.TRef.toBuf, StableHlo.TRef.ofBuf, cast_eq]
  pointwise []
  try after_reads_simp
  try simp only [StableHlo.TRef.toBuf, StableHlo.TRef.ofBuf, cast_eq, id]
  try pointwise []
  rfl

/-- A gate sum in base two, and what each further piece of it is over the reals. -/
def piece (g : EReal) (n : ℕ) : EReal :=
  if n < 1 then g * Ideal.div 1 ln2 else if n - 1 < 1 then g * Ideal.div 1 ln2 - g * Ideal.div 1 ln2
  else g * Ideal.div 1 ln2 - g * Ideal.div 1 ln2 - (g * Ideal.div 1 ln2 - g * Ideal.div 1 ln2)
/-- The lanes beside a head's own in the packed queries: ones, and the gate sum in three pieces. -/
def besideQ (b : Fin 4) (i : Fin 2048) (h : Fin 16) (k : Fin 64) : EReal :=
  if hh : h.val < 8 ∧ k.val < 6 then if k.val < 3 then 1 else piece (argC m c b i ⟨h.val, hh.1⟩) (k.val - 3) else 0
/-- The lanes beside a head's own in the packed keys: the negated gate sum in three pieces, and ones. -/
def besideK (b : Fin 4) (i : Fin 2048) (h : Fin 16) (k : Fin 64) : EReal :=
  if hh : h.val < 8 ∧ k.val < 6 then if k.val < 3 then - piece (argC m c b i ⟨h.val, hh.1⟩) k.val else 1 else 0

set_option maxHeartbeats 2000000 in
theorem v124_at (b : Fin 4) (i : Fin 2048) (h : Fin 16) (k : Fin 64) : V (F := Ideal) m c main_v124 (ix4 b i h k) = besideQ m c b i h k := by
  simp only [V, V0, List.flatten_cons, List.flatten_nil, List.append_nil, List.cons_append, List.nil_append]
  after_reads_simp
  try simp only [StableHlo.TRef.toBuf, StableHlo.TRef.ofBuf, cast_eq]
  pointwise []
  after_reads_simp
  pointwise []
  after_reads_simp
  pointwise []
  simp only [toF_zero]
  rfl

set_option maxHeartbeats 2000000 in
theorem v127_at (b : Fin 4) (i : Fin 2048) (h : Fin 16) (k : Fin 64) : V (F := Ideal) m c main_v127 (ix4 b i h k) = besideK m c b i h k := by
  simp only [V, V0, List.flatten_cons, List.flatten_nil, List.append_nil, List.cons_append, List.nil_append]
  after_reads_simp
  try simp only [StableHlo.TRef.toBuf, StableHlo.TRef.ofBuf, cast_eq]
  pointwise []
  after_reads_simp
  pointwise []
  after_reads_simp
  pointwise []
  simp only [toF_zero]
  rfl

set_option maxHeartbeats 2000000 in
/-- The packed queries: a pair's 256 columns are its first head's lanes, the lanes beside them, the lanes beside its second
    head's, and that head's own. -/
theorem query_at (b : Fin 4) (i : Fin 2048) (p : Fin 8) (s : Fin 4) (k : Fin 64) (r : Fin 8192) (l : Fin 4096) (hr : r.val = 2048 * b.val + i.val)
    (hl : l.val = 256 * p.val + (64 * s.val + k.val)) (h0 h1 : Fin 16) (e0 : h0.val = 2 * p.val) (e1 : h1.val = 2 * p.val + 1) :
    V (F := Ideal) m c main_v161 (ix2 r l) =
      if s.val = 0 then argQ m c b i h0 k * Ideal.div eighth ln2 else if s.val = 1 then besideQ m c b i h0 k
      else if s.val = 2 then besideQ m c b i h1 k else argQ m c b i h1 k * Ideal.div eighth ln2 := by
  have hlt : l.val < 2048 := by omega
  have g1 : (⟨r.val / 2048, by omega⟩ : Fin 4) = b := Fin.ext (by show r.val / 2048 = b.val; omega)
  have g2 : (⟨r.val % 2048, by omega⟩ : Fin 2048) = i := Fin.ext (by show r.val % 2048 = i.val; omega)
  have g3 : (⟨l.val / 256 * 2, by omega⟩ : Fin 16) = h0 := Fin.ext (by show l.val / 256 * 2 = h0.val; omega)
  have g4 : (⟨l.val / 256 * 2 + 1, by omega⟩ : Fin 16) = h1 := Fin.ext (by show l.val / 256 * 2 + 1 = h1.val; omega)
  have g5 : (⟨l.val % 64, by omega⟩ : Fin 64) = k := Fin.ext (by show l.val % 64 = k.val; omega)
  have g6 : l.val / 64 % 4 = s.val := by omega
  simp only [V, V0, List.flatten_cons, List.flatten_nil, List.append_nil, List.cons_append, List.nil_append]
  after_reads_simp
  pointwise []
  rw [dif_pos hlt]
  after_reads_simp
  pointwise []
  obtain hs | hs | hs | hs : s.val = 0 ∨ s.val = 1 ∨ s.val = 2 ∨ s.val = 3 := by omega
  · refine Eq.trans (dif_pos (show l.val / 64 % 4 < 1 by omega)) ?_
    refine Eq.trans ?_ (if_pos hs).symm
    after_reads_simp
    pointwise []
    simp only [g1, g2, g3, g5]
    try rfl
  · refine Eq.trans (dif_neg (show ¬ l.val / 64 % 4 < 1 by omega)) ?_
    refine Eq.trans (dif_pos (show l.val / 64 % 4 - 1 < 1 by omega)) ?_
    refine Eq.trans ?_ (if_neg (show ¬ s.val = 0 by omega)).symm
    refine Eq.trans ?_ (if_pos hs).symm
    rw [← v124_at]
    simp only [V, V0, List.flatten_cons, List.flatten_nil, List.append_nil, List.cons_append, List.nil_append]
    after_reads_simp
    pointwise []
    simp only [g1, g2, g3, g5]
  · refine Eq.trans (dif_neg (show ¬ l.val / 64 % 4 < 1 by omega)) ?_
    refine Eq.trans (dif_neg (show ¬ l.val / 64 % 4 - 1 < 1 by omega)) ?_
    refine Eq.trans (dif_pos (show l.val / 64 % 4 - 1 - 1 < 1 by omega)) ?_
    refine Eq.trans ?_ (if_neg (show ¬ s.val = 0 by omega)).symm
    refine Eq.trans ?_ (if_neg (show ¬ s.val = 1 by omega)).symm
    refine Eq.trans ?_ (if_pos hs).symm
    rw [← v124_at]
    simp only [V, V0, List.flatten_cons, List.flatten_nil, List.append_nil, List.cons_append, List.nil_append]
    after_reads_simp
    pointwise []
    simp only [g1, g2, g4, g5]
  · refine Eq.trans (dif_neg (show ¬ l.val / 64 % 4 < 1 by omega)) ?_
    refine Eq.trans (dif_neg (show ¬ l.val / 64 % 4 - 1 < 1 by omega)) ?_
    refine Eq.trans (dif_neg (show ¬ l.val / 64 % 4 - 1 - 1 < 1 by omega)) ?_
    refine Eq.trans ?_ (if_neg (show ¬ s.val = 0 by omega)).symm
    refine Eq.trans ?_ (if_neg (show ¬ s.val = 1 by omega)).symm
    refine Eq.trans ?_ (if_neg (show ¬ s.val = 2 by omega)).symm
    after_reads_simp
    pointwise []
    simp only [g1, g2, g4, g5]
    try rfl

set_option maxHeartbeats 2000000 in
/-- The packed keys, laid out the same way. -/
theorem key_at (b : Fin 4) (i : Fin 2048) (p : Fin 8) (s : Fin 4) (k : Fin 64) (r : Fin 8192) (l : Fin 4096) (hr : r.val = 2048 * b.val + i.val)
    (hl : l.val = 2048 + (256 * p.val + (64 * s.val + k.val))) (h0 h1 : Fin 16) (e0 : h0.val = 2 * p.val) (e1 : h1.val = 2 * p.val + 1) :
    V (F := Ideal) m c main_v161 (ix2 r l) =
      if s.val = 0 then argK m c b i h0 k else if s.val = 1 then besideK m c b i h0 k
      else if s.val = 2 then besideK m c b i h1 k else argK m c b i h1 k := by
  have hlt : ¬ l.val < 2048 := by omega
  have g1 : (⟨r.val / 2048, by omega⟩ : Fin 4) = b := Fin.ext (by show r.val / 2048 = b.val; omega)
  have g2 : (⟨r.val % 2048, by omega⟩ : Fin 2048) = i := Fin.ext (by show r.val % 2048 = i.val; omega)
  have g3 : (⟨(l.val - 2048) / 256 * 2, by omega⟩ : Fin 16) = h0 := Fin.ext (by show (l.val - 2048) / 256 * 2 = h0.val; omega)
  have g4 : (⟨(l.val - 2048) / 256 * 2 + 1, by omega⟩ : Fin 16) = h1 := Fin.ext (by show (l.val - 2048) / 256 * 2 + 1 = h1.val; omega)
  have g5 : (⟨(l.val - 2048) % 64, by omega⟩ : Fin 64) = k := Fin.ext (by show (l.val - 2048) % 64 = k.val; omega)
  have g6 : (l.val - 2048) / 64 % 4 = s.val := by omega
  simp only [V, V0, List.flatten_cons, List.flatten_nil, List.append_nil, List.cons_append, List.nil_append]
  after_reads_simp
  pointwise []
  rw [dif_neg hlt]
  after_reads_simp
  pointwise []
  obtain hs | hs | hs | hs : s.val = 0 ∨ s.val = 1 ∨ s.val = 2 ∨ s.val = 3 := by omega
  · refine Eq.trans (dif_pos (show (l.val - 2048) / 64 % 4 < 1 by omega)) ?_
    refine Eq.trans ?_ (if_pos hs).symm
    after_reads_simp
    pointwise []
    simp only [g1, g2, g3, g5]
    try rfl
  · refine Eq.trans (dif_neg (show ¬ (l.val - 2048) / 64 % 4 < 1 by omega)) ?_
    refine Eq.trans (dif_pos (show (l.val - 2048) / 64 % 4 - 1 < 1 by omega)) ?_
    refine Eq.trans ?_ (if_neg (show ¬ s.val = 0 by omega)).symm
    refine Eq.trans ?_ (if_pos hs).symm
    rw [← v127_at]
    simp only [V, V0, List.flatten_cons, List.flatten_nil, List.append_nil, List.cons_append, List.nil_append]
    after_reads_simp
    pointwise []
    simp only [g1, g2, g3, g5]
  · refine Eq.trans (dif_neg (show ¬ (l.val - 2048) / 64 % 4 < 1 by omega)) ?_
    refine Eq.trans (dif_neg (show ¬ (l.val - 2048) / 64 % 4 - 1 < 1 by omega)) ?_
    refine Eq.trans (dif_pos (show (l.val - 2048) / 64 % 4 - 1 - 1 < 1 by omega)) ?_
    refine Eq.trans ?_ (if_neg (show ¬ s.val = 0 by omega)).symm
    refine Eq.trans ?_ (if_neg (show ¬ s.val = 1 by omega)).symm
    refine Eq.trans ?_ (if_pos hs).symm
    rw [← v127_at]
    simp only [V, V0, List.flatten_cons, List.flatten_nil, List.append_nil, List.cons_append, List.nil_append]
    after_reads_simp
    pointwise []
    simp only [g1, g2, g4, g5]
  · refine Eq.trans (dif_neg (show ¬ (l.val - 2048) / 64 % 4 < 1 by omega)) ?_
    refine Eq.trans (dif_neg (show ¬ (l.val - 2048) / 64 % 4 - 1 < 1 by omega)) ?_
    refine Eq.trans (dif_neg (show ¬ (l.val - 2048) / 64 % 4 - 1 - 1 < 1 by omega)) ?_
    refine Eq.trans ?_ (if_neg (show ¬ s.val = 0 by omega)).symm
    refine Eq.trans ?_ (if_neg (show ¬ s.val = 1 by omega)).symm
    refine Eq.trans ?_ (if_neg (show ¬ s.val = 2 by omega)).symm
    after_reads_simp
    pointwise []
    simp only [g1, g2, g4, g5]
    try rfl

end Cert.Attn

end
-- ==== Proof.AttnReads.lean ====
module

public import proofs.«01_k».proof.Proof.AttnFrame
public import proofs.«01_k».proof.Proof.AttnHost
public import Idealize.ShloMosaic.Lib.Pipeline.ValueKit

/-! Where a point's blocks lie in the arrays. -/

@[expose] public section

set_option maxRecDepth 16384

noncomputable section

open Idealize.ShloMosaic Idealize.ShloMosaic.TcCoe Idealize.SL.Sem
open Idealize.ShloMosaic.Pipeline (Dat)

namespace Cert.Attn

open Cert.Kernel7Ideal Cert.Kernel7Ideal.Gen

/-- The block each window is at, at a point. -/
theorem idx : ∀ t : Fin cfg0.N, win0_0.index t = ![t.val / 8, t.val % 8] ∧ win0_1.index t = ![t.val / 8, 8 + t.val % 8] ∧ win0_2.index t = ![t.val / 8, 16 + t.val % 8]
    ∧ win0_3.index t = ![t.val % 8 / 4, 0, 0, 0] ∧ win0_4.index t = ![t.val / 8, t.val % 8] ∧ win0_5.index t = ![t.val / 8, t.val % 8] ∧ win0_6.index t = ![t.val / 8, t.val % 8]
    ∧ win0_7.index t = ![t.val / 8, t.val % 8] ∧ win0_8.index t = ![t.val / 8, t.val % 8] ∧ win0_9.index t = ![t.val / 8, t.val % 8] ∧ win0_10.index t = ![t.val / 8, t.val % 8]
    ∧ win0_11.index t = ![t.val / 8, t.val % 8] := by decide +kernel

variable (m : (ℓ : Loc nD τ sig) → Buf (Elt Ideal) ℓ) (c : Dev nD) (f : (b : Ref sig .tc) → Buf (Elt Ideal) ((c : Thread nD τ).loc b)) (t : Fin cfg0.N)

theorem emb0 (i : Fin 2048) (l : Fin 256) (r : Fin 8192) (s : Fin 4096) (hr : r.val = 2048 * (t.val / 8) + i.val) (hs : s.val = 256 * (t.val % 8) + l.val) :
    (win0_0.blk t).view.emb (ix2 i l) = ix2 r s := by blk_ext [idx t]
theorem read0 (i : Fin 2048) (l : Fin 256) (r : Fin 8192) (s : Fin 4096) (hr : r.val = 2048 * (t.val / 8) + i.val) (hs : s.val = 256 * (t.val % 8) + l.val) :
    ((cfg0.win 0).blk t).view.read (Elt Ideal) (f (Pipeline.arrRef spec0 0)) (ix2 i l) = f main_v161 (ix2 r s) :=
  congrArg (f main_v161) (emb0 t i l r s hr hs)
theorem blk0 (i : Fin 2048) (l : Fin 256) (r : Fin 8192) (s : Fin 4096) (hr : r.val = 2048 * (t.val / 8) + i.val) (hs : s.val = 256 * (t.val % 8) + l.val) :
    iblk m c 0 t (ix2 i l) = V (F := Ideal) m c main_v161 (ix2 r s) :=
  read0 c (V (F := Ideal) m c) t i l r s hr hs
theorem emb1 (i : Fin 2048) (l : Fin 256) (r : Fin 8192) (s : Fin 4096) (hr : r.val = 2048 * (t.val / 8) + i.val) (hs : s.val = 2048 + (256 * (t.val % 8) + l.val)) :
    (win0_1.blk t).view.emb (ix2 i l) = ix2 r s := by blk_ext [idx t]
theorem read1 (i : Fin 2048) (l : Fin 256) (r : Fin 8192) (s : Fin 4096) (hr : r.val = 2048 * (t.val / 8) + i.val) (hs : s.val = 2048 + (256 * (t.val % 8) + l.val)) :
    ((cfg0.win 1).blk t).view.read (Elt Ideal) (f (Pipeline.arrRef spec0 1)) (ix2 i l) = f main_v161 (ix2 r s) :=
  congrArg (f main_v161) (emb1 t i l r s hr hs)
theorem blk1 (i : Fin 2048) (l : Fin 256) (r : Fin 8192) (s : Fin 4096) (hr : r.val = 2048 * (t.val / 8) + i.val) (hs : s.val = 2048 + (256 * (t.val % 8) + l.val)) :
    iblk m c 1 t (ix2 i l) = V (F := Ideal) m c main_v161 (ix2 r s) :=
  read1 c (V (F := Ideal) m c) t i l r s hr hs
theorem emb2 (i : Fin 2048) (l : Fin 128) (r : Fin 8192) (s : Fin 3072) (hr : r.val = 2048 * (t.val / 8) + i.val) (hs : s.val = 2048 + (128 * (t.val % 8) + l.val)) :
    (win0_2.blk t).view.emb (ix2 i l) = ix2 r s := by blk_ext [idx t]
theorem read2 (i : Fin 2048) (l : Fin 128) (r : Fin 8192) (s : Fin 3072) (hr : r.val = 2048 * (t.val / 8) + i.val) (hs : s.val = 2048 + (128 * (t.val % 8) + l.val)) :
    ((cfg0.win 2).blk t).view.read (Elt Ideal) (f (Pipeline.arrRef spec0 2)) (ix2 i l) = f main_v165 (ix2 r s) :=
  congrArg (f main_v165) (emb2 t i l r s hr hs)
theorem blk2 (i : Fin 2048) (l : Fin 128) (r : Fin 8192) (s : Fin 3072) (hr : r.val = 2048 * (t.val / 8) + i.val) (hs : s.val = 2048 + (128 * (t.val % 8) + l.val)) :
    iblk m c 2 t (ix2 i l) = V (F := Ideal) m c main_v165 (ix2 r s) :=
  read2 c (V (F := Ideal) m c) t i l r s hr hs
theorem emb4 (i : Fin 2048) (l : Fin 128) (r : Fin 8192) (s : Fin 1024) (hr : r.val = 2048 * (t.val / 8) + i.val) (hs : s.val = 128 * (t.val % 8) + l.val) :
    (win0_4.blk t).view.emb (ix2 i l) = ix2 r s := by blk_ext [idx t]
theorem read4 (i : Fin 2048) (l : Fin 128) (r : Fin 8192) (s : Fin 1024) (hr : r.val = 2048 * (t.val / 8) + i.val) (hs : s.val = 128 * (t.val % 8) + l.val) :
    ((cfg0.win 4).blk t).view.read (Elt Ideal) (f (Pipeline.arrRef spec0 4)) (ix2 i l) = f main_v99 (ix2 r s) :=
  congrArg (f main_v99) (emb4 t i l r s hr hs)
theorem blk4 (i : Fin 2048) (l : Fin 128) (r : Fin 8192) (s : Fin 1024) (hr : r.val = 2048 * (t.val / 8) + i.val) (hs : s.val = 128 * (t.val % 8) + l.val) :
    iblk m c 4 t (ix2 i l) = V (F := Ideal) m c main_v99 (ix2 r s) :=
  read4 c (V (F := Ideal) m c) t i l r s hr hs
theorem emb5 (i : Fin 2048) (l : Fin 128) (r : Fin 8192) (s : Fin 1024) (hr : r.val = 2048 * (t.val / 8) + i.val) (hs : s.val = 128 * (t.val % 8) + l.val) :
    (win0_5.blk t).view.emb (ix2 i l) = ix2 r s := by blk_ext [idx t]
theorem read5 (i : Fin 2048) (l : Fin 128) (r : Fin 8192) (s : Fin 1024) (hr : r.val = 2048 * (t.val / 8) + i.val) (hs : s.val = 128 * (t.val % 8) + l.val) :
    ((cfg0.win 5).blk t).view.read (Elt Ideal) (f (Pipeline.arrRef spec0 5)) (ix2 i l) = f main_v100 (ix2 r s) :=
  congrArg (f main_v100) (emb5 t i l r s hr hs)
theorem blk5 (i : Fin 2048) (l : Fin 128) (r : Fin 8192) (s : Fin 1024) (hr : r.val = 2048 * (t.val / 8) + i.val) (hs : s.val = 128 * (t.val % 8) + l.val) :
    iblk m c 5 t (ix2 i l) = V (F := Ideal) m c main_v100 (ix2 r s) :=
  read5 c (V (F := Ideal) m c) t i l r s hr hs
theorem emb6 (i : Fin 2048) (l : Fin 128) (r : Fin 8192) (s : Fin 1024) (hr : r.val = 2048 * (t.val / 8) + i.val) (hs : s.val = 128 * (t.val % 8) + l.val) :
    (win0_6.blk t).view.emb (ix2 i l) = ix2 r s := by blk_ext [idx t]
theorem read6 (i : Fin 2048) (l : Fin 128) (r : Fin 8192) (s : Fin 1024) (hr : r.val = 2048 * (t.val / 8) + i.val) (hs : s.val = 128 * (t.val % 8) + l.val) :
    ((cfg0.win 6).blk t).view.read (Elt Ideal) (f (Pipeline.arrRef spec0 6)) (ix2 i l) = f main_v167 (ix2 r s) :=
  congrArg (f main_v167) (emb6 t i l r s hr hs)
theorem blk6 (i : Fin 2048) (l : Fin 128) (r : Fin 8192) (s : Fin 1024) (hr : r.val = 2048 * (t.val / 8) + i.val) (hs : s.val = 128 * (t.val % 8) + l.val) :
    iblk m c 6 t (ix2 i l) = V (F := Ideal) m c main_v167 (ix2 r s) :=
  read6 c (V (F := Ideal) m c) t i l r s hr hs
theorem emb3 (n : Fin 4) (j i : Fin 512) (s : Fin 2) (hs : s.val = t.val % 8 / 4) :
    (win0_3.blk t).view.emb (ix4 0 n j i) = ix4 s n j i := by blk_ext [idx t]
theorem read3 (n : Fin 4) (j i : Fin 512) (s : Fin 2) (hs : s.val = t.val % 8 / 4) :
    ((cfg0.win 3).blk t).view.read (Elt Ideal) (f (Pipeline.arrRef spec0 3)) (ix4 0 n j i) = f main_v224 (ix4 s n j i) :=
  congrArg (f main_v224) (emb3 t n j i s hs)
theorem blk3 (n : Fin 4) (j i : Fin 512) (s : Fin 2) (hs : s.val = t.val % 8 / 4) :
    iblk m c 3 t (ix4 0 n j i) = V (F := Ideal) m c main_v224 (ix4 s n j i) := by
  unfold iblk
  exact read3 c (V (F := Ideal) m c) t n j i s hs

end Cert.Attn

end
-- ==== Proof.AttnReal.lean ====
module

public import proofs.«01_k».proof.Proof.AttnHost
public import proofs.«01_k».proof.Proof.Finite

/-! The attention's gradients over the reals, and the softmax of a row of scores that are real or minus infinity. -/

@[expose] public section

set_option maxRecDepth 16384

noncomputable section

open Idealize.ShloMosaic

namespace Cert.Attn

/-- The logarithm of two. -/
abbrev L2 : ℝ := Real.log 2
theorem L2_pos : 0 < L2 := Real.log_pos (by norm_num)
theorem two_eq : Ideal.ofBits .f32 1073741824#32 = ((2 : ℝ) : EReal) := by simp [Ideal.ofBits, Ideal.ieee]; norm_cast; norm_num
theorem three_eq : Ideal.ofBits .f32 1077936128#32 = ((3 : ℝ) : EReal) := by simp [Ideal.ofBits, Ideal.ieee]; norm_cast; norm_num
theorem eighth_eq : eighth = ((1 / 8 : ℝ) : EReal) := by unfold eighth; simp [Ideal.ofBits, Ideal.ieee]; norm_cast; norm_num
theorem bot_eq : Ideal.ofBits .f32 4286578688#32 = (⊥ : EReal) := by simp [Ideal.ofBits, Ideal.ieee]
theorem log_coe {r : ℝ} (h : 0 < r) : Ideal.log (r : EReal) = (Real.log r : EReal) := by
  show (if r ≤ 0 then (⊥ : EReal) else (Real.log r : EReal)) = _
  rw [if_neg (not_le.mpr h)]
theorem exp_coe (r : ℝ) : Ideal.exp (r : EReal) = (Real.exp r : EReal) := rfl
theorem ln2_eq : ln2 = (L2 : EReal) := by unfold ln2; rw [two_eq, log_coe (by norm_num)]
theorem div_real (x y : ℝ) (h : y ≠ 0) : Ideal.div (x : EReal) (y : EReal) = ((x / y : ℝ) : EReal) := by
  rw [Ideal.div_coe h, ← EReal.coe_mul, mul_one_div]
theorem perLn2_eq : Ideal.div 1 ln2 = ((1 / L2 : ℝ) : EReal) := by
  rw [ln2_eq, show (1 : EReal) = ((1 : ℝ) : EReal) from rfl, div_real _ _ L2_pos.ne']
theorem eighthLn2_eq : Ideal.div eighth ln2 = ((1 / 8 / L2 : ℝ) : EReal) := by
  rw [ln2_eq, eighth_eq, div_real _ _ L2_pos.ne']

/-- A sum of reals. -/
theorem sum_real {ι : Type} (s : Finset ι) (f : ι → EReal) (g : ι → ℝ) (h : ∀ i, f i = (g i : EReal)) : ∑ i ∈ s, f i = ((∑ i ∈ s, g i : ℝ) : EReal) := by
  rw [Finset.sum_congr rfl fun i _ => h i]
  exact (map_sum (⟨⟨Real.toEReal, EReal.coe_zero⟩, EReal.coe_add⟩ : ℝ →+ EReal) g s).symm

/-- A row of scores: minus infinity where the weight is zero, else the scaled logarithm of the weight. -/
def IsScore (L : ℝ) (s : EReal) (e : ℝ) : Prop := (s = ⊥ ∧ e = 0) ∨ ∃ r : ℝ, s = (r : EReal) ∧ e = Real.exp (r * L)

theorem fold_max {ι : Type} [DecidableEq ι] (s : Finset ι) (f : ι → EReal) : s.fold max ⊥ f = ⊥ ∨ ∃ x ∈ s, s.fold max ⊥ f = f x := by
  induction s using Finset.induction_on with
  | empty => exact Or.inl Finset.fold_empty
  | insert a s ha ih =>
    rw [Finset.fold_insert ha]
    rcases max_choice (f a) (s.fold max ⊥ f) with h | h
    · exact Or.inr ⟨a, Finset.mem_insert_self a s, h⟩
    · rw [h]
      rcases ih with h' | ⟨x, hx, h'⟩
      · exact Or.inl h'
      · exact Or.inr ⟨x, Finset.mem_insert_of_mem hx, h'⟩

/-- The largest of a row of scores is real when one of them is. -/
theorem max_real {ι : Type} [Fintype ι] [DecidableEq ι] (s : ι → EReal) (h : ∀ j, s j = ⊥ ∨ ∃ r : ℝ, s j = r) (i : ι) (hi : s i ≠ ⊥) :
    ∃ M : ℝ, Finset.univ.fold max ⊥ s = (M : EReal) := by
  have hle : s i ≤ Finset.univ.fold max ⊥ s := (Finset.le_fold_max (b := ⊥) (f := s) (s := Finset.univ) (s i)).mpr (Or.inr ⟨i, Finset.mem_univ i, le_rfl⟩)
  rcases fold_max Finset.univ s with h0 | ⟨x, _, hx⟩
  · rw [h0, le_bot_iff] at hle
    exact absurd hle hi
  · rcases h x with h1 | ⟨r, h1⟩
    · rw [hx, h1, le_bot_iff] at hle
      exact absurd hle hi
    · exact ⟨r, hx.trans h1⟩

/-- A score below a real bound, exponentiated. -/
theorem exp_score {L : ℝ} (hL : 0 < L) {s : EReal} {e : ℝ} (h : IsScore L s e) (M : ℝ) :
    Ideal.exp ((s - (M : EReal)) * (L : EReal)) = ((e * Real.exp (-(M * L)) : ℝ) : EReal) := by
  rcases h with ⟨rfl, rfl⟩ | ⟨r, rfl, rfl⟩
  · rw [EReal.bot_sub, EReal.bot_mul_coe_of_pos hL, zero_mul]
    rfl
  · rw [← EReal.coe_sub, ← EReal.coe_mul, exp_coe, ← Real.exp_add]
    congr 2
    ring

theorem exp_score' {s : EReal} {e : ℝ} (h : IsScore 1 s e) (M : ℝ) : Ideal.exp (s - (M : EReal)) = ((e * Real.exp (-M) : ℝ) : EReal) := by
  have := exp_score one_pos h M
  rwa [show ((1 : ℝ) : EReal) = 1 from rfl, mul_one, mul_one] at this

/-- The same in base two. -/
theorem exp2_score {s : EReal} {e : ℝ} (h : IsScore L2 s e) (M : ℝ) : Ideal.exp2 (s - (M : EReal)) = ((e * Real.exp (-(M * L2)) : ℝ) : EReal) := by
  rcases h with ⟨rfl, rfl⟩ | ⟨r, rfl, rfl⟩
  · rw [EReal.bot_sub, zero_mul]
    rfl
  · rw [← EReal.coe_sub, Ideal.exp2_coe]
    congr 1
    show (2 : ℝ) ^ (r - M) = _
    rw [Real.rpow_def_of_pos (by norm_num), ← Real.exp_add]
    congr 1
    show L2 * (r - M) = _
    ring

/-- A score below its row's largest, when that is known. -/
theorem max_shift {ι : Type} [Fintype ι] (s : ι → EReal) (M : ℝ) (hM : Finset.univ.fold max ⊥ s = (M : EReal)) (x : EReal) :
    Ideal.exp (x - max ⊥ (Finset.univ.fold max ⊥ s)) = Ideal.exp (x - (M : EReal)) := by rw [hM, max_eq_right bot_le]

theorem IsScore.real {L : ℝ} {s : EReal} {e : ℝ} (h : IsScore L s e) : s = ⊥ ∨ ∃ r : ℝ, s = r :=
  h.elim (fun h => Or.inl h.1) fun ⟨r, h, _⟩ => Or.inr ⟨r, h⟩
theorem IsScore.ne_bot {L : ℝ} {s : EReal} {e : ℝ} (h : IsScore L s e) (he : 0 < e) : s ≠ ⊥ := by
  rcases h with ⟨_, rfl⟩ | ⟨r, rfl, _⟩
  · exact absurd he (lt_irrefl 0)
  · exact EReal.coe_ne_bot r
theorem IsScore.nonneg {L : ℝ} {s : EReal} {e : ℝ} (h : IsScore L s e) : 0 ≤ e := by
  rcases h with ⟨_, rfl⟩ | ⟨r, _, rfl⟩
  · exact le_rfl
  · exact (Real.exp_pos _).le

section Grad

variable (E : Fin 2048 → Fin 2048 → ℝ) (v g : Fin 2048 → Fin 64 → ℝ)

/-- A row's weights summed, a weight of the softmax, its cotangent, the row's sum of both, and a score's cotangent. -/
def rowSum (i : Fin 2048) : ℝ := ∑ j, E i j
def soft (i j : Fin 2048) : ℝ := E i j / rowSum E i
def softGrad (i j : Fin 2048) : ℝ := ∑ l, v j l * g i l
def rowGrad (i : Fin 2048) : ℝ := ∑ j, soft E i j * softGrad v g i j
def scoreGrad (i j : Fin 2048) : ℝ := soft E i j * (softGrad v g i j - rowGrad E v g i)

end Grad

section Weights

variable (q k : Fin 4 → Fin 2048 → Fin 16 → Fin 64 → ℝ) (cc : Fin 4 → Fin 2048 → Fin 8 → ℝ)

/-- The gate sum of a head, zero for the heads that have none. -/
def realGate (b : Fin 4) (h : Fin 16) (i : Fin 2048) : ℝ := if hh : h.val < 8 then cc b i ⟨h.val, hh⟩ else 0
/-- Whether one pattern holds a key, as a number. -/
def holds (bit : BitVec 1) : ℝ := if bit = 1#1 then 1 else 0
/-- How often a head counts a key at a distance. -/
def times (h : Fin 16) (x : BitVec 32) : ℝ :=
  if h.val < 8 then holds (IntOp.cmpi .sge x 0#32) else holds (within 1#32 128#32 x) + holds (within 4#32 512#32 x) + holds (within 16#32 2048#32 x)
/-- A score without its mask. -/
def plain (b : Fin 4) (h : Fin 16) (i j : Fin 2048) : ℝ := (∑ e, q b i h e * k b j h e) * (1 / 8) + (realGate cc b h i - realGate cc b h j)
/-- A key's weight before the row is divided by its sum. -/
def wt (b : Fin 4) (h : Fin 16) (i j : Fin 2048) : ℝ := times h (gap i.val j.val) * Real.exp (plain q k cc b h i j)

theorem holds_nonneg (x : BitVec 1) : 0 ≤ holds x := by unfold holds; split_ifs <;> norm_num
theorem times_nonneg (h : Fin 16) (x : BitVec 32) : 0 ≤ times h x := by
  unfold times
  split_ifs
  · exact holds_nonneg _
  · exact add_nonneg (add_nonneg (holds_nonneg _) (holds_nonneg _)) (holds_nonneg _)
theorem gap_self (i : ℕ) : gap i i = 0#32 := BitVec.sub_self _
theorem times_self (h : Fin 16) : 0 < times h 0#32 := by
  have a : holds (IntOp.cmpi .sge (0#32 : BitVec 32) 0#32) = 1 := if_pos (by decide)
  have b : holds (within 1#32 128#32 0#32) = 1 := if_pos (by decide)
  have c : holds (within 4#32 512#32 0#32) = 1 := if_pos (by decide)
  have d : holds (within 16#32 2048#32 0#32) = 1 := if_pos (by decide)
  unfold times
  split_ifs
  · rw [a]; norm_num
  · rw [b, c, d]; norm_num
theorem wt_nonneg (b : Fin 4) (h : Fin 16) (i j : Fin 2048) : 0 ≤ wt q k cc b h i j := mul_nonneg (times_nonneg _ _) (Real.exp_pos _).le
theorem wt_self (b : Fin 4) (h : Fin 16) (i : Fin 2048) : 0 < wt q k cc b h i i := by
  unfold wt
  rw [gap_self]
  exact mul_pos (times_self h) (Real.exp_pos _)
theorem rowSum_pos (b : Fin 4) (h : Fin 16) (i : Fin 2048) : 0 < rowSum (wt q k cc b h) i :=
  Finset.sum_pos' (fun j _ => wt_nonneg q k cc b h i j) ⟨i, Finset.mem_univ i, wt_self q k cc b h i⟩

end Weights

end Cert.Attn

end
-- ==== Proof.AttnLog.lean ====
module

public import proofs.«01_k».proof.Proof.AttnHost

/-! The forward pass's row logarithms, as the launch is given them. -/

@[expose] public section

set_option maxRecDepth 16384

noncomputable section

open Idealize.ShloMosaic Idealize.ShloMosaic.TcCoe Idealize.SL.Sem

namespace Cert.Attn

open Cert.Kernel7Ideal Cert.Kernel7Ideal.Gen

variable (m : (ℓ : Loc nD τ sig) → Buf (Elt Ideal) ℓ) (c : Dev nD)

set_option maxHeartbeats 2000000 in
theorem v76_of (b : Fin 4) (h : Fin 16) (i : Fin 2048) (z : Fin 1) (B0 : _) (hB0 : V (F := Ideal) m c main_v74 = B0) :
    V (F := Ideal) m c main_v76 (ix4 b h i z) =
      (fun B : S4x16x2048x2048.Idx → EReal => Finset.fold max (Ideal.ofBits .f32 4286578688#32) (fun j => B (ix4 b h i j)) Finset.univ) B0 := by
  revert hB0
  simp only [V, V0, List.flatten_cons, List.flatten_nil, List.append_nil, List.cons_append, List.nil_append]
  after_reads_simp
  try simp only [StableHlo.TRef.toBuf, StableHlo.TRef.ofBuf, cast_eq]
  intro hB0
  simp only [hB0]
  clear hB0
  pointwise []
  try rfl

set_option maxHeartbeats 2000000 in
theorem v84_of (b : Fin 4) (h : Fin 16) (i : Fin 2048) (z : Fin 1) (B0 : _) (hB0 : V (F := Ideal) m c main_v74 = B0) :
    V (F := Ideal) m c main_v84 (ix4 b h i z) =
      (fun B : S4x16x2048x2048.Idx → EReal =>
        ∑ j, Ideal.exp ((B (ix4 b h i j) - Finset.fold max (Ideal.ofBits .f32 4286578688#32) (fun j => B (ix4 b h i j)) Finset.univ) * ln2)) B0 := by
  revert hB0
  simp only [V, V0, List.flatten_cons, List.flatten_nil, List.append_nil, List.cons_append, List.nil_append]
  after_reads_simp
  try simp only [StableHlo.TRef.toBuf, StableHlo.TRef.ofBuf, cast_eq]
  intro hB0
  simp only [hB0]
  clear hB0
  pointwise []
  rfl

set_option maxHeartbeats 2000000 in
theorem v100_of (b : Fin 4) (i : Fin 2048) (h : Fin 16) (k : Fin 64) (B0 : _) (hB0 : V (F := Ideal) m c main_v76 = B0)
    (B1 : _) (hB1 : V (F := Ideal) m c main_v84 = B1)
    (r : Fin 8192) (l : Fin 1024) (hr : r.val = 2048 * b.val + i.val) (hl : l.val = 64 * h.val + k.val) :
    V (F := Ideal) m c main_v100 (ix2 r l) =
      (fun M S : S4x16x2048x1.Idx → EReal => M (ix4 b h i 0) + Ideal.log (S (ix4 b h i 0)) * Ideal.div 1 ln2) B0 B1 := by
  have e1 : (⟨r.val / 2048, by omega⟩ : Fin 4) = b := Fin.ext (by show r.val / 2048 = b.val; omega)
  have e2 : (⟨r.val % 2048, by omega⟩ : Fin 2048) = i := Fin.ext (by show r.val % 2048 = i.val; omega)
  have e3 : (⟨l.val / 64, by omega⟩ : Fin 16) = h := Fin.ext (by show l.val / 64 = h.val; omega)
  revert hB0 hB1
  simp only [V, V0, List.flatten_cons, List.flatten_nil, List.append_nil, List.cons_append, List.nil_append]
  after_reads_simp
  try simp only [StableHlo.TRef.toBuf, StableHlo.TRef.ofBuf, cast_eq]
  intro hB0 hB1
  simp only [hB1]
  simp only [hB0]
  clear hB0 hB1
  pointwise []
  simp only [e1, e2, e3]
  rfl

/-- The forward pass's row logarithms in base two, repeated over a head's lanes. -/
theorem v100_at (b : Fin 4) (i : Fin 2048) (h : Fin 16) (k : Fin 64) (r : Fin 8192) (l : Fin 1024) (hr : r.val = 2048 * b.val + i.val)
    (hl : l.val = 64 * h.val + k.val) :
    V (F := Ideal) m c main_v100 (ix2 r l) = top m c b h i + Ideal.log (∑ j, power m c b h i j) * Ideal.div 1 ln2 := by
  refine (v100_of m c b i h k _ rfl _ rfl r l hr hl).trans ?_
  beta_reduce
  rw [v76_of m c b h i 0 _ (v74_eq m c), v84_of m c b h i 0 _ (v74_eq m c)]
  rfl

end Cert.Attn

end
-- ==== Proof.AttnScore.lean ====
module

public import proofs.«01_k».proof.Proof.AttnReal
public import proofs.«01_k».proof.Proof.AttnLog

/-! The kernel's saved values and packed lanes, when the arguments are real. -/

@[expose] public section

set_option maxRecDepth 16384

noncomputable section

open Idealize.ShloMosaic Idealize.ShloMosaic.TcCoe Idealize.SL.Sem

namespace Cert.Attn

open Cert.Kernel7Ideal Cert.Kernel7Ideal.Gen

theorem IsScore.add {L : ℝ} {s : EReal} {e : ℝ} (h : IsScore L s e) (r : ℝ) : IsScore L ((r : EReal) + s) (e * Real.exp (r * L)) := by
  rcases h with ⟨rfl, rfl⟩ | ⟨t, rfl, rfl⟩
  · exact Or.inl ⟨EReal.add_bot _, zero_mul _⟩
  · exact Or.inr ⟨r + t, (EReal.coe_add _ _).symm, by rw [← Real.exp_add]; congr 1; ring⟩

theorem bit_cases (a : BitVec 1) : a = 0#1 ∨ a = 1#1 := by
  have := a.isLt
  rcases (show a.toNat = 0 ∨ a.toNat = 1 by omega) with h | h
  · exact Or.inl (BitVec.eq_of_toNat_eq h)
  · exact Or.inr (BitVec.eq_of_toNat_eq h)

/-- The base-two logarithm of a count of patterns. -/
def logOf (n : BitVec 32) : EReal :=
  Scalar.select (IntOp.cmpi .eq n 3#32) (Ideal.div (Ideal.log (Ideal.ofBits .f32 1077936128#32)) ln2)
    (Scalar.select (IntOp.cmpi .eq n 2#32) 1 (Scalar.select (IntOp.cmpi .eq n 1#32) 0 (Ideal.ofBits .f32 4286578688#32)))

theorem logOf_zero : IsScore L2 (logOf 0#32) 0 := Or.inl ⟨(show logOf 0#32 = Ideal.ofBits .f32 4286578688#32 from rfl).trans bot_eq, rfl⟩
theorem logOf_one : IsScore L2 (logOf 1#32) 1 := Or.inr ⟨0, rfl, by rw [zero_mul, Real.exp_zero]⟩
theorem logOf_two : IsScore L2 (logOf 2#32) 2 := Or.inr ⟨1, rfl, by rw [one_mul, Real.exp_log (by norm_num)]⟩
theorem logOf_three : IsScore L2 (logOf 3#32) 3 := by
  refine Or.inr ⟨Real.log 3 / L2, ?_, by rw [div_mul_cancel₀ _ L2_pos.ne', Real.exp_log (by norm_num)]⟩
  refine (show logOf 3#32 = Ideal.div (Ideal.log (Ideal.ofBits .f32 1077936128#32)) ln2 from rfl).trans ?_
  rw [three_eq, ln2_eq, log_coe (by norm_num), div_real _ _ L2_pos.ne']

theorem holds_zero : holds 0#1 = 0 := if_neg (by decide)
theorem holds_one : holds 1#1 = 1 := if_pos rfl

/-- A head's bias is the base-two logarithm of how often it counts the key. -/
theorem biasOf_score (h : Fin 16) (x : BitVec 32) : IsScore L2 (biasOf h.val x) (times h x) := by
  unfold biasOf times
  by_cases hh : h.val < 8
  · rw [if_pos hh, if_pos (by omega)]
    unfold foxBias
    rcases bit_cases (IntOp.cmpi .sge x 0#32) with e | e <;> rw [e]
    · exact Or.inl ⟨(show _ = Ideal.ofBits .f32 4286578688#32 from rfl).trans bot_eq, holds_zero⟩
    · exact Or.inr ⟨0, rfl, by rw [zero_mul, Real.exp_zero, holds_one]⟩
  · rw [if_neg hh, if_neg (by omega)]
    show IsScore L2 (logOf (patterns x)) _
    unfold patterns
    rcases bit_cases (within 1#32 128#32 x) with a | a <;> rcases bit_cases (within 4#32 512#32 x) with b | b <;>
      rcases bit_cases (within 16#32 2048#32 x) with d | d <;> rw [a, b, d] <;> simp only [holds_zero, holds_one]
    · rw [show (0 + 0 + 0 : ℝ) = 0 by norm_num]; exact logOf_zero
    · rw [show (0 + 0 + 1 : ℝ) = 1 by norm_num]; exact logOf_one
    · rw [show (0 + 1 + 0 : ℝ) = 1 by norm_num]; exact logOf_one
    · rw [show (0 + 1 + 1 : ℝ) = 2 by norm_num]; exact logOf_two
    · rw [show (1 + 0 + 0 : ℝ) = 1 by norm_num]; exact logOf_one
    · rw [show (1 + 0 + 1 : ℝ) = 2 by norm_num]; exact logOf_two
    · rw [show (1 + 1 + 0 : ℝ) = 2 by norm_num]; exact logOf_two
    · rw [show (1 + 1 + 1 : ℝ) = 3 by norm_num]; exact logOf_three

/-- The packed lanes beside a head's own, over the reals. -/
def realQ (cc : Fin 4 → Fin 2048 → Fin 8 → ℝ) (b : Fin 4) (i : Fin 2048) (h : Fin 16) (k : Fin 64) : ℝ :=
  if hh : h.val < 8 then if k.val < 3 then 1 else if k.val = 3 then cc b i ⟨h.val, hh⟩ * (1 / L2) else 0 else 0
def realK (cc : Fin 4 → Fin 2048 → Fin 8 → ℝ) (b : Fin 4) (i : Fin 2048) (h : Fin 16) (k : Fin 64) : ℝ :=
  if hh : h.val < 8 then if k.val = 0 then -(cc b i ⟨h.val, hh⟩ * (1 / L2)) else if 3 ≤ k.val ∧ k.val < 6 then 1 else 0 else 0

theorem beside_sum (cc : Fin 4 → Fin 2048 → Fin 8 → ℝ) (b : Fin 4) (h : Fin 16) (i j : Fin 2048) :
    ∑ k, realK cc b j h k * realQ cc b i h k = (realGate cc b h i - realGate cc b h j) / L2 := by
  unfold realK realQ realGate
  by_cases hh : h.val < 8
  · simp only [dif_pos hh]
    have : ∀ k : Fin 64, (if k.val = 0 then -(cc b j ⟨h.val, hh⟩ * (1 / L2)) else if 3 ≤ k.val ∧ k.val < 6 then 1 else 0)
        * (if k.val < 3 then 1 else if k.val = 3 then cc b i ⟨h.val, hh⟩ * (1 / L2) else 0)
        = (if k = 0 then -(cc b j ⟨h.val, hh⟩ * (1 / L2)) else 0) + (if k = 3 then cc b i ⟨h.val, hh⟩ * (1 / L2) else 0) := fun k => by
      have e0 : k = 0 ↔ k.val = 0 := ⟨fun h => by rw [h]; rfl, fun h => Fin.ext h⟩
      have e3 : k = 3 ↔ k.val = 3 := ⟨fun h => by rw [h]; rfl, fun h => Fin.ext h⟩
      simp only [e0, e3]
      split_ifs <;> first | omega | ring
    rw [Finset.sum_congr rfl fun k _ => this k, Finset.sum_add_distrib, Finset.sum_ite_eq', Finset.sum_ite_eq', if_pos (Finset.mem_univ _), if_pos (Finset.mem_univ _)]
    ring
  · simp [dif_neg hh]

variable {m : (ℓ : Loc nD τ sig) → Buf (Elt Ideal) ℓ} {c : Dev nD}
variable {q k v g : Fin 4 → Fin 2048 → Fin 16 → Fin 64 → ℝ} {cc : Fin 4 → Fin 2048 → Fin 8 → ℝ}

theorem piece_zero (x : ℝ) (n : ℕ) (hn : n = 0) : piece (x : EReal) n = ((x * (1 / L2) : ℝ) : EReal) := by
  unfold piece
  rw [if_pos (by omega), perLn2_eq, ← EReal.coe_mul]
theorem piece_rest (x : ℝ) (n : ℕ) (hn : n ≠ 0) : piece (x : EReal) n = ((0 : ℝ) : EReal) := by
  unfold piece
  rw [if_neg (by omega), perLn2_eq, ← EReal.coe_mul, ← EReal.coe_sub, sub_self, ← EReal.coe_sub, sub_self, ite_self]

section Real

variable (h0 : ∀ b i h e, argQ m c b i h e = (q b i h e : EReal)) (h1 : ∀ b i h e, argK m c b i h e = (k b i h e : EReal))
  (h2 : ∀ b i h e, argV m c b i h e = (v b i h e : EReal)) (h3 : ∀ b i h, argC m c b i h = (cc b i h : EReal))

include h3 in
theorem gate_real (b : Fin 4) (h : Fin 16) (i : Fin 2048) : gate m c b h i = (realGate cc b h i : EReal) := by
  unfold gate realGate
  by_cases hh : h.val < 8
  · rw [dif_pos hh, dif_pos hh, h3]
  · rw [dif_neg hh, dif_neg hh, EReal.coe_zero]

include h3 in
theorem besideQ_real (b : Fin 4) (i : Fin 2048) (h : Fin 16) (e : Fin 64) : besideQ m c b i h e = (realQ cc b i h e : EReal) := by
  unfold besideQ realQ
  by_cases hh : h.val < 8
  · rw [dif_pos hh]
    by_cases he : e.val < 6
    · rw [dif_pos ⟨hh, he⟩]
      by_cases h3' : e.val < 3
      · rw [if_pos h3', if_pos h3', EReal.coe_one]
      · rw [if_neg h3', if_neg h3', h3]
        by_cases h4 : e.val = 3
        · rw [if_pos h4, piece_zero _ _ (by omega)]
        · rw [if_neg h4, piece_rest _ _ (by omega)]
    · rw [dif_neg (fun x => he x.2), if_neg (by omega), if_neg (by omega), EReal.coe_zero]
  · rw [dif_neg hh, dif_neg (fun x => hh x.1), EReal.coe_zero]

include h3 in
theorem besideK_real (b : Fin 4) (i : Fin 2048) (h : Fin 16) (e : Fin 64) : besideK m c b i h e = (realK cc b i h e : EReal) := by
  unfold besideK realK
  by_cases hh : h.val < 8
  · rw [dif_pos hh]
    by_cases he : e.val < 6
    · rw [dif_pos ⟨hh, he⟩]
      by_cases h3' : e.val < 3
      · rw [if_pos h3', h3]
        by_cases h4 : e.val = 0
        · rw [if_pos h4, piece_zero _ _ h4, ← EReal.coe_neg]
        · rw [if_neg h4, piece_rest _ _ h4, if_neg (by omega), ← EReal.coe_neg, neg_zero]
      · rw [if_neg h3', if_neg (by omega), if_pos (by omega), EReal.coe_one]
    · rw [dif_neg (fun x => he x.2), if_neg (by omega), if_neg (by omega), EReal.coe_zero]
  · rw [dif_neg hh, dif_neg (fun x => hh x.1), EReal.coe_zero]

include h0 h1 h3 in
/-- A score is the base-two logarithm of its weight. -/
theorem score_real (b : Fin 4) (h : Fin 16) (i j : Fin 2048) : IsScore L2 (score m c b h i j) (wt q k cc b h i j) := by
  have e : ∑ e, argQ m c b i h e * Ideal.div eighth ln2 * argK m c b j h e + (gate m c b h i * Ideal.div 1 ln2 - gate m c b h j * Ideal.div 1 ln2)
      = ((plain q k cc b h i j / L2 : ℝ) : EReal) := by
    rw [eighthLn2_eq, perLn2_eq, gate_real h3, gate_real h3, sum_real _ _ (fun e => q b i h e * (1 / 8 / L2) * k b j h e) fun e => by
      rw [h0, h1, ← EReal.coe_mul, ← EReal.coe_mul], ← EReal.coe_mul, ← EReal.coe_mul, ← EReal.coe_sub, ← EReal.coe_add]
    congr 1
    unfold plain
    rw [Finset.sum_mul, add_div, Finset.sum_div]
    refine congrArg₂ (· + ·) (Finset.sum_congr rfl fun e _ => by ring) (by ring)
  unfold score
  rw [e]
  have := (biasOf_score h (gap i.val j.val)).add (plain q k cc b h i j / L2)
  rwa [div_mul_cancel₀ _ L2_pos.ne'] at this

include h0 h1 h3 in
/-- A row's powers are its weights times one positive number, and its log-sum is that of its weights. -/
theorem row_real (b : Fin 4) (h : Fin 16) (i : Fin 2048) : ∃ Z : ℝ, 0 < Z ∧ (∀ j, power m c b h i j = ((wt q k cc b h i j * Z : ℝ) : EReal))
    ∧ top m c b h i + Ideal.log (∑ j, power m c b h i j) * Ideal.div 1 ln2 = ((Real.log (rowSum (wt q k cc b h) i) / L2 : ℝ) : EReal) := by
  obtain ⟨M, hM⟩ := max_real (fun j => score m c b h i j) (fun j => (score_real h0 h1 h3 b h i j).real) i
    ((score_real h0 h1 h3 b h i i).ne_bot (wt_self q k cc b h i))
  have hA := rowSum_pos q k cc b h i
  have ht : top m c b h i = (M : EReal) := by
    unfold top
    rw [bot_eq]
    exact hM
  have hE : ∀ j, power m c b h i j = ((wt q k cc b h i j * Real.exp (-(M * L2)) : ℝ) : EReal) := fun j => by
    unfold power
    rw [ht, ln2_eq]
    exact exp_score L2_pos (score_real h0 h1 h3 b h i j) M
  refine ⟨_, Real.exp_pos _, hE, ?_⟩
  rw [ht, sum_real _ _ _ hE, ← Finset.sum_mul, show (∑ j, wt q k cc b h i j) = rowSum (wt q k cc b h) i from rfl, log_coe (mul_pos hA (Real.exp_pos _)), perLn2_eq, ← EReal.coe_mul, ← EReal.coe_add,
    Real.log_mul hA.ne' (Real.exp_pos _).ne', Real.log_exp]
  congr 1
  have := L2_pos.ne'
  field_simp
  ring

include h0 h1 h2 h3 in
/-- The saved output. -/
theorem out_real (b : Fin 4) (h : Fin 16) (i : Fin 2048) (l : Fin 64) :
    Ideal.div (∑ j, argV m c b j h l * power m c b h i j) (∑ j, power m c b h i j) = ((∑ j, v b j h l * soft (wt q k cc b h) i j : ℝ) : EReal) := by
  obtain ⟨Z, hZ, hE, _⟩ := row_real h0 h1 h3 b h i
  have hA := rowSum_pos q k cc b h i
  rw [sum_real _ _ _ hE, sum_real _ _ _ fun j => by rw [h2, hE, ← EReal.coe_mul], ← Finset.sum_mul, show (∑ j, wt q k cc b h i j) = rowSum (wt q k cc b h) i from rfl, div_real _ _ (mul_pos hA hZ).ne', Finset.sum_div]
  congr 1
  refine Finset.sum_congr rfl fun j _ => ?_
  unfold soft
  field_simp

end Real

end Cert.Attn

end
-- ==== Proof.AttnBias.lean ====
/-
  A head's bias as a function of the distance between a query and a key.
-/
module

public import proofs.«01_k».proof.Proof.AttnScore

@[expose] public section

set_option maxRecDepth 16384

noncomputable section

open Idealize.ShloMosaic Idealize.ShloMosaic.TcCoe Idealize.SL.Sem

namespace Cert.Attn

open Cert.Kernel7Ideal Cert.Kernel7Ideal.Gen Cert.Fv

/-- A head's bias at a distance: minus infinity for a key after the query. -/
def bias (h : ℕ) (d : ℤ) : EReal := if d < 0 then ⊥ else biasOf h (BitVec.ofInt 32 d)

theorem bias_neg (h : ℕ) (d : ℤ) (hd : d < 0) : bias h d = ⊥ := if_pos hd

theorem sge_neg (x : BitVec 32) (hx : x.toInt < 0) : IntOp.cmpi .sge x 0#32 = 0#1 := by
  have : (0#32 : BitVec 32).sle x = false := by
    simp only [BitVec.sle, BitVec.toInt_zero, decide_eq_false_iff_not, not_le]
    exact hx
  show BitVec.ofBool ((0#32 : BitVec 32).sle x) = 0#1
  rw [this]
  rfl

theorem within_neg (a b x : BitVec 32) (hx : x.toInt < 0) : within a b x = 0#1 := by
  unfold within
  rw [sge_neg x hx]
  show (0#1 &&& _) &&& _ = 0#1
  rw [BitVec.zero_and, BitVec.zero_and]

theorem biasOf_neg (h : ℕ) (x : BitVec 32) (hx : x.toInt < 0) : biasOf h x = ⊥ := by
  unfold biasOf
  split_ifs
  · unfold foxBias
    rw [sge_neg x hx]
    exact (show _ = Ideal.ofBits .f32 4286578688#32 from rfl).trans bot_eq
  · have hp : patterns x = 0#32 := by
      unfold patterns
      rw [within_neg _ _ _ hx, within_neg _ _ _ hx, within_neg _ _ _ hx]
      rfl
    refine (show dilBias x = logOf (patterns x) from rfl).trans ?_
    rw [hp]
    exact (show logOf 0#32 = Ideal.ofBits .f32 4286578688#32 from rfl).trans bot_eq

/-- The bias at a distance is the host's at the distance's word. -/
theorem bias_word (h : ℕ) (x : BitVec 32) (d : ℤ) (hx : x = BitVec.ofInt 32 d) (h1 : -4096 ≤ d) (h2 : d ≤ 4096) : biasOf h x = bias h d := by
  unfold bias
  split_ifs with hd
  · refine biasOf_neg h x ?_
    rw [hx, BitVec.toInt_ofInt, Int.bmod_eq_of_le (by omega) (by omega)]
    exact hd
  · rw [hx]

theorem gap_word (i j : ℕ) : gap i j = BitVec.ofInt 32 ((i : ℤ) - j) := by
  apply BitVec.eq_of_toInt_eq
  show (BitVec.ofNat 32 i - BitVec.ofNat 32 j).toInt = _
  rw [← BitVec.ofInt_natCast, ← BitVec.ofInt_natCast, BitVec.toInt_sub, BitVec.toInt_ofInt, BitVec.toInt_ofInt, BitVec.toInt_ofInt]
  simp

theorem table_word (n i j : ℕ) :
    IntOp.subi (IntOp.addi (IntOp.muli (BitVec.ofNat 32 n) 512#32) (BitVec.ofNat 32 i)) (BitVec.ofNat 32 j) = BitVec.ofInt 32 (512 * (n : ℤ) + i - j) := by
  refine (show _ = BitVec.ofNat 32 n * 512#32 + BitVec.ofNat 32 i - BitVec.ofNat 32 j from rfl).trans ?_
  have e : BitVec.ofNat 32 n * 512#32 + BitVec.ofNat 32 i = BitVec.ofNat 32 (n * 512 + i) := by
    rw [BitVec.ofNat_add, BitVec.ofNat_mul]
  rw [e]
  refine (gap_word _ _).trans (congrArg _ ?_)
  push_cast
  ring

theorem bias_gap (h : Fin 16) (i j : Fin 2048) : bias h.val ((i.val : ℤ) - j.val) = biasOf h.val (gap i.val j.val) :=
  (bias_word _ _ _ (gap_word _ _) (by omega) (by omega)).symm

end Cert.Attn

end
-- ==== Proof.AttnTile.lean ====
/-
  The attention gradient's kernel as functions of the blocks it loads: the probabilities and score gradients of one tile
  of keys and queries, the tile's three products, and their sums over the tiles a block of queries or of keys meets.
-/
module

public import proofs.«01_k».proof.Proof.AttnFrame
public import Idealize.ShloMosaic.Lib.Pipeline.ReadBack

@[expose] public section

set_option maxRecDepth 16384

noncomputable section

open Idealize.ShloMosaic Idealize.ShloMosaic.TcCoe Idealize.ShloMosaic.Tactic
open Idealize.SL.Sem

namespace Cert.Attn

open Cert.Kernel7Ideal Cert.Kernel7Ideal.Gen

variable {F : FTy → Type} [FloatOps F]

/-- A loaded block of rows. -/
def block (x : Vec F S512x128 .bf16) : FVec F S512x128 .bf16 := shapeCast S512x128 x shapeCasts_S512x128_S512x128

/-- The upper and the lower half of a block of rows. -/
def low (x : FVec F S512x128 .bf16) : FVec F S256x128 .bf16 := extractStridedSlice S256x128 ![0, 0] x slices_S512x128_o0_0_S256x128
def high (x : FVec F S512x128 .bf16) : FVec F S256x128 .bf16 := extractStridedSlice S256x128 ![256, 0] x slices_S512x128_o256_0_S256x128
def lowF (x : FVec F S512x128 .f32) : FVec F S256x128 .f32 := extractStridedSlice S256x128 ![0, 0] x slices_S512x128_o0_0_S256x128
def highF (x : FVec F S512x128 .f32) : FVec F S256x128 .f32 := extractStridedSlice S256x128 ![256, 0] x slices_S512x128_o256_0_S256x128

/-- The lanes of one head of the pair. -/
def lanes : Fin 2 → IVec S512x128 1
  | 0 => k0_pay134
  | 1 => k0_pay135

/-- A block on the lanes of one head. -/
def ofHead (e : Fin 2) (x : Vec F S512x128 .bf16) : FVec F S512x128 .bf16 :=
  select (lanes e) (block x) (broadcast S512x128 (Scalar.ofBits .bf16 0x0000#16 : F .bf16))

/-- The sums of a block's rows over each head's lanes, the block in three terms. -/
def headSums (x : FVec F S512x128 .f32) : FVec F S8x512 .f32 :=
  let t1 : FVec F S512x128 .bf16 := truncf .bf16 x bitsLt_bf16_f32
  let r1 : FVec F S512x128 .f32 := subf x (extf .f32 t1 bitsLt_bf16_f32)
  let t2 : FVec F S512x128 .bf16 := truncf .bf16 r1 bitsLt_bf16_f32
  let r2 : FVec F S512x128 .f32 := subf r1 (extf .f32 t2 bitsLt_bf16_f32)
  let t3 : FVec F S512x128 .bf16 := truncf .bf16 r2 bitsLt_bf16_f32
  let dot := fun y : FVec F S512x128 .bf16 => matmul dot_S8x128_S512x128_S8x512_1_1_0_0_n_n none k0_pay137 y (constant S8x512 .f32 0x00000000#32)
  addf (addf (dot t1) (dot t2)) (dot t3)

/-- One head's row of the sums. -/
def headRow : Fin 2 → FVec F S8x512 .f32 → FVec F S1x512 .f32
  | 0, y => extractStridedSlice S1x512 ![0, 0] y slices_S8x512_o0_0_S1x512
  | 1, y => extractStridedSlice S1x512 ![1, 0] y slices_S8x512_o1_0_S1x512

/-- A block's products of output and cotangent, summed over a head's lanes, -/
def dots (e : Fin 2) (g o : Vec F S512x128 .bf16) : FVec F S1x512 .f32 :=
  headRow e (headSums (mulf (extf .f32 (block g) bitsLt_bf16_f32) (extf .f32 (block o) bitsLt_bf16_f32)))

/-- and its log-sums, averaged over them. -/
def logs (e : Fin 2) (l : Vec F S512x128 .f32) : FVec F S1x512 .f32 :=
  headRow e (mulf (headSums (shapeCast S512x128 l shapeCasts_S512x128_S512x128)) (broadcast S8x512 (Scalar.ofBits .f32 0x3C800000#32 : F .f32)))

section Tiles

variable (k q v g : FVec F S512x128 .bf16) (d l : FVec F S1x512 .f32)

/-- The probabilities of a whole tile, keys first, and their gradients. -/
def probs (t : Vec F S1x1x512x512 .f32) : FVec F S512x512 .f32 :=
  exp2 (subf (addf (matmul dot_S512x128_S512x128_S512x512_1_1_0_0_n_n none k q (constant S512x512 .f32 0x00000000#32))
    (shapeCast S512x512 t shapeCasts_S1x1x512x512_S512x512)) (broadcastTo S512x512 l broadcasts_S1x512_S512x512))
def grads (p : FVec F S512x512 .f32) : FVec F S512x512 .bf16 :=
  truncf .bf16 (mulf p (subf (matmul dot_S512x128_S512x128_S512x512_1_1_0_0_n_n none v g (constant S512x512 .f32 0x00000000#32))
    (broadcastTo S512x512 d broadcasts_S1x512_S512x512))) bitsLt_bf16_f32

/-- Those of a diagonal tile's first half of keys, against all its queries, -/
def probs1 (t : Vec F S1x1x256x512 .f32) : FVec F S256x512 .f32 :=
  exp2 (subf (addf (matmul dot_S256x128_S512x128_S256x512_1_1_0_0_n_n none (low k) q (constant S256x512 .f32 0x00000000#32))
    (shapeCast S256x512 t shapeCasts_S1x1x256x512_S256x512)) (broadcastTo S256x512 l broadcasts_S1x512_S256x512))
def grads1 (p : FVec F S256x512 .f32) : FVec F S256x512 .bf16 :=
  truncf .bf16 (mulf p (subf (matmul dot_S256x128_S512x128_S256x512_1_1_0_0_n_n none (low v) g (constant S256x512 .f32 0x00000000#32))
    (broadcastTo S256x512 d broadcasts_S1x512_S256x512))) bitsLt_bf16_f32

/-- and those of its second half of keys, against the second half of its queries. -/
def probs2 (t : Vec F S1x1x256x256 .f32) : FVec F S256x256 .f32 :=
  exp2 (subf (addf (matmul dot_S256x128_S256x128_S256x256_1_1_0_0_n_n none (high k) (high q) (constant S256x256 .f32 0x00000000#32))
    (shapeCast S256x256 t shapeCasts_S1x1x256x256_S256x256))
    (broadcastTo S256x256 (extractStridedSlice S1x256 ![0, 256] l slices_S1x512_o0_256_S1x256) broadcasts_S1x256_S256x256))
def grads2 (p : FVec F S256x256 .f32) : FVec F S256x256 .bf16 :=
  truncf .bf16 (mulf p (subf (matmul dot_S256x128_S256x128_S256x256_1_1_0_0_n_n none (high v) (high g) (constant S256x256 .f32 0x00000000#32))
    (broadcastTo S256x256 (extractStridedSlice S1x256 ![0, 256] d slices_S1x512_o0_256_S1x256) broadcasts_S1x256_S256x256))) bitsLt_bf16_f32

/-- A whole tile's product over its queries (keys' gradient, values' gradient) and over its keys (queries' gradient). -/
def overQueries (p : FVec F S512x512 .bf16) : FVec F S512x128 .f32 :=
  matmul dot_S512x512_S512x128_S512x128_1_0_0_1_n_n none p q (constant S512x128 .f32 0x00000000#32)
def overKeys (p : FVec F S512x512 .bf16) : FVec F S128x512 .f32 :=
  matmul dot_S512x128_S512x512_S128x512_0_0_1_1_n_n none k p (constant S128x512 .f32 0x00000000#32)

/-- The same of a diagonal tile. -/
def overQueries1 (p : FVec F S256x512 .bf16) : FVec F S256x128 .f32 :=
  matmul dot_S256x512_S512x128_S256x128_1_0_0_1_n_n none p q (constant S256x128 .f32 0x00000000#32)
def overQueries2 (p : FVec F S256x256 .bf16) : FVec F S256x128 .f32 :=
  matmul dot_S256x256_S256x128_S256x128_1_0_0_1_n_n none p (high q) (constant S256x128 .f32 0x00000000#32)
def overKeys12 (p1 : FVec F S256x512 .bf16) (p2 : FVec F S256x256 .bf16) : FVec F S128x512 .f32 :=
  let a : FVec F S128x512 .f32 := matmul dot_S256x128_S256x512_S128x512_0_0_1_1_n_n none (low k) p1 (constant S128x512 .f32 0x00000000#32)
  let b : FVec F S128x256 .f32 := matmul dot_S256x128_S256x256_S128x256_0_0_1_1_n_n none (high k) p2 (constant S128x256 .f32 0x00000000#32)
  concatenate S128x512 1 [⟨S128x256, extractStridedSlice S128x256 ![0, 0] a slices_S128x512_o0_0_S128x256⟩,
    ⟨S128x256, addf (extractStridedSlice S128x256 ![0, 256] a slices_S128x512_o0_256_S128x256) b⟩] concatenates_S128x256_S128x256_S128x512_d1

end Tiles

section Rows

variable (q k g : Fin 4 → Fin 2 → FVec F S512x128 .bf16) (v : Fin 4 → FVec F S512x128 .bf16)
  (d l : Fin 4 → Fin 2 → FVec F S1x512 .f32)
  (t1 : Vec F S1x1x256x512 .f32) (t2 : Vec F S1x1x256x256 .f32) (t : Fin 4 → Vec F S1x1x512x512 .f32)

/-- The probabilities of a head's tile of key block `a` and query block `b`, the table by their distance, -/
def P (e : Fin 2) (a b : Fin 4) : FVec F S512x512 .f32 := probs (k a e) (q b e) (l b e) (t (b - a))
def P1 (e : Fin 2) (a : Fin 4) : FVec F S256x512 .f32 := probs1 (k a e) (q a e) (l a e) t1
def P2 (e : Fin 2) (a : Fin 4) : FVec F S256x256 .f32 := probs2 (k a e) (q a e) (l a e) t2
/-- and the gradients of its scores. -/
def D (e : Fin 2) (a b : Fin 4) : FVec F S512x512 .bf16 := grads (v a) (g b e) (d b e) (P q k l t e a b)
def D1 (e : Fin 2) (a : Fin 4) : FVec F S256x512 .bf16 := grads1 (v a) (g a e) (d a e) (P1 q k l t1 e a)
def D2 (e : Fin 2) (a : Fin 4) : FVec F S256x256 .bf16 := grads2 (v a) (g a e) (d a e) (P2 q k l t2 e a)

/-- A tile's part of the queries' gradient (transposed), -/
def dq (e : Fin 2) (a b : Fin 4) : FVec F S128x512 .f32 := overKeys (k a e) (D q k g v d l t e a b)
def dqD (e : Fin 2) (a : Fin 4) : FVec F S128x512 .f32 := overKeys12 (k a e) (D1 q k g v d l t1 e a) (D2 q k g v d l t2 e a)
/-- of the keys', -/
def dk (e : Fin 2) (a b : Fin 4) : FVec F S512x128 .f32 := overQueries (q b e) (D q k g v d l t e a b)
def dk1 (e : Fin 2) (a : Fin 4) : FVec F S256x128 .f32 := overQueries1 (q a e) (D1 q k g v d l t1 e a)
def dk2 (e : Fin 2) (a : Fin 4) : FVec F S256x128 .f32 := overQueries2 (q a e) (D2 q k g v d l t2 e a)
/-- and of the values'. -/
def dv (e : Fin 2) (a b : Fin 4) : FVec F S512x128 .f32 := overQueries (g b e) (truncf .bf16 (P q k l t e a b) bitsLt_bf16_f32)
def dv1 (e : Fin 2) (a : Fin 4) : FVec F S256x128 .f32 := overQueries1 (g a e) (truncf .bf16 (P1 q k l t1 e a) bitsLt_bf16_f32)
def dv2 (e : Fin 2) (a : Fin 4) : FVec F S256x128 .f32 := overQueries2 (g a e) (truncf .bf16 (P2 q k l t2 e a) bitsLt_bf16_f32)

/-- The sum of a block of queries over the tiles of key blocks up to its own: whole tiles `f`, then the diagonal `h`. -/
def upTo (f : Fin 4 → FVec F S128x512 .f32) (h : FVec F S128x512 .f32) : Fin 4 → FVec F S128x512 .f32
  | 0 => addf k0_pay192 h
  | 1 => addf (addf k0_pay192 (f 0)) h
  | 2 => addf (addf (addf k0_pay192 (f 0)) (f 1)) h
  | 3 => addf (addf (addf (addf k0_pay192 (f 0)) (f 1)) (f 2)) h

/-- The sum of half a block of keys over the tiles of query blocks from its own on: the diagonal `h`, then whole ones. -/
def fromOn (f : Fin 4 → FVec F S256x128 .f32) (h : FVec F S256x128 .f32) : Fin 4 → FVec F S256x128 .f32
  | 3 => h
  | 2 => addf h (f 3)
  | 1 => addf (addf h (f 2)) (f 3)
  | 0 => addf (addf (addf h (f 1)) (f 2)) (f 3)

/-- The same going on from a sum: the second head's part of the values' gradient adds each of its parts in turn. -/
def goOn (f : Fin 4 → FVec F S256x128 .f32) (s h : FVec F S256x128 .f32) (a : Fin 4) : FVec F S256x128 .f32 :=
  fromOn f (addf s h) a

/-- A block of queries' gradient, transposed, of one head; -/
def dqT (e : Fin 2) (b : Fin 4) : FVec F S128x512 .f32 :=
  upTo (fun a => dq q k g v d l t e a b) (dqD q k g v d l t1 t2 e b) b

/-- a block of keys' of one head, -/
def dkPart (e : Fin 2) (a : Fin 4) : FVec F S512x128 .f32 :=
  concatenate S512x128 0 [⟨S256x128, fromOn (fun b => lowF (dk q k g v d l t e a b)) (dk1 q k g v d l t1 e a) a⟩,
    ⟨S256x128, fromOn (fun b => highF (dk q k g v d l t e a b)) (dk2 q k g v d l t2 e a) a⟩] concatenates_S256x128_S256x128_S512x128_d0

/-- a block of values', both heads in turn. -/
def dvPart (a : Fin 4) : FVec F S512x128 .f32 :=
  concatenate S512x128 0 [⟨S256x128, goOn (fun b => lowF (dv q k g l t 1 a b)) (fromOn (fun b => lowF (dv q k g l t 0 a b)) (dv1 q k g l t1 0 a) a) (dv1 q k g l t1 1 a) a⟩,
    ⟨S256x128, goOn (fun b => highF (dv q k g l t 1 a b)) (fromOn (fun b => highF (dv q k g l t 0 a b)) (dv2 q k g l t2 0 a) a) (dv2 q k g l t2 1 a) a⟩]
    concatenates_S256x128_S256x128_S512x128_d0

/-- Of a pair of transposed blocks the lanes of the first head from `x`, those of the second from `y`. -/
def across (x y : FVec F S128x512 .f32) : FVec F S512x128 .f32 :=
  transpose S512x128 [1, 0] (select k0_pay136 x y) transposes_S128x512_p1_0_S512x128

end Rows

end Cert.Attn

end
-- ==== Proof.AttnStores.lean ====
/-
  What one point of the attention gradient's grid stores, as the sums over tiles of the blocks it loads.
-/
module

public import proofs.«01_k».proof.Proof.AttnTile

@[expose] public section

set_option maxRecDepth 16384

noncomputable section

open Idealize.ShloMosaic Idealize.ShloMosaic.TcCoe Idealize.ShloMosaic.Tactic
open Idealize.SL.Sem

namespace Cert.Attn

open Cert.Kernel7Ideal Cert.Kernel7Ideal.Gen

variable {F : FTy → Type} [FloatOps F]

/-- A buffer filled once and then rewritten block by block, each block from what it held. -/
def rewritten {ι : Type} {sig : RefSig} {κ : Kind} {sp : Space} {s : Shape} {e : EltTy} {Val : EltTy → Type} [∀ e, Nonempty (Val e)]
    (w : View sig κ sp s e) (R : ι → Rect s) (put : (i : ι) → ((R i).shape.Idx → Val e) → (R i).shape.Idx → Val e) (base : View.Piece Val s e) :
    List ι → List (View.Piece Val s e)
  | [] => [base]
  | i :: L => ⟨R i, put i (w.readCov (rewritten w R put base L) (R i).toLoadRect)⟩ :: rewritten w R put base L

/-- Where the blocks are disjoint and each is rewritten at most once, a block holds its rewriting of the fill, or the fill. -/
theorem canon_rewritten {ι : Type} [DecidableEq ι] {sig : RefSig} {κ : Kind} {sp : Space} {s : Shape} {e : EltTy} {Val : EltTy → Type} [∀ e, Nonempty (Val e)]
    (w : View sig κ sp s e) (R : ι → Rect s) (put : (i : ι) → ((R i).shape.Idx → Val e) → (R i).shape.Idx → Val e)
    {off : Fin s.rank → ℕ} (inb : ∀ a, off a + s.size a ≤ s.size a) (Z : s.Idx → Val e) (h0 : ∀ a, off a = 0)
    (apart : ∀ i j, i ≠ j → Disjoint (R i).set (R j).set) :
    ∀ L : List ι, L.Nodup → ∀ i x, View.canon (rewritten w R put ⟨Rect.unit off s.size inb, Z⟩ L) ((R i).emb x)
      = if i ∈ L then put i (View.ld Z (R i)) x else Z ((R i).emb x)
  | [], _, i, x => by
    rw [rewritten, View.canon_cons_unit_lit inb Z [] h0]; simp
  | j :: L, hL, i, x => by
    have ih := canon_rewritten w R put inb Z h0 apart L (List.nodup_cons.mp hL).2
    rw [rewritten]
    by_cases hij : i = j
    · subst hij
      rw [View.canon_cons_emb, if_pos List.mem_cons_self]
      congr 1
      rw [View.readCov_eq_canon']
      funext y
      exact (ih i y).trans (if_neg (List.nodup_cons.mp hL).1)
    · rw [View.canon_cons_of_not_mem, ih i x]
      · simp [hij]
      · exact Finset.disjoint_left.mp (apart i j hij) ((R i).toLoadRect.idx_mem x)

section Body

variable (c : Dev nD) (i : grid0.Coords)
  (qR : Memref sig .tc .vmem S2048x256 .bf16) (hq : qR.IsWhole)
  (kR : Memref sig .tc .vmem S2048x256 .bf16) (hk : kR.IsWhole)
  (vR : Memref sig .tc .vmem S2048x128 .bf16) (hv : vR.IsWhole)
  (tabR : Memref sig .tc .vmem S1x4x512x512 .f32) (htab : tabR.IsWhole)
  (oR : Memref sig .tc .vmem S2048x128 .bf16) (ho : oR.IsWhole)
  (lseR : Memref sig .tc .vmem S2048x128 .f32) (hlse : lseR.IsWhole)
  (gR : Memref sig .tc .vmem S2048x128 .bf16) (hg : gR.IsWhole)
  (dqR : Memref sig .tc .vmem S2048x128 .bf16) (hdq : dqR.IsWhole)
  (dkR : Memref sig .tc .vmem S2048x128 .bf16) (hdk : dkR.IsWhole)
  (dvR : Memref sig .tc .vmem S2048x128 .bf16) (hdv : dvR.IsWhole)
  (dqxR : Memref sig .tc .vmem S2048x128 .f32) (hdqx : dqxR.IsWhole)
  (dkxR : Memref sig .tc .vmem S2048x128 .f32) (hdkx : dkxR.IsWhole)
  (acckR : Memref sig .tc .vmem S2x2048x128 .f32) (hacck : acckR.IsWhole)
  (accvR : Memref sig .tc .vmem S2048x128 .f32) (haccv : accvR.IsWhole)
  (xq : Vec F S2048x256 .bf16) (xk : Vec F S2048x256 .bf16) (xv : Vec F S2048x128 .bf16) (xtab : Vec F S1x4x512x512 .f32) (xo : Vec F S2048x128 .bf16) (xlse : Vec F S2048x128 .f32) (xg : Vec F S2048x128 .bf16)

/-- Block `b` of 512 rows, -/
theorem inRows (b : Fin 4) : ∀ a, (![512 * b.val, 0] : Fin 2 → ℕ) a + S512x128.size a ≤ S2048x128.size a := by
  intro a; have := b.2; fin_cases a <;> (simp [S512x128, S2048x128]; try omega)
abbrev rows (b : Fin 4) : Rect S2048x128 := Rect.unit ![512 * b.val, 0] S512x128.size (inRows b)

/-- its lanes of one head, -/
theorem inHead (b : Fin 4) (e : Fin 2) : ∀ a, (![512 * b.val, 128 * e.val] : Fin 2 → ℕ) a + S512x128.size a ≤ S2048x256.size a := by
  intro a; have := b.2; have := e.2; fin_cases a <;> (simp [S512x128, S2048x256]; omega)
abbrev rowsOf (b : Fin 4) (e : Fin 2) : Rect S2048x256 := Rect.unit ![512 * b.val, 128 * e.val] S512x128.size (inHead b e)

/-- and a table of the four. -/
theorem inTab (n : Fin 4) : ∀ a, (![0, n.val, 0, 0] : Fin 4 → ℕ) a + S1x1x512x512.size a ≤ S1x4x512x512.size a := by
  intro a; have := n.2; fin_cases a <;> (simp [S1x1x512x512, S1x4x512x512]; try omega)

/-- The blocks of queries (or of keys), of cotangents and of values, -/
def qs (b : Fin 4) (e : Fin 2) : FVec F S512x128 .bf16 := block (View.readAt (Elt F) qR.view (rowsOf b e).toLoadRect (hq.unread xq))
def gs (b : Fin 4) (e : Fin 2) : FVec F S512x128 .bf16 := ofHead e (View.readAt (Elt F) gR.view (rows b).toLoadRect (hg.unread xg))
def vs (b : Fin 4) : FVec F S512x128 .bf16 := block (View.readAt (Elt F) vR.view (rows b).toLoadRect (hv.unread xv))

/-- the rows' sums of output times cotangent and their log-sums, -/
def ds (b : Fin 4) (e : Fin 2) : FVec F S1x512 .f32 :=
  dots e (View.readAt (Elt F) gR.view (rows b).toLoadRect (hg.unread xg)) (View.readAt (Elt F) oR.view (rows b).toLoadRect (ho.unread xo))
def ls (b : Fin 4) (e : Fin 2) : FVec F S1x512 .f32 := logs e (View.readAt (Elt F) lseR.view (rows b).toLoadRect (hlse.unread xlse))

/-- and the tables. -/
def tabs (n : Fin 4) : Vec F S1x1x512x512 .f32 :=
  View.readAt (Elt F) tabR.view (Rect.unit (s := S1x4x512x512) ![0, n.val, 0, 0] S1x1x512x512.size (inTab n)).toLoadRect (htab.unread xtab)
def tab1 : Vec F S1x1x256x512 .f32 :=
  View.readAt (Elt F) tabR.view (Rect.unit (s := S1x4x512x512) ![0, 0, 0, 0] S1x1x256x512.size inb_S1x4x512x512_S1x1x256x512_0_0_0_0).toLoadRect (htab.unread xtab)
def tab2 : Vec F S1x1x256x256 .f32 :=
  View.readAt (Elt F) tabR.view (Rect.unit (s := S1x4x512x512) ![0, 0, 256, 256] S1x1x256x256.size inb_S1x4x512x512_S1x1x256x256_0_0_256_256).toLoadRect (htab.unread xtab)

/-- A head's gradient of a block of queries, on the blocks the point loads; -/
abbrev dqAt (e : Fin 2) (b : Fin 4) : FVec F S128x512 .f32 :=
  dqT (qs qR hq xq) (qs kR hk xk) (gs gR hg xg) (vs vR hv xv) (ds oR ho gR hg xo xg) (ls lseR hlse xlse) (tab1 tabR htab xtab) (tab2 tabR htab xtab) (tabs tabR htab xtab) e b

set_option maxHeartbeats 1600000 in
/-- The stores of the queries' gradient: each block the transposed sums, each head's on its own lanes, -/
theorem stores_dq : (run c i qR hq kR hk vR hv tabR htab oR ho lseR hlse gR hg dqR hdq dkR hdk dvR hdv dqxR hdqx dkxR hdkx acckR hacck accvR haccv xq xk xv xtab xo xlse xg).1
    = [3, 2, 1, 0].map fun b => (⟨rows b, truncf .bf16 (across (dqAt qR hq kR hk vR hv tabR htab oR ho lseR hlse gR hg xq xk xv xtab xo xlse xg 0 b) (dqAt qR hq kR hk vR hv tabR htab oR ho lseR hlse gR hg xq xk xv xtab xo xlse xg 1 b)) bitsLt_bf16_f32⟩ : View.Piece (Elt F) S2048x128 .bf16) := by
  sl_kernel_rfl

set_option maxHeartbeats 1600000 in
/-- and on the other head's. -/
theorem stores_dqx : (run c i qR hq kR hk vR hv tabR htab oR ho lseR hlse gR hg dqR hdq dkR hdk dvR hdv dqxR hdqx dkxR hdkx acckR hacck accvR haccv xq xk xv xtab xo xlse xg).2.2.2.1
    = [3, 2, 1, 0].map fun b => (⟨rows b, across (dqAt qR hq kR hk vR hv tabR htab oR ho lseR hlse gR hg xq xk xv xtab xo xlse xg 1 b) (dqAt qR hq kR hk vR hv tabR htab oR ho lseR hlse gR hg xq xk xv xtab xo xlse xg 0 b)⟩ : View.Piece (Elt F) S2048x128 .f32) := by
  sl_kernel_rfl

/-- Block `a` of 512 rows of one head's accumulator. -/
theorem inAcc (i : Fin 2 × Fin 4) : ∀ a, (![i.1.val, 512 * i.2.val, 0] : Fin 3 → ℕ) a + S1x512x128.size a ≤ S2x2048x128.size a := by
  intro a; have := i.1.2; have := i.2.2; fin_cases a <;> (simp [S1x512x128, S2x2048x128]; try omega)
abbrev rowsAcc (i : Fin 2 × Fin 4) : Rect S2x2048x128 := Rect.unit ![i.1.val, 512 * i.2.val, 0] S1x512x128.size (inAcc i)

/-- What the accumulators' rewritings add. -/
def putK (i : Fin 2 × Fin 4) (y : FVec F S1x512x128 .f32) : FVec F S1x512x128 .f32 :=
  shapeCast S1x512x128 (addf (shapeCast S512x128 y shapeCasts_S1x512x128_S512x128) (dkPart (qs qR hq xq) (qs kR hk xk) (gs gR hg xg) (vs vR hv xv) (ds oR ho gR hg xo xg) (ls lseR hlse xlse) (tab1 tabR htab xtab) (tab2 tabR htab xtab) (tabs tabR htab xtab) i.1 i.2)) shapeCasts_S512x128_S1x512x128
def putV (a : Fin 4) (y : FVec F S512x128 .f32) : FVec F S512x128 .f32 :=
  shapeCast S512x128 (addf y (dvPart (qs qR hq xq) (qs kR hk xk) (gs gR hg xg) (ls lseR hlse xlse) (tab1 tabR htab xtab) (tab2 tabR htab xtab) (tabs tabR htab xtab) a)) shapeCasts_S512x128_S512x128

/-- The accumulators at the end of the point. -/
def accK : List (View.Piece (Elt F) S2x2048x128 .f32) :=
  rewritten acckR.view rowsAcc (putK qR hq kR hk vR hv tabR htab oR ho lseR hlse gR hg xq xk xv xtab xo xlse xg)
    ⟨Rect.unit ![0, 0, 0] S2x2048x128.size inb_S2x2048x128_S2x2048x128_0_0_0, k0_pay138⟩ [(1, 3), (0, 3), (1, 2), (0, 2), (1, 1), (0, 1), (1, 0), (0, 0)]
def accV : List (View.Piece (Elt F) S2048x128 .f32) :=
  rewritten accvR.view rows (putV qR hq kR hk tabR htab lseR hlse gR hg xq xk xtab xlse xg)
    ⟨Rect.unit ![0, 0] S2048x128.size inb_S2048x128_S2048x128_0_0, k0_pay139⟩ [3, 2, 1, 0]

/-- One head's half of the accumulator. -/
def headK (e : Fin 2) : FVec F S2048x128 .f32 :=
  shapeCast S2048x128 (match e with
    | 0 => acckR.view.readCov (accK qR hq kR hk vR hv tabR htab oR ho lseR hlse gR hg acckR xq xk xv xtab xo xlse xg) (Rect.unit (s := S2x2048x128) ![0, 0, 0] S1x2048x128.size inb_S2x2048x128_S1x2048x128_0_0_0).toLoadRect
    | 1 => acckR.view.readCov (accK qR hq kR hk vR hv tabR htab oR ho lseR hlse gR hg acckR xq xk xv xtab xo xlse xg) (Rect.unit (s := S2x2048x128) ![1, 0, 0] S1x2048x128.size inb_S2x2048x128_S1x2048x128_1_0_0).toLoadRect)
    shapeCasts_S1x2048x128_S2048x128

set_option maxHeartbeats 1600000 in
/-- The store of the keys' gradient: each head's half on its own lanes, -/
theorem stores_dk : (run c i qR hq kR hk vR hv tabR htab oR ho lseR hlse gR hg dqR hdq dkR hdk dvR hdv dqxR hdqx dkxR hdkx acckR hacck accvR haccv xq xk xv xtab xo xlse xg).2.1
    = [⟨Rect.unit ![0, 0] S2048x128.size inb_S2048x128_S2048x128_0_0, truncf .bf16 (select k0_pay423 (headK qR hq kR hk vR hv tabR htab oR ho lseR hlse gR hg acckR xq xk xv xtab xo xlse xg 0) (headK qR hq kR hk vR hv tabR htab oR ho lseR hlse gR hg acckR xq xk xv xtab xo xlse xg 1)) bitsLt_bf16_f32⟩] := by
  sl_kernel_rfl

set_option maxHeartbeats 1600000 in
/-- on the other head's, -/
theorem stores_dkx : (run c i qR hq kR hk vR hv tabR htab oR ho lseR hlse gR hg dqR hdq dkR hdk dvR hdv dqxR hdqx dkxR hdkx acckR hacck accvR haccv xq xk xv xtab xo xlse xg).2.2.2.2.1
    = [⟨Rect.unit ![0, 0] S2048x128.size inb_S2048x128_S2048x128_0_0, select k0_pay423 (headK qR hq kR hk vR hv tabR htab oR ho lseR hlse gR hg acckR xq xk xv xtab xo xlse xg 1) (headK qR hq kR hk vR hv tabR htab oR ho lseR hlse gR hg acckR xq xk xv xtab xo xlse xg 0)⟩] := by
  sl_kernel_rfl

set_option maxHeartbeats 1600000 in
/-- and that of the values'. -/
theorem stores_dv : (run c i qR hq kR hk vR hv tabR htab oR ho lseR hlse gR hg dqR hdq dkR hdk dvR hdv dqxR hdqx dkxR hdkx acckR hacck accvR haccv xq xk xv xtab xo xlse xg).2.2.1
    = [⟨Rect.unit ![0, 0] S2048x128.size inb_S2048x128_S2048x128_0_0,
        truncf .bf16 (accvR.view.readCov (accV qR hq kR hk tabR htab lseR hlse gR hg accvR xq xk xtab xlse xg) (Rect.unit (s := S2048x128) ![0, 0] ![2048, 128] inb_S2048x128_S2048x128_0_0).toLoadRect) bitsLt_bf16_f32⟩] := by
  sl_kernel_rfl

end Body

end Cert.Attn

end
-- ==== Proof.AttnPoint.lean ====
/-
  The entries of the attention gradient's tiles and of their products.
-/
module

public import proofs.«01_k».proof.Proof.AttnStores
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem

namespace Cert.Attn

open Cert.Kernel7Ideal Cert.Kernel7Ideal.Gen Cert.Fv

/-- A row of the first and of the second half of a block. -/
def lo (j : Fin 256) : Fin 512 := ⟨j.val, by omega⟩
def hi (j : Fin 256) : Fin 512 := ⟨256 + j.val, by omega⟩

/-- The lanes of a head: the first or the second 64. -/
def mine (e : Fin 2) (l : Fin 128) : Prop := l.val / 64 = e.val
instance (e : Fin 2) (l : Fin 128) : Decidable (mine e l) := inferInstanceAs (Decidable (_ = _))

section Halves

variable (x : FVec Ideal S512x128 .bf16) (y : FVec Ideal S512x128 .f32) (j : Fin 256) (i : Fin 512) (l : Fin 128)

/-- The entries of the halves of a block, and of a block. -/
theorem low_at : low x (ix2 j l) = x (ix2 (lo j) l) := by pointwise [low, lo]
theorem high_at : high x (ix2 j l) = x (ix2 (hi j) l) := by pointwise [high, hi]
theorem lowF_at : lowF y (ix2 j l) = y (ix2 (lo j) l) := by pointwise [lowF, lo]
theorem highF_at : highF y (ix2 j l) = y (ix2 (hi j) l) := by pointwise [highF, hi]
theorem block_at : block x (ix2 i l) = x (ix2 i l) := by pointwise [block]

/-- The entries of a block on one head's lanes. -/
theorem ofHead_at (e : Fin 2) : ofHead e x (ix2 i l) = if mine e l then x (ix2 i l) else 0 := by
  have h0 : ∀ l : Fin 128, IntOp.cmpi .slt (BitVec.ofNat 32 l.val) 64#32 = if l.val / 64 = 0 then 1#1 else 0#1 := by decide
  have h1 : ∀ l : Fin 128, IntOp.cmpi .sge (BitVec.ofNat 32 l.val) 64#32 = if l.val / 64 = 1 then 1#1 else 0#1 := by decide
  unfold mine
  fin_cases e
  · pointwise [ofHead, block, lanes, k0_pay134]
    rw [h0]; by_cases hm : l.val / 64 = 0 <;> simp [hm, Scalar.select]
  · pointwise [ofHead, block, lanes, k0_pay135]
    rw [h1]; by_cases hm : l.val / 64 = 1 <;> simp [hm, Scalar.select]

/-- The matrix that picks a head's lanes. -/
theorem pick_at (r : Fin 8) : k0_pay137 (F := Ideal) (ix2 r l) = if l.val / 64 = r.val then 1 else 0 := by
  have h : ∀ (l : Fin 128) (r : Fin 8), (BitVec.setWidth 32
        (IntOp.cmpi CmpIPredicate.eq (BitVec.ofNat 32 r.val)
          (Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 l.val) 64#32) 0#32))
            (IntOp.subi (IntOp.divsi ArithUnit.vector (BitVec.ofNat 32 l.val) 64#32) 1#32)
            (IntOp.divsi ArithUnit.vector (BitVec.ofNat 32 l.val) 64#32))))
      = if l.val / 64 = r.val then 1#32 else 0#32 := by decide +kernel
  pointwise [k0_pay137]
  rw [h]
  split
  · show (((1#32 : BitVec 32).toInt : ℝ) : EReal) = 1; simp
  · show (((0#32 : BitVec 32).toInt : ℝ) : EReal) = 0; simp

end Halves

section Tiles

variable (k q v g : FVec Ideal S512x128 .bf16) (d m : FVec Ideal S1x512 .f32)

/-- The entries of a tile's probabilities -/
theorem probs_at (t : Vec Ideal S1x1x512x512 .f32) (j i : Fin 512) :
    probs k q m t (ix2 j i) = Ideal.exp2 ((∑ c, k (ix2 j c) * q (ix2 i c)) + t (ix4 0 0 j i) - m (ix2 0 i)) := by
  pointwise [probs]
  rfl

theorem probs1_at (t : Vec Ideal S1x1x256x512 .f32) (j : Fin 256) (i : Fin 512) :
    probs1 k q m t (ix2 j i) = Ideal.exp2 ((∑ c, k (ix2 (lo j) c) * q (ix2 i c)) + t (ix4 0 0 j i) - m (ix2 0 i)) := by
  pointwise [probs1, low, lo]
  rfl

theorem probs2_at (t : Vec Ideal S1x1x256x256 .f32) (j i : Fin 256) :
    probs2 k q m t (ix2 j i) = Ideal.exp2 ((∑ c, k (ix2 (hi j) c) * q (ix2 (hi i) c)) + t (ix4 0 0 j i) - m (ix2 0 (hi i))) := by
  pointwise [probs2, high, hi]
  rfl

/-- and of their gradients. -/
theorem grads_at (p : FVec Ideal S512x512 .f32) (j i : Fin 512) :
    grads v g d p (ix2 j i) = p (ix2 j i) * ((∑ c, v (ix2 j c) * g (ix2 i c)) - d (ix2 0 i)) := by
  pointwise [grads]

theorem grads1_at (p : FVec Ideal S256x512 .f32) (j : Fin 256) (i : Fin 512) :
    grads1 v g d p (ix2 j i) = p (ix2 j i) * ((∑ c, v (ix2 (lo j) c) * g (ix2 i c)) - d (ix2 0 i)) := by
  pointwise [grads1, low, lo]

theorem grads2_at (p : FVec Ideal S256x256 .f32) (j i : Fin 256) :
    grads2 v g d p (ix2 j i) = p (ix2 j i) * ((∑ c, v (ix2 (hi j) c) * g (ix2 (hi i) c)) - d (ix2 0 (hi i))) := by
  pointwise [grads2, high, hi]

/-- The entries of a tile's products. -/
theorem overQueries_at (p : FVec Ideal S512x512 .bf16) (j : Fin 512) (l : Fin 128) :
    overQueries q p (ix2 j l) = ∑ i, p (ix2 j i) * q (ix2 i l) := by pointwise [overQueries]
theorem overQueries1_at (p : FVec Ideal S256x512 .bf16) (j : Fin 256) (l : Fin 128) :
    overQueries1 q p (ix2 j l) = ∑ i, p (ix2 j i) * q (ix2 i l) := by pointwise [overQueries1]
theorem overQueries2_at (p : FVec Ideal S256x256 .bf16) (j : Fin 256) (l : Fin 128) :
    overQueries2 q p (ix2 j l) = ∑ i, p (ix2 j i) * q (ix2 (hi i) l) := by pointwise [overQueries2, high, hi]
theorem overKeys_at (p : FVec Ideal S512x512 .bf16) (l : Fin 128) (i : Fin 512) :
    overKeys k p (ix2 l i) = ∑ j, k (ix2 j l) * p (ix2 j i) := by pointwise [overKeys]

/-- A diagonal tile's over its keys: the queries of the first half meet the first half of the keys, -/
theorem overKeys12_lo (p1 : FVec Ideal S256x512 .bf16) (p2 : FVec Ideal S256x256 .bf16) (l : Fin 128) (i : Fin 256) :
    overKeys12 k p1 p2 (ix2 l (lo i)) = ∑ j, k (ix2 (lo j) l) * p1 (ix2 j (lo i)) := by
  pointwise [overKeys12, low, high, lo]
/-- those of the second half meet both. -/
theorem overKeys12_hi (p1 : FVec Ideal S256x512 .bf16) (p2 : FVec Ideal S256x256 .bf16) (l : Fin 128) (i : Fin 256) :
    overKeys12 k p1 p2 (ix2 l (hi i)) = (∑ j, k (ix2 (lo j) l) * p1 (ix2 j (hi i))) + ∑ j, k (ix2 (hi j) l) * p2 (ix2 j i) := by
  pointwise [overKeys12, low, high, lo, hi]

end Tiles

end Cert.Attn

end
-- ==== Proof.AttnSum.lean ====
/-
  The attention gradient's sums over tiles, as sums over all the blocks of keys or of queries: the tiles left out hold
  probabilities of zero.
-/
module

public import proofs.«01_k».proof.Proof.AttnPoint

@[expose] public section

set_option maxRecDepth 16384

noncomputable section

open Idealize.ShloMosaic Idealize.ShloMosaic.TcCoe Idealize.SL.Sem

namespace Cert.Attn

open Cert.Kernel7Ideal Cert.Kernel7Ideal.Gen Cert.Fv

/-- A row of a block is in its first or its second half. -/
theorem half (i : Fin 512) : (∃ j, i = lo j) ∨ ∃ j, i = hi j := by
  by_cases h : i.val < 256
  · exact .inl ⟨⟨i.val, h⟩, rfl⟩
  · exact .inr ⟨⟨i.val - 256, by omega⟩, Fin.ext (by simp only [hi]; omega)⟩

/-- A sum over a block's rows is one over its halves'. -/
theorem sum_halves (f : Fin 512 → EReal) : ∑ i, f i = (∑ j, f (lo j)) + ∑ j, f (hi j) := by
  rw [Fin.sum_univ_add (a := 256) (b := 256)]; rfl

/-- Sums over the blocks up to one, and from one on, where the others vanish. -/
theorem sum_upTo (f : Fin 4 → EReal) (b : Fin 4) (h : ∀ a, b < a → f a = 0) : (∑ a, if a < b then f a else 0) + f b = ∑ a, f a := by
  fin_cases b
  · simp [Fin.sum_univ_four, h 1 (by decide), h 2 (by decide), h 3 (by decide)]
  · simp [Fin.sum_univ_four, h 2 (by decide), h 3 (by decide)]
  · simp [Fin.sum_univ_four, h 3 (by decide)]
  · simp [Fin.sum_univ_four]
theorem sum_fromOn (f : Fin 4 → EReal) (a : Fin 4) (h : ∀ b, b < a → f b = 0) : f a + (∑ b, if a < b then f b else 0) = ∑ b, f b := by
  fin_cases a
  · simp [Fin.sum_univ_four, add_assoc]
  · simp [Fin.sum_univ_four, h 0 (by decide), add_assoc]
  · simp [Fin.sum_univ_four, h 0 (by decide), h 1 (by decide)]
  · simp [Fin.sum_univ_four, h 0 (by decide), h 1 (by decide), h 2 (by decide)]

/-- The sums the kernel makes in turn. -/
theorem upTo_at (f : Fin 4 → FVec Ideal S128x512 .f32) (h : FVec Ideal S128x512 .f32) (b : Fin 4) (l : Fin 128) (i : Fin 512) :
    upTo f h b (ix2 l i) = (∑ a, if a < b then f a (ix2 l i) else 0) + h (ix2 l i) := by
  fin_cases b <;> pointwise [upTo, k0_pay192] <;> simp [Fin.sum_univ_four]
theorem fromOn_at (f : Fin 4 → FVec Ideal S256x128 .f32) (h : FVec Ideal S256x128 .f32) (a : Fin 4) (j : Fin 256) (l : Fin 128) :
    fromOn f h a (ix2 j l) = h (ix2 j l) + ∑ b, if a < b then f b (ix2 j l) else 0 := by
  fin_cases a <;> pointwise [fromOn] <;> simp [Fin.sum_univ_four, add_assoc]

/-- The sums over a head's lanes, of a block of finite entries. -/
theorem headSums_at (x : FVec Ideal S512x128 .f32) (hx : ∀ i l, IsReal (x (ix2 i l))) (r : Fin 8) (i : Fin 512) :
    headSums x (ix2 r i) = ∑ l : Fin 128, if l.val / 64 = r.val then x (ix2 i l) else 0 := by
  have z : ∀ i l, x (ix2 i l) - x (ix2 i l) = 0 := fun i l => by
    obtain ⟨y, hy⟩ := hx i l; rw [hy, ← EReal.coe_sub, sub_self]; rfl
  pointwise [headSums]
  simp only [z, pick_at, sub_zero, mul_zero, Finset.sum_const_zero, add_zero]
  refine Finset.sum_congr rfl fun l _ => ?_
  split <;> simp

theorem headRow_at (e : Fin 2) (y : FVec Ideal S8x512 .f32) (i : Fin 512) :
    headRow e y (ix2 0 i) = y (ix2 ⟨e.val, by omega⟩ i) := by
  fin_cases e <;> pointwise [headRow]

theorem dots_at (e : Fin 2) (g o : Vec Ideal S512x128 .bf16) (hg : ∀ i l, IsReal (g (ix2 i l))) (ho : ∀ i l, IsReal (o (ix2 i l))) (i : Fin 512) :
    dots e g o (ix2 0 i) = ∑ l : Fin 128, if mine e l then g (ix2 i l) * o (ix2 i l) else 0 := by
  have h : ∀ i l, mulf (extf .f32 (block g) bitsLt_bf16_f32) (extf .f32 (block o) bitsLt_bf16_f32) (ix2 i l) = g (ix2 i l) * o (ix2 i l) := fun i l => by
    pointwise [block]
  unfold dots mine
  rw [headRow_at, headSums_at _ fun i l => by rw [h]; exact (hg i l).mul (ho i l)]
  simp only [h]
  rfl

theorem logs_at (e : Fin 2) (m : Vec Ideal S512x128 .f32) (hm : ∀ i l, IsReal (m (ix2 i l))) (i : Fin 512) :
    logs e m (ix2 0 i) = (∑ l : Fin 128, if mine e l then m (ix2 i l) else 0) * ((1 / 64 : ℝ) : EReal) := by
  unfold logs mine
  rw [headRow_at]
  pointwise []
  rw [headSums_at _ hm, show Ideal.ofBits .f32 1015021568#32 = ((1 / 64 : ℝ) : EReal) from by
    simp [Ideal.ofBits, Ideal.ieee]; norm_cast; norm_num]
  rfl

section Rows

variable (q k g : Fin 4 → Fin 2 → FVec Ideal S512x128 .bf16) (v : Fin 4 → FVec Ideal S512x128 .bf16)
  (d m : Fin 4 → Fin 2 → FVec Ideal S1x512 .f32)
  (t1 : Vec Ideal S1x1x256x512 .f32) (t2 : Vec Ideal S1x1x256x256 .f32) (t : Fin 4 → Vec Ideal S1x1x512x512 .f32)

/-- The table between two blocks: nothing for keys after the queries' block, -/
def table (a b : Fin 4) (j i : Fin 512) : EReal := if a ≤ b then t (b - a) (ix4 0 0 j i) else ⊥
/-- a head's probability at a key and a query, -/
def prob (e : Fin 2) (a b : Fin 4) (j i : Fin 512) : EReal :=
  Ideal.exp2 ((∑ c, k a e (ix2 j c) * q b e (ix2 i c)) + table t a b j i - m b e (ix2 0 i))
/-- and the gradient of its score. -/
def grad (e : Fin 2) (a b : Fin 4) (j i : Fin 512) : EReal :=
  prob q k m t e a b j i * ((∑ c, v a (ix2 j c) * g b e (ix2 i c)) - d b e (ix2 0 i))

/-- Where the table has nothing the probability is zero, and the gradient. -/
theorem prob_none {e : Fin 2} {a b : Fin 4} {j i : Fin 512} (h : table t a b j i = ⊥) : prob q k m t e a b j i = 0 := by
  unfold prob; rw [h, EReal.add_bot, EReal.bot_sub]; rfl
theorem grad_none {e : Fin 2} {a b : Fin 4} {j i : Fin 512} (h : table t a b j i = ⊥) : grad q k g v d m t e a b j i = 0 := by
  unfold grad; rw [prob_none q k m t h, zero_mul]
theorem table_after {a b : Fin 4} (h : b < a) (j i : Fin 512) : table t a b j i = ⊥ := if_neg (not_le.mpr h)

/-- A whole tile's entries. -/
theorem P_at (e : Fin 2) {a b : Fin 4} (h : a ≤ b) (j i : Fin 512) : P q k m t e a b (ix2 j i) = prob q k m t e a b j i := by
  unfold P prob table; rw [probs_at, if_pos h]
theorem D_at (e : Fin 2) {a b : Fin 4} (h : a ≤ b) (j i : Fin 512) : D q k g v d m t e a b (ix2 j i) = grad q k g v d m t e a b j i := by
  unfold D grad; rw [grads_at, P_at q k m t e h]

variable (h1 : ∀ j i, t1 (ix4 0 0 j i) = t 0 (ix4 0 0 (lo j) i)) (h2 : ∀ j i, t2 (ix4 0 0 j i) = t 0 (ix4 0 0 (hi j) (hi i)))
  (h0 : ∀ j i, t 0 (ix4 0 0 (hi j) (lo i)) = ⊥)

include h0 in
/-- On the diagonal the second half of the keys has nothing for the first half of the queries. -/
theorem table_corner (a : Fin 4) (j i : Fin 256) : table t a a (hi j) (lo i) = ⊥ := by
  unfold table; rw [if_pos le_rfl, sub_self, h0]

include h1 in
/-- A diagonal tile's entries. -/
theorem P1_at (e : Fin 2) (a : Fin 4) (j : Fin 256) (i : Fin 512) : P1 q k m t1 e a (ix2 j i) = prob q k m t e a a (lo j) i := by
  unfold P1 prob table; rw [probs1_at, if_pos le_rfl, sub_self, h1]
include h2 in
theorem P2_at (e : Fin 2) (a : Fin 4) (j i : Fin 256) : P2 q k m t2 e a (ix2 j i) = prob q k m t e a a (hi j) (hi i) := by
  unfold P2 prob table; rw [probs2_at, if_pos le_rfl, sub_self, h2]
include h1 in
theorem D1_at (e : Fin 2) (a : Fin 4) (j : Fin 256) (i : Fin 512) : D1 q k g v d m t1 e a (ix2 j i) = grad q k g v d m t e a a (lo j) i := by
  unfold D1 grad; rw [grads1_at, P1_at q k m t1 t h1]
include h2 in
theorem D2_at (e : Fin 2) (a : Fin 4) (j i : Fin 256) : D2 q k g v d m t2 e a (ix2 j i) = grad q k g v d m t e a a (hi j) (hi i) := by
  unfold D2 grad; rw [grads2_at, P2_at q k m t2 t h2]

include h1 h2 h0 in
/-- A block of queries' gradient is the sum over all the keys. -/
theorem dqT_at (e : Fin 2) (b : Fin 4) (l : Fin 128) (i : Fin 512) :
    dqT q k g v d m t1 t2 t e b (ix2 l i) = ∑ a, ∑ j, k a e (ix2 j l) * grad q k g v d m t e a b j i := by
  have diag : dqD q k g v d m t1 t2 e b (ix2 l i) = ∑ j, k b e (ix2 j l) * grad q k g v d m t e b b j i := by
    unfold dqD
    rw [sum_halves]
    rcases half i with ⟨i, rfl⟩ | ⟨i, rfl⟩
    · rw [overKeys12_lo]
      simp only [D1_at q k g v d m t1 t h1, grad_none q k g v d m t (table_corner t h0 b _ i), mul_zero, Finset.sum_const_zero, add_zero]
    · rw [overKeys12_hi]
      simp only [D1_at q k g v d m t1 t h1, D2_at q k g v d m t2 t h2]
  unfold dqT
  rw [upTo_at, diag, ← sum_upTo (fun a => ∑ j, k a e (ix2 j l) * grad q k g v d m t e a b j i) b]
  · congr 1
    refine Finset.sum_congr rfl fun a _ => ?_
    split
    · rename_i h
      unfold dq; rw [overKeys_at]; simp only [D_at q k g v d m t e h.le]
    · rfl
  · intro a h
    simp only [grad_none q k g v d m t (table_after t h _ i), mul_zero, Finset.sum_const_zero]

include h1 h2 h0 in
/-- A block of keys' gradient is the sum over all the queries. -/
theorem dkPart_at (e : Fin 2) (a : Fin 4) (j : Fin 512) (l : Fin 128) :
    dkPart q k g v d m t1 t2 t e a (ix2 j l) = ∑ b, ∑ i, grad q k g v d m t e a b j i * q b e (ix2 i l) := by
  have whole : ∀ b, a < b → dk q k g v d m t e a b (ix2 j l) = ∑ i, grad q k g v d m t e a b j i * q b e (ix2 i l) := fun b h => by
    unfold dk; rw [overQueries_at]; simp only [D_at q k g v d m t e h.le]
  rw [← sum_fromOn (fun b => ∑ i, grad q k g v d m t e a b j i * q b e (ix2 i l)) a fun b h => by
    simp only [grad_none q k g v d m t (table_after t h j _), zero_mul, Finset.sum_const_zero]]
  rcases half j with ⟨j, rfl⟩ | ⟨j, rfl⟩
  · refine (show _ = fromOn (fun b => lowF (dk q k g v d m t e a b)) (dk1 q k g v d m t1 e a) a (ix2 j l) from by pointwise [dkPart, lo]).trans ?_
    rw [fromOn_at]
    congr 1
    · unfold dk1; rw [overQueries1_at]; simp only [D1_at q k g v d m t1 t h1]
    · refine Finset.sum_congr rfl fun b _ => ?_
      split
      · rename_i h; rw [lowF_at, whole b h]
      · rfl
  · refine (show _ = fromOn (fun b => highF (dk q k g v d m t e a b)) (dk2 q k g v d m t2 e a) a (ix2 j l) from by pointwise [dkPart, hi]).trans ?_
    rw [fromOn_at]
    congr 1
    · unfold dk2; rw [overQueries2_at, sum_halves]
      simp only [D2_at q k g v d m t2 t h2, grad_none q k g v d m t (table_corner t h0 a j _), zero_mul, Finset.sum_const_zero, zero_add]
    · refine Finset.sum_congr rfl fun b _ => ?_
      split
      · rename_i h; rw [highF_at, whole b h]
      · rfl

/-- The values' sums go on from the first head to the second. -/
theorem goOn_at (f f' : Fin 4 → FVec Ideal S256x128 .f32) (h h' : FVec Ideal S256x128 .f32) (a : Fin 4) (j : Fin 256) (l : Fin 128) :
    goOn f' (fromOn f h a) h' a (ix2 j l)
      = (h (ix2 j l) + ∑ b, if a < b then f b (ix2 j l) else 0) + (h' (ix2 j l) + ∑ b, if a < b then f' b (ix2 j l) else 0) := by
  unfold goOn
  rw [fromOn_at, ← add_assoc]
  congr 1
  refine (show _ = fromOn f h a (ix2 j l) + h' (ix2 j l) from by pointwise []).trans ?_
  rw [fromOn_at]

include h1 h2 h0 in
/-- A block of values' gradient is the sum over the two heads and all the queries. -/
theorem dvPart_at (a : Fin 4) (j : Fin 512) (l : Fin 128) :
    dvPart q k g m t1 t2 t a (ix2 j l) = ∑ e, ∑ b, ∑ i, prob q k m t e a b j i * g b e (ix2 i l) := by
  have cast : ∀ {s : Shape} (x : FVec Ideal s .f32) (y : s.Idx), truncf .bf16 x bitsLt_bf16_f32 y = x y := fun x y => rfl
  have whole : ∀ e b, a < b → dv q k g m t e a b (ix2 j l) = ∑ i, prob q k m t e a b j i * g b e (ix2 i l) := fun e b h => by
    unfold dv; rw [overQueries_at]; simp only [cast, P_at q k m t e h.le]
  rw [Fin.sum_univ_two]
  have all : ∀ e, ∑ b, ∑ i, prob q k m t e a b j i * g b e (ix2 i l) = _ := fun e =>
    (sum_fromOn (fun b => ∑ i, prob q k m t e a b j i * g b e (ix2 i l)) a fun b h => by
      simp only [prob_none q k m t (table_after t h j _), zero_mul, Finset.sum_const_zero]).symm
  rw [all, all]
  rcases half j with ⟨j, rfl⟩ | ⟨j, rfl⟩
  · have one : ∀ e, (dv1 q k g m t1 e a (ix2 j l) + ∑ b, if a < b then lowF (dv q k g m t e a b) (ix2 j l) else 0)
        = (∑ i, prob q k m t e a a (lo j) i * g a e (ix2 i l)) + ∑ b, if a < b then ∑ i, prob q k m t e a b (lo j) i * g b e (ix2 i l) else 0 := fun e => by
      congr 1
      · unfold dv1; rw [overQueries1_at]; simp only [cast, P1_at q k m t1 t h1]
      · refine Finset.sum_congr rfl fun b _ => ?_
        split
        · rename_i h; rw [lowF_at, whole e b h]
        · rfl
    rw [← one, ← one, ← goOn_at]
    pointwise [dvPart, lo]
  · have one : ∀ e, (dv2 q k g m t2 e a (ix2 j l) + ∑ b, if a < b then highF (dv q k g m t e a b) (ix2 j l) else 0)
        = (∑ i, prob q k m t e a a (hi j) i * g a e (ix2 i l)) + ∑ b, if a < b then ∑ i, prob q k m t e a b (hi j) i * g b e (ix2 i l) else 0 := fun e => by
      congr 1
      · unfold dv2; rw [overQueries2_at, sum_halves]
        simp only [cast, P2_at q k m t2 t h2, prob_none q k m t (table_corner t h0 a j _), zero_mul, Finset.sum_const_zero, zero_add]
      · refine Finset.sum_congr rfl fun b _ => ?_
        split
        · rename_i h; rw [highF_at, whole e b h]
        · rfl
    rw [← one, ← one, ← goOn_at]
    pointwise [dvPart, hi]

/-- The entries across a pair of transposed blocks. -/
theorem across_at (x y : FVec Ideal S128x512 .f32) (i : Fin 512) (l : Fin 128) :
    across x y (ix2 i l) = if mine 0 l then x (ix2 l i) else y (ix2 l i) := by
  have h0 : ∀ l : Fin 128, IntOp.cmpi .slt (BitVec.ofNat 32 l.val) 64#32 = if l.val / 64 = 0 then 1#1 else 0#1 := by decide
  unfold mine
  pointwise [across, k0_pay136]
  rw [h0]; by_cases hm : l.val / 64 = 0 <;> simp [hm, Scalar.select]

end Rows

end Cert.Attn

end
-- ==== Proof.AttnBlock.lean ====
/-
  What one point of the attention gradient's grid leaves in its five blocks, as sums over all the rows of the blocks it
  loads.
-/
module

public import proofs.«01_k».proof.Proof.AttnStores
public import Idealize.ShloMosaic.Lib.WholeRead
public import proofs.«01_k».proof.Proof.AttnSum

@[expose] public section

set_option maxRecDepth 16384

noncomputable section

open Idealize.ShloMosaic Idealize.ShloMosaic.TcCoe Idealize.SL.Sem

namespace Cert.Attn

open Cert.Kernel7Ideal Cert.Kernel7Ideal.Gen Cert.Fv

/-- Row `i` of block `b`, and lane `l` of head `e`. -/
def row (b : Fin 4) (i : Fin 512) : Fin 2048 := ⟨512 * b.val + i.val, by omega⟩
def lane (e : Fin 2) (l : Fin 128) : Fin 256 := ⟨128 * e.val + l.val, by omega⟩

/-- Every row is one of a block, -/
theorem row_of (i : Fin 2048) : ∃ b j, i = row b j :=
  ⟨⟨i.val / 512, by omega⟩, ⟨i.val % 512, by omega⟩, Fin.ext (by simp only [row]; omega)⟩

/-- and a sum over the blocks' rows is one over all rows. -/
theorem sum_rows (f : Fin 2048 → EReal) : ∑ b, ∑ i, f (row b i) = ∑ i, f i := by
  rw [← Fintype.sum_prod_type' fun b i => f (row b i)]
  exact Fintype.sum_equiv (finProdFinEquiv (m := 4) (n := 512)) _ f fun x => congrArg f (Fin.ext (add_comm _ _))

theorem rows_emb (b : Fin 4) (i : Fin 512) (l : Fin 128) : (rows b).emb (ix2 i l) = ix2 (row b i) l :=
  (eq_ix2 _).trans (congrArg₂ ix2 (Fin.ext (by simp [row])) (Fin.ext (by simp)))
theorem rowsAcc_emb (e : Fin 2) (b : Fin 4) (i : Fin 512) (l : Fin 128) : (rowsAcc (e, b)).emb (ix3 0 i l) = ix3 e (row b i) l :=
  (eq_ix3 _).trans (by congr 1 <;> exact Fin.ext (by simp [row]))

theorem rows_apart (i j : Fin 4) (h : i ≠ j) : Disjoint (rows i).set (rows j).set := by
  refine Rect.unit_disjoint 0 ?_
  have : i.val ≠ j.val := fun e => h (Fin.ext e)
  simp; omega
theorem rowsAcc_apart (i j : Fin 2 × Fin 4) (h : i ≠ j) : Disjoint (rowsAcc i).set (rowsAcc j).set := by
  by_cases h1 : i.1 = j.1
  · have : i.2.val ≠ j.2.val := fun e => h (Prod.ext h1 (Fin.ext e))
    refine Rect.unit_disjoint 1 ?_
    simp; omega
  · have : i.1.val ≠ j.1.val := fun e => h1 (Fin.ext e)
    refine Rect.unit_disjoint 0 ?_
    simp; omega

/-- Disjoint blocks each stored once hold what was stored. -/
theorem canon_pieces {ι : Type} [DecidableEq ι] {s : Shape} {e : EltTy} {Val : EltTy → Type} [∀ e, Nonempty (Val e)]
    (R : ι → Rect s) (Z : (i : ι) → (R i).shape.Idx → Val e) (apart : ∀ i j, i ≠ j → Disjoint (R i).set (R j).set) :
    ∀ L : List ι, ∀ i ∈ L, ∀ x, View.canon (L.map fun i => (⟨R i, Z i⟩ : View.Piece Val s e)) ((R i).emb x) = Z i x
  | [], i, h, x => absurd h (by simp)
  | j :: L, i, h, x => by
    rw [List.map_cons]
    by_cases hij : i = j
    · subst hij; rw [View.canon_cons_emb]
    · rw [View.canon_cons_of_not_mem, canon_pieces R Z apart L i (by simpa [hij] using h) x]
      exact Finset.disjoint_left.mp (apart i j hij) ((R i).toLoadRect.idx_mem x)

/-- The select of the two halves' lanes. -/
theorem halves_at (x y : FVec Ideal S2048x128 .f32) (j : Fin 2048) (l : Fin 128) :
    select k0_pay423 x y (ix2 j l) = if mine 0 l then x (ix2 j l) else y (ix2 j l) := by
  have h0 : ∀ l : Fin 128, IntOp.cmpi .slt (BitVec.ofNat 32 l.val) 64#32 = if l.val / 64 = 0 then 1#1 else 0#1 := by decide
  unfold mine
  pointwise [k0_pay423]
  rw [h0]; by_cases hm : l.val / 64 = 0 <;> simp [hm, Scalar.select]

/-- The accumulators' fills. -/
theorem fillK (r : Rect S2x2048x128) (x : r.shape.Idx) : View.ld (Val := Elt Ideal) (e' := .f32) (k0_pay138 (F := Ideal)) r x = (0 : EReal) := by
  show k0_pay138 (F := Ideal) _ = _
  pointwise [k0_pay138]
theorem fillV (r : Rect S2048x128) (x : r.shape.Idx) : View.ld (Val := Elt Ideal) (e' := .f32) (k0_pay139 (F := Ideal)) r x = (0 : EReal) := by
  show k0_pay139 (F := Ideal) _ = _
  pointwise [k0_pay139]

section Body

variable (c : Dev nD) (i : grid0.Coords)
  (qR : Memref sig .tc .vmem S2048x256 .bf16) (hq : qR.IsWhole)
  (kR : Memref sig .tc .vmem S2048x256 .bf16) (hk : kR.IsWhole)
  (vR : Memref sig .tc .vmem S2048x128 .bf16) (hv : vR.IsWhole)
  (tabR : Memref sig .tc .vmem S1x4x512x512 .f32) (htab : tabR.IsWhole)
  (oR : Memref sig .tc .vmem S2048x128 .bf16) (ho : oR.IsWhole)
  (lseR : Memref sig .tc .vmem S2048x128 .f32) (hlse : lseR.IsWhole)
  (gR : Memref sig .tc .vmem S2048x128 .bf16) (hg : gR.IsWhole)
  (dqR : Memref sig .tc .vmem S2048x128 .bf16) (hdq : dqR.IsWhole)
  (dkR : Memref sig .tc .vmem S2048x128 .bf16) (hdk : dkR.IsWhole)
  (dvR : Memref sig .tc .vmem S2048x128 .bf16) (hdv : dvR.IsWhole)
  (dqxR : Memref sig .tc .vmem S2048x128 .f32) (hdqx : dqxR.IsWhole)
  (dkxR : Memref sig .tc .vmem S2048x128 .f32) (hdkx : dkxR.IsWhole)
  (acckR : Memref sig .tc .vmem S2x2048x128 .f32) (hacck : acckR.IsWhole)
  (accvR : Memref sig .tc .vmem S2048x128 .f32) (haccv : accvR.IsWhole)
  (xq : Vec Ideal S2048x256 .bf16) (xk : Vec Ideal S2048x256 .bf16) (xv : Vec Ideal S2048x128 .bf16) (xtab : Vec Ideal S1x4x512x512 .f32) (xo : Vec Ideal S2048x128 .bf16) (xlse : Vec Ideal S2048x128 .f32) (xg : Vec Ideal S2048x128 .bf16)
  (bias : ℤ → EReal)

/-- A head's log-sum of a row, its sum of output times cotangent, -/
def rowLog (e : Fin 2) (i : Fin 2048) : EReal := (∑ l : Fin 128, if mine e l then xlse (ix2 i l) else 0) * ((1 / 64 : ℝ) : EReal)
def rowDot (e : Fin 2) (i : Fin 2048) : EReal := ∑ l : Fin 128, if mine e l then xg (ix2 i l) * xo (ix2 i l) else 0
/-- its probability of a key at a query, -/
def weight (e : Fin 2) (i j : Fin 2048) : EReal :=
  Ideal.exp2 ((∑ c, xk (ix2 j (lane e c)) * xq (ix2 i (lane e c))) + bias ((i.val : ℤ) - j.val) - rowLog xlse e i)
/-- and the score's gradient. -/
def slope (e : Fin 2) (i j : Fin 2048) : EReal :=
  weight xq xk xlse bias e i j * ((∑ l, xv (ix2 j l) * (if mine e l then xg (ix2 i l) else 0)) - rowDot xo xg e i)

theorem qs_at (b : Fin 4) (e : Fin 2) (i : Fin 512) (c : Fin 128) : qs (F := Ideal) qR hq xq b e (ix2 i c) = xq (ix2 (row b i) (lane e c)) := by
  unfold qs
  rw [block_at, hq.readAt_unread]
  exact congrArg xq ((eq_ix2 _).trans (congrArg₂ ix2 (Fin.ext (by simp [row])) (Fin.ext (by simp [lane]))))
theorem load_at {ty : EltTy} (R : Memref sig .tc .vmem S2048x128 ty) (h : R.IsWhole) (x : Vec Ideal S2048x128 ty) (b : Fin 4) (i : Fin 512) (l : Fin 128) :
    View.readAt (Elt Ideal) R.view (rows b).toLoadRect (h.unread x) (ix2 i l) = x (ix2 (row b i) l) := by
  rw [h.readAt_unread]
  exact congrArg x (rows_emb b i l)
theorem gs_at (b : Fin 4) (e : Fin 2) (i : Fin 512) (l : Fin 128) : gs (F := Ideal) gR hg xg b e (ix2 i l) = if mine e l then xg (ix2 (row b i) l) else 0 := by
  unfold gs; rw [ofHead_at, load_at]
theorem vs_at (b : Fin 4) (i : Fin 512) (l : Fin 128) : vs (F := Ideal) vR hv xv b (ix2 i l) = xv (ix2 (row b i) l) := by
  unfold vs; rw [block_at, load_at]

variable (hor : ∀ i l, IsReal (xo (ix2 i l))) (hgr : ∀ i l, IsReal (xg (ix2 i l))) (hlr : ∀ i l, IsReal (xlse (ix2 i l)))
  (hb : ∀ d < 0, bias d = ⊥) (hT : ∀ n j i, xtab (ix4 0 n j i) = bias (512 * (n.val : ℤ) + i.val - j.val))

include hor hgr in
theorem ds_at (b : Fin 4) (e : Fin 2) (i : Fin 512) : ds (F := Ideal) oR ho gR hg xo xg b e (ix2 0 i) = rowDot xo xg e (row b i) := by
  unfold ds rowDot
  rw [dots_at _ _ _ (fun i l => by rw [load_at]; exact hgr _ _) (fun i l => by rw [load_at]; exact hor _ _)]
  simp only [load_at]
include hlr in
theorem ls_at (b : Fin 4) (e : Fin 2) (i : Fin 512) : ls (F := Ideal) lseR hlse xlse b e (ix2 0 i) = rowLog xlse e (row b i) := by
  unfold ls rowLog
  rw [logs_at _ _ (fun i l => by rw [load_at]; exact hlr _ _)]
  simp only [load_at]

theorem tabs_at (n : Fin 4) (j i : Fin 512) : tabs (F := Ideal) tabR htab xtab n (ix4 0 0 j i) = xtab (ix4 0 n j i) := by
  unfold tabs
  rw [htab.readAt_unread]
  exact congrArg xtab ((eq_ix4 _).trans (by congr 1 <;> exact Fin.ext (by simp)))
theorem tab1_at (j : Fin 256) (i : Fin 512) : tab1 (F := Ideal) tabR htab xtab (ix4 0 0 j i) = tabs tabR htab xtab 0 (ix4 0 0 (lo j) i) := by
  unfold tab1
  rw [tabs_at, htab.readAt_unread]
  exact congrArg xtab ((eq_ix4 _).trans (by congr 1 <;> exact Fin.ext (by simp [lo])))
theorem tab2_at (j i : Fin 256) : tab2 (F := Ideal) tabR htab xtab (ix4 0 0 j i) = tabs tabR htab xtab 0 (ix4 0 0 (hi j) (hi i)) := by
  unfold tab2
  rw [tabs_at, htab.readAt_unread]
  exact congrArg xtab ((eq_ix4 _).trans (by congr 1 <;> exact Fin.ext (by simp [hi, add_comm])))

include hb hT in
theorem tabs_corner (j i : Fin 256) : tabs (F := Ideal) tabR htab xtab 0 (ix4 0 0 (hi j) (lo i)) = ⊥ := by
  rw [tabs_at, hT]
  refine hb _ ?_
  simp only [hi, lo, Fin.val_zero]; push_cast; omega
include hb hT in
theorem table_at (a b : Fin 4) (j i : Fin 512) : table (tabs (F := Ideal) tabR htab xtab) a b j i = bias (((row b i).val : ℤ) - (row a j).val) := by
  unfold table
  split
  · rename_i h
    rw [tabs_at, hT, Fin.sub_val_of_le h]
    have : a.val ≤ b.val := h
    congr 1; simp only [row]; push_cast [this]; ring
  · rename_i h
    have : b.val < a.val := not_le.mp h
    refine (hb _ ?_).symm
    simp only [row]; push_cast; omega

include hlr hb hT in
theorem prob_at (e : Fin 2) (a b : Fin 4) (j i : Fin 512) :
    prob (qs (F := Ideal) qR hq xq) (qs kR hk xk) (ls lseR hlse xlse) (tabs tabR htab xtab) e a b j i = weight xq xk xlse bias e (row b i) (row a j) := by
  unfold prob weight
  rw [table_at tabR htab xtab bias hb hT, ls_at lseR hlse xlse hlr]
  simp only [qs_at]
include hor hgr hlr hb hT in
theorem grad_at (e : Fin 2) (a b : Fin 4) (j i : Fin 512) :
    grad (qs (F := Ideal) qR hq xq) (qs kR hk xk) (gs gR hg xg) (vs vR hv xv) (ds oR ho gR hg xo xg) (ls lseR hlse xlse) (tabs tabR htab xtab) e a b j i
      = slope xq xk xv xo xlse xg bias e (row b i) (row a j) := by
  unfold grad slope
  rw [prob_at qR hq kR hk tabR htab lseR hlse xq xk xtab xlse bias hlr hb hT, ds_at oR ho gR hg xo xg hor hgr]
  simp only [vs_at, gs_at]

/-- What the accumulators' rewritings add, at an index. -/
theorem putK_at (x : Fin 2 × Fin 4) (y : FVec Ideal S1x512x128 .f32) (j : Fin 512) (l : Fin 128) :
    putK (F := Ideal) qR hq kR hk vR hv tabR htab oR ho lseR hlse gR hg xq xk xv xtab xo xlse xg x y (ix3 0 j l) = y (ix3 0 j l) + dkPart (qs (F := Ideal) qR hq xq) (qs kR hk xk) (gs gR hg xg) (vs vR hv xv) (ds oR ho gR hg xo xg) (ls lseR hlse xlse) (tab1 tabR htab xtab) (tab2 tabR htab xtab) (tabs tabR htab xtab) x.1 x.2 (ix2 j l) := by
  unfold putK; pointwise []
theorem putV_at (a : Fin 4) (y : FVec Ideal S512x128 .f32) (j : Fin 512) (l : Fin 128) :
    putV (F := Ideal) qR hq kR hk tabR htab lseR hlse gR hg xq xk xtab xlse xg a y (ix2 j l)
      = y (ix2 j l) + dvPart (qs (F := Ideal) qR hq xq) (qs kR hk xk) (gs gR hg xg) (ls lseR hlse xlse) (tab1 tabR htab xtab) (tab2 tabR htab xtab) (tabs tabR htab xtab) a (ix2 j l) := by
  unfold putV; pointwise []

/-- The gradients a point leaves: of a query, -/
def queryGrad (e : Fin 2) (i : Fin 2048) (l : Fin 128) : EReal := ∑ j, xk (ix2 j (lane e l)) * slope xq xk xv xo xlse xg bias e i j
/-- of a key, -/
def keyGrad (e : Fin 2) (j : Fin 2048) (l : Fin 128) : EReal := ∑ i, slope xq xk xv xo xlse xg bias e i j * xq (ix2 i (lane e l))
/-- and of a value. -/
def valueGrad (j : Fin 2048) (l : Fin 128) : EReal := ∑ e, ∑ i, weight xq xk xlse bias e i j * (if mine e l then xg (ix2 i l) else 0)

include hor hgr hlr hb hT

theorem dqAt_at (e : Fin 2) (b : Fin 4) (l : Fin 128) (i : Fin 512) :
    dqAt (F := Ideal) qR hq kR hk vR hv tabR htab oR ho lseR hlse gR hg xq xk xv xtab xo xlse xg e b (ix2 l i) = queryGrad xq xk xv xo xlse xg bias e (row b i) l := by
  unfold queryGrad dqAt
  rw [dqT_at _ _ _ _ _ _ _ _ _ (tab1_at tabR htab xtab) (tab2_at tabR htab xtab) (tabs_corner tabR htab xtab bias hb hT), ← sum_rows]
  simp only [qs_at, grad_at qR hq kR hk vR hv tabR htab oR ho lseR hlse gR hg xq xk xv xtab xo xlse xg bias hor hgr hlr hb hT]

theorem dq_leaves (b : Fin 2048) (l : Fin 128) :
    View.canon (run (F := Ideal) c i qR hq kR hk vR hv tabR htab oR ho lseR hlse gR hg dqR hdq dkR hdk dvR hdv dqxR hdqx dkxR hdkx acckR hacck accvR haccv xq xk xv xtab xo xlse xg).1 (ix2 b l)
      = if mine 0 l then queryGrad xq xk xv xo xlse xg bias 0 b l else queryGrad xq xk xv xo xlse xg bias 1 b l := by
  obtain ⟨b, j, rfl⟩ := row_of b
  rw [stores_dq, ← rows_emb]
  refine (canon_pieces rows _ rows_apart _ b (by fin_cases b <;> simp) (ix2 j l)).trans ?_
  refine (across_at _ _ j l).trans ?_
  simp only [dqAt_at qR hq kR hk vR hv tabR htab oR ho lseR hlse gR hg xq xk xv xtab xo xlse xg bias hor hgr hlr hb hT]

theorem dqx_leaves (b : Fin 2048) (l : Fin 128) :
    View.canon (run (F := Ideal) c i qR hq kR hk vR hv tabR htab oR ho lseR hlse gR hg dqR hdq dkR hdk dvR hdv dqxR hdqx dkxR hdkx acckR hacck accvR haccv xq xk xv xtab xo xlse xg).2.2.2.1 (ix2 b l)
      = if mine 0 l then queryGrad xq xk xv xo xlse xg bias 1 b l else queryGrad xq xk xv xo xlse xg bias 0 b l := by
  obtain ⟨b, j, rfl⟩ := row_of b
  rw [stores_dqx, ← rows_emb]
  refine (canon_pieces rows _ rows_apart _ b (by fin_cases b <;> simp) (ix2 j l)).trans ?_
  refine (across_at _ _ j l).trans ?_
  simp only [dqAt_at qR hq kR hk vR hv tabR htab oR ho lseR hlse gR hg xq xk xv xtab xo xlse xg bias hor hgr hlr hb hT]

theorem accK_at (e : Fin 2) (j : Fin 2048) (l : Fin 128) :
    View.canon (accK (F := Ideal) qR hq kR hk vR hv tabR htab oR ho lseR hlse gR hg acckR xq xk xv xtab xo xlse xg) (ix3 e j l) = keyGrad xq xk xv xo xlse xg bias e j l := by
  obtain ⟨a, j, rfl⟩ := row_of j
  unfold accK keyGrad
  rw [← rowsAcc_emb, canon_rewritten _ _ _ _ _ (by intro a; fin_cases a <;> rfl) rowsAcc_apart _ (by decide),
    if_pos (by fin_cases e <;> fin_cases a <;> simp)]
  rw [putK_at]
  rw [fillK, zero_add, dkPart_at _ _ _ _ _ _ _ _ _ (tab1_at tabR htab xtab) (tab2_at tabR htab xtab) (tabs_corner tabR htab xtab bias hb hT), ← sum_rows]
  simp only [qs_at, grad_at qR hq kR hk vR hv tabR htab oR ho lseR hlse gR hg xq xk xv xtab xo xlse xg bias hor hgr hlr hb hT]

theorem headK_at (e : Fin 2) (j : Fin 2048) (l : Fin 128) :
    headK (F := Ideal) qR hq kR hk vR hv tabR htab oR ho lseR hlse gR hg acckR xq xk xv xtab xo xlse xg e (ix2 j l) = keyGrad xq xk xv xo xlse xg bias e j l := by
  rw [← accK_at qR hq kR hk vR hv tabR htab oR ho lseR hlse gR hg acckR xq xk xv xtab xo xlse xg bias hor hgr hlr hb hT]
  unfold headK
  simp only [View.readCov_eq_canon']
  fin_cases e
  · pointwise []
  · pointwise []

theorem dk_leaves (j : Fin 2048) (l : Fin 128) :
    View.canon (run (F := Ideal) c i qR hq kR hk vR hv tabR htab oR ho lseR hlse gR hg dqR hdq dkR hdk dvR hdv dqxR hdqx dkxR hdkx acckR hacck accvR haccv xq xk xv xtab xo xlse xg).2.1 (ix2 j l)
      = if mine 0 l then keyGrad xq xk xv xo xlse xg bias 0 j l else keyGrad xq xk xv xo xlse xg bias 1 j l := by
  rw [stores_dk, View.canon_cons_unit_lit _ _ _ (by intro a; fin_cases a <;> rfl)]
  refine (show _ = select k0_pay423 (headK qR hq kR hk vR hv tabR htab oR ho lseR hlse gR hg acckR xq xk xv xtab xo xlse xg 0) (headK qR hq kR hk vR hv tabR htab oR ho lseR hlse gR hg acckR xq xk xv xtab xo xlse xg 1) (ix2 j l) from rfl).trans ?_
  rw [halves_at]
  simp only [headK_at qR hq kR hk vR hv tabR htab oR ho lseR hlse gR hg acckR xq xk xv xtab xo xlse xg bias hor hgr hlr hb hT]

theorem dkx_leaves (j : Fin 2048) (l : Fin 128) :
    View.canon (run (F := Ideal) c i qR hq kR hk vR hv tabR htab oR ho lseR hlse gR hg dqR hdq dkR hdk dvR hdv dqxR hdqx dkxR hdkx acckR hacck accvR haccv xq xk xv xtab xo xlse xg).2.2.2.2.1 (ix2 j l)
      = if mine 0 l then keyGrad xq xk xv xo xlse xg bias 1 j l else keyGrad xq xk xv xo xlse xg bias 0 j l := by
  rw [stores_dkx, View.canon_cons_unit_lit _ _ _ (by intro a; fin_cases a <;> rfl)]
  rw [halves_at]
  simp only [headK_at qR hq kR hk vR hv tabR htab oR ho lseR hlse gR hg acckR xq xk xv xtab xo xlse xg bias hor hgr hlr hb hT]

theorem dv_leaves (j : Fin 2048) (l : Fin 128) :
    View.canon (run (F := Ideal) c i qR hq kR hk vR hv tabR htab oR ho lseR hlse gR hg dqR hdq dkR hdk dvR hdv dqxR hdqx dkxR hdkx acckR hacck accvR haccv xq xk xv xtab xo xlse xg).2.2.1 (ix2 j l)
      = valueGrad xq xk xlse xg bias j l := by
  obtain ⟨a, j, rfl⟩ := row_of j
  rw [stores_dv, View.canon_cons_unit_lit _ _ _ (by intro a; fin_cases a <;> rfl)]
  refine (show _ = View.readCov accvR.view _ (Rect.unit (s := S2048x128) ![0, 0] ![2048, 128] inb_S2048x128_S2048x128_0_0).toLoadRect (ix2 (row a j) l) from rfl).trans ?_
  rw [View.readCov_eq_canon']
  refine (congrArg (View.canon _) (show _ = (rows a).emb (ix2 j l) from ?_)).trans ?_
  · rw [rows_emb]
    exact (eq_ix2 _).trans (congrArg₂ ix2 (Fin.ext (by simp)) (Fin.ext (by simp)))
  unfold accV valueGrad
  rw [canon_rewritten _ _ _ _ _ (by intro a; fin_cases a <;> rfl) rows_apart _ (by decide), if_pos (by fin_cases a <;> simp)]
  rw [putV_at]
  rw [fillV, zero_add, dvPart_at _ _ _ _ _ _ _ (tab1_at tabR htab xtab) (tab2_at tabR htab xtab) (tabs_corner tabR htab xtab bias hb hT)]
  simp only [← sum_rows, gs_at, prob_at qR hq kR hk tabR htab lseR hlse xq xk xtab xlse bias hlr hb hT]

end Body

end Cert.Attn

end
-- ==== Proof.AttnPair.lean ====
module

public import proofs.«01_k».proof.Proof.AttnReal
public import proofs.«01_k».proof.Proof.AttnBlock

/-! A pair's block of gradients when its lanes are real. -/

@[expose] public section

set_option maxRecDepth 16384

noncomputable section

open Idealize.ShloMosaic Idealize.ShloMosaic.TcCoe Idealize.SL.Sem

namespace Cert.Attn

open Cert.Kernel7Ideal Cert.Kernel7Ideal.Gen

/-- A lane of the first or second half, and the other half. -/
def at64 (s : Fin 2) (k : Fin 64) : Fin 128 := ⟨64 * s.val + k.val, by omega⟩
def other (e : Fin 2) : Fin 2 := ⟨1 - e.val, by omega⟩

theorem mine_at (e s : Fin 2) (k : Fin 64) : mine e (at64 s k) ↔ s = e := by
  unfold mine at64
  constructor
  · intro h
    exact Fin.ext (by simp only at h; omega)
  · rintro rfl
    simp only
    omega

theorem sum_two_halves {M : Type} [AddCommMonoid M] (e : Fin 2) (f : Fin 128 → M) : ∑ l, f l = ∑ k, f (at64 e k) + ∑ k, f (at64 (other e) k) := by
  have h : ∑ l, f l = ∑ k, f (at64 0 k) + ∑ k, f (at64 1 k) := by
    refine (Fin.sum_univ_add (a := 64) (b := 64) f).trans (congrArg₂ (· + ·) ?_ ?_)
    · exact Finset.sum_congr rfl fun k _ => congrArg f (Fin.ext (by simp [at64]))
    · exact Finset.sum_congr rfl fun k _ => congrArg f (Fin.ext (by simp [at64]; omega))
  rw [h]
  fin_cases e
  · rfl
  · exact add_comm _ _

theorem sum_mine (e : Fin 2) (f : Fin 128 → EReal) : (∑ l, if mine e l then f l else 0) = ∑ k, f (at64 e k) := by
  rw [sum_two_halves e]
  have h1 : ∀ k, (if mine e (at64 e k) then f (at64 e k) else 0) = f (at64 e k) := fun k => if_pos ((mine_at e e k).mpr rfl)
  have h2 : ∀ k, (if mine e (at64 (other e) k) then f (at64 (other e) k) else 0) = 0 := fun k => if_neg fun h => by
    have := congrArg Fin.val ((mine_at e _ k).mp h)
    simp only [other] at this
    omega
  rw [Finset.sum_congr rfl fun k _ => h1 k, Finset.sum_congr rfl fun k _ => h2 k, Finset.sum_const_zero, add_zero]

section Pair

variable {xq : Vec Ideal S2048x256 .bf16} {xk : Vec Ideal S2048x256 .bf16} {xv : Vec Ideal S2048x128 .bf16} {xo : Vec Ideal S2048x128 .bf16} {xlse : Vec Ideal S2048x128 .f32}
  {xg : Vec Ideal S2048x128 .bf16} {bias : ℤ → EReal}
variable {e : Fin 2} {Q K Qb Kb v g : Fin 2048 → Fin 64 → ℝ} {E : Fin 2048 → Fin 2048 → ℝ}

variable (hq : ∀ i k, xq (ix2 i (lane e (at64 e k))) = (Q i k : EReal)) (hk : ∀ i k, xk (ix2 i (lane e (at64 e k))) = (K i k : EReal))
  (hqb : ∀ i k, xq (ix2 i (lane e (at64 (other e) k))) = (Qb i k : EReal)) (hkb : ∀ i k, xk (ix2 i (lane e (at64 (other e) k))) = (Kb i k : EReal))
  (hv : ∀ i k, xv (ix2 i (at64 e k)) = (v i k : EReal)) (hg : ∀ i k, xg (ix2 i (at64 e k)) = (g i k : EReal))
  (ho : ∀ i l, xo (ix2 i (at64 e l)) = ((∑ j, v j l * soft E i j : ℝ) : EReal)) (hl : ∀ i k, xlse (ix2 i (at64 e k)) = ((Real.log (rowSum E i) / L2 : ℝ) : EReal))
  (hs : ∀ i j, IsScore L2 (((∑ k, K j k * Q i k + ∑ k, Kb j k * Qb i k : ℝ) : EReal) + bias ((i.val : ℤ) - j.val)) (E i j))
  (hA : ∀ i, 0 < rowSum E i)

include hl in
theorem rowLog_real (i : Fin 2048) : rowLog xlse e i = ((Real.log (rowSum E i) / L2 : ℝ) : EReal) := by
  unfold rowLog
  rw [sum_mine e fun l => xlse (ix2 i l), sum_real _ _ _ fun k => hl i k, ← EReal.coe_mul, Finset.sum_const, Finset.card_univ, Fintype.card_fin]
  congr 1
  rw [nsmul_eq_mul]
  push_cast
  ring

include hg ho in
theorem rowDot_real (i : Fin 2048) : rowDot xo xg e i = (rowGrad E v g i : EReal) := by
  unfold rowDot
  rw [sum_mine e fun l => xg (ix2 i l) * xo (ix2 i l), sum_real _ _ _ fun k => by rw [hg, ho, ← EReal.coe_mul]]
  congr 1
  unfold rowGrad softGrad
  simp only [Finset.mul_sum]
  rw [Finset.sum_comm]
  exact Finset.sum_congr rfl fun j _ => Finset.sum_congr rfl fun l _ => by ring

include hq hk hqb hkb hl hs hA in
/-- A head's probability. -/
theorem weight_real (i j : Fin 2048) : weight xq xk xlse bias e i j = (soft E i j : EReal) := by
  unfold weight
  rw [rowLog_real hl, sum_two_halves e, sum_real _ _ _ fun k => by rw [hk, hq, ← EReal.coe_mul], sum_real _ (fun k => xk (ix2 j (lane e (at64 (other e) k))) * xq (ix2 i (lane e (at64 (other e) k)))) _ fun k => by rw [hkb, hqb, ← EReal.coe_mul],
    ← EReal.coe_add, exp2_score (hs i j), div_mul_cancel₀ _ L2_pos.ne', Real.exp_neg, Real.exp_log (hA i), ← div_eq_mul_inv]
  rfl

include hv hg in
theorem prodGrad_real (i j : Fin 2048) : (∑ l, xv (ix2 j l) * (if mine e l then xg (ix2 i l) else 0)) = (softGrad v g i j : EReal) := by
  have : ∀ l, xv (ix2 j l) * (if mine e l then xg (ix2 i l) else 0) = if mine e l then xv (ix2 j l) * xg (ix2 i l) else 0 := fun l => by
    split_ifs
    · rfl
    · exact mul_zero _
  rw [Finset.sum_congr rfl fun l _ => this l, sum_mine e fun l => xv (ix2 j l) * xg (ix2 i l), sum_real _ _ _ fun k => by rw [hv, hg, ← EReal.coe_mul]]
  rfl

include hq hk hqb hkb hv hg ho hl hs hA in
/-- The gradient of a head's score. -/
theorem slope_real (i j : Fin 2048) : slope xq xk xv xo xlse xg bias e i j = (scoreGrad E v g i j : EReal) := by
  unfold slope
  rw [weight_real hq hk hqb hkb hl hs hA, prodGrad_real hv hg, rowDot_real hg ho, ← EReal.coe_sub, ← EReal.coe_mul]
  rfl

include hq hk hqb hkb hv hg ho hl hs hA in
/-- The gradients on a head's own lanes and on the lanes beside them. -/
theorem queryGrad_own (i : Fin 2048) (k : Fin 64) : queryGrad xq xk xv xo xlse xg bias e i (at64 e k) = ((∑ j, K j k * scoreGrad E v g i j : ℝ) : EReal) := by
  unfold queryGrad
  exact sum_real _ _ _ fun j => by rw [slope_real hq hk hqb hkb hv hg ho hl hs hA, hk, ← EReal.coe_mul]
include hq hk hqb hkb hv hg ho hl hs hA in
theorem queryGrad_beside (i : Fin 2048) (k : Fin 64) : queryGrad xq xk xv xo xlse xg bias e i (at64 (other e) k) = ((∑ j, Kb j k * scoreGrad E v g i j : ℝ) : EReal) := by
  unfold queryGrad
  exact sum_real _ _ _ fun j => by rw [slope_real hq hk hqb hkb hv hg ho hl hs hA, hkb, ← EReal.coe_mul]
include hq hk hqb hkb hv hg ho hl hs hA in
theorem keyGrad_own (j : Fin 2048) (k : Fin 64) : keyGrad xq xk xv xo xlse xg bias e j (at64 e k) = ((∑ i, scoreGrad E v g i j * Q i k : ℝ) : EReal) := by
  unfold keyGrad
  exact sum_real _ _ _ fun i => by rw [slope_real hq hk hqb hkb hv hg ho hl hs hA, hq, ← EReal.coe_mul]
include hq hk hqb hkb hv hg ho hl hs hA in
theorem keyGrad_beside (j : Fin 2048) (k : Fin 64) : keyGrad xq xk xv xo xlse xg bias e j (at64 (other e) k) = ((∑ i, scoreGrad E v g i j * Qb i k : ℝ) : EReal) := by
  unfold keyGrad
  exact sum_real _ _ _ fun i => by rw [slope_real hq hk hqb hkb hv hg ho hl hs hA, hqb, ← EReal.coe_mul]

include hq hk hqb hkb hg hl hs hA in
theorem valueGrad_head (j : Fin 2048) (k : Fin 64) : valueGrad xq xk xlse xg bias j (at64 e k) = ((∑ i, soft E i j * g i k : ℝ) : EReal) := by
  unfold valueGrad
  rw [Finset.sum_eq_single_of_mem e (Finset.mem_univ e) fun e' _ he => Finset.sum_eq_zero fun i _ => by
    rw [if_neg fun h => he ((mine_at e' e k).mp h).symm, mul_zero]]
  exact sum_real _ _ _ fun i => by rw [weight_real hq hk hqb hkb hl hs hA, if_pos ((mine_at e e k).mpr rfl), hg, ← EReal.coe_mul]

end Pair

end Cert.Attn

end
-- ==== Proof.AttnRefFox.lean ====
module

public import proofs.«01_k».proof.Defs
public import proofs.«01_k».proof.Proof.AttnReal
public import proofs.«01_k».proof.Proof.Gen.Reference7Ideal.Read
public import Idealize.ShloMosaic.Lib.Pipeline.ValueKit

/-! The reference's first eight heads: the softmax, its gradient and the gate's, each entry a real number. -/

@[expose] public section

set_option maxRecDepth 16384

noncomputable section

open Idealize.ShloMosaic Idealize.ShloMosaic.TcCoe Idealize.SL.Sem

namespace Cert.Attn

open Cert.Reference7Ideal Cert.Reference7Ideal.Read

/-- A head of the first eight, and one of the others. -/
abbrev foxH (h : Fin 8) : Fin 16 := ⟨h.val, by omega⟩
abbrev dilH (h : Fin 8) : Fin 16 := ⟨8 + h.val, by omega⟩
/-- One head of an array, at one batch. -/
abbrev headOf (a : Fin 4 → Fin 2048 → Fin 16 → Fin 64 → ℝ) (b : Fin 4) (h : Fin 16) (i : Fin 2048) (e : Fin 64) : ℝ := a b i h e

theorem one_eq : Ideal.ofBits .f32 1065353216#32 = ((1 : ℝ) : EReal) := by simp [Ideal.ofBits, Ideal.ieee]; norm_cast; norm_num

variable {x0 x1 x2 x4 : FVec Ideal S4x2048x16x64 .f32} {x3 : FVec Ideal S4x2048x8 .f32}
variable {q k v g : Fin 4 → Fin 2048 → Fin 16 → Fin 64 → ℝ} {cc : Fin 4 → Fin 2048 → Fin 8 → ℝ}

/-- An unmasked product of a query and a key, scaled. -/
theorem sim_at (h0 : ∀ b i h e, x0 (ix4 b i h e) = (q b i h e : EReal)) (h1 : ∀ b i h e, x1 (ix4 b i h e) = (k b i h e : EReal)) (b : Fin 4) (h : Fin 16) (i j : Fin 2048) :
    val_main_v9 (F := Ideal) x0 x1 (ix4 b h i j) = (((∑ e, q b i h e * k b j h e) * (1 / 8) : ℝ) : EReal) := by
  pointwise [val_main_v9, val_main_v8, val_main_v7, val_main_cst]
  rw [show Ideal.ofBits .f32 1040187392#32 = ((1 / 8 : ℝ) : EReal) from eighth_eq,
    sum_real _ _ (fun e => q b i h e * k b j h e) fun e => by rw [h0, h1, ← EReal.coe_mul], ← EReal.coe_mul]

/-- The masked score is the logarithm of the weight. -/
theorem foxScore_at (h0 : ∀ b i h e, x0 (ix4 b i h e) = (q b i h e : EReal)) (h1 : ∀ b i h e, x1 (ix4 b i h e) = (k b i h e : EReal))
    (h3 : ∀ b i h, x3 (ix3 b i h) = (cc b i h : EReal)) (b : Fin 4) (h : Fin 8) (i j : Fin 2048) :
    IsScore 1 (val_main_v20_0 (F := Ideal) x0 x1 x3 (ix4 b h i j)) (wt q k cc b (foxH h) i j) := by
  have e : val_main_v20_0 (F := Ideal) x0 x1 x3 (ix4 b h i j) = Scalar.select (IntOp.cmpi .sge (gap i.val j.val) 0#32)
      (val_main_v9 (F := Ideal) x0 x1 (ix4 b (foxH h) i j) + (x3 (ix3 b i h) - x3 (ix3 b j h))) (Ideal.ofBits .f32 4286578688#32) := by
    pointwise [val_main_v20_0, val_main_v20_1, val_main_v19, val_main_v18, val_main_v17, val_main_v16, val_main_v15, val_main_v14, val_main_v13, val_main_v12, val_main_v11,
      val_main_v10, val_main_v6, val_main_v5, val_main_v4, val_main_v3, val_main_v2, val_main_v1, val_main_v0, val_main_c, val_main_call0_v2, val_main_call0_v0, val_main_cst_0]
    rfl
  rw [e, sim_at h0 h1, h3, h3, bot_eq]
  have hg : ∀ i, realGate cc b (foxH h) i = cc b i h := fun i => dif_pos h.isLt
  by_cases hm : IntOp.cmpi .sge (gap i.val j.val) 0#32 = 1#1
  · refine Or.inr ⟨plain q k cc b (foxH h) i j, ?_, ?_⟩
    · unfold plain
      rw [hg, hg, EReal.coe_add, EReal.coe_sub]
      simp [hm, Scalar.select]
    · unfold wt times holds
      rw [if_pos (show (foxH h).val < 8 from h.isLt), if_pos hm, one_mul, mul_one]
  · refine Or.inl ⟨by simp [hm, Scalar.select], ?_⟩
    unfold wt times holds
    rw [if_pos (show (foxH h).val < 8 from h.isLt), if_neg hm, zero_mul]

theorem maximumf_at {s : Shape} (A B : FVec Ideal s .f32) (i : s.Idx) : maximumf A B i = max (A i) (B i) := rfl
theorem v27_at (i : S4x8x2048.Idx) : val_main_v27 (F := Ideal) i = ⊥ := bot_eq
/-- The row's largest score, once more bounded below by minus infinity. -/
theorem v28_at (i : S4x8x2048.Idx) : val_main_v28 (F := Ideal) x0 x1 x3 i = val_main_v21 (F := Ideal) x0 x1 x3 i := by
  unfold val_main_v28
  rw [maximumf_at, v27_at, max_eq_right bot_le]
theorem v21_at (b : Fin 4) (h : Fin 8) (i : Fin 2048) : val_main_v21 (F := Ideal) x0 x1 x3 (ix3 b h i)
    = Finset.univ.fold max (Ideal.ofBits .f32 4286578688#32) fun j => val_main_v20_0 (F := Ideal) x0 x1 x3 (ix4 b h i j) := by
  pointwise [val_main_v21, val_main_cst_1]
theorem v41_at (b : Fin 4) (h : Fin 8) (i j : Fin 2048) : val_main_v41 (F := Ideal) x0 x1 x3 (ix4 b h i j)
    = Ideal.exp (val_main_v20_0 (F := Ideal) x0 x1 x3 (ix4 b h i j) - val_main_v28 (F := Ideal) x0 x1 x3 (ix3 b h i)) := by
  pointwise [val_main_v41, val_main_v40, val_main_v39, val_main_v38]

/-- A row's exponentials are its weights times one positive number. -/
theorem foxExp (h0 : ∀ b i h e, x0 (ix4 b i h e) = (q b i h e : EReal)) (h1 : ∀ b i h e, x1 (ix4 b i h e) = (k b i h e : EReal))
    (h3 : ∀ b i h, x3 (ix3 b i h) = (cc b i h : EReal)) (b : Fin 4) (h : Fin 8) (i : Fin 2048) :
    ∃ Z : ℝ, 0 < Z ∧ ∀ j, val_main_v41 (F := Ideal) x0 x1 x3 (ix4 b h i j) = ((wt q k cc b (foxH h) i j * Z : ℝ) : EReal) := by
  obtain ⟨M, hM⟩ := max_real (fun j => val_main_v20_0 (F := Ideal) x0 x1 x3 (ix4 b h i j)) (fun j => (foxScore_at h0 h1 h3 b h i j).real) i
    ((foxScore_at h0 h1 h3 b h i i).ne_bot (wt_self q k cc b _ i))
  refine ⟨Real.exp (-M), Real.exp_pos _, fun j => ?_⟩
  rw [v41_at, v28_at, v21_at, bot_eq, hM]
  exact exp_score' (foxScore_at h0 h1 h3 b h i j) M

/-- The softmax. -/
theorem foxSoft_at (h0 : ∀ b i h e, x0 (ix4 b i h e) = (q b i h e : EReal)) (h1 : ∀ b i h e, x1 (ix4 b i h e) = (k b i h e : EReal))
    (h3 : ∀ b i h, x3 (ix3 b i h) = (cc b i h : EReal)) (b : Fin 4) (h : Fin 8) (i j : Fin 2048) :
    val_main_v45 (F := Ideal) x0 x1 x3 (ix4 b h i j) = (soft (wt q k cc b (foxH h)) i j : EReal) := by
  obtain ⟨Z, hZ, hE⟩ := foxExp h0 h1 h3 b h i
  have hA := rowSum_pos q k cc b (foxH h) i
  have e : val_main_v45 (F := Ideal) x0 x1 x3 (ix4 b h i j) = Ideal.div (val_main_v41 (F := Ideal) x0 x1 x3 (ix4 b h i j)) (∑ j, val_main_v41 (F := Ideal) x0 x1 x3 (ix4 b h i j)) := by
    pointwise [val_main_v45, val_main_v44, val_main_v43, val_main_v42, val_main_cst_9]
  have hS : ∑ j, val_main_v41 (F := Ideal) x0 x1 x3 (ix4 b h i j) = ((rowSum (wt q k cc b (foxH h)) i * Z : ℝ) : EReal) := by
    rw [sum_real _ _ _ hE, ← Finset.sum_mul]
    rfl
  rw [e, hS, hE, div_real _ _ (mul_pos hA hZ).ne']
  unfold soft
  rw [mul_div_mul_right _ _ hZ.ne']

/-- The score's cotangent. -/
theorem foxGrad_at (h0 : ∀ b i h e, x0 (ix4 b i h e) = (q b i h e : EReal)) (h1 : ∀ b i h e, x1 (ix4 b i h e) = (k b i h e : EReal))
    (h2 : ∀ b i h e, x2 (ix4 b i h e) = (v b i h e : EReal)) (h3 : ∀ b i h, x3 (ix3 b i h) = (cc b i h : EReal))
    (h4 : ∀ b i h e, x4 (ix4 b i h e) = (g b i h e : EReal)) (b : Fin 4) (h : Fin 8) (i j : Fin 2048) :
    val_main_v201 (F := Ideal) x0 x1 x2 x3 x4 (ix4 b h i j)
      = (scoreGrad (wt q k cc b (foxH h)) (headOf v b (foxH h)) (headOf g b (foxH h)) i j : EReal) := by
  obtain ⟨Z, hZ, hE⟩ := foxExp h0 h1 h3 b h i
  have hA := rowSum_pos q k cc b (foxH h) i
  have hd : ∀ j, val_main_v184 (F := Ideal) x2 x4 (ix4 b h i j) = (softGrad (headOf v b (foxH h)) (headOf g b (foxH h)) i j : EReal) := fun j => by
    pointwise [val_main_v184, val_main_v183, val_main_v143, val_main_v49]
    refine sum_real _ _ _ fun e => ?_
    rw [EReal.coe_mul, mul_comm]
    exact congrArg₂ (· * ·) (h2 ..) (h4 ..)
  have e : val_main_v201 (F := Ideal) x0 x1 x2 x3 x4 (ix4 b h i j) = Scalar.select (IntOp.cmpi .sge (gap i.val j.val) 0#32)
      ((Ideal.div (val_main_v184 (F := Ideal) x2 x4 (ix4 b h i j)) (∑ j, val_main_v41 (F := Ideal) x0 x1 x3 (ix4 b h i j))
        + ∑ _z : Fin 1, -(∑ j, val_main_v184 (F := Ideal) x2 x4 (ix4 b h i j) * Ideal.div (Ideal.ofBits .f32 1065353216#32)
            ((∑ j, val_main_v41 (F := Ideal) x0 x1 x3 (ix4 b h i j)) * (∑ j, val_main_v41 (F := Ideal) x0 x1 x3 (ix4 b h i j)))
            * val_main_v41 (F := Ideal) x0 x1 x3 (ix4 b h i j))) * val_main_v41 (F := Ideal) x0 x1 x3 (ix4 b h i j)) 0 := by
    pointwise [val_main_v201, val_main_call3_v0, val_main_call3_cst, val_main_v200, val_main_v199, val_main_v198, val_main_v197, val_main_v196, val_main_v195, val_main_v194, val_main_v193,
      val_main_v192, val_main_v191, val_main_v190, val_main_v189, val_main_v48, val_main_v47, val_main_v46, val_main_v43, val_main_v42, val_main_cst_9, val_main_cst_10, val_main_cst_47,
      val_main_cst_48, val_main_v20_1, val_main_v12, val_main_v11,
      val_main_v6, val_main_v5, val_main_v4, val_main_v3, val_main_v2, val_main_v1, val_main_v0, val_main_c]
    rfl
  have hS : ∑ j, val_main_v41 (F := Ideal) x0 x1 x3 (ix4 b h i j) = ((rowSum (wt q k cc b (foxH h)) i * Z : ℝ) : EReal) := by
    rw [sum_real _ _ _ hE, ← Finset.sum_mul]
    rfl
  have hAZ := (mul_pos hA hZ).ne'
  rw [e, Fin.sum_univ_one, hS, one_eq, ← EReal.coe_mul, div_real _ _ (mul_ne_zero hAZ hAZ), hE, hd, div_real _ _ hAZ,
    sum_real _ _ _ fun j => by rw [hd, hE, ← EReal.coe_mul, ← EReal.coe_mul], ← EReal.coe_neg, ← EReal.coe_add, ← EReal.coe_mul]
  have key : (softGrad (headOf v b (foxH h)) (headOf g b (foxH h)) i j / (rowSum (wt q k cc b (foxH h)) i * Z)
      + -∑ j, softGrad (headOf v b (foxH h)) (headOf g b (foxH h)) i j * (1 / (rowSum (wt q k cc b (foxH h)) i * Z * (rowSum (wt q k cc b (foxH h)) i * Z)))
          * (wt q k cc b (foxH h) i j * Z)) * (wt q k cc b (foxH h) i j * Z)
      = scoreGrad (wt q k cc b (foxH h)) (headOf v b (foxH h)) (headOf g b (foxH h)) i j := by
    unfold scoreGrad rowGrad soft
    have : ∀ j, softGrad (headOf v b (foxH h)) (headOf g b (foxH h)) i j * (1 / (rowSum (wt q k cc b (foxH h)) i * Z * (rowSum (wt q k cc b (foxH h)) i * Z)))
          * (wt q k cc b (foxH h) i j * Z) = (wt q k cc b (foxH h) i j / rowSum (wt q k cc b (foxH h)) i * softGrad (headOf v b (foxH h)) (headOf g b (foxH h)) i j)
            * (1 / (rowSum (wt q k cc b (foxH h)) i * Z)) := fun j => by field_simp
    rw [Finset.sum_congr rfl fun j _ => this j, ← Finset.sum_mul]
    field_simp
    ring
  by_cases hm : IntOp.cmpi .sge (gap i.val j.val) 0#32 = 1#1
  · rw [← key]
    simp [hm, Scalar.select]
  · have hz : wt q k cc b (foxH h) i j = 0 := by
      unfold wt times holds
      rw [if_pos (show (foxH h).val < 8 from h.isLt), if_neg hm, zero_mul]
    unfold scoreGrad soft
    rw [hz]
    simp [hm, Scalar.select]

end Cert.Attn

end
-- ==== Proof.AttnRefDil.lean ====
module

public import proofs.«01_k».proof.Proof.AttnRefFox

/-! The reference's other eight heads: three masked softmaxes blended by their row sums, and their gradient, each entry a real number. -/

@[expose] public section

set_option maxRecDepth 16384

noncomputable section

open Idealize.ShloMosaic Idealize.ShloMosaic.TcCoe Idealize.SL.Sem

namespace Cert.Attn

open Cert.Reference7Ideal Cert.Reference7Ideal.Read

/-- The pattern of a branch at a distance. -/
def pat (d : Fin 3) (x : BitVec 32) : BitVec 1 := if d.val < 1 then within 1#32 128#32 x else if d.val < 2 then within 4#32 512#32 x else within 16#32 2048#32 x

variable {x0 x1 x2 x4 : FVec Ideal S4x2048x16x64 .f32} {x3 : FVec Ideal S4x2048x8 .f32}
variable {q k v g : Fin 4 → Fin 2048 → Fin 16 → Fin 64 → ℝ} {cc : Fin 4 → Fin 2048 → Fin 8 → ℝ}

/-- A branch's weight of a key, and its row sum. -/
def part (q k : Fin 4 → Fin 2048 → Fin 16 → Fin 64 → ℝ) (cc : Fin 4 → Fin 2048 → Fin 8 → ℝ) (d : Fin 3) (b : Fin 4) (h : Fin 8) (i j : Fin 2048) : ℝ :=
  holds (pat d (gap i.val j.val)) * Real.exp (plain q k cc b (dilH h) i j)

theorem wt_parts (b : Fin 4) (h : Fin 8) (i j : Fin 2048) : wt q k cc b (dilH h) i j = ∑ d, part q k cc d b h i j := by
  unfold wt part times
  rw [if_neg (show ¬ (dilH h).val < 8 by simp), Fin.sum_univ_three]
  simp only [pat, Fin.val_zero, Fin.val_one, Fin.val_two]
  norm_num
  ring

theorem part_self (d : Fin 3) (b : Fin 4) (h : Fin 8) (i : Fin 2048) : 0 < part q k cc d b h i i := by
  unfold part
  rw [gap_self, show holds (pat d 0#32) = 1 from if_pos (by fin_cases d <;> decide), one_mul]
  exact Real.exp_pos _
theorem part_sum_pos (d : Fin 3) (b : Fin 4) (h : Fin 8) (i : Fin 2048) : 0 < rowSum (part q k cc d b h) i :=
  Finset.sum_pos' (fun j _ => mul_nonneg (holds_nonneg _) (Real.exp_pos _).le) ⟨i, Finset.mem_univ i, part_self d b h i⟩
theorem rowSum_parts (b : Fin 4) (h : Fin 8) (i : Fin 2048) : rowSum (wt q k cc b (dilH h)) i = ∑ d, rowSum (part q k cc d b h) i := by
  unfold rowSum
  rw [Finset.sum_comm]
  exact Finset.sum_congr rfl fun j _ => wt_parts b h i j

theorem v61_at (i j : Fin 2048) : val_main_v61 (F := Ideal) (ix2 i j) = within 1#32 128#32 (gap i.val j.val) := by
  pointwise [val_main_v61, val_main_v60, val_main_v59, val_main_v58, val_main_v57, val_main_v56, val_main_v55, val_main_v54, val_main_v53, val_main_v52, val_main_v6, val_main_v5, val_main_v4, val_main_v3, val_main_v2, val_main_v1, val_main_v0, val_main_c_11, val_main_c_12, val_main_c_13, val_main_c_14]
  rfl
theorem v71_at (i j : Fin 2048) : val_main_v71 (F := Ideal) (ix2 i j) = within 4#32 512#32 (gap i.val j.val) := by
  pointwise [val_main_v71, val_main_v70, val_main_v69, val_main_v68, val_main_v67, val_main_v66, val_main_v65, val_main_v64, val_main_v63, val_main_v62, val_main_v6, val_main_v5, val_main_v4, val_main_v3, val_main_v2, val_main_v1, val_main_v0, val_main_c_15, val_main_c_16, val_main_c_17, val_main_c_18]
  rfl
theorem v81_at (i j : Fin 2048) : val_main_v81 (F := Ideal) (ix2 i j) = within 16#32 2048#32 (gap i.val j.val) := by
  pointwise [val_main_v81, val_main_v80, val_main_v79, val_main_v78, val_main_v77, val_main_v76, val_main_v75, val_main_v74, val_main_v73, val_main_v72, val_main_v6, val_main_v5, val_main_v4, val_main_v3, val_main_v2, val_main_v1, val_main_v0, val_main_c_19, val_main_c_20, val_main_c_21, val_main_c_22]
  rfl
theorem v85_at (d : Fin 3) (i j : Fin 2048) : val_main_v85 (F := Ideal) (ix3 d i j) = pat d (gap i.val j.val) := by
  unfold pat
  rw [← v61_at, ← v71_at, ← v81_at]
  unfold val_main_v85 val_main_v84 val_main_v83 val_main_v82
  generalize val_main_v61 (F := Ideal) = A
  generalize val_main_v71 (F := Ideal) = B
  generalize val_main_v81 (F := Ideal) = C
  pointwise []
  fin_cases d <;> simp
theorem mask_at (d : Fin 3) (b : Fin 4) (h : Fin 8) (i j : Fin 2048) : val_main_v88_1 (F := Ideal) (ix5 d b h i j) = pat d (gap i.val j.val) := by
  rw [← v85_at]
  pointwise [val_main_v88_1, val_main_v86]

theorem v88_at (d : Fin 3) (b : Fin 4) (h : Fin 8) (i j : Fin 2048) : val_main_v88_0 (F := Ideal) x0 x1 (ix5 d b h i j)
    = Scalar.select (val_main_v88_1 (F := Ideal) (ix5 d b h i j)) (val_main_v9 (F := Ideal) x0 x1 (ix4 b (dilH h) i j)) (Ideal.ofBits .f32 4286578688#32) := by
  pointwise [val_main_v88_0, val_main_call1_v2, val_main_call1_v3, val_main_call1_v0, val_main_v87, val_main_cst_23]
  rfl

variable (h0 : ∀ b i h e, x0 (ix4 b i h e) = (q b i h e : EReal)) (h1 : ∀ b i h e, x1 (ix4 b i h e) = (k b i h e : EReal))

/-- A branch's masked score is the logarithm of its weight. -/
theorem dilScore_at (h0 : ∀ b i h e, x0 (ix4 b i h e) = (q b i h e : EReal)) (h1 : ∀ b i h e, x1 (ix4 b i h e) = (k b i h e : EReal)) (d : Fin 3) (b : Fin 4) (h : Fin 8) (i j : Fin 2048) :
    IsScore 1 (val_main_v88_0 (F := Ideal) x0 x1 (ix5 d b h i j)) (part q k cc d b h i j) := by
  rw [v88_at, mask_at, sim_at h0 h1, bot_eq]
  have hg : ∀ i, realGate cc b (dilH h) i = 0 := fun i => dif_neg (by simp)
  by_cases hm : pat d (gap i.val j.val) = 1#1
  · refine Or.inr ⟨plain q k cc b (dilH h) i j, ?_, ?_⟩
    · unfold plain
      rw [hg, hg, sub_self, add_zero]
      simp only [hm, Scalar.select]
      exact if_pos rfl
    · unfold part holds
      rw [if_pos hm, one_mul, mul_one]
  · refine Or.inl ⟨by simp [hm, Scalar.select], ?_⟩
    unfold part holds
    rw [if_neg hm, zero_mul]

theorem v89_at (d : Fin 3) (b : Fin 4) (h : Fin 8) (i : Fin 2048) : val_main_v89 (F := Ideal) x0 x1 (ix4 d b h i)
    = Finset.univ.fold max (Ideal.ofBits .f32 4286578688#32) fun j => val_main_v88_0 (F := Ideal) x0 x1 (ix5 d b h i j) := by
  pointwise [val_main_v89, val_main_cst_24]
theorem v98_at (d : Fin 3) (b : Fin 4) (h : Fin 8) (i j : Fin 2048) : val_main_v98 (F := Ideal) x0 x1 (ix5 d b h i j)
    = Ideal.exp (val_main_v88_0 (F := Ideal) x0 x1 (ix5 d b h i j) - val_main_v89 (F := Ideal) x0 x1 (ix4 d b h i)) := by
  pointwise [val_main_v98, val_main_v97, val_main_v96, val_main_v95]
theorem v99_sum (d : Fin 3) (b : Fin 4) (h : Fin 8) (i : Fin 2048) : val_main_v99 (F := Ideal) x0 x1 (ix4 d b h i) = ∑ j, val_main_v98 (F := Ideal) x0 x1 (ix5 d b h i j) := by
  pointwise [val_main_v99, val_main_cst_26]
theorem addf_at {s : Shape} (A B : FVec Ideal s .f32) (i : s.Idx) : addf A B i = A i + B i := rfl
theorem hostLog_at {s : Shape} (A : FVec Ideal s .f32) (i : s.Idx) : Host.log A i = Ideal.log (A i) := rfl
theorem v101_at (d : Fin 3) (b : Fin 4) (h : Fin 8) (i : Fin 2048) : val_main_v101 (F := Ideal) x0 x1 (ix4 d b h i)
    = val_main_v89 (F := Ideal) x0 x1 (ix4 d b h i) + Ideal.log (val_main_v99 (F := Ideal) x0 x1 (ix4 d b h i)) := by
  unfold val_main_v101 val_main_v100
  rw [addf_at, hostLog_at]
theorem v105_at (d : Fin 3) (b : Fin 4) (h : Fin 8) (i j : Fin 2048) : val_main_v105 (F := Ideal) x0 x1 (ix5 d b h i j)
    = Ideal.exp (val_main_v88_0 (F := Ideal) x0 x1 (ix5 d b h i j) - val_main_v101 (F := Ideal) x0 x1 (ix4 d b h i)) := by
  unfold val_main_v105 val_main_v104 val_main_v103 val_main_v102
  generalize val_main_v88_0 (F := Ideal) x0 x1 = A
  generalize val_main_v101 (F := Ideal) x0 x1 = B
  pointwise []

/-- A branch's row: its exponentials are its weights times one positive number, and its log-sum is the logarithm of its row sum. -/
theorem dilRow (h0 : ∀ b i h e, x0 (ix4 b i h e) = (q b i h e : EReal)) (h1 : ∀ b i h e, x1 (ix4 b i h e) = (k b i h e : EReal)) (d : Fin 3) (b : Fin 4) (h : Fin 8) (i : Fin 2048) :
    ∃ Z : ℝ, 0 < Z ∧ (∀ j, val_main_v98 (F := Ideal) x0 x1 (ix5 d b h i j) = ((part q k cc d b h i j * Z : ℝ) : EReal))
      ∧ val_main_v99 (F := Ideal) x0 x1 (ix4 d b h i) = ((rowSum (part q k cc d b h) i * Z : ℝ) : EReal)
      ∧ val_main_v101 (F := Ideal) x0 x1 (ix4 d b h i) = (Real.log (rowSum (part q k cc d b h) i) : EReal) := by
  obtain ⟨M, hM⟩ := max_real (fun j => val_main_v88_0 (F := Ideal) x0 x1 (ix5 d b h i j)) (fun j => (dilScore_at (cc := cc) h0 h1 d b h i j).real) i
    ((dilScore_at (cc := cc) h0 h1 d b h i i).ne_bot (part_self d b h i))
  have hA := part_sum_pos (q := q) (k := k) (cc := cc) d b h i
  have hE : ∀ j, val_main_v98 (F := Ideal) x0 x1 (ix5 d b h i j) = ((part q k cc d b h i j * Real.exp (-M) : ℝ) : EReal) := fun j => by
    rw [v98_at, v89_at, bot_eq, hM]
    exact exp_score' (dilScore_at h0 h1 d b h i j) M
  have hS : val_main_v99 (F := Ideal) x0 x1 (ix4 d b h i) = ((rowSum (part q k cc d b h) i * Real.exp (-M) : ℝ) : EReal) := by
    rw [v99_sum, sum_real _ _ _ hE, ← Finset.sum_mul]
    rfl
  refine ⟨Real.exp (-M), Real.exp_pos _, hE, hS, ?_⟩
  rw [v101_at, hS, v89_at, bot_eq, hM, log_coe (mul_pos hA (Real.exp_pos _)), ← EReal.coe_add, Real.log_mul hA.ne' (Real.exp_pos _).ne', Real.log_exp]
  congr 1
  ring

/-- A branch's softmax. -/
theorem dilSoft_at (h0 : ∀ b i h e, x0 (ix4 b i h e) = (q b i h e : EReal)) (h1 : ∀ b i h e, x1 (ix4 b i h e) = (k b i h e : EReal)) (d : Fin 3) (b : Fin 4) (h : Fin 8) (i j : Fin 2048) :
    val_main_v105 (F := Ideal) x0 x1 (ix5 d b h i j) = (soft (part q k cc d b h) i j : EReal) := by
  obtain ⟨Z, _, _, _, hL⟩ := dilRow (cc := cc) h0 h1 d b h i
  rw [v105_at, hL, exp_score' (dilScore_at (cc := cc) h0 h1 d b h i j), Real.exp_neg, Real.exp_log (part_sum_pos d b h i), ← div_eq_mul_inv]
  rfl

theorem v116_at (i : S4x2048x8.Idx) : val_main_v116 (F := Ideal) i = ⊥ := bot_eq
theorem v117_at (i : S4x2048x8.Idx) : val_main_v117 (F := Ideal) x0 x1 i = val_main_v110 (F := Ideal) x0 x1 i := by
  unfold val_main_v117
  rw [maximumf_at, v116_at, max_eq_right bot_le]
theorem v110_at (b : Fin 4) (i : Fin 2048) (h : Fin 8) : val_main_v110 (F := Ideal) x0 x1 (ix3 b i h)
    = Finset.univ.fold max (Ideal.ofBits .f32 4286578688#32) fun d => val_main_v101 (F := Ideal) x0 x1 (ix4 d b h i) := by
  unfold val_main_v110 val_main_v109
  generalize val_main_v101 (F := Ideal) x0 x1 = A
  pointwise [val_main_cst_27]
theorem v109_at (d : Fin 3) (b : Fin 4) (i : Fin 2048) (h : Fin 8) : val_main_v109 (F := Ideal) x0 x1 (ix4 d b i h) = val_main_v101 (F := Ideal) x0 x1 (ix4 d b h i) := by
  unfold val_main_v109
  generalize val_main_v101 (F := Ideal) x0 x1 = A
  pointwise []
theorem hostExp_at {s : Shape} (A : FVec Ideal s .f32) (i : s.Idx) : Host.exp A i = Ideal.exp (A i) := rfl
theorem subf_at {s : Shape} (A B : FVec Ideal s .f32) (i : s.Idx) : subf A B i = A i - B i := rfl
theorem v128_at (d : Fin 3) (b : Fin 4) (i : Fin 2048) (h : Fin 8) : val_main_v128 (F := Ideal) x0 x1 (ix4 d b i h) = val_main_v117 (F := Ideal) x0 x1 (ix3 b i h) := by
  unfold val_main_v128 val_main_v127
  generalize val_main_v117 (F := Ideal) x0 x1 = B
  pointwise []
theorem v130_at (d : Fin 3) (b : Fin 4) (i : Fin 2048) (h : Fin 8) : val_main_v130 (F := Ideal) x0 x1 (ix4 d b i h)
    = Ideal.exp (val_main_v101 (F := Ideal) x0 x1 (ix4 d b h i) - val_main_v117 (F := Ideal) x0 x1 (ix3 b i h)) := by
  unfold val_main_v130 val_main_v129
  rw [hostExp_at, subf_at, v109_at, v128_at]
theorem v131_at (b : Fin 4) (i : Fin 2048) (h : Fin 8) : val_main_v131 (F := Ideal) x0 x1 (ix3 b i h) = ∑ d, val_main_v130 (F := Ideal) x0 x1 (ix4 d b i h) := by
  unfold val_main_v131
  generalize val_main_v130 (F := Ideal) x0 x1 = A
  pointwise [val_main_cst_35]
theorem v134_at (d : Fin 3) (b : Fin 4) (i : Fin 2048) (h : Fin 8) : val_main_v134 (F := Ideal) x0 x1 (ix4 d b i h)
    = Ideal.div (val_main_v130 (F := Ideal) x0 x1 (ix4 d b i h)) (val_main_v131 (F := Ideal) x0 x1 (ix3 b i h)) := by
  unfold val_main_v134 val_main_v133 val_main_v132
  generalize val_main_v130 (F := Ideal) x0 x1 = A
  generalize val_main_v131 (F := Ideal) x0 x1 = B
  pointwise []

/-- The branches' blend before it is divided by its sum. -/
theorem dilBlend (h0 : ∀ b i h e, x0 (ix4 b i h e) = (q b i h e : EReal)) (h1 : ∀ b i h e, x1 (ix4 b i h e) = (k b i h e : EReal)) (b : Fin 4) (h : Fin 8) (i : Fin 2048) :
    ∃ Z : ℝ, 0 < Z ∧ (∀ d, val_main_v130 (F := Ideal) x0 x1 (ix4 d b i h) = ((rowSum (part q k cc d b h) i * Z : ℝ) : EReal))
      ∧ val_main_v131 (F := Ideal) x0 x1 (ix3 b i h) = ((rowSum (wt q k cc b (dilH h)) i * Z : ℝ) : EReal) := by
  have hL : ∀ d, val_main_v101 (F := Ideal) x0 x1 (ix4 d b h i) = (Real.log (rowSum (part q k cc d b h) i) : EReal) := fun d => by
    obtain ⟨Z, _, _, _, hL⟩ := dilRow (cc := cc) h0 h1 d b h i
    exact hL
  obtain ⟨M, hM⟩ := max_real (fun d => val_main_v101 (F := Ideal) x0 x1 (ix4 d b h i)) (fun d => Or.inr ⟨_, hL d⟩) 0 (by rw [hL]; exact EReal.coe_ne_bot _)
  have hE : ∀ d, val_main_v130 (F := Ideal) x0 x1 (ix4 d b i h) = ((rowSum (part q k cc d b h) i * Real.exp (-M) : ℝ) : EReal) := fun d => by
    rw [v130_at, v117_at, v110_at, bot_eq, hM]
    exact exp_score' (Or.inr ⟨_, hL d, by rw [mul_one, Real.exp_log (part_sum_pos d b h i)]⟩) M
  refine ⟨Real.exp (-M), Real.exp_pos _, hE, ?_⟩
  rw [v131_at, sum_real _ _ _ hE, ← Finset.sum_mul, rowSum_parts]

/-- A branch's share of the blend. -/
theorem dilShare_at (h0 : ∀ b i h e, x0 (ix4 b i h e) = (q b i h e : EReal)) (h1 : ∀ b i h e, x1 (ix4 b i h e) = (k b i h e : EReal)) (d : Fin 3) (b : Fin 4) (h : Fin 8) (i : Fin 2048) :
    val_main_v134 (F := Ideal) x0 x1 (ix4 d b i h) = ((rowSum (part q k cc d b h) i / rowSum (wt q k cc b (dilH h)) i : ℝ) : EReal) := by
  obtain ⟨Z, hZ, hE, hS⟩ := dilBlend (cc := cc) h0 h1 b h i
  rw [v134_at, hE, hS, div_real _ _ (mul_pos (rowSum_pos q k cc b _ i) hZ).ne', mul_div_mul_right _ _ hZ.ne']

end Cert.Attn

end
-- ==== Proof.AttnRefDilGrad.lean ====
module

public import proofs.«01_k».proof.Proof.AttnRefDil

/-! The gradient of the reference's other eight heads, each entry a real number. -/

@[expose] public section

set_option maxRecDepth 16384

noncomputable section

open Idealize.ShloMosaic Idealize.ShloMosaic.TcCoe Idealize.SL.Sem

namespace Cert.Attn

open Cert.Reference7Ideal Cert.Reference7Ideal.Read

variable {x0 x1 x2 x4 : FVec Ideal S4x2048x16x64 .f32} {x3 : FVec Ideal S4x2048x8 .f32}
variable {q k v g : Fin 4 → Fin 2048 → Fin 16 → Fin 64 → ℝ} {cc : Fin 4 → Fin 2048 → Fin 8 → ℝ}

theorem mulf_at {s : Shape} (A B : FVec Ideal s .f32) (i : s.Idx) : mulf A B i = A i * B i := rfl
theorem hostDiv_at {s : Shape} (A B : FVec Ideal s .f32) (i : s.Idx) : Host.divf A B i = Ideal.div (A i) (B i) := rfl
theorem hostNeg_at {s : Shape} (A : FVec Ideal s .f32) (i : s.Idx) : Host.negf A i = -A i := rfl
theorem select_at {s : Shape} (c : s.Idx → BitVec 1) (A B : FVec Ideal s .f32) (i : s.Idx) : select c A B i = Scalar.select (c i) (A i) (B i) := rfl

theorem sel_on {c : BitVec 1} (h : c = 1#1) (x y : EReal) : Scalar.select c x y = x := by
  subst h
  rfl
theorem sel_off {c : BitVec 1} (h : ¬ c = 1#1) (x y : EReal) : Scalar.select c x y = y := if_neg h

theorem v108_at (d : Fin 3) (b : Fin 4) (i : Fin 2048) (h : Fin 8) (e : Fin 64) : val_main_v108 (F := Ideal) x0 x1 x2 (ix5 d b i h e)
    = ∑ j : Fin 2048, x2 (ix4 b j (dilH h) e) * val_main_v105 (F := Ideal) x0 x1 (ix5 d b h i j) := by
  unfold val_main_v108 val_main_v107 val_main_v106
  generalize val_main_v105 (F := Ideal) x0 x1 = A
  pointwise []
theorem v145_at (d : Fin 3) (b : Fin 4) (i : Fin 2048) (h : Fin 8) (e : Fin 64) : val_main_v145 (F := Ideal) x4 (ix5 d b i h e) = x4 (ix4 b i (dilH h) e) := by
  pointwise [val_main_v145, val_main_v144]
theorem v149_at (d : Fin 3) (b : Fin 4) (i : Fin 2048) (h : Fin 8) : val_main_v149 (F := Ideal) x0 x1 x2 x4 (ix4 d b i h)
    = ∑ e : Fin 64, val_main_v148 (F := Ideal) x0 x1 x2 x4 (ix5 d b i h e) := by
  unfold val_main_v149
  generalize val_main_v148 (F := Ideal) x0 x1 x2 x4 = A
  pointwise [val_main_cst_38]
theorem v151_at (d : Fin 3) (b : Fin 4) (i : Fin 2048) (h : Fin 8) : val_main_v151 (F := Ideal) x0 x1 x2 x4 (ix4 d b i h)
    = ∑ _z : Fin 1, val_main_v149 (F := Ideal) x0 x1 x2 x4 (ix4 d b i h) := by
  unfold val_main_v151 val_main_v150
  generalize val_main_v149 (F := Ideal) x0 x1 x2 x4 = A
  pointwise [val_main_cst_39]
theorem v132_at (z : Fin 1) (b : Fin 4) (i : Fin 2048) (h : Fin 8) : val_main_v132 (F := Ideal) x0 x1 (ix4 z b i h) = val_main_v131 (F := Ideal) x0 x1 (ix3 b i h) := by
  unfold val_main_v132
  generalize val_main_v131 (F := Ideal) x0 x1 = A
  pointwise []
theorem v136_at (i : S1x4x2048x8.Idx) : val_main_v136 (F := Ideal) i = ((1 : ℝ) : EReal) := one_eq
theorem v152_at (d : Fin 3) (b : Fin 4) (i : Fin 2048) (h : Fin 8) : val_main_v152 (F := Ideal) x0 x1 (ix4 d b i h) = val_main_v137 (F := Ideal) x0 x1 (ix4 0 b i h) := by
  unfold val_main_v152
  generalize val_main_v137 (F := Ideal) x0 x1 = A
  pointwise []
theorem v158_at (d : Fin 3) (b : Fin 4) (i : Fin 2048) (h : Fin 8) : val_main_v158 (F := Ideal) x0 x1 (ix4 d b i h) = val_main_v132 (F := Ideal) x0 x1 (ix4 0 b i h) := by
  unfold val_main_v158
  generalize val_main_v132 (F := Ideal) x0 x1 = A
  pointwise []
theorem v155_at (b : Fin 4) (i : Fin 2048) (h : Fin 8) : val_main_v155 (F := Ideal) x0 x1 x2 x4 (ix3 b i h)
    = ∑ d : Fin 3, val_main_v154 (F := Ideal) x0 x1 x2 x4 (ix4 d b i h) := by
  unfold val_main_v155
  generalize val_main_v154 (F := Ideal) x0 x1 x2 x4 = A
  pointwise [val_main_cst_40]
theorem v156_at (z : Fin 1) (b : Fin 4) (i : Fin 2048) (h : Fin 8) : val_main_v156 (F := Ideal) x0 x1 x2 x4 (ix4 z b i h) = val_main_v155 (F := Ideal) x0 x1 x2 x4 (ix3 b i h) := by
  unfold val_main_v156
  generalize val_main_v155 (F := Ideal) x0 x1 x2 x4 = A
  pointwise []
theorem v160_at (b : Fin 4) (i : Fin 2048) (h : Fin 8) : val_main_v160 (F := Ideal) x0 x1 x2 x4 (ix3 b i h)
    = ∑ z : Fin 1, val_main_v157 (F := Ideal) x0 x1 x2 x4 (ix4 z b i h) := by
  unfold val_main_v160
  generalize val_main_v157 (F := Ideal) x0 x1 x2 x4 = A
  pointwise [val_main_cst_41]
theorem v161_at (d : Fin 3) (b : Fin 4) (i : Fin 2048) (h : Fin 8) : val_main_v161 (F := Ideal) x0 x1 x2 x4 (ix4 d b i h) = val_main_v160 (F := Ideal) x0 x1 x2 x4 (ix3 b i h) := by
  unfold val_main_v161
  generalize val_main_v160 (F := Ideal) x0 x1 x2 x4 = A
  pointwise []
theorem v164_at (d : Fin 3) (b : Fin 4) (i : Fin 2048) (h : Fin 8) : val_main_v164 (F := Ideal) x0 x1 x2 x4 (ix4 d b h i) = val_main_v163 (F := Ideal) x0 x1 x2 x4 (ix4 d b i h) := by
  unfold val_main_v164
  generalize val_main_v163 (F := Ideal) x0 x1 x2 x4 = A
  pointwise []
theorem v146_at (d : Fin 3) (b : Fin 4) (i : Fin 2048) (h : Fin 8) (e : Fin 64) : val_main_v146 (F := Ideal) x0 x1 (ix5 d b i h e) = val_main_v134 (F := Ideal) x0 x1 (ix4 d b i h) := by
  unfold val_main_v146 val_main_v138
  generalize val_main_v134 (F := Ideal) x0 x1 = A
  pointwise []
theorem v165d_at (d : Fin 3) (b : Fin 4) (i : Fin 2048) (h : Fin 8) (e : Fin 64) : val_main_v165 (F := Ideal) x0 x1 x4 (ix5 b h e d i) = val_main_v147 (F := Ideal) x0 x1 x4 (ix5 d b i h e) := by
  unfold val_main_v165
  generalize val_main_v147 (F := Ideal) x0 x1 x4 = A
  pointwise []
theorem v167_sum (d : Fin 3) (b : Fin 4) (h : Fin 8) (i j : Fin 2048) : val_main_v167 (F := Ideal) x0 x1 x2 x4 (ix5 d b h i j)
    = ∑ e : Fin 64, val_main_v165 (F := Ideal) x0 x1 x4 (ix5 b h e d i) * x2 (ix4 b j (dilH h) e) := by
  unfold val_main_v167 val_main_v166 val_main_v106
  generalize val_main_v165 (F := Ideal) x0 x1 x4 = A
  pointwise []
theorem v173_at (d : Fin 3) (b : Fin 4) (h : Fin 8) (i : Fin 2048) : val_main_v173 (F := Ideal) x0 x1 x2 x4 (ix4 d b h i)
    = ∑ j : Fin 2048, val_main_v172 (F := Ideal) x0 x1 x2 x4 (ix5 d b h i j) := by
  unfold val_main_v173
  generalize val_main_v172 (F := Ideal) x0 x1 x2 x4 = A
  pointwise [val_main_cst_43]
theorem v175_at (d : Fin 3) (b : Fin 4) (h : Fin 8) (i : Fin 2048) : val_main_v175 (F := Ideal) x0 x1 x2 x4 (ix4 d b h i)
    = ∑ _z : Fin 1, val_main_v173 (F := Ideal) x0 x1 x2 x4 (ix4 d b h i) := by
  unfold val_main_v175 val_main_v174
  generalize val_main_v173 (F := Ideal) x0 x1 x2 x4 = A
  pointwise [val_main_cst_44]
theorem v178_at (d : Fin 3) (b : Fin 4) (h : Fin 8) (i j : Fin 2048) : val_main_v178 (F := Ideal) x0 x1 x2 x4 (ix5 d b h i j) = val_main_v177 (F := Ideal) x0 x1 x2 x4 (ix4 d b h i) := by
  unfold val_main_v178
  generalize val_main_v177 (F := Ideal) x0 x1 x2 x4 = A
  pointwise []
theorem zero_at (i : S3x4x8x2048x2048.Idx) : val_main_call2_v0 (F := Ideal) i = 0 := by
  show Ideal.ofBits .f32 0#32 = 0
  simp [Ideal.ofBits, Ideal.ieee]
theorem v181_at (b : Fin 4) (h : Fin 8) (i j : Fin 2048) : val_main_v181 (F := Ideal) x0 x1 x2 x4 (ix4 b h i j)
    = ∑ d : Fin 3, val_main_call2_v1 (F := Ideal) x0 x1 x2 x4 (ix5 d b h i j) := by
  unfold val_main_v181
  generalize val_main_call2_v1 (F := Ideal) x0 x1 x2 x4 = A
  pointwise [val_main_call2_cst_0]
theorem v169_at (b : Fin 4) (j : Fin 2048) (h : Fin 8) (e : Fin 64) : val_main_v169 (F := Ideal) x0 x1 x4 (ix4 b j h e)
    = ∑ d : Fin 3, ∑ i : Fin 2048, val_main_v165 (F := Ideal) x0 x1 x4 (ix5 b h e d i) * val_main_v105 (F := Ideal) x0 x1 (ix5 d b h i j) := by
  unfold val_main_v169 val_main_v168
  generalize val_main_v165 (F := Ideal) x0 x1 x4 = A
  generalize val_main_v105 (F := Ideal) x0 x1 = B
  pointwise []

/-- A row's gradient of the blended softmaxes, over the reals. -/
theorem blend_row (A : Fin 3 → ℝ) (B Z : ℝ) (Zd : ℝ) (R : Fin 3 → ℝ) (D : ℝ) (d : Fin 3) (p dp s : ℝ) (hA : A d ≠ 0) (hB : B ≠ 0) (hZ : Z ≠ 0) (hZd : Zd ≠ 0)
    (hD : ∑ d, R d * A d / B = D) (hs : s = A d / B * R d) :
    A d / B * dp * (p / A d) + ((R d / (B * Z) + -∑ d, R d * (1 / (B * Z * (B * Z))) * (A d * Z)) * (A d * Z) + -s) / (A d * Zd) * (p * Zd) = p / B * (dp - D) := by
  have e : ∑ d, R d * (1 / (B * Z * (B * Z))) * (A d * Z) = D / (B * Z) := by
    rw [← hD, Finset.sum_div]
    refine Finset.sum_congr rfl fun d _ => ?_
    field_simp
  rw [e, hs]
  field_simp
  ring

section Row

variable (h0 : ∀ b i h e, x0 (ix4 b i h e) = (q b i h e : EReal)) (h1 : ∀ b i h e, x1 (ix4 b i h e) = (k b i h e : EReal))
  (h2 : ∀ b i h e, x2 (ix4 b i h e) = (v b i h e : EReal)) (h4 : ∀ b i h e, x4 (ix4 b i h e) = (g b i h e : EReal))

/-- The cotangent of a branch's row. -/
def branchGrad (q k : Fin 4 → Fin 2048 → Fin 16 → Fin 64 → ℝ) (cc : Fin 4 → Fin 2048 → Fin 8 → ℝ) (v g : Fin 4 → Fin 2048 → Fin 16 → Fin 64 → ℝ) (b : Fin 4) (h : Fin 8) (i : Fin 2048) (d : Fin 3) : ℝ :=
  ∑ j, softGrad (headOf v b (dilH h)) (headOf g b (dilH h)) i j * soft (part q k cc d b h) i j

include h0 h1 h2 h4 in
theorem v149_real (d : Fin 3) (b : Fin 4) (i : Fin 2048) (h : Fin 8) :
    val_main_v149 (F := Ideal) x0 x1 x2 x4 (ix4 d b i h) = (branchGrad q k cc v g b h i d : EReal) := by
  have e : ∀ e : Fin 64, val_main_v148 (F := Ideal) x0 x1 x2 x4 (ix5 d b i h e) = ((g b i (dilH h) e * ∑ j, v b j (dilH h) e * soft (part q k cc d b h) i j : ℝ) : EReal) := fun e => by
    unfold val_main_v148
    rw [mulf_at, v145_at, v108_at, h4, sum_real _ _ (fun j => v b j (dilH h) e * soft (part q k cc d b h) i j) fun j => by
      rw [h2, dilSoft_at (cc := cc) h0 h1, ← EReal.coe_mul], ← EReal.coe_mul]
  rw [v149_at, sum_real _ _ _ e]
  congr 1
  unfold branchGrad softGrad
  simp only [Finset.mul_sum, Finset.sum_mul]
  rw [Finset.sum_comm]
  refine Finset.sum_congr rfl fun j _ => Finset.sum_congr rfl fun e _ => ?_
  ring

include h0 h1 h4 in
theorem v165_real (d : Fin 3) (b : Fin 4) (i : Fin 2048) (h : Fin 8) (e : Fin 64) : val_main_v165 (F := Ideal) x0 x1 x4 (ix5 b h e d i)
    = ((rowSum (part q k cc d b h) i / rowSum (wt q k cc b (dilH h)) i * g b i (dilH h) e : ℝ) : EReal) := by
  rw [v165d_at]
  unfold val_main_v147
  rw [mulf_at, v146_at, v145_at, dilShare_at (cc := cc) h0 h1, h4, ← EReal.coe_mul]

include h0 h1 h2 h4 in
/-- The cotangent of a branch's probability times the probability. -/
theorem v171_real (d : Fin 3) (b : Fin 4) (h : Fin 8) (i j : Fin 2048) : val_main_v171 (F := Ideal) x0 x1 x2 x4 (ix5 d b h i j)
    = ((rowSum (part q k cc d b h) i / rowSum (wt q k cc b (dilH h)) i * softGrad (headOf v b (dilH h)) (headOf g b (dilH h)) i j * soft (part q k cc d b h) i j : ℝ) : EReal) := by
  unfold val_main_v171
  rw [mulf_at, v167_sum, dilSoft_at (cc := cc) h0 h1, sum_real _ _ _ fun e => by rw [v165_real (cc := cc) h0 h1 h4, h2, ← EReal.coe_mul], ← EReal.coe_mul]
  congr 2
  unfold softGrad
  rw [Finset.mul_sum]
  exact Finset.sum_congr rfl fun e _ => by ring

include h0 h1 h2 h4 in
/-- The score's cotangent, summed over the branches. -/
theorem dilGrad_at (b : Fin 4) (h : Fin 8) (i j : Fin 2048) : val_main_v181 (F := Ideal) x0 x1 x2 x4 (ix4 b h i j)
    = (scoreGrad (wt q k cc b (dilH h)) (headOf v b (dilH h)) (headOf g b (dilH h)) i j : EReal) := by
  obtain ⟨Z, hZ, hE, hS⟩ := dilBlend (cc := cc) h0 h1 b h i
  have hB := rowSum_pos q k cc b (dilH h) i
  have hBZ := (mul_pos hB hZ).ne'
  have hD : ∑ d, branchGrad q k cc v g b h i d * rowSum (part q k cc d b h) i / rowSum (wt q k cc b (dilH h)) i
      = rowGrad (wt q k cc b (dilH h)) (headOf v b (dilH h)) (headOf g b (dilH h)) i := by
    unfold branchGrad rowGrad
    simp only [Finset.sum_mul, Finset.sum_div]
    rw [Finset.sum_comm]
    refine Finset.sum_congr rfl fun j _ => ?_
    unfold soft
    rw [wt_parts, Finset.sum_div, Finset.sum_mul]
    refine Finset.sum_congr rfl fun d _ => ?_
    have := (part_sum_pos (q := q) (k := k) (cc := cc) d b h i).ne'
    field_simp
  have hR : ∀ d, val_main_v151 (F := Ideal) x0 x1 x2 x4 (ix4 d b i h) = (branchGrad q k cc v g b h i d : EReal) := fun d => by
    rw [v151_at, Fin.sum_univ_one, v149_real (cc := cc) h0 h1 h2 h4]
  have h154 : ∀ d, val_main_v154 (F := Ideal) x0 x1 x2 x4 (ix4 d b i h) = ((branchGrad q k cc v g b h i d * (1 / (rowSum (wt q k cc b (dilH h)) i * Z * (rowSum (wt q k cc b (dilH h)) i * Z)))
      * (rowSum (part q k cc d b h) i * Z) : ℝ) : EReal) := fun d => by
    unfold val_main_v154 val_main_v153
    rw [mulf_at, mulf_at, v152_at, hR, hE]
    unfold val_main_v137 val_main_v135
    rw [hostDiv_at, mulf_at, v136_at, v132_at, hS, ← EReal.coe_mul, div_real _ _ (mul_ne_zero hBZ hBZ), ← EReal.coe_mul, ← EReal.coe_mul]
  have h163 : ∀ d, val_main_v163 (F := Ideal) x0 x1 x2 x4 (ix4 d b i h) = (((branchGrad q k cc v g b h i d / (rowSum (wt q k cc b (dilH h)) i * Z)
      + -∑ d, branchGrad q k cc v g b h i d * (1 / (rowSum (wt q k cc b (dilH h)) i * Z * (rowSum (wt q k cc b (dilH h)) i * Z))) * (rowSum (part q k cc d b h) i * Z))
      * (rowSum (part q k cc d b h) i * Z) : ℝ) : EReal) := fun d => by
    unfold val_main_v163 val_main_v162 val_main_v159
    rw [mulf_at, addf_at, hostDiv_at, v158_at, v132_at, v161_at, v160_at, Fin.sum_univ_one, hE, hR, hS, div_real _ _ hBZ]
    unfold val_main_v157
    rw [hostNeg_at, v156_at, v155_at, sum_real _ _ _ h154, ← EReal.coe_neg, ← EReal.coe_add, ← EReal.coe_mul]
  have h1 : ∀ d, val_main_call2_v1 (F := Ideal) x0 x1 x2 x4 (ix5 d b h i j) = ((part q k cc d b h i j / rowSum (wt q k cc b (dilH h)) i
      * (softGrad (headOf v b (dilH h)) (headOf g b (dilH h)) i j - rowGrad (wt q k cc b (dilH h)) (headOf v b (dilH h)) (headOf g b (dilH h)) i) : ℝ) : EReal) := fun d => by
    obtain ⟨Zd, hZd, h98, h99, _⟩ := dilRow (cc := cc) h0 h1 d b h i
    have hA := part_sum_pos (q := q) (k := k) (cc := cc) d b h i
    have hn : ∑ _z : Fin 1, val_main_v173 (F := Ideal) x0 x1 x2 x4 (ix4 d b h i) = ((-∑ j, rowSum (part q k cc d b h) i / rowSum (wt q k cc b (dilH h)) i * softGrad (headOf v b (dilH h)) (headOf g b (dilH h)) i j * soft (part q k cc d b h) i j : ℝ) : EReal) := by
      rw [Fin.sum_univ_one, v173_at, sum_real _ _ _ fun j => by unfold val_main_v172; rw [hostNeg_at, v171_real (cc := cc) h0 h1 h2 h4, ← EReal.coe_neg], Finset.sum_neg_distrib]
    have hg : val_main_v180 (F := Ideal) x0 x1 x2 x4 (ix5 d b h i j) = ((part q k cc d b h i j / rowSum (wt q k cc b (dilH h)) i
      * (softGrad (headOf v b (dilH h)) (headOf g b (dilH h)) i j - rowGrad (wt q k cc b (dilH h)) (headOf v b (dilH h)) (headOf g b (dilH h)) i) : ℝ) : EReal) := by
      unfold val_main_v180 val_main_v179
      rw [addf_at, mulf_at, v178_at, h98, v171_real (cc := cc) h0 h1 h2 h4]
      unfold val_main_v177 val_main_v176
      rw [hostDiv_at, addf_at, v164_at, h163, v175_at, hn, h99, ← EReal.coe_add, div_real _ _ (mul_pos hA hZd).ne', ← EReal.coe_mul, ← EReal.coe_add]
      refine congrArg Real.toEReal ?_
      refine blend_row (fun d => rowSum (part q k cc d b h) i) _ Z Zd (branchGrad q k cc v g b h i) _ d (part q k cc d b h i j) _ _ hA.ne' hB.ne' hZ.ne' hZd.ne' hD ?_
      unfold branchGrad
      rw [Finset.mul_sum]
      exact Finset.sum_congr rfl fun j _ => by ring
    unfold val_main_call2_v1
    rw [select_at, mask_at, hg, zero_at]
    by_cases hm : pat d (gap i.val j.val) = 1#1
    · rw [sel_on hm]
    · rw [sel_off hm, show part q k cc d b h i j = 0 by unfold part holds; rw [if_neg hm, zero_mul], zero_div, zero_mul, EReal.coe_zero]
  rw [v181_at, sum_real _ _ _ h1, ← Finset.sum_mul, ← Finset.sum_div, ← wt_parts]
  rfl

include h0 h1 h4 in
/-- The values' cotangent. -/
theorem dilValue_at (b : Fin 4) (j : Fin 2048) (h : Fin 8) (e : Fin 64) : val_main_v169 (F := Ideal) x0 x1 x4 (ix4 b j h e)
    = ((∑ i, soft (wt q k cc b (dilH h)) i j * g b i (dilH h) e : ℝ) : EReal) := by
  rw [v169_at, sum_real _ _ _ fun d => sum_real _ _ _ fun i => by rw [v165_real (cc := cc) h0 h1 h4, dilSoft_at (cc := cc) h0 h1, ← EReal.coe_mul]]
  congr 1
  rw [Finset.sum_comm]
  refine Finset.sum_congr rfl fun i _ => ?_
  unfold soft
  rw [wt_parts, Finset.sum_div, Finset.sum_mul]
  refine Finset.sum_congr rfl fun d _ => ?_
  have := (part_sum_pos (q := q) (k := k) (cc := cc) d b h i).ne'
  field_simp

end Row

end Cert.Attn

end
-- ==== Proof.AttnRef.lean ====
module

public import proofs.«01_k».proof.Proof.AttnRefDilGrad

/-! The reference's four results at an index, each a real number. -/

@[expose] public section

set_option maxRecDepth 16384

noncomputable section

open Idealize.ShloMosaic Idealize.ShloMosaic.TcCoe Idealize.SL.Sem

namespace Cert.Attn

open Cert.Reference7Ideal Cert.Reference7Ideal.Read

variable {x0 x1 x2 x4 : FVec Ideal S4x2048x16x64 .f32} {x3 : FVec Ideal S4x2048x8 .f32}
variable {q k v g : Fin 4 → Fin 2048 → Fin 16 → Fin 64 → ℝ} {cc : Fin 4 → Fin 2048 → Fin 8 → ℝ}

theorem v182_fox (b : Fin 4) (h : Fin 8) (i j : Fin 2048) : val_main_v182 (F := Ideal) x0 x1 x2 x4 (ix4 b (foxH h) i j) = 0 := by
  unfold val_main_v182
  generalize val_main_v181 (F := Ideal) x0 x1 x2 x4 = A
  pointwise [val_main_cst_45]
  simp
theorem v182_dil (b : Fin 4) (h : Fin 8) (i j : Fin 2048) : val_main_v182 (F := Ideal) x0 x1 x2 x4 (ix4 b (dilH h) i j) = val_main_v181 (F := Ideal) x0 x1 x2 x4 (ix4 b h i j) := by
  unfold val_main_v182
  generalize val_main_v181 (F := Ideal) x0 x1 x2 x4 = A
  pointwise [val_main_cst_45]
theorem v210_fox (b : Fin 4) (h : Fin 8) (i j : Fin 2048) : val_main_v210 (F := Ideal) x0 x1 x2 x3 x4 (ix4 b (foxH h) i j) = val_main_v201 (F := Ideal) x0 x1 x2 x3 x4 (ix4 b h i j) := by
  unfold val_main_v210
  generalize val_main_v201 (F := Ideal) x0 x1 x2 x3 x4 = A
  pointwise [val_main_cst_53]
theorem v210_dil (b : Fin 4) (h : Fin 8) (i j : Fin 2048) : val_main_v210 (F := Ideal) x0 x1 x2 x3 x4 (ix4 b (dilH h) i j) = 0 := by
  unfold val_main_v210
  generalize val_main_v201 (F := Ideal) x0 x1 x2 x3 x4 = A
  pointwise [val_main_cst_53]
theorem v170_fox (b : Fin 4) (h : Fin 8) (i : Fin 2048) (e : Fin 64) : val_main_v170 (F := Ideal) x0 x1 x4 (ix4 b i (foxH h) e) = 0 := by
  unfold val_main_v170
  generalize val_main_v169 (F := Ideal) x0 x1 x4 = A
  pointwise [val_main_cst_42]
  simp
theorem v170_dil (b : Fin 4) (h : Fin 8) (i : Fin 2048) (e : Fin 64) : val_main_v170 (F := Ideal) x0 x1 x4 (ix4 b i (dilH h) e) = val_main_v169 (F := Ideal) x0 x1 x4 (ix4 b i h e) := by
  unfold val_main_v170
  generalize val_main_v169 (F := Ideal) x0 x1 x4 = A
  pointwise [val_main_cst_42]
theorem v187_fox (b : Fin 4) (h : Fin 8) (i : Fin 2048) (e : Fin 64) : val_main_v187 (F := Ideal) x0 x1 x3 x4 (ix4 b i (foxH h) e) = val_main_v186 (F := Ideal) x0 x1 x3 x4 (ix4 b i h e) := by
  unfold val_main_v187
  generalize val_main_v186 (F := Ideal) x0 x1 x3 x4 = A
  pointwise [val_main_cst_46]
theorem v187_dil (b : Fin 4) (h : Fin 8) (i : Fin 2048) (e : Fin 64) : val_main_v187 (F := Ideal) x0 x1 x3 x4 (ix4 b i (dilH h) e) = 0 := by
  unfold val_main_v187
  generalize val_main_v186 (F := Ideal) x0 x1 x3 x4 = A
  pointwise [val_main_cst_46]
theorem v218_at (b : Fin 4) (i : Fin 2048) (h : Fin 16) (e : Fin 64) : val_main_v218 (F := Ideal) x0 x1 x2 x3 x4 (ix4 b i h e)
    = ∑ j, val_main_v214 (F := Ideal) x0 x1 x2 x3 x4 (ix4 b h i j) * x1 (ix4 b j h e) := by
  unfold val_main_v218 val_main_v217
  generalize val_main_v214 (F := Ideal) x0 x1 x2 x3 x4 = A
  pointwise []
theorem v216_at (b : Fin 4) (j : Fin 2048) (h : Fin 16) (e : Fin 64) : val_main_v216 (F := Ideal) x0 x1 x2 x3 x4 (ix4 b j h e)
    = ∑ i, val_main_v214 (F := Ideal) x0 x1 x2 x3 x4 (ix4 b h i j) * x0 (ix4 b i h e) := by
  unfold val_main_v216 val_main_v215
  generalize val_main_v214 (F := Ideal) x0 x1 x2 x3 x4 = A
  pointwise []
theorem v186_at (b : Fin 4) (j : Fin 2048) (h : Fin 8) (e : Fin 64) : val_main_v186 (F := Ideal) x0 x1 x3 x4 (ix4 b j h e)
    = ∑ i : Fin 2048, x4 (ix4 b i (foxH h) e) * val_main_v45 (F := Ideal) x0 x1 x3 (ix4 b h i j) := by
  unfold val_main_v186 val_main_v185 val_main_v183 val_main_v143
  generalize val_main_v45 (F := Ideal) x0 x1 x3 = A
  pointwise []
theorem v212_at (b : Fin 4) (i : Fin 2048) (h : Fin 8) : val_main_v212 (F := Ideal) x0 x1 x2 x3 x4 (ix3 b i h)
    = val_main_v209 (F := Ideal) x0 x1 x2 x3 x4 (ix3 b h i) := by
  unfold val_main_v212
  generalize val_main_v209 (F := Ideal) x0 x1 x2 x3 x4 = A
  pointwise []
theorem v207_at (b : Fin 4) (h : Fin 8) (i : Fin 2048) : val_main_v207 (F := Ideal) x0 x1 x2 x3 x4 (ix3 b h i)
    = ∑ _z : Fin 1, val_main_v205 (F := Ideal) x0 x1 x2 x3 x4 (ix3 b h i) := by
  unfold val_main_v207 val_main_v206
  generalize val_main_v205 (F := Ideal) x0 x1 x2 x3 x4 = A
  pointwise [val_main_cst_51]
theorem v208_at (b : Fin 4) (h : Fin 8) (i : Fin 2048) : val_main_v208 (F := Ideal) x0 x1 x2 x3 x4 (ix3 b h i)
    = ∑ _z : Fin 1, val_main_v202 (F := Ideal) x0 x1 x2 x3 x4 (ix3 b h i) := by
  unfold val_main_v208 val_main_v203
  generalize val_main_v202 (F := Ideal) x0 x1 x2 x3 x4 = A
  pointwise [val_main_cst_52]
theorem v205_at (b : Fin 4) (h : Fin 8) (j : Fin 2048) : val_main_v205 (F := Ideal) x0 x1 x2 x3 x4 (ix3 b h j)
    = ∑ i : Fin 2048, val_main_v204 (F := Ideal) x0 x1 x2 x3 x4 (ix4 b h i j) := by
  unfold val_main_v205
  generalize val_main_v204 (F := Ideal) x0 x1 x2 x3 x4 = A
  pointwise [val_main_cst_50]
theorem v202_at (b : Fin 4) (h : Fin 8) (i : Fin 2048) : val_main_v202 (F := Ideal) x0 x1 x2 x3 x4 (ix3 b h i)
    = ∑ j : Fin 2048, val_main_v201 (F := Ideal) x0 x1 x2 x3 x4 (ix4 b h i j) := by
  unfold val_main_v202
  generalize val_main_v201 (F := Ideal) x0 x1 x2 x3 x4 = A
  pointwise [val_main_cst_49]
theorem v213_at (i : S4x16x2048x2048.Idx) : val_main_v213 (F := Ideal) i = ((1 / 8 : ℝ) : EReal) := eighth_eq

/-- A head is one of the first eight or of the others. -/
theorem head_cases (h : Fin 16) : (∃ h' : Fin 8, h = foxH h') ∨ ∃ h' : Fin 8, h = dilH h' := by
  by_cases hh : h.val < 8
  · exact Or.inl ⟨⟨h.val, hh⟩, rfl⟩
  · exact Or.inr ⟨⟨h.val - 8, by omega⟩, Fin.ext (by simp; omega)⟩

section Results

variable (h0 : ∀ b i h e, x0 (ix4 b i h e) = (q b i h e : EReal)) (h1 : ∀ b i h e, x1 (ix4 b i h e) = (k b i h e : EReal))
  (h2 : ∀ b i h e, x2 (ix4 b i h e) = (v b i h e : EReal)) (h3 : ∀ b i h, x3 (ix3 b i h) = (cc b i h : EReal)) (h4 : ∀ b i h e, x4 (ix4 b i h e) = (g b i h e : EReal))

/-- The cotangent of a score. -/
def sgrad (q k v g : Fin 4 → Fin 2048 → Fin 16 → Fin 64 → ℝ) (cc : Fin 4 → Fin 2048 → Fin 8 → ℝ) (b : Fin 4) (h : Fin 16) (i j : Fin 2048) : ℝ :=
  scoreGrad (wt q k cc b h) (headOf v b h) (headOf g b h) i j

include h0 h1 h2 h3 h4 in
theorem v214_at (b : Fin 4) (h : Fin 16) (i j : Fin 2048) : val_main_v214 (F := Ideal) x0 x1 x2 x3 x4 (ix4 b h i j) = ((sgrad q k v g cc b h i j * (1 / 8) : ℝ) : EReal) := by
  unfold val_main_v214 val_main_v211
  rw [mulf_at, addf_at, v213_at]
  rcases head_cases h with ⟨h, rfl⟩ | ⟨h, rfl⟩
  · rw [v182_fox, v210_fox, zero_add, foxGrad_at h0 h1 h2 h3 h4, ← EReal.coe_mul]
    rfl
  · rw [v182_dil, v210_dil, add_zero, dilGrad_at (cc := cc) h0 h1 h2 h4, ← EReal.coe_mul]
    rfl

include h0 h1 h2 h3 h4 in
/-- The queries' gradient. -/
theorem refQuery_at (b : Fin 4) (i : Fin 2048) (h : Fin 16) (e : Fin 64) : val_main_v218 (F := Ideal) x0 x1 x2 x3 x4 (ix4 b i h e)
    = ((∑ j, sgrad q k v g cc b h i j * (1 / 8) * k b j h e : ℝ) : EReal) := by
  rw [v218_at, sum_real _ _ _ fun j => by rw [v214_at h0 h1 h2 h3 h4, h1, ← EReal.coe_mul]]

include h0 h1 h2 h3 h4 in
/-- The keys' gradient. -/
theorem refKey_at (b : Fin 4) (j : Fin 2048) (h : Fin 16) (e : Fin 64) : val_main_v216 (F := Ideal) x0 x1 x2 x3 x4 (ix4 b j h e)
    = ((∑ i, sgrad q k v g cc b h i j * (1 / 8) * q b i h e : ℝ) : EReal) := by
  rw [v216_at, sum_real _ _ _ fun i => by rw [v214_at h0 h1 h2 h3 h4, h0, ← EReal.coe_mul]]

include h0 h1 h3 h4 in
/-- The values' gradient. -/
theorem refValue_at (b : Fin 4) (j : Fin 2048) (h : Fin 16) (e : Fin 64) : val_main_v188 (F := Ideal) x0 x1 x3 x4 (ix4 b j h e)
    = ((∑ i, soft (wt q k cc b h) i j * g b i h e : ℝ) : EReal) := by
  unfold val_main_v188
  rw [addf_at]
  rcases head_cases h with ⟨h, rfl⟩ | ⟨h, rfl⟩
  · rw [v170_fox, v187_fox, zero_add, v186_at, sum_real _ _ _ fun i => by rw [foxSoft_at h0 h1 h3, h4, ← EReal.coe_mul]]
    exact congrArg Real.toEReal (Finset.sum_congr rfl fun i _ => mul_comm _ _)
  · rw [v170_dil, v187_dil, add_zero, dilValue_at (cc := cc) h0 h1 h4]

include h0 h1 h2 h3 h4 in
/-- The gate sums' gradient. -/
theorem refGate_at (b : Fin 4) (i : Fin 2048) (h : Fin 8) : val_main_v212 (F := Ideal) x0 x1 x2 x3 x4 (ix3 b i h)
    = ((∑ j, sgrad q k v g cc b (foxH h) i j - ∑ j, sgrad q k v g cc b (foxH h) j i : ℝ) : EReal) := by
  rw [v212_at]
  unfold val_main_v209
  rw [addf_at, v207_at, v208_at, Fin.sum_univ_one, Fin.sum_univ_one, v205_at, v202_at, sum_real _ _ _ fun j => foxGrad_at h0 h1 h2 h3 h4 b h i j,
    sum_real _ _ (fun j => -sgrad q k v g cc b (foxH h) j i) fun j => by unfold val_main_v204; rw [hostNeg_at, foxGrad_at h0 h1 h2 h3 h4, ← EReal.coe_neg]; rfl,
    ← EReal.coe_add, Finset.sum_neg_distrib, neg_add_eq_sub]
  rfl

end Results

end Cert.Attn

end
-- ==== Proof.AttnHeads.lean ====
/-
  What a point's blocks hold, on real arguments.
-/
module

public import proofs.«01_k».proof.Proof.AttnReads
public import proofs.«01_k».proof.Proof.AttnBias
public import proofs.«01_k».proof.Proof.AttnLog
public import proofs.«01_k».proof.Proof.AttnPair
public import proofs.«01_k».proof.Proof.AttnRef

@[expose] public section

set_option maxRecDepth 16384

noncomputable section

open Idealize.ShloMosaic Idealize.ShloMosaic.TcCoe Idealize.SL.Sem

namespace Cert.Attn

open Cert.Kernel7Ideal Cert.Kernel7Ideal.Gen Cert.Fv

variable {m : (ℓ : Loc nD τ sig) → Buf (Elt Ideal) ℓ} {c : Dev nD}
variable {q k v g : Fin 4 → Fin 2048 → Fin 16 → Fin 64 → ℝ} {cc : Fin 4 → Fin 2048 → Fin 8 → ℝ}

/-- A point's batch, and the two heads of its pair. -/
def batch (t : Fin cfg0.N) : Fin 4 := ⟨t.val / 8, by have : t.val < 32 := t.isLt; omega⟩
def pair (t : Fin cfg0.N) : Fin 8 := ⟨t.val % 8, by omega⟩
def headAt (t : Fin cfg0.N) (e : Fin 2) : Fin 16 := ⟨2 * (t.val % 8) + e.val, by omega⟩

/-- A block's row in its array. -/
def rowAt (t : Fin cfg0.N) (i : Fin 2048) : Fin 8192 := ⟨2048 * (t.val / 8) + i.val, by have : t.val < 32 := t.isLt; omega⟩

variable (t : Fin cfg0.N) (e s : Fin 2) (i : Fin 2048) (l : Fin 64)

theorem query_block : iblk m c 0 t (ix2 i (lane e (at64 s l))) =
    if s = e then argQ m c (batch t) i (headAt t e) l * Ideal.div eighth ln2 else besideQ m c (batch t) i (headAt t e) l := by
  rw [blk0 m c t i _ (rowAt t i) ⟨256 * (t.val % 8) + (lane e (at64 s l)).val, by omega⟩ rfl rfl,
    query_at m c (batch t) i (pair t) ⟨2 * e.val + s.val, by omega⟩ l (rowAt t i) _ rfl (by simp only [lane, at64, pair]; omega) (headAt t 0) (headAt t 1) rfl rfl]
  fin_cases e <;> fin_cases s <;> rfl

theorem key_block : iblk m c 1 t (ix2 i (lane e (at64 s l))) =
    if s = e then argK m c (batch t) i (headAt t e) l else besideK m c (batch t) i (headAt t e) l := by
  rw [blk1 m c t i _ (rowAt t i) ⟨2048 + (256 * (t.val % 8) + (lane e (at64 s l)).val), by omega⟩ rfl rfl,
    key_at m c (batch t) i (pair t) ⟨2 * e.val + s.val, by omega⟩ l (rowAt t i) _ rfl (by simp only [lane, at64, pair]; omega) (headAt t 0) (headAt t 1) rfl rfl]
  fin_cases e <;> fin_cases s <;> rfl

theorem value_block : iblk m c 2 t (ix2 i (at64 e l)) = argV m c (batch t) i (headAt t e) l := by
  rw [blk2 m c t i _ (rowAt t i) ⟨2048 + (128 * (t.val % 8) + (at64 e l).val), by omega⟩ rfl rfl,
    v165_at m c (batch t) i (headAt t e) l (rowAt t i) _ rfl (by simp only [at64, headAt]; omega)]

theorem out_block : iblk m c 4 t (ix2 i (at64 e l)) =
    Ideal.div (∑ j, argV m c (batch t) j (headAt t e) l * power m c (batch t) (headAt t e) i j) (∑ j, power m c (batch t) (headAt t e) i j) := by
  rw [blk4 m c t i _ (rowAt t i) ⟨128 * (t.val % 8) + (at64 e l).val, by omega⟩ rfl rfl,
    v99_at m c (batch t) i (headAt t e) l (rowAt t i) _ rfl (by simp only [at64, headAt]; omega)]

theorem log_block : iblk m c 5 t (ix2 i (at64 e l)) =
    top m c (batch t) (headAt t e) i + Ideal.log (∑ j, power m c (batch t) (headAt t e) i j) * Ideal.div 1 ln2 := by
  rw [blk5 m c t i _ (rowAt t i) ⟨128 * (t.val % 8) + (at64 e l).val, by omega⟩ rfl rfl,
    v100_at m c (batch t) i (headAt t e) l (rowAt t i) _ rfl (by simp only [at64, headAt]; omega)]

theorem cotangent_block : iblk m c 6 t (ix2 i (at64 e l)) = argD m c (batch t) i (headAt t e) l := by
  rw [blk6 m c t i _ (rowAt t i) ⟨128 * (t.val % 8) + (at64 e l).val, by omega⟩ rfl rfl,
    v167_at m c (batch t) i (headAt t e) l (rowAt t i) _ rfl (by simp only [at64, headAt]; omega)]

theorem table_block (n : Fin 4) (j i : Fin 512) : iblk m c 3 t (ix4 0 n j i) = bias (2 * (t.val % 8)) (512 * (n.val : ℤ) + i.val - j.val) := by
  rw [blk3 m c t n j i ⟨t.val % 8 / 4, by omega⟩ rfl, v224_at, table_word, ← bias_word _ _ _ rfl (by omega) (by omega)]
  unfold biasOf
  by_cases h : t.val % 8 / 4 < 1
  · rw [if_pos h, if_pos (by omega)]
  · rw [if_neg h, if_neg (by omega)]

theorem bias_pair (d : ℤ) : bias (2 * (t.val % 8)) d = bias (headAt t e).val d := by
  unfold bias biasOf headAt
  have : 2 * (t.val % 8) / 8 = (2 * (t.val % 8) + e.val) / 8 := by omega
  simp only [this]

end Cert.Attn

end
-- ==== Proof.AttnLeft.lean ====
/-
  What a point leaves in its five blocks, on real arguments.
-/
module

public import proofs.«01_k».proof.Proof.AttnHeads
public import proofs.«01_k».proof.Proof.AttnFrame
public import proofs.«01_k».proof.Proof.AttnBlock

@[expose] public section

set_option maxRecDepth 16384

noncomputable section

open Idealize.ShloMosaic Idealize.ShloMosaic.TcCoe Idealize.SL.Sem

namespace Cert.Attn

open Cert.Kernel7Ideal Cert.Kernel7Ideal.Gen Cert.Fv

variable {m : (ℓ : Loc nD τ sig) → Buf (Elt Ideal) ℓ} {c : Dev nD}
variable {q k v g : Fin 4 → Fin 2048 → Fin 16 → Fin 64 → ℝ} {cc : Fin 4 → Fin 2048 → Fin 8 → ℝ}

/-- The scaled queries. -/
def scaled (q : Fin 4 → Fin 2048 → Fin 16 → Fin 64 → ℝ) (b : Fin 4) (h : Fin 16) (i : Fin 2048) (l : Fin 64) : ℝ := q b i h l * (1 / 8 / L2)

section Real

variable (h0 : ∀ b i h e, argQ m c b i h e = (q b i h e : EReal)) (h1 : ∀ b i h e, argK m c b i h e = (k b i h e : EReal))
  (h2 : ∀ b i h e, argV m c b i h e = (v b i h e : EReal)) (h3 : ∀ b i h, argC m c b i h = (cc b i h : EReal))
  (h4 : ∀ b i h e, argD m c b i h e = (g b i h e : EReal))
variable (t : Fin cfg0.N) (e : Fin 2)

theorem other_ne (e : Fin 2) : ¬ other e = e := fun h => by
  have := congrArg Fin.val h
  simp only [other] at this
  omega

include h0 in
theorem query_own (i : Fin 2048) (l : Fin 64) : iblk m c 0 t (ix2 i (lane e (at64 e l))) = (scaled q (batch t) (headAt t e) i l : EReal) := by
  rw [query_block, if_pos rfl, h0, eighthLn2_eq, ← EReal.coe_mul]
  rfl
include h3 in
theorem query_beside (i : Fin 2048) (l : Fin 64) : iblk m c 0 t (ix2 i (lane e (at64 (other e) l))) = (realQ cc (batch t) i (headAt t e) l : EReal) := by
  rw [query_block, if_neg (other_ne e), besideQ_real h3]
include h1 in
theorem key_own (i : Fin 2048) (l : Fin 64) : iblk m c 1 t (ix2 i (lane e (at64 e l))) = (headOf k (batch t) (headAt t e) i l : EReal) := by
  rw [key_block, if_pos rfl, h1]
include h3 in
theorem key_beside (i : Fin 2048) (l : Fin 64) : iblk m c 1 t (ix2 i (lane e (at64 (other e) l))) = (realK cc (batch t) i (headAt t e) l : EReal) := by
  rw [key_block, if_neg (other_ne e), besideK_real h3]
include h2 in
theorem value_own (i : Fin 2048) (l : Fin 64) : iblk m c 2 t (ix2 i (at64 e l)) = (headOf v (batch t) (headAt t e) i l : EReal) := by
  rw [value_block, h2]
include h4 in
theorem cotangent_own (i : Fin 2048) (l : Fin 64) : iblk m c 6 t (ix2 i (at64 e l)) = (headOf g (batch t) (headAt t e) i l : EReal) := by
  rw [cotangent_block, h4]
include h0 h1 h2 h3 in
theorem out_own (i : Fin 2048) (l : Fin 64) : iblk m c 4 t (ix2 i (at64 e l)) =
    ((∑ j, headOf v (batch t) (headAt t e) j l * soft (wt q k cc (batch t) (headAt t e)) i j : ℝ) : EReal) := by
  rw [out_block, out_real h0 h1 h2 h3]
include h0 h1 h3 in
theorem log_own (i : Fin 2048) (l : Fin 64) : iblk m c 5 t (ix2 i (at64 e l)) =
    ((Real.log (rowSum (wt q k cc (batch t) (headAt t e)) i) / L2 : ℝ) : EReal) := by
  obtain ⟨_, _, _, h⟩ := row_real h0 h1 h3 (batch t) (headAt t e) i
  rw [log_block, h]

/-- A head's score, with the lanes beside it, is its mathematical one. -/
theorem score_own (i j : Fin 2048) :
    IsScore L2 (((∑ l, headOf k (batch t) (headAt t e) j l * scaled q (batch t) (headAt t e) i l + ∑ l, realK cc (batch t) j (headAt t e) l * realQ cc (batch t) i (headAt t e) l : ℝ) : EReal)
      + bias (2 * (t.val % 8)) ((i.val : ℤ) - j.val)) (wt q k cc (batch t) (headAt t e) i j) := by
  have e1 : ∑ l, headOf k (batch t) (headAt t e) j l * scaled q (batch t) (headAt t e) i l + ∑ l, realK cc (batch t) j (headAt t e) l * realQ cc (batch t) i (headAt t e) l
      = plain q k cc (batch t) (headAt t e) i j / L2 := by
    rw [beside_sum]
    unfold plain scaled headOf
    rw [add_div, Finset.sum_mul, Finset.sum_div]
    refine congrArg (· + _) (Finset.sum_congr rfl fun l _ => ?_)
    field_simp
  rw [e1, bias_pair t e, bias_gap]
  have := (biasOf_score (headAt t e) (gap i.val j.val)).add (plain q k cc (batch t) (headAt t e) i j / L2)
  rw [div_mul_cancel₀ _ L2_pos.ne'] at this
  exact this

/-- Every lane belongs to one of the two heads. -/
theorem lane_of (l : Fin 128) : ∃ e x, l = at64 e x :=
  ⟨⟨l.val / 64, by omega⟩, ⟨l.val % 64, by omega⟩, Fin.ext (by simp only [at64]; omega)⟩

include h0 h1 h2 h3 in
theorem out_isReal (i : Fin 2048) (l : Fin 128) : IsReal (iblk m c 4 t (ix2 i l)) := by
  obtain ⟨e, x, rfl⟩ := lane_of l
  exact ⟨_, out_own h0 h1 h2 h3 t e i x⟩
include h4 in
theorem cotangent_isReal (i : Fin 2048) (l : Fin 128) : IsReal (iblk m c 6 t (ix2 i l)) := by
  obtain ⟨e, x, rfl⟩ := lane_of l
  exact ⟨_, cotangent_own h4 t e i x⟩
include h0 h1 h3 in
theorem log_isReal (i : Fin 2048) (l : Fin 128) : IsReal (iblk m c 5 t (ix2 i l)) := by
  obtain ⟨e, x, rfl⟩ := lane_of l
  exact ⟨_, log_own h0 h1 h3 t e i x⟩

theorem pick (e : Fin 2) (l : Fin 64) (f : Fin 2 → EReal) : (if mine 0 (at64 e l) then f 0 else f 1) = f e := by
  by_cases h : e = 0
  · rw [if_pos ((mine_at 0 e l).mpr h), h]
  · rw [if_neg fun h' => h ((mine_at 0 e l).mp h')]
    exact congrArg f (Fin.ext (by have : e.val ≠ 0 := fun h' => h (Fin.ext h'); show 1 = e.val; omega))
theorem pick_other (e : Fin 2) (l : Fin 64) (f : Fin 2 → EReal) : (if mine 0 (at64 (other e) l) then f 1 else f 0) = f e := by
  have := pick (other e) l fun e => f (other e)
  rw [show other (other e) = e from Fin.ext (by simp only [other]; omega)] at this
  exact this

include h0 h1 h2 h3 h4

set_option maxHeartbeats 2000000 in
/-- A query's gradient. -/
theorem left_dq_at (i : Fin 2048) (l : Fin 64) : left_dq m c t (ix2 i (at64 e l)) =
    ((∑ j, headOf k (batch t) (headAt t e) j l * sgrad q k v g cc (batch t) (headAt t e) i j : ℝ) : EReal) := by
  unfold left_dq
  rw [View.read_writes_junk_eq_canon]
  refine (dq_leaves c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    (bias (2 * (t.val % 8))) (out_isReal h0 h1 h2 h3 t) (cotangent_isReal h4 t) (log_isReal h0 h1 h3 t) (bias_neg _) (table_block t) i _).trans ?_
  refine (pick e l fun e => queryGrad (iblk m c 0 t) (iblk m c 1 t) (iblk m c 2 t) (iblk m c 4 t) (iblk m c 5 t) (iblk m c 6 t) (bias (2 * (t.val % 8))) e i _).trans ?_
  exact queryGrad_own (query_own h0 t e) (key_own h1 t e) (query_beside h3 t e) (key_beside h3 t e) (value_own h2 t e) (cotangent_own h4 t e) (out_own h0 h1 h2 h3 t e) (log_own h0 h1 h3 t e)
    (score_own t e) (rowSum_pos q k cc (batch t) (headAt t e)) i l

set_option maxHeartbeats 2000000 in
/-- A gradient of the lanes beside a query. -/
theorem left_dqx_at (i : Fin 2048) (l : Fin 64) : left_dqx m c t (ix2 i (at64 (other e) l)) =
    ((∑ j, realK cc (batch t) j (headAt t e) l * sgrad q k v g cc (batch t) (headAt t e) i j : ℝ) : EReal) := by
  unfold left_dqx
  rw [View.read_writes_junk_eq_canon]
  refine (dqx_leaves c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    (bias (2 * (t.val % 8))) (out_isReal h0 h1 h2 h3 t) (cotangent_isReal h4 t) (log_isReal h0 h1 h3 t) (bias_neg _) (table_block t) i _).trans ?_
  refine (pick_other e l fun e => queryGrad (iblk m c 0 t) (iblk m c 1 t) (iblk m c 2 t) (iblk m c 4 t) (iblk m c 5 t) (iblk m c 6 t) (bias (2 * (t.val % 8))) e i _).trans ?_
  exact queryGrad_beside (query_own h0 t e) (key_own h1 t e) (query_beside h3 t e) (key_beside h3 t e) (value_own h2 t e) (cotangent_own h4 t e) (out_own h0 h1 h2 h3 t e) (log_own h0 h1 h3 t e)
    (score_own t e) (rowSum_pos q k cc (batch t) (headAt t e)) i l

set_option maxHeartbeats 2000000 in
/-- A key's gradient. -/
theorem left_dk_at (i : Fin 2048) (l : Fin 64) : left_dk m c t (ix2 i (at64 e l)) =
    ((∑ j, sgrad q k v g cc (batch t) (headAt t e) j i * scaled q (batch t) (headAt t e) j l : ℝ) : EReal) := by
  unfold left_dk
  rw [View.read_writes_junk_eq_canon]
  refine (dk_leaves c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    (bias (2 * (t.val % 8))) (out_isReal h0 h1 h2 h3 t) (cotangent_isReal h4 t) (log_isReal h0 h1 h3 t) (bias_neg _) (table_block t) i _).trans ?_
  refine (pick e l fun e => keyGrad (iblk m c 0 t) (iblk m c 1 t) (iblk m c 2 t) (iblk m c 4 t) (iblk m c 5 t) (iblk m c 6 t) (bias (2 * (t.val % 8))) e i _).trans ?_
  exact keyGrad_own (query_own h0 t e) (key_own h1 t e) (query_beside h3 t e) (key_beside h3 t e) (value_own h2 t e) (cotangent_own h4 t e) (out_own h0 h1 h2 h3 t e) (log_own h0 h1 h3 t e)
    (score_own t e) (rowSum_pos q k cc (batch t) (headAt t e)) i l

set_option maxHeartbeats 2000000 in
/-- A gradient of the lanes beside a key. -/
theorem left_dkx_at (i : Fin 2048) (l : Fin 64) : left_dkx m c t (ix2 i (at64 (other e) l)) =
    ((∑ j, sgrad q k v g cc (batch t) (headAt t e) j i * realQ cc (batch t) j (headAt t e) l : ℝ) : EReal) := by
  unfold left_dkx
  rw [View.read_writes_junk_eq_canon]
  refine (dkx_leaves c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    (bias (2 * (t.val % 8))) (out_isReal h0 h1 h2 h3 t) (cotangent_isReal h4 t) (log_isReal h0 h1 h3 t) (bias_neg _) (table_block t) i _).trans ?_
  refine (pick_other e l fun e => keyGrad (iblk m c 0 t) (iblk m c 1 t) (iblk m c 2 t) (iblk m c 4 t) (iblk m c 5 t) (iblk m c 6 t) (bias (2 * (t.val % 8))) e i _).trans ?_
  exact keyGrad_beside (query_own h0 t e) (key_own h1 t e) (query_beside h3 t e) (key_beside h3 t e) (value_own h2 t e) (cotangent_own h4 t e) (out_own h0 h1 h2 h3 t e) (log_own h0 h1 h3 t e)
    (score_own t e) (rowSum_pos q k cc (batch t) (headAt t e)) i l

set_option maxHeartbeats 2000000 in
/-- A value's gradient. -/
theorem left_dv_at (i : Fin 2048) (l : Fin 64) : left_dv m c t (ix2 i (at64 e l)) =
    ((∑ j, soft (wt q k cc (batch t) (headAt t e)) j i * headOf g (batch t) (headAt t e) j l : ℝ) : EReal) := by
  unfold left_dv
  rw [View.read_writes_junk_eq_canon]
  refine (dv_leaves c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    (bias (2 * (t.val % 8))) (out_isReal h0 h1 h2 h3 t) (cotangent_isReal h4 t) (log_isReal h0 h1 h3 t) (bias_neg _) (table_block t) i _).trans ?_
  exact valueGrad_head (query_own h0 t e) (key_own h1 t e) (query_beside h3 t e) (key_beside h3 t e) (cotangent_own h4 t e) (log_own h0 h1 h3 t e)
    (score_own t e) (rowSum_pos q k cc (batch t) (headAt t e)) i l

end Real

end Cert.Attn

end
-- ==== Proof.AttnArrays.lean ====
/-
  The five arrays after the run, on real arguments.
-/
module

public import proofs.«01_k».proof.Proof.AttnLeft

@[expose] public section

set_option maxRecDepth 16384

noncomputable section

open Idealize.ShloMosaic Idealize.ShloMosaic.TcCoe Idealize.SL.Sem

namespace Cert.Attn

open Cert.Kernel7Ideal Cert.Kernel7Ideal.Gen Cert.Fv

/-- An array of heads side by side, -/
def packed (f : Fin 4 → Fin 2048 → Fin 16 → Fin 64 → ℝ) (y : S8192x1024.Idx) : EReal :=
  f ⟨(y 0).val / 2048, by have : (y 0).val < 8192 := (y 0).isLt; omega⟩ ⟨(y 0).val % 2048, by omega⟩
    ⟨(y 1).val / 64, by have : (y 1).val < 1024 := (y 1).isLt; omega⟩ ⟨(y 1).val % 64, by omega⟩
/-- and with the two of a pair exchanged. -/
def crossed (f : Fin 4 → Fin 2048 → Fin 16 → Fin 64 → ℝ) (y : S8192x1024.Idx) : EReal :=
  f ⟨(y 0).val / 2048, by have : (y 0).val < 8192 := (y 0).isLt; omega⟩ ⟨(y 0).val % 2048, by omega⟩
    ⟨2 * ((y 1).val / 128) + (1 - (y 1).val / 64 % 2), by have : (y 1).val < 1024 := (y 1).isLt; omega⟩ ⟨(y 1).val % 64, by omega⟩

theorem packed_at (f : Fin 4 → Fin 2048 → Fin 16 → Fin 64 → ℝ) (y : S8192x1024.Idx) (b : Fin 4) (i : Fin 2048) (h : Fin 16) (l : Fin 64)
    (e0 : (y 0).val = 2048 * b.val + i.val) (e1 : (y 1).val = 64 * h.val + l.val) : packed f y = (f b i h l : EReal) := by
  unfold packed
  have a0 : (⟨(y 0).val / 2048, by omega⟩ : Fin 4) = b := Fin.ext (by simp only; omega)
  have a1 : (⟨(y 0).val % 2048, by omega⟩ : Fin 2048) = i := Fin.ext (by simp only; omega)
  have a2 : (⟨(y 1).val / 64, by omega⟩ : Fin 16) = h := Fin.ext (by simp only; omega)
  have a3 : (⟨(y 1).val % 64, by omega⟩ : Fin 64) = l := Fin.ext (by simp only; omega)
  rw [a0, a1, a2, a3]

theorem crossed_at (f : Fin 4 → Fin 2048 → Fin 16 → Fin 64 → ℝ) (y : S8192x1024.Idx) (b : Fin 4) (i : Fin 2048) (h : Fin 16) (l : Fin 64)
    (e0 : (y 0).val = 2048 * b.val + i.val) (e1 : (y 1).val = 128 * (h.val / 2) + (64 * (1 - h.val % 2) + l.val)) : crossed f y = (f b i h l : EReal) := by
  unfold crossed
  have a0 : (⟨(y 0).val / 2048, by omega⟩ : Fin 4) = b := Fin.ext (by simp only; omega)
  have a1 : (⟨(y 0).val % 2048, by omega⟩ : Fin 2048) = i := Fin.ext (by simp only; omega)
  have a2 : (⟨2 * ((y 1).val / 128) + (1 - (y 1).val / 64 % 2), by omega⟩ : Fin 16) = h := Fin.ext (by simp only; omega)
  have a3 : (⟨(y 1).val % 64, by omega⟩ : Fin 64) = l := Fin.ext (by simp only; omega)
  rw [a0, a1, a2, a3]

theorem lane_other (s : Fin 128) : ∃ e l, s = at64 (other e) l := by
  obtain ⟨e, l, h⟩ := lane_of s
  refine ⟨other e, l, ?_⟩
  rw [show other (other e) = e from Fin.ext (by simp only [other]; omega)]
  exact h

section Grads

variable (q k v g : Fin 4 → Fin 2048 → Fin 16 → Fin 64 → ℝ) (cc : Fin 4 → Fin 2048 → Fin 8 → ℝ) (b : Fin 4) (i : Fin 2048) (h : Fin 16) (l : Fin 64)

/-- What the five arrays hold of a head's row and lane. -/
def outQ : ℝ := ∑ j, k b j h l * sgrad q k v g cc b h i j
def outK : ℝ := ∑ j, sgrad q k v g cc b h j i * scaled q b h j l
def outV : ℝ := ∑ j, soft (wt q k cc b h) j i * g b j h l
def outQX : ℝ := ∑ j, realK cc b j h l * sgrad q k v g cc b h i j
def outKX : ℝ := ∑ j, sgrad q k v g cc b h j i * realQ cc b j h l

end Grads

variable {m : (ℓ : Loc nD τ sig) → Buf (Elt Ideal) ℓ} {c : Dev nD}
variable {q k v g : Fin 4 → Fin 2048 → Fin 16 → Fin 64 → ℝ} {cc : Fin 4 → Fin 2048 → Fin 8 → ℝ}

section Real

variable (h0 : ∀ b i h e, argQ m c b i h e = (q b i h e : EReal)) (h1 : ∀ b i h e, argK m c b i h e = (k b i h e : EReal))
  (h2 : ∀ b i h e, argV m c b i h e = (v b i h e : EReal)) (h3 : ∀ b i h, argC m c b i h = (cc b i h : EReal))
  (h4 : ∀ b i h e, argD m c b i h e = (g b i h e : EReal))

include h0 h1 h2 h3 h4

/-- The array of the queries' gradients. -/
theorem final7 : (dats m 0 c).arrAt 7 cfg0.N = packed (outQ q k v g cc) := by
  refine (dats m 0 c).arrAt_eq_of_covers 7 _ (by decide +kernel) fun t _ y => ?_
  blk_simp
  rw [after7]
  have key : ∀ j : S8192x1024.Idx, j = ((cfg0.win 7).blk t).view.emb y → left_dq m c t y = packed (outQ q k v g cc) j := by
    intro j hj
    have j0 : (j 0 : ℕ) = t.val / 8 * 2048 + y 0 := by rw [hj]; blk_simp [idx t]
    have j1 : (j 1 : ℕ) = t.val % 8 * 128 + y 1 := by rw [hj]; blk_simp [idx t]
    clear hj
    obtain ⟨i, s, rfl⟩ : ∃ (i : Fin 2048) (s : Fin 128), y = ix2 i s := ⟨y 0, y 1, eq_ix2 y⟩
    replace j0 : (j 0 : ℕ) = t.val / 8 * 2048 + i.val := j0
    replace j1 : (j 1 : ℕ) = t.val % 8 * 128 + s.val := j1
    obtain ⟨e, l, rfl⟩ : ∃ e l, s = at64 e l := lane_of s
    rw [left_dq_at h0 h1 h2 h3 h4 t e i l]
    exact (packed_at (outQ q k v g cc) j (batch t) i (headAt t e) l (by show (j 0 : ℕ) = 2048 * (t.val / 8) + i.val; omega) (by simp only [at64, headAt] at j1 ⊢; omega)).symm
  exact key _ rfl

/-- The array of the keys' gradients. -/
theorem final8 : (dats m 0 c).arrAt 8 cfg0.N = packed (outK q k v g cc) := by
  refine (dats m 0 c).arrAt_eq_of_covers 8 _ (by decide +kernel) fun t _ y => ?_
  blk_simp
  rw [after8]
  have key : ∀ j : S8192x1024.Idx, j = ((cfg0.win 8).blk t).view.emb y → left_dk m c t y = packed (outK q k v g cc) j := by
    intro j hj
    have j0 : (j 0 : ℕ) = t.val / 8 * 2048 + y 0 := by rw [hj]; blk_simp [idx t]
    have j1 : (j 1 : ℕ) = t.val % 8 * 128 + y 1 := by rw [hj]; blk_simp [idx t]
    clear hj
    obtain ⟨i, s, rfl⟩ : ∃ (i : Fin 2048) (s : Fin 128), y = ix2 i s := ⟨y 0, y 1, eq_ix2 y⟩
    replace j0 : (j 0 : ℕ) = t.val / 8 * 2048 + i.val := j0
    replace j1 : (j 1 : ℕ) = t.val % 8 * 128 + s.val := j1
    obtain ⟨e, l, rfl⟩ : ∃ e l, s = at64 e l := lane_of s
    rw [left_dk_at h0 h1 h2 h3 h4 t e i l]
    exact (packed_at (outK q k v g cc) j (batch t) i (headAt t e) l (by show (j 0 : ℕ) = 2048 * (t.val / 8) + i.val; omega) (by simp only [at64, headAt] at j1 ⊢; omega)).symm
  exact key _ rfl

/-- The array of the values' gradients. -/
theorem final9 : (dats m 0 c).arrAt 9 cfg0.N = packed (outV q k g cc) := by
  refine (dats m 0 c).arrAt_eq_of_covers 9 _ (by decide +kernel) fun t _ y => ?_
  blk_simp
  rw [after9]
  have key : ∀ j : S8192x1024.Idx, j = ((cfg0.win 9).blk t).view.emb y → left_dv m c t y = packed (outV q k g cc) j := by
    intro j hj
    have j0 : (j 0 : ℕ) = t.val / 8 * 2048 + y 0 := by rw [hj]; blk_simp [idx t]
    have j1 : (j 1 : ℕ) = t.val % 8 * 128 + y 1 := by rw [hj]; blk_simp [idx t]
    clear hj
    obtain ⟨i, s, rfl⟩ : ∃ (i : Fin 2048) (s : Fin 128), y = ix2 i s := ⟨y 0, y 1, eq_ix2 y⟩
    replace j0 : (j 0 : ℕ) = t.val / 8 * 2048 + i.val := j0
    replace j1 : (j 1 : ℕ) = t.val % 8 * 128 + s.val := j1
    obtain ⟨e, l, rfl⟩ : ∃ e l, s = at64 e l := lane_of s
    rw [left_dv_at h0 h1 h2 h3 h4 t e i l]
    exact (packed_at (outV q k g cc) j (batch t) i (headAt t e) l (by show (j 0 : ℕ) = 2048 * (t.val / 8) + i.val; omega) (by simp only [at64, headAt] at j1 ⊢; omega)).symm
  exact key _ rfl

/-- The array of the lanes beside the queries' gradients. -/
theorem final10 : (dats m 0 c).arrAt 10 cfg0.N = crossed (outQX q k v g cc) := by
  refine (dats m 0 c).arrAt_eq_of_covers 10 _ (by decide +kernel) fun t _ y => ?_
  blk_simp
  rw [after10]
  have key : ∀ j : S8192x1024.Idx, j = ((cfg0.win 10).blk t).view.emb y → left_dqx m c t y = crossed (outQX q k v g cc) j := by
    intro j hj
    have j0 : (j 0 : ℕ) = t.val / 8 * 2048 + y 0 := by rw [hj]; blk_simp [idx t]
    have j1 : (j 1 : ℕ) = t.val % 8 * 128 + y 1 := by rw [hj]; blk_simp [idx t]
    clear hj
    obtain ⟨i, s, rfl⟩ : ∃ (i : Fin 2048) (s : Fin 128), y = ix2 i s := ⟨y 0, y 1, eq_ix2 y⟩
    replace j0 : (j 0 : ℕ) = t.val / 8 * 2048 + i.val := j0
    replace j1 : (j 1 : ℕ) = t.val % 8 * 128 + s.val := j1
    obtain ⟨e, l, rfl⟩ : ∃ e l, s = at64 (other e) l := lane_other s
    rw [left_dqx_at h0 h1 h2 h3 h4 t e i l]
    exact (crossed_at (outQX q k v g cc) j (batch t) i (headAt t e) l (by show (j 0 : ℕ) = 2048 * (t.val / 8) + i.val; omega) (by simp only [at64, headAt, other] at j1 ⊢; omega)).symm
  exact key _ rfl

/-- The array of the lanes beside the keys' gradients. -/
theorem final11 : (dats m 0 c).arrAt 11 cfg0.N = crossed (outKX q k v g cc) := by
  refine (dats m 0 c).arrAt_eq_of_covers 11 _ (by decide +kernel) fun t _ y => ?_
  blk_simp
  rw [after11]
  have key : ∀ j : S8192x1024.Idx, j = ((cfg0.win 11).blk t).view.emb y → left_dkx m c t y = crossed (outKX q k v g cc) j := by
    intro j hj
    have j0 : (j 0 : ℕ) = t.val / 8 * 2048 + y 0 := by rw [hj]; blk_simp [idx t]
    have j1 : (j 1 : ℕ) = t.val % 8 * 128 + y 1 := by rw [hj]; blk_simp [idx t]
    clear hj
    obtain ⟨i, s, rfl⟩ : ∃ (i : Fin 2048) (s : Fin 128), y = ix2 i s := ⟨y 0, y 1, eq_ix2 y⟩
    replace j0 : (j 0 : ℕ) = t.val / 8 * 2048 + i.val := j0
    replace j1 : (j 1 : ℕ) = t.val % 8 * 128 + s.val := j1
    obtain ⟨e, l, rfl⟩ : ∃ e l, s = at64 (other e) l := lane_other s
    rw [left_dkx_at h0 h1 h2 h3 h4 t e i l]
    exact (crossed_at (outKX q k v g cc) j (batch t) i (headAt t e) l (by show (j 0 : ℕ) = 2048 * (t.val / 8) + i.val; omega) (by simp only [at64, headAt, other] at j1 ⊢; omega)).symm
  exact key _ rfl

end Real

end Cert.Attn

end
-- ==== Proof.AttnTail.lean ====
/-
  The lines after the launch, read off the five arrays.
-/
module

public import proofs.«01_k».proof.Proof.AttnArrays
public import Idealize.ShloMosaic.Lib.Pointwise

@[expose] public section

set_option maxRecDepth 16384

noncomputable section

open Idealize.ShloMosaic Idealize.ShloMosaic.TcCoe Idealize.SL.Sem

namespace Cert.Attn

open Cert.Kernel7Ideal Cert.Kernel7Ideal.Gen Cert.Fv

variable (W : Valuation τ sig (Elt Ideal))

/-- A row and a head's lane in an array of heads side by side; a lane of a pair with its heads exchanged. -/
def rowOf (b : Fin 4) (i : Fin 2048) : Fin 8192 := ⟨2048 * b.val + i.val, by omega⟩
def laneOf (h : Fin 16) (l : Fin 64) : Fin 1024 := ⟨64 * h.val + l.val, by omega⟩
def laneAcross (h : Fin 8) (l : Fin 64) : Fin 1024 := ⟨128 * (h.val / 2) + (64 * (1 - h.val % 2) + l.val), by omega⟩

/-- The queries' gradients are scaled by one eighth, -/
theorem tail_q (b : Fin 4) (i : Fin 2048) (h : Fin 16) (l : Fin 64) (X : S8192x1024.Idx → EReal) (hX : W (Proc.devRef .tc main_v225_0) = X) :
    StableHlo.after ([hostOps1 (F := Ideal)].flatten) W (Proc.devRef .tc main_v242) (ix4 b i h l) = X (ix2 (rowOf b i) (laneOf h l)) * eighth := by
  simp only [List.flatten_cons, List.flatten_nil, List.append_nil, hostOps1]
  after_reads_simp
  try simp only [StableHlo.TRef.toBuf, StableHlo.TRef.ofBuf, cast_eq]
  rw [hX]
  have key : ∀ r r' s s', r = r' → s = s' → X (ix2 r s) * eighth = X (ix2 r' s') * eighth := by
    rintro r _ s _ rfl rfl
    rfl
  pointwise []
  exact key _ _ _ _ (Fin.ext (by simp only [rowOf]; omega)) (Fin.ext (by simp only [laneOf]; omega))

/-- the keys' by the logarithm of two, -/
theorem tail_k (b : Fin 4) (i : Fin 2048) (h : Fin 16) (l : Fin 64) (X : S8192x1024.Idx → EReal) (hX : W (Proc.devRef .tc main_v225_1) = X) :
    StableHlo.after ([hostOps1 (F := Ideal)].flatten) W (Proc.devRef .tc main_v247) (ix4 b i h l) = X (ix2 (rowOf b i) (laneOf h l)) * ln2 := by
  simp only [List.flatten_cons, List.flatten_nil, List.append_nil, hostOps1]
  after_reads_simp
  try simp only [StableHlo.TRef.toBuf, StableHlo.TRef.ofBuf, cast_eq]
  rw [hX]
  have key : ∀ r r' s s', r = r' → s = s' → X (ix2 r s) * ln2 = X (ix2 r' s') * ln2 := by
    rintro r _ s _ rfl rfl
    rfl
  pointwise []
  exact key _ _ _ _ (Fin.ext (by simp only [rowOf]; omega)) (Fin.ext (by simp only [laneOf]; omega))

/-- the values' are as they are, -/
theorem tail_v (b : Fin 4) (i : Fin 2048) (h : Fin 16) (l : Fin 64) (X : S8192x1024.Idx → EReal) (hX : W (Proc.devRef .tc main_v225_2) = X) :
    StableHlo.after ([hostOps1 (F := Ideal)].flatten) W (Proc.devRef .tc main_v249) (ix4 b i h l) = X (ix2 (rowOf b i) (laneOf h l)) := by
  simp only [List.flatten_cons, List.flatten_nil, List.append_nil, hostOps1]
  after_reads_simp
  try simp only [StableHlo.TRef.toBuf, StableHlo.TRef.ofBuf, cast_eq]
  rw [hX]
  have key : ∀ r r' s s', r = r' → s = s' → X (ix2 r s) = X (ix2 r' s') := by
    rintro r _ s _ rfl rfl
    rfl
  pointwise []
  exact key _ _ _ _ (Fin.ext (by simp only [rowOf]; omega)) (Fin.ext (by simp only [laneOf]; omega))

/-- and a gate's is lane three beside its queries less lane zero beside its keys. -/
theorem tail_c (b : Fin 4) (i : Fin 2048) (h : Fin 8) (X Y : S8192x1024.Idx → EReal) (hX : W (Proc.devRef .tc main_v225_3) = X) (hY : W (Proc.devRef .tc main_v225_4) = Y) :
    StableHlo.after ([hostOps1 (F := Ideal)].flatten) W (Proc.devRef .tc main_v238) (ix3 b i h) =
      X (ix2 (rowOf b i) (laneAcross h 3)) - Y (ix2 (rowOf b i) (laneAcross h 0)) := by
  simp only [List.flatten_cons, List.flatten_nil, List.append_nil, hostOps1]
  after_reads_simp
  try simp only [StableHlo.TRef.toBuf, StableHlo.TRef.ofBuf, cast_eq]
  rw [hX, hY]
  have key : ∀ r r' s s' p p' t t', r = r' → s = s' → p = p' → t = t' → X (ix2 r s) - Y (ix2 p t) = X (ix2 r' s') - Y (ix2 p' t') := by
    rintro r _ s _ p _ t _ rfl rfl rfl rfl
    rfl
  pointwise []
  exact key _ _ _ _ _ _ _ _ (Fin.ext (by simp [rowOf]; omega)) (Fin.ext (by simp [laneAcross, Fin.rev]; omega)) (Fin.ext (by simp [rowOf]; omega))
    (Fin.ext (by simp [laneAcross, Fin.rev]; omega))

end Cert.Attn

end
-- ==== Proof.AttnEq.lean ====
/-
  The four results after the last lines are the reference's, on real arguments.
-/
module

public import proofs.«01_k».proof.Proof.AttnTail

@[expose] public section

set_option maxRecDepth 16384

noncomputable section

open Idealize.ShloMosaic Idealize.ShloMosaic.TcCoe Idealize.SL.Sem

namespace Cert.Attn

open Cert.Kernel7Ideal Cert.Kernel7Ideal.Gen Cert.Fv
open Cert.Reference7Ideal.Read (val_main_v218 val_main_v216 val_main_v188 val_main_v212)

variable (m : (ℓ : Loc nD τ sig) → Buf (Elt Ideal) ℓ) (c : Dev nD)

/-- The device's buffers when the launch ends. -/
def exit : Valuation τ sig (Elt Ideal) := Pipeline.withArrays (cfgs 0).spec c (V0 m c) fun w => (dats m 0 c).arrAt w (cfgs 0).N

theorem exit_arr (w : Fin cfg0.W) : exit m c (Proc.devRef .tc (Pipeline.arrRef spec0 w)) = (dats m 0 c).arrAt w cfg0.N :=
  Pipeline.withArrays_arr_shared (cfgs 0).spec c (V0 m c) (fun w => (dats m 0 c).arrAt w (cfgs 0).N)
    ((dats m 0 c).arrAt_sharedIn launch₀0.sharedIn (V0 m c) (arrays m c) (cfgs 0).N) w

theorem exit_0 : exit m c (Proc.devRef .tc main_v225_0) = (dats m 0 c).arrAt 7 cfg0.N := exit_arr m c 7
theorem exit_1 : exit m c (Proc.devRef .tc main_v225_1) = (dats m 0 c).arrAt 8 cfg0.N := exit_arr m c 8
theorem exit_2 : exit m c (Proc.devRef .tc main_v225_2) = (dats m 0 c).arrAt 9 cfg0.N := exit_arr m c 9
theorem exit_3 : exit m c (Proc.devRef .tc main_v225_3) = (dats m 0 c).arrAt 10 cfg0.N := exit_arr m c 10
theorem exit_4 : exit m c (Proc.devRef .tc main_v225_4) = (dats m 0 c).arrAt 11 cfg0.N := exit_arr m c 11

/-- A result after the last lines. -/
theorem result_eq (b : Ref sig .tc) : Pipeline.afterTail₀ cfgs (dats m) 0 (V0 m) [hostOps1] c b = StableHlo.after ([hostOps1 (F := Ideal)].flatten) (exit m c) (Proc.devRef .tc b) := rfl

variable {m c}
variable {q k v g : Fin 4 → Fin 2048 → Fin 16 → Fin 64 → ℝ} {cc : Fin 4 → Fin 2048 → Fin 8 → ℝ}

section Real

variable {x0 x1 x2 x4 : FVec Ideal S4x2048x16x64 .f32} {x3 : FVec Ideal S4x2048x8 .f32}
variable (h0 : ∀ b i h e, argQ m c b i h e = (q b i h e : EReal)) (h1 : ∀ b i h e, argK m c b i h e = (k b i h e : EReal))
  (h2 : ∀ b i h e, argV m c b i h e = (v b i h e : EReal)) (h3 : ∀ b i h, argC m c b i h = (cc b i h : EReal))
  (h4 : ∀ b i h e, argD m c b i h e = (g b i h e : EReal))
variable (e0 : ∀ b i h e, x0 (ix4 b i h e) = (q b i h e : EReal)) (e1 : ∀ b i h e, x1 (ix4 b i h e) = (k b i h e : EReal))
  (e2 : ∀ b i h e, x2 (ix4 b i h e) = (v b i h e : EReal)) (e3 : ∀ b i h, x3 (ix3 b i h) = (cc b i h : EReal))
  (e4 : ∀ b i h e, x4 (ix4 b i h e) = (g b i h e : EReal))
include h0 h1 h2 h3 h4 e0 e1 e2 e3 e4

/-- The queries' gradients. -/
theorem query_end (b : Fin 4) (i : Fin 2048) (h : Fin 16) (l : Fin 64) : val_main_v218 (F := Ideal) x0 x1 x2 x3 x4 (ix4 b i h l)
    = StableHlo.after ([hostOps1 (F := Ideal)].flatten) (exit m c) (Proc.devRef .tc main_v242) (ix4 b i h l) := by
  refine (refQuery_at e0 e1 e2 e3 e4 b i h l).trans (Eq.symm ?_)
  refine (tail_q _ b i h l _ ((exit_0 m c).trans (final7 h0 h1 h2 h3 h4))).trans ?_
  rw [packed_at _ _ b i h l rfl rfl, eighth_eq, ← EReal.coe_mul]
  refine congrArg Real.toEReal ?_
  unfold outQ
  rw [Finset.sum_mul]
  exact Finset.sum_congr rfl fun j _ => by ring

/-- The keys' gradients. -/
theorem key_end (b : Fin 4) (i : Fin 2048) (h : Fin 16) (l : Fin 64) : val_main_v216 (F := Ideal) x0 x1 x2 x3 x4 (ix4 b i h l)
    = StableHlo.after ([hostOps1 (F := Ideal)].flatten) (exit m c) (Proc.devRef .tc main_v247) (ix4 b i h l) := by
  refine (refKey_at e0 e1 e2 e3 e4 b i h l).trans (Eq.symm ?_)
  refine (tail_k _ b i h l _ ((exit_1 m c).trans (final8 h0 h1 h2 h3 h4))).trans ?_
  rw [packed_at _ _ b i h l rfl rfl, ln2_eq, ← EReal.coe_mul]
  refine congrArg Real.toEReal ?_
  unfold outK scaled
  rw [Finset.sum_mul]
  refine Finset.sum_congr rfl fun j _ => ?_
  have := L2_pos.ne'
  field_simp

/-- The values' gradients. -/
theorem value_end (b : Fin 4) (i : Fin 2048) (h : Fin 16) (l : Fin 64) : val_main_v188 (F := Ideal) x0 x1 x3 x4 (ix4 b i h l)
    = StableHlo.after ([hostOps1 (F := Ideal)].flatten) (exit m c) (Proc.devRef .tc main_v249) (ix4 b i h l) := by
  refine (refValue_at e0 e1 e3 e4 b i h l).trans (Eq.symm ?_)
  refine (tail_v _ b i h l _ ((exit_2 m c).trans (final9 h0 h1 h2 h3 h4))).trans ?_
  rw [packed_at _ _ b i h l rfl rfl]
  rfl

/-- The gate sums' gradients. -/
theorem gate_end (b : Fin 4) (i : Fin 2048) (h : Fin 8) : val_main_v212 (F := Ideal) x0 x1 x2 x3 x4 (ix3 b i h)
    = StableHlo.after ([hostOps1 (F := Ideal)].flatten) (exit m c) (Proc.devRef .tc main_v238) (ix3 b i h) := by
  refine (refGate_at e0 e1 e2 e3 e4 b i h).trans (Eq.symm ?_)
  refine (tail_c _ b i h _ _ ((exit_3 m c).trans (final10 h0 h1 h2 h3 h4)) ((exit_4 m c).trans (final11 h0 h1 h2 h3 h4))).trans ?_
  rw [crossed_at _ _ b i (foxH h) 3 rfl rfl, crossed_at _ _ b i (foxH h) 0 rfl rfl, ← EReal.coe_sub]
  refine congrArg Real.toEReal ?_
  unfold outQX outKX
  have a : ∀ j, realK cc b j (foxH h) 3 = 1 := fun j => by
    unfold realK
    rw [dif_pos h.isLt, if_neg (by decide), if_pos (by decide)]
  have a' : ∀ j, realQ cc b j (foxH h) 0 = 1 := fun j => by
    unfold realQ
    rw [dif_pos h.isLt, if_pos (by decide)]
  simp only [a, a', one_mul, mul_one]

end Real

end Cert.Attn

end
-- ==== Proof.AttnClaim.lean ====
/-
  The claims about the attention gradient: both programs' frames and the value equation.
-/
module

public import proofs.«01_k».proof.Proof.AttnEq
public import proofs.«01_k».proof.Proof.Gen.Reference7Ideal.Run
public import proofs.«01_k».proof.Proof.Gen.Kernel7.Launch
public import proofs.«01_k».proof.Proof.Gen.Pre_finite7
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.AttnBwd

open Cert.Kernel7Ideal Cert.Kernel7Ideal.Gen Cert.Fv
open Cert.Attn
open Cert.Reference7Ideal.Read (val_main_v218 val_main_v216 val_main_v188 val_main_v212)

/-- The kernel's two programs have the same text, so one run frames both. -/
theorem frame_kernel : Cert.quiescent_Kernel7 := fun m ρ _ => by
  refine Eq.mp ?_ (Cert.Attn.frame (F := Bits) m ρ)
  sl_kernel_rfl
theorem frame_ideal : Cert.quiescent_Kernel7Ideal := fun m ρ _ => Cert.Attn.frame (F := Ideal) m ρ
theorem frame_ideal_pre : Cert.quiescent_Kernel7Ideal_pre_finite7 := fun m ρ _ => Cert.Attn.frame (F := Ideal) m ρ
theorem frame_ref : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)
theorem frame_ref_pre : Cert.quiescent_Reference7Ideal_pre_finite7 := fun m ρ _ => frame_ref m ρ trivial

variable (m : (ℓ : Loc nD τ sig) → Buf (Elt Ideal) ℓ)

/-- Where every argument is a real number, the four results after the last lines are the reference's. -/
theorem ends (h : Cert.Pre_Kernel7Ideal_finite7 m) (c : Dev nD) (x0 x1 x2 : FVec Ideal S4x2048x16x64 .f32) (x3 : FVec Ideal S4x2048x8 .f32) (x4 : FVec Ideal S4x2048x16x64 .f32)
    (a0 : x0 = m (c, Proc.devRef .tc main_arg0)) (a1 : x1 = m (c, Proc.devRef .tc main_arg1)) (a2 : x2 = m (c, Proc.devRef .tc main_arg2))
    (a3 : x3 = m (c, Proc.devRef .tc main_arg3)) (a4 : x4 = m (c, Proc.devRef .tc main_arg4)) :
    val_main_v218 (F := Ideal) x0 x1 x2 x3 x4 = StableHlo.after ([hostOps1 (F := Ideal)].flatten) (exit m c) (Proc.devRef .tc main_v242)
    ∧ val_main_v216 (F := Ideal) x0 x1 x2 x3 x4 = StableHlo.after ([hostOps1 (F := Ideal)].flatten) (exit m c) (Proc.devRef .tc main_v247)
    ∧ val_main_v188 (F := Ideal) x0 x1 x3 x4 = StableHlo.after ([hostOps1 (F := Ideal)].flatten) (exit m c) (Proc.devRef .tc main_v249)
    ∧ val_main_v212 (F := Ideal) x0 x1 x2 x3 x4 = StableHlo.after ([hostOps1 (F := Ideal)].flatten) (exit m c) (Proc.devRef .tc main_v238) := by
  have f0 : ∀ i, IsReal (x0 i) := fun i => by rw [a0]; exact of_abs_lt (congrFun (h c).1 i)
  have f1 : ∀ i, IsReal (x1 i) := fun i => by rw [a1]; exact of_abs_lt (congrFun (h c).2.1 i)
  have f2 : ∀ i, IsReal (x2 i) := fun i => by rw [a2]; exact of_abs_lt (congrFun (h c).2.2.1 i)
  have f3 : ∀ i, IsReal (x3 i) := fun i => by rw [a3]; exact of_abs_lt (congrFun (h c).2.2.2.1 i)
  have f4 : ∀ i, IsReal (x4 i) := fun i => by rw [a4]; exact of_abs_lt (congrFun (h c).2.2.2.2 i)
  choose r0 e0 using f0
  choose r1 e1 using f1
  choose r2 e2 using f2
  choose r3 e3 using f3
  choose r4 e4 using f4
  have w0 : ∀ b i h l, x0 (ix4 b i h l) = ((fun b i h l => r0 (ix4 b i h l)) b i h l : ℝ) := fun b i h l => e0 _
  have w1 : ∀ b i h l, x1 (ix4 b i h l) = ((fun b i h l => r1 (ix4 b i h l)) b i h l : ℝ) := fun b i h l => e1 _
  have w2 : ∀ b i h l, x2 (ix4 b i h l) = ((fun b i h l => r2 (ix4 b i h l)) b i h l : ℝ) := fun b i h l => e2 _
  have w3 : ∀ b i h, x3 (ix3 b i h) = ((fun b i h => r3 (ix3 b i h)) b i h : ℝ) := fun b i h => e3 _
  have w4 : ∀ b i h l, x4 (ix4 b i h l) = ((fun b i h l => r4 (ix4 b i h l)) b i h l : ℝ) := fun b i h l => e4 _
  have k0 : ∀ b i h l, argQ m c b i h l = ((fun b i h l => r0 (ix4 b i h l)) b i h l : ℝ) := fun b i h l => (congrFun a0 _).symm.trans (e0 _)
  have k1 : ∀ b i h l, argK m c b i h l = ((fun b i h l => r1 (ix4 b i h l)) b i h l : ℝ) := fun b i h l => (congrFun a1 _).symm.trans (e1 _)
  have k2 : ∀ b i h l, argV m c b i h l = ((fun b i h l => r2 (ix4 b i h l)) b i h l : ℝ) := fun b i h l => (congrFun a2 _).symm.trans (e2 _)
  have k3 : ∀ b i h, argC m c b i h = ((fun b i h => r3 (ix3 b i h)) b i h : ℝ) := fun b i h => (congrFun a3 _).symm.trans (e3 _)
  have k4 : ∀ b i h l, argD m c b i h l = ((fun b i h l => r4 (ix4 b i h l)) b i h l : ℝ) := fun b i h l => (congrFun a4 _).symm.trans (e4 _)
  clear a0 a1 a2 a3 a4 e0 e1 e2 e3 e4 h
  refine ⟨funext fun y => ?_, funext fun y => ?_, funext fun y => ?_, funext fun y => ?_⟩
  · obtain ⟨b, i, h, l, rfl⟩ : ∃ b i h l, y = ix4 b i h l := ⟨y 0, y 1, y 2, y 3, eq_ix4 y⟩
    exact query_end k0 k1 k2 k3 k4 w0 w1 w2 w3 w4 b i h l
  · obtain ⟨b, i, h, l, rfl⟩ : ∃ b i h l, y = ix4 b i h l := ⟨y 0, y 1, y 2, y 3, eq_ix4 y⟩
    exact key_end k0 k1 k2 k3 k4 w0 w1 w2 w3 w4 b i h l
  · obtain ⟨b, i, h, l, rfl⟩ : ∃ b i h l, y = ix4 b i h l := ⟨y 0, y 1, y 2, y 3, eq_ix4 y⟩
    exact value_end k0 k1 k2 k3 k4 w0 w1 w2 w3 w4 b i h l
  · obtain ⟨b, i, h, rfl⟩ : ∃ b i h, y = ix3 b i h := ⟨y 0, y 1, y 2, eq_ix3 y⟩
    exact gate_end k0 k1 k2 k3 k4 w0 w1 w2 w3 w4 b i h

/-- A buffer no window stages, when the program ends. -/
theorem rest {r : PUnit × MemSt nD τ sig (Elt Ideal)} (h : Pipeline.FramePost cfgs (dats m) 0 (Pipeline.afterTail₀ cfgs (dats m) 0 (V0 m) [hostOps1]) r) (c : Dev nD) (b : Ref sig .tc)
    (hb : b ∈ Pipeline.restRefs sig (cfgs 0).spec) : r.2.mem ((c.tc : Thread nD τ).loc b) = StableHlo.after ([hostOps1 (F := Ideal)].flatten) (exit m c) (Proc.devRef .tc b) :=
  (h c).2 b hb

/-- The kernel's four results, -/
theorem run_kernel (ρ : Dev nD → PrngReg) : θ_run defs (onTc (τ := τ) (main (F := Ideal))) ⟨m, fun _ => 0, ρ⟩ (fun r => ∀ c : Dev nD,
      r.2.mem ((c.tc : Thread nD τ).loc main_v242) = StableHlo.after ([hostOps1 (F := Ideal)].flatten) (exit m c) (Proc.devRef .tc main_v242)
      ∧ r.2.mem ((c.tc : Thread nD τ).loc main_v247) = StableHlo.after ([hostOps1 (F := Ideal)].flatten) (exit m c) (Proc.devRef .tc main_v247)
      ∧ r.2.mem ((c.tc : Thread nD τ).loc main_v249) = StableHlo.after ([hostOps1 (F := Ideal)].flatten) (exit m c) (Proc.devRef .tc main_v249)
      ∧ r.2.mem ((c.tc : Thread nD τ).loc main_v238) = StableHlo.after ([hostOps1 (F := Ideal)].flatten) (exit m c) (Proc.devRef .tc main_v238)) :=
  (θ_run defs _ _).mono (fun r h c => ⟨rest m h c main_v242 (Pipeline.mem_restRefs_of main_v242 (by decide) (by decide)), rest m h c main_v247 (Pipeline.mem_restRefs_of main_v247 (by decide) (by decide)),
    rest m h c main_v249 (Pipeline.mem_restRefs_of main_v249 (by decide) (by decide)), rest m h c main_v238 (Pipeline.mem_restRefs_of main_v238 (by decide) (by decide))⟩) (Cert.Attn.run_main (F := Ideal) m ρ)

/-- and the reference's, at its stages. -/
theorem run_ref (m' : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m', fun _ => 0, ρ⟩ (fun r => ∀ c : Dev Cert.Reference7Ideal.nD,
      r.2.mem ((c.tc : Thread Cert.Reference7Ideal.nD Cert.Reference7Ideal.τ).loc Cert.Reference7Ideal.main_v218) = val_main_v218 (F := Ideal) (m' (c, Proc.devRef .tc Cert.Reference7Ideal.main_arg0)) (m' (c, Proc.devRef .tc Cert.Reference7Ideal.main_arg1)) (m' (c, Proc.devRef .tc Cert.Reference7Ideal.main_arg2)) (m' (c, Proc.devRef .tc Cert.Reference7Ideal.main_arg3)) (m' (c, Proc.devRef .tc Cert.Reference7Ideal.main_arg4))
      ∧ r.2.mem ((c.tc : Thread Cert.Reference7Ideal.nD Cert.Reference7Ideal.τ).loc Cert.Reference7Ideal.main_v216) = val_main_v216 (F := Ideal) (m' (c, Proc.devRef .tc Cert.Reference7Ideal.main_arg0)) (m' (c, Proc.devRef .tc Cert.Reference7Ideal.main_arg1)) (m' (c, Proc.devRef .tc Cert.Reference7Ideal.main_arg2)) (m' (c, Proc.devRef .tc Cert.Reference7Ideal.main_arg3)) (m' (c, Proc.devRef .tc Cert.Reference7Ideal.main_arg4))
      ∧ r.2.mem ((c.tc : Thread Cert.Reference7Ideal.nD Cert.Reference7Ideal.τ).loc Cert.Reference7Ideal.main_v188) = val_main_v188 (F := Ideal) (m' (c, Proc.devRef .tc Cert.Reference7Ideal.main_arg0)) (m' (c, Proc.devRef .tc Cert.Reference7Ideal.main_arg1)) (m' (c, Proc.devRef .tc Cert.Reference7Ideal.main_arg3)) (m' (c, Proc.devRef .tc Cert.Reference7Ideal.main_arg4))
      ∧ r.2.mem ((c.tc : Thread Cert.Reference7Ideal.nD Cert.Reference7Ideal.τ).loc Cert.Reference7Ideal.main_v212) = val_main_v212 (F := Ideal) (m' (c, Proc.devRef .tc Cert.Reference7Ideal.main_arg0)) (m' (c, Proc.devRef .tc Cert.Reference7Ideal.main_arg1)) (m' (c, Proc.devRef .tc Cert.Reference7Ideal.main_arg2)) (m' (c, Proc.devRef .tc Cert.Reference7Ideal.main_arg3)) (m' (c, Proc.devRef .tc Cert.Reference7Ideal.main_arg4))) :=
  (θ_run _ _ _).mono (fun r h c => ⟨(h c).1.trans (Cert.Reference7Ideal.Read.val_main_v218_eq (StableHlo.launchContents m' c)), (h c).2.1.trans (Cert.Reference7Ideal.Read.val_main_v216_eq (StableHlo.launchContents m' c)),
    (h c).2.2.1.trans (Cert.Reference7Ideal.Read.val_main_v188_eq (StableHlo.launchContents m' c)), (h c).2.2.2.1.trans (Cert.Reference7Ideal.Read.val_main_v212_eq (StableHlo.launchContents m' c))⟩) (Cert.Reference7Ideal.Value.run (F := Ideal) m' ρ)

/-- The kernel's four results are the reference's, where every argument is a real number. -/
theorem algebraic : Cert.algebraic_Kernel7Ideal_Reference7Ideal_pre_finite7 := by
  intro m ρ m' ρ' hpre hagree
  refine ⟨fun c => StableHlo.after ([hostOps1 (F := Ideal)].flatten) (exit m c) (Proc.devRef .tc main_v242), fun c => StableHlo.after ([hostOps1 (F := Ideal)].flatten) (exit m c) (Proc.devRef .tc main_v247),
    fun c => StableHlo.after ([hostOps1 (F := Ideal)].flatten) (exit m c) (Proc.devRef .tc main_v249), fun c => StableHlo.after ([hostOps1 (F := Ideal)].flatten) (exit m c) (Proc.devRef .tc main_v238), ?_, ?_⟩
  · refine (θ_run _ _ _).mono (fun r h c => ?_) (θ_run_and (run_kernel m ρ) (Cert.Attn.frame (F := Ideal) m ρ))
    obtain ⟨a0, a1, a2, a3⟩ := h.1 c
    exact ⟨a0, a1, a2, a3, h.2.1 c⟩
  · refine (θ_run _ _ _).mono (fun r h c => ?_) (θ_run_and (run_ref m' ρ') (frame_ref m' ρ' trivial))
    obtain ⟨a0, a1, a2, a3⟩ := h.1 c
    obtain ⟨g0, g1, g2, g3, g4⟩ := hagree c
    obtain ⟨b0, b1, b2, b3⟩ := ends m hpre c _ _ _ _ _ g0 g1 g2 g3 g4
    exact ⟨a0.trans b0, a1.trans b1, a2.trans b2, a3.trans b3, h.2.1 c⟩

end Cert.AttnBwd

end
-- ==== Proof.GateUp.lean ====
/-
  The value of `ffn_gate_up`: the three arrays the kernel leaves are the gate's two inputs, each a product with
  the normed rows, and their gated product, read off block by block, equal to the reference's stages.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateUp

open Cert.Kernel8Ideal Cert.Kernel8Ideal.Gen Cert.Fv
open Cert.Reference8Ideal.Read (val_main_v2 val_main_v3 val_main_v6)

variable (m : (ℓ : Loc nD τ sig) → Buf (Elt Ideal) ℓ)

/-- The three argument arrays on device `c`. -/
abbrev argH (c : Dev nD) : FVec Ideal S8192x1024 .f32 := m ((c : Thread nD τ).loc main_arg0)
abbrev argG (c : Dev nD) : FVec Ideal S1024x2816 .f32 := m ((c : Thread nD τ).loc main_arg1)
abbrev argU (c : Dev nD) : FVec Ideal S1024x2816 .f32 := m ((c : Thread nD τ).loc main_arg2)

/-- Where every window's block sits, over the grid's sixteen points. -/
theorem idx : ∀ t : Fin cfg0.N, win0_0.index t = ![(grid0.coords t 1).val, 0] ∧ win0_1.index t = ![(grid0.coords t 0).val, 0]
    ∧ win0_2.index t = ![(grid0.coords t 0).val, 0] ∧ win0_3.index t = ![(grid0.coords t 1).val, (grid0.coords t 0).val]
    ∧ win0_4.index t = ![(grid0.coords t 1).val, (grid0.coords t 0).val] ∧ win0_5.index t = ![(grid0.coords t 1).val, (grid0.coords t 0).val] :=
  (by decide +kernel : ∀ t : Fin grid0.N, _)

/-- The product of a row of `h` with a row of a weight's block. -/
theorem pay3 (H : FVec Ideal S1024x1024 .bf16) (W : FVec Ideal S1408x1024 .bf16) (y : S1024x1408.Idx) :
    k0_pay3 H W y = ∑ k, H (ix2 (y 0) k) * W (ix2 (y 1) k) := by
  pointwise [k0_pay3, k0_pay1]

/-- The same product for the other weight. -/
theorem pay4 (H : FVec Ideal S1024x1024 .bf16) (W : FVec Ideal S1408x1024 .bf16) (y : S1024x1408.Idx) :
    k0_pay4 H W y = ∑ k, H (ix2 (y 0) k) * W (ix2 (y 1) k) := by
  pointwise [k0_pay4, k0_pay2]

/-- What the body stores for the gated product. -/
theorem pay5 (H K : FVec Ideal S1024x1024 .bf16) (W U : FVec Ideal S1408x1024 .bf16) (y : S1024x1408.Idx) :
    k0_pay5 H W K U y = (∑ k, H (ix2 (y 0) k) * W (ix2 (y 1) k)) * Ideal.logistic (∑ k, H (ix2 (y 0) k) * W (ix2 (y 1) k))
      * ∑ k, K (ix2 (y 0) k) * U (ix2 (y 1) k) := by
  pointwise [k0_pay5, k0_pay1, k0_pay2]

/-- The reference's product with a weight at an index. -/
theorem ref_a (H : FVec Ideal S8192x1024 .f32) (W : FVec Ideal S1024x2816 .f32) (i : S8192x2816.Idx) :
    Cert.Reference8Ideal.Read.val_main_v0 (F := Ideal) H W i = ∑ k, H (ix2 (i 0) k) * W (ix2 k (i 1)) := by
  pointwise [Cert.Reference8Ideal.Read.val_main_v0]

/-- The same for the other weight. -/
theorem ref_u (H : FVec Ideal S8192x1024 .f32) (W : FVec Ideal S1024x2816 .f32) (i : S8192x2816.Idx) :
    Cert.Reference8Ideal.Read.val_main_v1 (F := Ideal) H W i = ∑ k, H (ix2 (i 0) k) * W (ix2 k (i 1)) := by
  pointwise [Cert.Reference8Ideal.Read.val_main_v1]

open Cert.Reference8Ideal.Read in
/-- The reference's logistic stage. -/
theorem ref_sigmoid (H : FVec Ideal S8192x1024 .f32) (W : FVec Ideal S1024x2816 .f32) (i : S8192x2816.Idx) :
    val_main_call0_v5 (F := Ideal) H W i = Ideal.logistic (val_main_v0 (F := Ideal) H W i) := by
  show Ideal.div (Ideal.ofBits .f32 0x3F800000#32) (Ideal.ofBits .f32 0x3F800000#32 + Ideal.exp (-(val_main_v0 (F := Ideal) H W i))) = _
  rw [ofBits_one]; rfl

/-- The reference's gated product at an index. -/
theorem ref_f (H : FVec Ideal S8192x1024 .f32) (W U : FVec Ideal S1024x2816 .f32) (i : S8192x2816.Idx) :
    val_main_v6 (F := Ideal) H W U i = (∑ k, H (ix2 (i 0) k) * W (ix2 k (i 1))) * Ideal.logistic (∑ k, H (ix2 (i 0) k) * W (ix2 k (i 1)))
      * ∑ k, H (ix2 (i 0) k) * U (ix2 k (i 1)) := by
  rw [← ref_a, ← ref_u, ← ref_sigmoid]; rfl

/-- Output window 3's array is the gate's first input, -/
theorem final3 (c : Dev nD) : (dats m 0 c).arrAt 3 cfg0.N = val_main_v2 (F := Ideal) (argH m c) (argG m c) := by
  refine (dats m 0 c).arrAt_eq_of_covers 3 _ (by decide +kernel) fun t _ y => ?_
  blk_simp
  rw [after0_3]; frame_out
  refine (pay3 _ _ y).trans ((?_ : _ = _).trans (ref_a (argH m c) (argG m c) _).symm)
  blk_point [iblk, V, idx t]

/-- window 4's its second, -/
theorem final4 (c : Dev nD) : (dats m 0 c).arrAt 4 cfg0.N = val_main_v3 (F := Ideal) (argH m c) (argU m c) := by
  refine (dats m 0 c).arrAt_eq_of_covers 4 _ (by decide +kernel) fun t _ y => ?_
  blk_simp
  rw [after0_4]; frame_out
  refine (pay4 _ _ y).trans ((?_ : _ = _).trans (ref_u (argH m c) (argU m c) _).symm)
  blk_point [iblk, V, idx t]

/-- and window 5's the gated product. -/
theorem final5 (c : Dev nD) : (dats m 0 c).arrAt 5 cfg0.N = val_main_v6 (F := Ideal) (argH m c) (argG m c) (argU m c) := by
  refine (dats m 0 c).arrAt_eq_of_covers 5 _ (by decide +kernel) fun t _ y => ?_
  blk_simp
  rw [after0_5]; frame_out
  rw [ref_f]
  refine (pay5 _ _ _ _ y).trans ?_
  blk_point [iblk, V, idx t]

end Cert.GateUp

end
-- ==== Proof.GateUpClaim.lean ====
/-
  The claims about `ffn_gate_up`: both programs' frames and the value equation.
-/
module

public import proofs.«01_k».proof.Proof.GateUp
public import proofs.«01_k».proof.Proof.Gen.Kernel8.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.GateUp

open Cert.Kernel8Ideal Cert.Kernel8Ideal.Gen Cert.Fv

theorem frame_kernel : Cert.quiescent_Kernel8 := fun m ρ _ => Cert.Kernel8.Gen.frame m ρ
theorem frame_ideal : Cert.quiescent_Kernel8Ideal := fun m ρ _ => Cert.Kernel8Ideal.Gen.frame m ρ
theorem frame_ref : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- The kernel's three results are the reference's. -/
theorem algebraic : Cert.algebraic_Kernel8Ideal_Reference8Ideal := by
  pair_intro
  · run_from Cert.Kernel8Ideal.Gen.run_main m g
  · run_from Cert.Reference8Ideal.Value.run m' g'
    · exact (final3 m c).symm
    · exact (final4 m c).symm
    · exact (final5 m c).symm

end Cert.GateUp

end
-- ==== Proof.NormMix.lean ====
/-
  The value of `norm_mix`: the two arrays the kernel leaves are the normed rows and the rows themselves.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormMix

open Cert.Kernel9Ideal Cert.Kernel9Ideal.Gen Cert.Fv
open Cert.Reference9Ideal.Read

variable (m : (ℓ : Loc nD τ sig) → Buf (Elt Ideal) ℓ)

/-- The two argument arrays on device `c`. -/
abbrev argX (c : Dev nD) : FVec Ideal S8192x1024 .f32 := m ((c : Thread nD τ).loc main_arg0)
abbrev argG (c : Dev nD) : FVec Ideal S1024 .f32 := m ((c : Thread nD τ).loc main_arg1)

/-- Where every window's block sits, over the grid's sixteen points. -/
theorem idx : ∀ t : Fin cfg0.N, win0_0.index t = ![(grid0.coords t 0).val, 0] ∧ win0_1.index t = ![0, 0]
    ∧ win0_2.index t = ![(grid0.coords t 0).val, 0] ∧ win0_3.index t = ![(grid0.coords t 0).val, 0] :=
  (by decide +kernel : ∀ t : Fin grid0.N, _)

/-- What the body stores at a block index: the row over its root mean square, times the gain. -/
theorem pay2 (X : FVec Ideal S512x1024 .f32) (G : FVec Ideal S1x1024 .f32) (y : S512x1024.Idx) :
    (k0_pay2 X G : FVec Ideal S512x1024 .bf16) y = (X y : EReal) * Norm.inv 1024 (fun k : Fin 1024 => X (ix2 (y 0) k)) * G (ix2 0 (y 1)) := by
  pointwise [k0_pay2]
  rw [Norm.ofBits_1024, Norm.ofBits_eps]
  unfold Norm.inv Norm.ms
  blk_point []

theorem ref_ms (X : FVec Ideal S8192x1024 .f32) (i : Cert.Reference9Ideal.S8192x1.Idx) :
    val_main_v6 (F := Ideal) X i = Norm.ms 1024 (fun k : Fin 1024 => X (ix2 (i 0) k)) := by
  pointwise [val_main_v6, val_main_v5, val_main_v4, val_main_v3, val_main_v2, val_main_v1, val_main_v0, val_main_cst, val_main_cst_0, val_main_cst_1]
  rw [Norm.ofBits_1024, Norm.ofBits_eps]
  unfold Norm.ms
  blk_point []

theorem ref_inv (X : FVec Ideal S8192x1024 .f32) (i : Cert.Reference9Ideal.S8192x1.Idx) :
    val_main_v7 (F := Ideal) X i = Norm.inv 1024 (fun k : Fin 1024 => X (ix2 (i 0) k)) :=
  congrArg Ideal.rsqrt (ref_ms X i)

/-- The reference's normed row at an index. -/
theorem ref_h (X : FVec Ideal S8192x1024 .f32) (G : FVec Ideal S1024 .f32) (i : S8192x1024.Idx) :
    val_main_v13 (F := Ideal) X G i = X i * Norm.inv 1024 (fun k : Fin 1024 => X (ix2 (i 0) k)) * G (ix1 (i 1)) := by
  pointwise [val_main_v13, val_main_v12, val_main_v11, val_main_v10, val_main_v9, val_main_v8]
  rw [ref_inv]
  rfl

/-- Output window 2's array is the normed rows, -/
theorem final2 (c : Dev nD) : (dats m 0 c).arrAt 2 cfg0.N = val_main_v13 (F := Ideal) (argX m c) (argG m c) := by
  refine (dats m 0 c).arrAt_eq_of_covers 2 _ (by decide +kernel) fun t _ y => ?_
  blk_simp
  rw [after0_2]; frame_out
  rw [ref_h]
  refine (pay2 _ _ y).trans ?_
  blk_point [iblk, V, idx t]

/-- and window 3's the rows. -/
theorem final3 (c : Dev nD) : (dats m 0 c).arrAt 3 cfg0.N = val_main_v14 (F := Ideal) (argX m c) := by
  refine (dats m 0 c).arrAt_eq_of_covers 3 _ (by decide +kernel) fun t _ y => ?_
  blk_simp
  rw [after0_3]; frame_out
  pointwise [k0_pay1, val_main_v14]
  blk_point [iblk, V, idx t]

end Cert.NormMix

end
-- ==== Proof.NormMixClaim.lean ====
/-
  The claims about `norm_mix`: both programs' frames and the value equation.
-/
module

public import proofs.«01_k».proof.Proof.NormMix
public import proofs.«01_k».proof.Proof.Gen.Kernel9.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.NormMix

open Cert.Kernel9Ideal Cert.Kernel9Ideal.Gen Cert.Fv

theorem frame_kernel : Cert.quiescent_Kernel9 := fun m ρ _ => Cert.Kernel9.Gen.frame m ρ
theorem frame_ideal : Cert.quiescent_Kernel9Ideal := fun m ρ _ => Cert.Kernel9Ideal.Gen.frame m ρ
theorem frame_ref : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The kernel's two results are the reference's. -/
theorem algebraic : Cert.algebraic_Kernel9Ideal_Reference9Ideal := by
  pair_intro
  · run_from Cert.Kernel9Ideal.Gen.run_main m g
  · run_from Cert.Reference9Ideal.Value.run m' g'
    · exact (final2 m c).symm
    · exact (final3 m c).symm

end Cert.NormMix

end
-- ==== Proof.OutNorm.lean ====
/-
  The forward call `out_proj`: what it stores at a block index, and the reference's stages at an index.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutNorm

open Cert.Kernel10Ideal Cert.Kernel10Ideal.Gen Cert.Fv
open Cert.Reference10Ideal.Read

/-- Lane `k` of either group, in the row. -/
def lane0 (k : Fin 512) : Fin 1024 := ⟨k.val, by omega⟩
def lane1 (k : Fin 512) : Fin 1024 := ⟨512 + k.val, by omega⟩

/-- A normed row at a lane. -/
def nrm {n : ℕ} (N : ℝ) (x g : Fin n → EReal) (b : Fin n) : EReal := x b * Norm.inv N x * g b

section Pay

variable (X : FVec Ideal S512x512 .bf16) (G : FVec Ideal S1x512 .f32) (a b : Fin 512)

/-- What the body stores of the two groups' norms, in either half of the rows. -/
theorem pay2 : (k0_pay2 X G : FVec Ideal S512x512 .bf16) (ix2 a b) = nrm 512 (fun k => X (ix2 a k)) (fun k => G (ix2 0 k)) b := by
  pointwise [k0_pay2]
  rw [Norm.ofBits_512, Norm.ofBits_eps]
  unfold nrm Norm.inv Norm.ms
  blk_point []

theorem pay3 : (k0_pay3 X G : FVec Ideal S512x512 .bf16) (ix2 a b) = nrm 512 (fun k => X (ix2 a k)) (fun k => G (ix2 0 k)) b := pay2 X G a b
theorem pay5 : (k0_pay5 X G : FVec Ideal S512x512 .bf16) (ix2 a b) = nrm 512 (fun k => X (ix2 a k)) (fun k => G (ix2 0 k)) b := pay2 X G a b
theorem pay8 : (k0_pay8 (k0_pay6 X) (k0_pay7 X) G : FVec Ideal S512x512 .bf16) (ix2 a b) = nrm 512 (fun k => X (ix2 a k)) (fun k => G (ix2 0 k)) b := pay2 X G a b

end Pay

section Pay2

variable (X O : FVec Ideal S512x1024 .bf16) (W : FVec Ideal S1024x1024 .bf16) (Y : FVec Ideal S512x1024 .f32) (G : FVec Ideal S1x1024 .f32)
  (a : Fin 512) (b : Fin 1024)

/-- The residual row plus the normed row's product, before it is stored. -/
theorem pay4 : (k0_pay4 X O W : FVec Ideal S512x1024 .f32) (ix2 a b) = X (ix2 a b) + ∑ k : Fin 1024, (O (ix2 a k) : EReal) * W (ix2 k b) := by
  pointwise [k0_pay4]

theorem pay9 : (k0_pay9 X O W : FVec Ideal S512x1024 .f32) (ix2 a b) = X (ix2 a b) + ∑ k : Fin 1024, (O (ix2 a k) : EReal) * W (ix2 k b) := pay4 X O W a b

/-- The norm of a row, as stored. -/
theorem pay11 : (k0_pay11 Y G : FVec Ideal S512x1024 .bf16) (ix2 a b) = nrm 1024 (fun k => Y (ix2 a k)) (fun k => G (ix2 0 k)) b := by
  pointwise [k0_pay11]
  rw [Norm.ofBits_1024, Norm.ofBits_eps]
  unfold nrm Norm.inv Norm.ms
  blk_point []

theorem pay1 : (k0_pay1 Y G : FVec Ideal S512x1024 .bf16) (ix2 a b) = nrm 1024 (fun k => Y (ix2 a k)) (fun k => G (ix2 0 k)) b := pay11 Y G a b

end Pay2

section Ref

variable (O : FVec Ideal S8192x1024 .f32) (Gf Gd : FVec Ideal Cert.Reference10Ideal.S512 .f32) (W : FVec Ideal S1024x1024 .f32)
  (A : FVec Ideal S8192x1024 .f32) (G : FVec Ideal S1024 .f32)

theorem ref_ms0 (i : Cert.Reference10Ideal.S8192x1.Idx) : val_main_v8 (F := Ideal) O i = Norm.ms 512 (fun k => O (ix2 (i 0) (lane0 k))) := by
  pointwise [val_main_v8, val_main_v7, val_main_v6, val_main_v5, val_main_v4, val_main_v3, val_main_v2, val_main_v0, val_main_cst, val_main_cst_0, val_main_cst_1]
  rw [Norm.ofBits_512, Norm.ofBits_eps]
  unfold Norm.ms lane0
  blk_point []

theorem ref_inv0 (i : Cert.Reference10Ideal.S8192x1.Idx) : val_main_v9 (F := Ideal) O i = Norm.inv 512 (fun k => O (ix2 (i 0) (lane0 k))) :=
  congrArg Ideal.rsqrt (ref_ms0 O i)

theorem ref_ms1 (i : Cert.Reference10Ideal.S8192x1.Idx) : val_main_v21 (F := Ideal) O i = Norm.ms 512 (fun k => O (ix2 (i 0) (lane1 k))) := by
  pointwise [val_main_v21, val_main_v20, val_main_v19, val_main_v18, val_main_v17, val_main_v16, val_main_v15, val_main_v1, val_main_cst_2, val_main_cst_3, val_main_cst_4]
  rw [Norm.ofBits_512, Norm.ofBits_eps]
  unfold Norm.ms lane1
  blk_point []

theorem ref_inv1 (i : Cert.Reference10Ideal.S8192x1.Idx) : val_main_v22 (F := Ideal) O i = Norm.inv 512 (fun k => O (ix2 (i 0) (lane1 k))) :=
  congrArg Ideal.rsqrt (ref_ms1 O i)

/-- The reference's two groups' norms at an index. -/
theorem ref_n0 (r : Fin 8192) (b : Fin 512) : val_main_v14 (F := Ideal) O Gf (ix2 r b) = nrm 512 (fun k => O (ix2 r (lane0 k))) (fun k => Gf (ix1 k)) b := by
  pointwise [val_main_v14, val_main_v13, val_main_v12, val_main_v11, val_main_v10, val_main_v0]
  rw [ref_inv0]
  unfold nrm lane0
  blk_point []

theorem ref_n1 (r : Fin 8192) (b : Fin 512) : val_main_v27 (F := Ideal) O Gd (ix2 r b) = nrm 512 (fun k => O (ix2 r (lane1 k))) (fun k => Gd (ix1 k)) b := by
  pointwise [val_main_v27, val_main_v26, val_main_v25, val_main_v24, val_main_v23, val_main_v1]
  rw [ref_inv1]
  unfold nrm lane1
  blk_point []

/-- The two groups side by side. -/
theorem ref_on0 (r : Fin 8192) (b : Fin 512) : val_main_v28 (F := Ideal) O Gf Gd (ix2 r (lane0 b)) = nrm 512 (fun k => O (ix2 r (lane0 k))) (fun k => Gf (ix1 k)) b := by
  rw [← ref_n0]
  unfold lane0
  pointwise [val_main_v28]

theorem ref_on1 (r : Fin 8192) (b : Fin 512) : val_main_v28 (F := Ideal) O Gf Gd (ix2 r (lane1 b)) = nrm 512 (fun k => O (ix2 r (lane1 k))) (fun k => Gd (ix1 k)) b := by
  rw [← ref_n1]
  unfold lane1
  pointwise [val_main_v28]

/-- The residual plus the product. -/
theorem ref_x2 (r : Fin 8192) (b : Fin 1024) : val_main_v30 (F := Ideal) O Gf Gd W A (ix2 r b)
    = A (ix2 r b) + ∑ k : Fin 1024, val_main_v28 (F := Ideal) O Gf Gd (ix2 r k) * W (ix2 k b) := by
  pointwise [val_main_v30, val_main_v29]

theorem ref_ms2 (i : Cert.Reference10Ideal.S8192x1.Idx) : val_main_v39 (F := Ideal) O Gf Gd W A i
    = Norm.ms 1024 (fun k => val_main_v30 (F := Ideal) O Gf Gd W A (ix2 (i 0) k)) := by
  pointwise [val_main_v39, val_main_v38, val_main_v37, val_main_v36, val_main_v35, val_main_v34, val_main_v33, val_main_cst_5, val_main_cst_6, val_main_cst_7]
  rw [Norm.ofBits_1024, Norm.ofBits_eps]
  unfold Norm.ms
  blk_point []

theorem ref_inv2 (i : Cert.Reference10Ideal.S8192x1.Idx) : val_main_v40 (F := Ideal) O Gf Gd W A i
    = Norm.inv 1024 (fun k => val_main_v30 (F := Ideal) O Gf Gd W A (ix2 (i 0) k)) :=
  congrArg Ideal.rsqrt (ref_ms2 O Gf Gd W A i)

/-- The norm of that row. -/
theorem ref_h2 (r : Fin 8192) (b : Fin 1024) : val_main_v46 (F := Ideal) O Gf Gd W A G (ix2 r b)
    = nrm 1024 (fun k => val_main_v30 (F := Ideal) O Gf Gd W A (ix2 r k)) (fun k => G (ix1 k)) b := by
  pointwise [val_main_v46, val_main_v45, val_main_v44, val_main_v43, val_main_v42, val_main_v41]
  rw [ref_inv2]
  rfl

end Ref

end Cert.OutNorm

end
-- ==== Proof.OutNormArr.lean ====
/-
  The three arrays `out_proj` leaves, over the whole arguments.
-/
module

public import proofs.«01_k».proof.Proof.OutNorm

@[expose] public section

set_option maxRecDepth 16384

noncomputable section

open Idealize.ShloMosaic Idealize.ShloMosaic.TcCoe Idealize.SL.Sem
open Idealize.ShloMosaic.Pipeline (Dat)

namespace Cert.OutNorm

open Cert.Kernel10Ideal Cert.Kernel10Ideal.Gen Cert.Fv
open Cert.Reference10Ideal.Read

variable (m : (ℓ : Loc nD τ sig) → Buf (Elt Ideal) ℓ)

/-- The argument arrays on device `c`. -/
abbrev argO (c : Dev nD) : FVec Ideal S8192x1024 .f32 := m ((c : Thread nD τ).loc main_arg0)
abbrev argF (c : Dev nD) : FVec Ideal Cert.Reference10Ideal.S512 .f32 := m ((c : Thread nD τ).loc main_arg1)
abbrev argD (c : Dev nD) : FVec Ideal Cert.Reference10Ideal.S512 .f32 := m ((c : Thread nD τ).loc main_arg2)
abbrev argW (c : Dev nD) : FVec Ideal S1024x1024 .f32 := m ((c : Thread nD τ).loc main_arg3)
abbrev argX (c : Dev nD) : FVec Ideal S8192x1024 .f32 := m ((c : Thread nD τ).loc main_arg4)
abbrev argG (c : Dev nD) : FVec Ideal S1024 .f32 := m ((c : Thread nD τ).loc main_arg5)

/-- Where every window's block sits, over the grid's eight points. -/
theorem idx : ∀ t : Fin cfg0.N, win0_0.index t = ![t.val, 0] ∧ win0_1.index t = ![0, 0]
    ∧ win0_2.index t = ![0, 0] ∧ win0_3.index t = ![t.val, 0] ∧ win0_4.index t = ![0, 0] ∧ win0_5.index t = ![t.val, 0]
    ∧ win0_6.index t = ![t.val, 0] ∧ win0_7.index t = ![t.val, 0] :=
  (by decide +kernel : ∀ t : Fin grid0.N, _)

/-- A block's row in the whole array. -/
def row (t : Fin cfg0.N) (k : Fin 1024) : Fin 8192 := ⟨t.val * 1024 + k.val, by have := lt_of_lt_of_eq t.isLt N_0; omega⟩

theorem at2 {a b : ℕ} {y : (⟨2, ![a, b]⟩ : Shape).Idx} {i : Fin a} {j : Fin b} (h0 : (y 0).val = i.val) (h1 : (y 1).val = j.val) : y = ix2 i j :=
  (eq_ix2 y).trans (congrArg₂ ix2 (Fin.ext h0) (Fin.ext h1))

/-- Two stores on top of a list that are blocks of one array leave that array where either covers. -/
theorem two {s : Shape} {e : EltTy} [∀ e, Nonempty (Elt Ideal e)] (G : s.Idx → Elt Ideal e) (p q : View.Piece (Elt Ideal) s e) (L : List (View.Piece (Elt Ideal) s e))
    (hp : ∀ x, p.2 x = G (p.1.emb x)) (hq : ∀ x, q.2 x = G (q.1.emb x)) (y : s.Idx) (h : y ∈ p.1.set ∨ y ∈ q.1.set) : View.canon (p :: q :: L) y = G y := by
  by_cases hy : y ∈ p.1.set
  · obtain ⟨x, rfl⟩ : ∃ x, p.1.emb x = y := p.1.exists_idx_of_mem hy
    exact (View.canon_cons_emb p.1 p.2 _ x).trans (hp x)
  · rw [View.canon_cons_of_not_mem p _ hy]
    obtain ⟨x, rfl⟩ : ∃ x, q.1.emb x = y := q.1.exists_idx_of_mem (h.resolve_left hy)
    exact (View.canon_cons_emb q.1 q.2 _ x).trans (hq x)

section Reads

variable (c : Dev nD) (t : Fin cfg0.N)

theorem rdO (R C : ℕ) (inb) (a b : Fin 512) (r : Fin 8192) (l : Fin 1024) (hr : r.val = t.val * 1024 + (R + a.val)) (hl : l.val = C + b.val) :
    View.ld (iblk m c 0 t) (Rect.unit (s := S1024x1024) ![R, C] ![512, 512] inb) (ix2 a b) = argO m c (ix2 r l) := by
  blk_point [iblk, V, idx t]

theorem rdX (R : ℕ) (inb) (a : Fin 512) (b : Fin 1024) (r : Fin 8192) (hr : r.val = t.val * 1024 + (R + a.val)) :
    View.ld (iblk m c 3 t) (Rect.unit (s := S1024x1024) ![R, 0] ![512, 1024] inb) (ix2 a b) = argX m c (ix2 r b) := by
  blk_point [iblk, V, idx t]

theorem rdW (a b : Fin 1024) : iblk m c 2 t (ix2 a b) = argW m c (ix2 a b) := by
  blk_point [iblk, V, idx t]

theorem rdG (b : Fin 1024) : iblk m c 4 t (ix2 0 b) = argG m c (ix1 b) := by
  blk_point [iblk, V, idx t]

/-- The host's joined gains, on either group. -/
theorem gains0 (f g : FVec Ideal S512 .f32) (b : Fin 512) (j : S1x1024.Idx) (hj : (j 1).val = b.val) :
    shapeCast S1x1024 (concatenate S1024 0 [⟨S512, f⟩, ⟨S512, g⟩] concatenates_S512_S512_S1024_d0) shapeCasts_S1024_S1x1024 j = f (ix1 b) := by
  obtain rfl : j = ix2 0 (lane0 b) := at2 (congrArg Fin.val (Subsingleton.elim (α := Fin 1) _ _)) hj
  unfold lane0; pointwise []

theorem gains1 (f g : FVec Ideal S512 .f32) (b : Fin 512) (j : S1x1024.Idx) (hj : (j 1).val = 512 + b.val) :
    shapeCast S1x1024 (concatenate S1024 0 [⟨S512, f⟩, ⟨S512, g⟩] concatenates_S512_S512_S1024_d0) shapeCasts_S1024_S1x1024 j = g (ix1 b) := by
  obtain rfl : j = ix2 0 (lane1 b) := at2 (congrArg Fin.val (Subsingleton.elim (α := Fin 1) _ _)) hj
  unfold lane1; pointwise []

theorem rdF (b : Fin 512) : View.ld (iblk m c 1 t) (Rect.unit ![0, 0] ![1, 512] inb_S1x1024_S1x512_0_0) (ix2 0 b) = argF m c (ix1 b) :=
  gains0 _ _ b _ (by blk_simp [idx t]; show 0 + 1 * b.val = _; omega)

theorem rdD (b : Fin 512) : View.ld (iblk m c 1 t) (Rect.unit ![0, 512] ![1, 512] inb_S1x1024_S1x512_0_512) (ix2 0 b) = argD m c (ix1 b) :=
  gains1 _ _ b _ (by blk_simp [idx t]; show 512 + 1 * b.val = _; omega)

/-- A stored group of lanes is the reference's. -/
theorem grp0 (R : ℕ) (inb) (a b : Fin 512) (r : Fin 8192) (hr : r.val = t.val * 1024 + (R + a.val)) :
    nrm 512 (fun k => View.ld (iblk m c 0 t) (Rect.unit (s := S1024x1024) ![R, 0] ![512, 512] inb) (ix2 a k))
      (fun k => View.ld (iblk m c 1 t) (Rect.unit ![0, 0] ![1, 512] inb_S1x1024_S1x512_0_0) (ix2 0 k)) b
      = val_main_v28 (F := Ideal) (argO m c) (argF m c) (argD m c) (ix2 r (lane0 b)) := by
  rw [ref_on0, funext fun k => rdO m c t R 0 inb a k r (lane0 k) hr (Nat.zero_add _).symm, funext fun k => rdF m c t k]

theorem grp1 (R : ℕ) (inb) (a b : Fin 512) (r : Fin 8192) (hr : r.val = t.val * 1024 + (R + a.val)) :
    nrm 512 (fun k => View.ld (iblk m c 0 t) (Rect.unit (s := S1024x1024) ![R, 512] ![512, 512] inb) (ix2 a k))
      (fun k => View.ld (iblk m c 1 t) (Rect.unit ![0, 512] ![1, 512] inb_S1x1024_S1x512_0_512) (ix2 0 k)) b
      = val_main_v28 (F := Ideal) (argO m c) (argF m c) (argD m c) (ix2 r (lane1 b)) := by
  rw [ref_on1, funext fun k => rdO m c t R 512 inb a k r (lane1 k) hr rfl, funext fun k => rdD m c t k]

/-- The block of normed rows. -/
def rowsN : S1024x1024.Idx → Elt Ideal .bf16 := fun y => val_main_v28 (F := Ideal) (argO m c) (argF m c) (argD m c) (ix2 (row t (y 0)) (y 1))

theorem put0 (R : ℕ) (inb) (w : FVec Ideal S512x512 .bf16)
    (hw : ∀ a b, w (ix2 a b) = nrm 512 (fun k => View.ld (iblk m c 0 t) (Rect.unit (s := S1024x1024) ![R, 0] ![512, 512] inb) (ix2 a k))
      (fun k => View.ld (iblk m c 1 t) (Rect.unit ![0, 0] ![1, 512] inb_S1x1024_S1x512_0_0) (ix2 0 k)) b)
    (x : S512x512.Idx) : w x = rowsN m c t ((Rect.unit (s := S1024x1024) ![R, 0] ![512, 512] inb).emb x) := by
  obtain ⟨a, b, rfl⟩ : ∃ a b, x = ix2 a b := ⟨x 0, x 1, eq_ix2 x⟩
  rw [hw]
  refine (grp0 m c t R inb a b _ ?_).trans (congrArg _ (at2 rfl ?_).symm)
  · show t.val * 1024 + (R + 1 * a.val) = _; omega
  · show 0 + 1 * b.val = b.val; omega

theorem put1 (R : ℕ) (inb) (w : FVec Ideal S512x512 .bf16)
    (hw : ∀ a b, w (ix2 a b) = nrm 512 (fun k => View.ld (iblk m c 0 t) (Rect.unit (s := S1024x1024) ![R, 512] ![512, 512] inb) (ix2 a k))
      (fun k => View.ld (iblk m c 1 t) (Rect.unit ![0, 512] ![1, 512] inb_S1x1024_S1x512_0_512) (ix2 0 k)) b)
    (x : S512x512.Idx) : w x = rowsN m c t ((Rect.unit (s := S1024x1024) ![R, 512] ![512, 512] inb).emb x) := by
  obtain ⟨a, b, rfl⟩ : ∃ a b, x = ix2 a b := ⟨x 0, x 1, eq_ix2 x⟩
  rw [hw]
  refine (grp1 m c t R inb a b _ ?_).trans (congrArg _ (at2 rfl ?_).symm)
  · show t.val * 1024 + (R + 1 * a.val) = _; omega
  · show 512 + 1 * b.val = 512 + b.val; omega

/-- Two groups of lanes cover half of the rows. -/
theorem halves (R : ℕ) (h1 h2) (y : S1024x1024.Idx) (h0 : R ≤ (y 0).val) (h3 : (y 0).val < R + 512) :
    y ∈ (Rect.unit (s := S1024x1024) ![R, 512] ![512, 512] h1).set ∨ y ∈ (Rect.unit (s := S1024x1024) ![R, 0] ![512, 512] h2).set := by
  rw [Rect.mem_set_unit, Rect.mem_set_unit, Fin.forall_fin_two, Fin.forall_fin_two]
  have h1 : (y 1).val < 1024 := (y 1).isLt
  simp only [Matrix.cons_val_zero, Matrix.cons_val_one]
  omega

/-- The residual row plus the product with a normed row read back. -/
theorem sum_row (R : ℕ) (inb inb') (X N : FVec Ideal S512x1024 .bf16) (W : FVec Ideal S1024x1024 .bf16) (a : Fin 512) (b : Fin 1024) (r : Fin 8192)
    (hr : r.val = t.val * 1024 + (R + a.val)) (hX : X = View.ld (iblk m c 3 t) (Rect.unit (s := S1024x1024) ![R, 0] ![512, 1024] inb')) (hW : W = iblk m c 2 t)
    (hN : ∀ k, N (ix2 a k) = rowsN m c t ((Rect.unit (s := S1024x1024) ![R, 0] ![512, 1024] inb).emb (ix2 a k))) :
    X (ix2 a b) + ∑ k : Fin 1024, (N (ix2 a k) : EReal) * W (ix2 k b)
      = val_main_v30 (F := Ideal) (argO m c) (argF m c) (argD m c) (argW m c) (argX m c) (ix2 r b) := by
  rw [ref_x2, hX, rdX m c t R inb' a b r hr]
  refine congrArg (_ + ·) (Finset.sum_congr rfl fun k _ => ?_)
  rw [hN, hW, rdW]
  refine congrArg (· * _) (congrArg (val_main_v28 (F := Ideal) (argO m c) (argF m c) (argD m c)) (congrArg₂ ix2 ?_ (Fin.ext ?_)))
  · exact Fin.ext (show t.val * 1024 + (R + 1 * a.val) = r.val by omega)
  · show 0 + 1 * k.val = k.val; omega

end Reads

/-- The array of normed rows, -/
theorem final5 (c : Dev nD) : (dats m 0 c).arrAt 5 cfg0.N = val_main_v31 (F := Ideal) (argO m c) (argF m c) (argD m c) := by
  refine (dats m 0 c).arrAt_eq_of_covers 5 _ (by decide +kernel) fun t _ y => ?_
  blk_simp
  rw [after0_5]
  have key : ∀ j : S8192x1024.Idx, j = ((cfg0.win 5).blk t).view.emb y → (outsAt0 m c t).1 y = val_main_v31 (F := Ideal) (argO m c) (argF m c) (argD m c) j := by
    intro j hj
    have j0 : (j 0 : ℕ) = t.val * 1024 + y 0 := by rw [hj]; blk_simp [idx t]
    have j1 : (j 1 : ℕ) = y 1 := by rw [hj]; blk_simp [idx t]
    clear hj
    obtain ⟨r, n, rfl⟩ : ∃ (r : Fin 8192) (n : Fin 1024), j = ix2 r n := ⟨j 0, j 1, eq_ix2 j⟩
    replace j0 : (r : ℕ) = t.val * 1024 + y 0 := j0
    replace j1 : (n : ℕ) = y 1 := j1
    change (outsAt0 m c t).1 y = val_main_v28 (F := Ideal) (argO m c) (argF m c) (argD m c) (ix2 r n)
    unfold outsAt0; unfold out0_A_5
    frame_out
    canon_tiles x h
    all_goals idx_vars x
    · obtain rfl : n = lane1 x1 := Fin.ext (j1.trans h1)
      exact (pay8 _ _ _ _).trans (grp1 m c t 512 _ _ _ _ (by omega))
    · obtain rfl : n = lane0 x1 := Fin.ext (j1.trans h1)
      exact (pay5 _ _ _ _).trans (grp0 m c t 512 _ _ _ _ (by omega))
    · obtain rfl : n = lane1 x1 := Fin.ext (j1.trans h1)
      exact (pay3 _ _ _ _).trans (grp1 m c t 0 _ _ _ _ (by omega))
    · obtain rfl : n = lane0 x1 := Fin.ext (j1.trans h1)
      exact (pay2 _ _ _ _).trans (grp0 m c t 0 _ _ _ _ (by omega))
  exact key _ rfl

/-- A normed row read back in the lower or the upper half. -/
theorem back1 (c : Dev nD) (t : Fin cfg0.N) (inb) (a : Fin 512) (k : Fin 1024) (w8 w5 : FVec Ideal S512x512 .bf16) (i8 i5) (L)
    (h8 : ∀ x, w8 x = rowsN m c t ((Rect.unit (s := S1024x1024) ![512, 512] ![512, 512] i8).emb x))
    (h5 : ∀ x, w5 x = rowsN m c t ((Rect.unit (s := S1024x1024) ![512, 0] ![512, 512] i5).emb x)) :
    (ms0_5 t).view.readCov (Val := Elt Ideal) (⟨Rect.unit ![512, 512] ![512, 512] i8, w8⟩ :: ⟨Rect.unit ![512, 0] ![512, 512] i5, w5⟩ :: L)
      (Rect.unit (s := S1024x1024) ![512, 0] ![512, 1024] inb).toLoadRect (ix2 a k) = rowsN m c t ((Rect.unit (s := S1024x1024) ![512, 0] ![512, 1024] inb).emb (ix2 a k)) := by
  rw [View.readCov_eq_canon']
  exact two (rowsN m c t) ⟨Rect.unit ![512, 512] ![512, 512] i8, w8⟩ ⟨Rect.unit ![512, 0] ![512, 512] i5, w5⟩ L h8 h5 ((Rect.unit (s := S1024x1024) ![512, 0] ![512, 1024] inb).emb (ix2 a k)) (halves 512 i8 i5 ((Rect.unit (s := S1024x1024) ![512, 0] ![512, 1024] inb).emb (ix2 a k)) (show 512 ≤ 512 + 1 * a.val by omega) (show 512 + 1 * a.val < 512 + 512 by omega))

theorem back0 (c : Dev nD) (t : Fin cfg0.N) (inb) (a : Fin 512) (k : Fin 1024) (w8 w5 : FVec Ideal S512x512 .bf16) (i8 i5) (L)
    (h8 : ∀ x, w8 x = rowsN m c t ((Rect.unit (s := S1024x1024) ![0, 512] ![512, 512] i8).emb x))
    (h5 : ∀ x, w5 x = rowsN m c t ((Rect.unit (s := S1024x1024) ![0, 0] ![512, 512] i5).emb x)) :
    (ms0_5 t).view.readCov (Val := Elt Ideal) (⟨Rect.unit ![0, 512] ![512, 512] i8, w8⟩ :: ⟨Rect.unit ![0, 0] ![512, 512] i5, w5⟩ :: L)
      (Rect.unit (s := S1024x1024) ![0, 0] ![512, 1024] inb).toLoadRect (ix2 a k) = rowsN m c t ((Rect.unit (s := S1024x1024) ![0, 0] ![512, 1024] inb).emb (ix2 a k)) := by
  rw [View.readCov_eq_canon']
  exact two (rowsN m c t) ⟨Rect.unit ![0, 512] ![512, 512] i8, w8⟩ ⟨Rect.unit ![0, 0] ![512, 512] i5, w5⟩ L h8 h5 ((Rect.unit (s := S1024x1024) ![0, 0] ![512, 1024] inb).emb (ix2 a k)) (halves 0 i8 i5 ((Rect.unit (s := S1024x1024) ![0, 0] ![512, 1024] inb).emb (ix2 a k)) (Nat.zero_le _) (show 0 + 1 * a.val < 0 + 512 by omega))

/-- the array of sums, -/
theorem final6 (c : Dev nD) : (dats m 0 c).arrAt 6 cfg0.N = val_main_v32 (F := Ideal) (argO m c) (argF m c) (argD m c) (argW m c) (argX m c) := by
  refine (dats m 0 c).arrAt_eq_of_covers 6 _ (by decide +kernel) fun t _ y => ?_
  blk_simp
  rw [after0_6]
  have key : ∀ j : S8192x1024.Idx, j = ((cfg0.win 6).blk t).view.emb y → (outsAt0 m c t).2.1 y = val_main_v32 (F := Ideal) (argO m c) (argF m c) (argD m c) (argW m c) (argX m c) j := by
    intro j hj
    have j0 : (j 0 : ℕ) = t.val * 1024 + y 0 := by rw [hj]; blk_simp [idx t]
    have j1 : (j 1 : ℕ) = y 1 := by rw [hj]; blk_simp [idx t]
    clear hj
    obtain ⟨r, n, rfl⟩ : ∃ (r : Fin 8192) (n : Fin 1024), j = ix2 r n := ⟨j 0, j 1, eq_ix2 j⟩
    replace j0 : (r : ℕ) = t.val * 1024 + y 0 := j0
    replace j1 : (n : ℕ) = y 1 := j1
    change (outsAt0 m c t).2.1 y = val_main_v30 (F := Ideal) (argO m c) (argF m c) (argD m c) (argW m c) (argX m c) (ix2 r n)
    frame_out
    canon_tiles x h
    all_goals
      idx_vars x
      obtain rfl : n = x1 := Fin.ext (j1.trans h1)
    · refine (pay9 _ _ _ _ _).trans (sum_row m c t 512 _ _ _ _ _ _ _ r (by omega) rfl rfl fun k => back1 m c t _ _ _ _ _ _ _ _ (put1 m c t 512 _ _ fun a b => pay8 _ _ _ _) (put0 m c t 512 _ _ fun a b => pay5 _ _ _ _))
    · refine (pay4 _ _ _ _ _).trans (sum_row m c t 0 _ _ _ _ _ _ _ r (by omega) rfl rfl fun k => back0 m c t _ _ _ _ _ _ _ _ (put1 m c t 0 _ _ fun a b => pay3 _ _ _ _) (put0 m c t 0 _ _ fun a b => pay2 _ _ _ _))
  exact key _ rfl

/-- and the array of their norms. -/
theorem final7 (c : Dev nD) : (dats m 0 c).arrAt 7 cfg0.N = val_main_v46 (F := Ideal) (argO m c) (argF m c) (argD m c) (argW m c) (argX m c) (argG m c) := by
  refine (dats m 0 c).arrAt_eq_of_covers 7 _ (by decide +kernel) fun t _ y => ?_
  blk_simp
  rw [after0_7]
  have key : ∀ j : S8192x1024.Idx, j = ((cfg0.win 7).blk t).view.emb y → (outsAt0 m c t).2.2 y = val_main_v46 (F := Ideal) (argO m c) (argF m c) (argD m c) (argW m c) (argX m c) (argG m c) j := by
    intro j hj
    have j0 : (j 0 : ℕ) = t.val * 1024 + y 0 := by rw [hj]; blk_simp [idx t]
    have j1 : (j 1 : ℕ) = y 1 := by rw [hj]; blk_simp [idx t]
    clear hj
    obtain ⟨r, n, rfl⟩ : ∃ (r : Fin 8192) (n : Fin 1024), j = ix2 r n := ⟨j 0, j 1, eq_ix2 j⟩
    replace j0 : (r : ℕ) = t.val * 1024 + y 0 := j0
    replace j1 : (n : ℕ) = y 1 := j1
    change (outsAt0 m c t).2.2 y = val_main_v46 (F := Ideal) (argO m c) (argF m c) (argD m c) (argW m c) (argX m c) (argG m c) (ix2 r n)
    rw [ref_h2]
    frame_out
    canon_tiles x h
    all_goals
      idx_vars x
      obtain rfl : n = x1 := Fin.ext (j1.trans h1)
    · refine (pay1 _ _ _ _).trans (congrArg₂ (fun f g => nrm 1024 f g _) (funext fun b => (pay9 _ _ _ _ _).trans ?_) (funext fun b => rdG m c t b))
      exact sum_row m c t 512 _ _ _ _ _ _ _ r (by omega) rfl rfl fun k => back1 m c t _ _ _ _ _ _ _ _ (put1 m c t 512 _ _ fun a b => pay8 _ _ _ _) (put0 m c t 512 _ _ fun a b => pay5 _ _ _ _)
    · refine (pay11 _ _ _ _).trans (congrArg₂ (fun f g => nrm 1024 f g _) (funext fun b => (pay4 _ _ _ _ _).trans ?_) (funext fun b => rdG m c t b))
      exact sum_row m c t 0 _ _ _ _ _ _ _ r (by omega) rfl rfl fun k => back0 m c t _ _ _ _ _ _ _ _ (put1 m c t 0 _ _ fun a b => pay3 _ _ _ _) (put0 m c t 0 _ _ fun a b => pay2 _ _ _ _)
  exact key _ rfl

end Cert.OutNorm

end
-- ==== Proof.OutNormClaim.lean ====
/-
  The claims about `out_proj`: both programs' frames and the value equation.
-/
module

public import proofs.«01_k».proof.Proof.OutNormArr
public import proofs.«01_k».proof.Proof.Gen.Kernel10.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.OutNorm

open Cert.Kernel10Ideal Cert.Kernel10Ideal.Gen Cert.Fv

theorem frame_kernel : Cert.quiescent_Kernel10 := fun m ρ _ => Cert.Kernel10.Gen.frame m ρ
theorem frame_ideal : Cert.quiescent_Kernel10Ideal := fun m ρ _ => Cert.Kernel10Ideal.Gen.frame m ρ
theorem frame_ref : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The kernel's three results are the reference's. -/
theorem algebraic : Cert.algebraic_Kernel10Ideal_Reference10Ideal := by
  pair_intro
  · run_from Cert.Kernel10Ideal.Gen.run_main m g
  · run_from Cert.Reference10Ideal.Value.run m' g'
    · exact (final5 m c).symm
    · exact (final6 m c).symm
    · obtain ⟨e0, e1, e2, e3, e4, e5⟩ := hagree c
      rw [Cert.Reference10Ideal.Read.val_main_v46_eq, e0, e1, e2, e3, e4, e5]
      exact (final7 m c).symm

end Cert.OutNorm

end
-- ==== Proof.AttnFwdHost.lean ====
module

public import proofs.«01_k».proof.Proof.AttnHost
public import proofs.«01_k».proof.Proof.Gen.Kernel11Ideal.Frame

/-! The host arrays that the forward attention's launch is given, each at one index, in terms of the program's four arguments. -/

@[expose] public section

set_option maxRecDepth 16384

noncomputable section

open Idealize.ShloMosaic Idealize.ShloMosaic.TcCoe Idealize.SL.Sem

namespace Cert.AttnFwd

open Cert.Kernel11Ideal Cert.Kernel11Ideal.Gen
open Cert.Attn (ln2 eighth foxBias dilBias piece toF_zero)

variable (m : (ℓ : Loc nD τ sig) → Buf (Elt Ideal) ℓ) (c : Dev nD)

/-- The queries, keys, values and gate sums the program is given. -/
abbrev argQ (b : Fin 4) (i : Fin 2048) (h : Fin 16) (k : Fin 64) : EReal := m (c, Proc.tc.devRef main_arg0) (ix4 b i h k)
abbrev argK (b : Fin 4) (i : Fin 2048) (h : Fin 16) (k : Fin 64) : EReal := m (c, Proc.tc.devRef main_arg1) (ix4 b i h k)
abbrev argV (b : Fin 4) (i : Fin 2048) (h : Fin 16) (k : Fin 64) : EReal := m (c, Proc.tc.devRef main_arg2) (ix4 b i h k)
abbrev argC (b : Fin 4) (i : Fin 2048) (h : Fin 8) : EReal := m (c, Proc.tc.devRef main_arg3) (ix3 b i h)

set_option maxHeartbeats 2000000 in
/-- The values. -/
theorem v64_at (b : Fin 4) (i : Fin 2048) (h : Fin 16) (k : Fin 64) (r : Fin 8192) (l : Fin 3072) (hr : r.val = 2048 * b.val + i.val)
    (hl : l.val = 2048 + (64 * h.val + k.val)) : V (F := Ideal) m c main_v64 (ix2 r l) = argV m c b i h k := by
  have hge : ¬ l.val < 2048 := by omega
  have e1 : (⟨r.val / 2048, by omega⟩ : Fin 4) = b := Fin.ext (by show r.val / 2048 = b.val; omega)
  have e2 : (⟨r.val % 2048, by omega⟩ : Fin 2048) = i := Fin.ext (by show r.val % 2048 = i.val; omega)
  have e3 : (⟨(l.val - 2048) / 64, by omega⟩ : Fin 16) = h := Fin.ext (by show (l.val - 2048) / 64 = h.val; omega)
  have e4 : (⟨(l.val - 2048) % 64, by omega⟩ : Fin 64) = k := Fin.ext (by show (l.val - 2048) % 64 = k.val; omega)
  simp only [V, List.flatten_cons, List.flatten_nil, List.append_nil, List.cons_append, List.nil_append]
  after_reads_simp
  pointwise []
  rw [dif_neg hge]
  simp only [e1, e2, e3, e4]

set_option maxHeartbeats 2000000 in
/-- The tables, cut by the distance of their blocks. -/
theorem v121_at (h : Fin 2) (n : Fin 4) (i j : Fin 512) : V (F := Ideal) m c main_v121 (ix4 h n i j) =
    if h.val < 1 then foxBias (IntOp.subi (IntOp.addi (IntOp.muli (BitVec.ofNat 32 n.val) 512#32) (BitVec.ofNat 32 i.val)) (BitVec.ofNat 32 j.val))
    else dilBias (IntOp.subi (IntOp.addi (IntOp.muli (BitVec.ofNat 32 n.val) 512#32) (BitVec.ofNat 32 i.val)) (BitVec.ofNat 32 j.val)) := by
  simp only [V, List.flatten_cons, List.flatten_nil, List.append_nil, List.cons_append, List.nil_append]
  after_reads_simp
  try simp only [StableHlo.TRef.toBuf, StableHlo.TRef.ofBuf, cast_eq]
  pointwise []
  try after_reads_simp
  try simp only [StableHlo.TRef.toBuf, StableHlo.TRef.ofBuf, cast_eq, id]
  try pointwise []
  rfl

/-- The lanes beside a head's own in the packed queries: ones, and the gate sum in three pieces. -/
def besideQ (b : Fin 4) (i : Fin 2048) (h : Fin 16) (k : Fin 64) : EReal :=
  if hh : h.val < 8 ∧ k.val < 6 then if k.val < 3 then 1 else piece (argC m c b i ⟨h.val, hh.1⟩) (k.val - 3) else 0
/-- The lanes beside a head's own in the packed keys: the negated gate sum in three pieces, and ones. -/
def besideK (b : Fin 4) (i : Fin 2048) (h : Fin 16) (k : Fin 64) : EReal :=
  if hh : h.val < 8 ∧ k.val < 6 then if k.val < 3 then - piece (argC m c b i ⟨h.val, hh.1⟩) k.val else 1 else 0

set_option maxHeartbeats 2000000 in
theorem v23_at (b : Fin 4) (i : Fin 2048) (h : Fin 16) (k : Fin 64) : V (F := Ideal) m c main_v23 (ix4 b i h k) = besideQ m c b i h k := by
  simp only [V, List.flatten_cons, List.flatten_nil, List.append_nil, List.cons_append, List.nil_append]
  after_reads_simp
  try simp only [StableHlo.TRef.toBuf, StableHlo.TRef.ofBuf, cast_eq]
  pointwise []
  after_reads_simp
  pointwise []
  after_reads_simp
  pointwise []
  simp only [toF_zero]
  rfl

set_option maxHeartbeats 2000000 in
theorem v26_at (b : Fin 4) (i : Fin 2048) (h : Fin 16) (k : Fin 64) : V (F := Ideal) m c main_v26 (ix4 b i h k) = besideK m c b i h k := by
  simp only [V, List.flatten_cons, List.flatten_nil, List.append_nil, List.cons_append, List.nil_append]
  after_reads_simp
  try simp only [StableHlo.TRef.toBuf, StableHlo.TRef.ofBuf, cast_eq]
  pointwise []
  after_reads_simp
  pointwise []
  after_reads_simp
  pointwise []
  simp only [toF_zero]
  rfl

set_option maxHeartbeats 2000000 in
/-- The packed queries: a pair's 256 columns are its first head's lanes, the lanes beside them, the lanes beside its second
    head's, and that head's own. -/
theorem query_at (b : Fin 4) (i : Fin 2048) (p : Fin 8) (s : Fin 4) (k : Fin 64) (r : Fin 8192) (l : Fin 4096) (hr : r.val = 2048 * b.val + i.val)
    (hl : l.val = 256 * p.val + (64 * s.val + k.val)) (h0 h1 : Fin 16) (e0 : h0.val = 2 * p.val) (e1 : h1.val = 2 * p.val + 1) :
    V (F := Ideal) m c main_v60 (ix2 r l) =
      if s.val = 0 then argQ m c b i h0 k * Ideal.div eighth ln2 else if s.val = 1 then besideQ m c b i h0 k
      else if s.val = 2 then besideQ m c b i h1 k else argQ m c b i h1 k * Ideal.div eighth ln2 := by
  have hlt : l.val < 2048 := by omega
  have g1 : (⟨r.val / 2048, by omega⟩ : Fin 4) = b := Fin.ext (by show r.val / 2048 = b.val; omega)
  have g2 : (⟨r.val % 2048, by omega⟩ : Fin 2048) = i := Fin.ext (by show r.val % 2048 = i.val; omega)
  have g3 : (⟨l.val / 256 * 2, by omega⟩ : Fin 16) = h0 := Fin.ext (by show l.val / 256 * 2 = h0.val; omega)
  have g4 : (⟨l.val / 256 * 2 + 1, by omega⟩ : Fin 16) = h1 := Fin.ext (by show l.val / 256 * 2 + 1 = h1.val; omega)
  have g5 : (⟨l.val % 64, by omega⟩ : Fin 64) = k := Fin.ext (by show l.val % 64 = k.val; omega)
  have g6 : l.val / 64 % 4 = s.val := by omega
  simp only [V, List.flatten_cons, List.flatten_nil, List.append_nil, List.cons_append, List.nil_append]
  after_reads_simp
  pointwise []
  rw [dif_pos hlt]
  after_reads_simp
  pointwise []
  obtain hs | hs | hs | hs : s.val = 0 ∨ s.val = 1 ∨ s.val = 2 ∨ s.val = 3 := by omega
  · refine Eq.trans (dif_pos (show l.val / 64 % 4 < 1 by omega)) ?_
    refine Eq.trans ?_ (if_pos hs).symm
    after_reads_simp
    pointwise []
    simp only [g1, g2, g3, g5]
    try rfl
  · refine Eq.trans (dif_neg (show ¬ l.val / 64 % 4 < 1 by omega)) ?_
    refine Eq.trans (dif_pos (show l.val / 64 % 4 - 1 < 1 by omega)) ?_
    refine Eq.trans ?_ (if_neg (show ¬ s.val = 0 by omega)).symm
    refine Eq.trans ?_ (if_pos hs).symm
    rw [← v23_at]
    simp only [V, List.flatten_cons, List.flatten_nil, List.append_nil, List.cons_append, List.nil_append]
    after_reads_simp
    pointwise []
    simp only [g1, g2, g3, g5]
  · refine Eq.trans (dif_neg (show ¬ l.val / 64 % 4 < 1 by omega)) ?_
    refine Eq.trans (dif_neg (show ¬ l.val / 64 % 4 - 1 < 1 by omega)) ?_
    refine Eq.trans (dif_pos (show l.val / 64 % 4 - 1 - 1 < 1 by omega)) ?_
    refine Eq.trans ?_ (if_neg (show ¬ s.val = 0 by omega)).symm
    refine Eq.trans ?_ (if_neg (show ¬ s.val = 1 by omega)).symm
    refine Eq.trans ?_ (if_pos hs).symm
    rw [← v23_at]
    simp only [V, List.flatten_cons, List.flatten_nil, List.append_nil, List.cons_append, List.nil_append]
    after_reads_simp
    pointwise []
    simp only [g1, g2, g4, g5]
  · refine Eq.trans (dif_neg (show ¬ l.val / 64 % 4 < 1 by omega)) ?_
    refine Eq.trans (dif_neg (show ¬ l.val / 64 % 4 - 1 < 1 by omega)) ?_
    refine Eq.trans (dif_neg (show ¬ l.val / 64 % 4 - 1 - 1 < 1 by omega)) ?_
    refine Eq.trans ?_ (if_neg (show ¬ s.val = 0 by omega)).symm
    refine Eq.trans ?_ (if_neg (show ¬ s.val = 1 by omega)).symm
    refine Eq.trans ?_ (if_neg (show ¬ s.val = 2 by omega)).symm
    after_reads_simp
    pointwise []
    simp only [g1, g2, g4, g5]
    try rfl

set_option maxHeartbeats 2000000 in
/-- The packed keys, laid out the same way. -/
theorem key_at (b : Fin 4) (i : Fin 2048) (p : Fin 8) (s : Fin 4) (k : Fin 64) (r : Fin 8192) (l : Fin 4096) (hr : r.val = 2048 * b.val + i.val)
    (hl : l.val = 2048 + (256 * p.val + (64 * s.val + k.val))) (h0 h1 : Fin 16) (e0 : h0.val = 2 * p.val) (e1 : h1.val = 2 * p.val + 1) :
    V (F := Ideal) m c main_v60 (ix2 r l) =
      if s.val = 0 then argK m c b i h0 k else if s.val = 1 then besideK m c b i h0 k
      else if s.val = 2 then besideK m c b i h1 k else argK m c b i h1 k := by
  have hlt : ¬ l.val < 2048 := by omega
  have g1 : (⟨r.val / 2048, by omega⟩ : Fin 4) = b := Fin.ext (by show r.val / 2048 = b.val; omega)
  have g2 : (⟨r.val % 2048, by omega⟩ : Fin 2048) = i := Fin.ext (by show r.val % 2048 = i.val; omega)
  have g3 : (⟨(l.val - 2048) / 256 * 2, by omega⟩ : Fin 16) = h0 := Fin.ext (by show (l.val - 2048) / 256 * 2 = h0.val; omega)
  have g4 : (⟨(l.val - 2048) / 256 * 2 + 1, by omega⟩ : Fin 16) = h1 := Fin.ext (by show (l.val - 2048) / 256 * 2 + 1 = h1.val; omega)
  have g5 : (⟨(l.val - 2048) % 64, by omega⟩ : Fin 64) = k := Fin.ext (by show (l.val - 2048) % 64 = k.val; omega)
  have g6 : (l.val - 2048) / 64 % 4 = s.val := by omega
  simp only [V, List.flatten_cons, List.flatten_nil, List.append_nil, List.cons_append, List.nil_append]
  after_reads_simp
  pointwise []
  rw [dif_neg hlt]
  after_reads_simp
  pointwise []
  obtain hs | hs | hs | hs : s.val = 0 ∨ s.val = 1 ∨ s.val = 2 ∨ s.val = 3 := by omega
  · refine Eq.trans (dif_pos (show (l.val - 2048) / 64 % 4 < 1 by omega)) ?_
    refine Eq.trans ?_ (if_pos hs).symm
    after_reads_simp
    pointwise []
    simp only [g1, g2, g3, g5]
    try rfl
  · refine Eq.trans (dif_neg (show ¬ (l.val - 2048) / 64 % 4 < 1 by omega)) ?_
    refine Eq.trans (dif_pos (show (l.val - 2048) / 64 % 4 - 1 < 1 by omega)) ?_
    refine Eq.trans ?_ (if_neg (show ¬ s.val = 0 by omega)).symm
    refine Eq.trans ?_ (if_pos hs).symm
    rw [← v26_at]
    simp only [V, List.flatten_cons, List.flatten_nil, List.append_nil, List.cons_append, List.nil_append]
    after_reads_simp
    pointwise []
    simp only [g1, g2, g3, g5]
  · refine Eq.trans (dif_neg (show ¬ (l.val - 2048) / 64 % 4 < 1 by omega)) ?_
    refine Eq.trans (dif_neg (show ¬ (l.val - 2048) / 64 % 4 - 1 < 1 by omega)) ?_
    refine Eq.trans (dif_pos (show (l.val - 2048) / 64 % 4 - 1 - 1 < 1 by omega)) ?_
    refine Eq.trans ?_ (if_neg (show ¬ s.val = 0 by omega)).symm
    refine Eq.trans ?_ (if_neg (show ¬ s.val = 1 by omega)).symm
    refine Eq.trans ?_ (if_pos hs).symm
    rw [← v26_at]
    simp only [V, List.flatten_cons, List.flatten_nil, List.append_nil, List.cons_append, List.nil_append]
    after_reads_simp
    pointwise []
    simp only [g1, g2, g4, g5]
  · refine Eq.trans (dif_neg (show ¬ (l.val - 2048) / 64 % 4 < 1 by omega)) ?_
    refine Eq.trans (dif_neg (show ¬ (l.val - 2048) / 64 % 4 - 1 < 1 by omega)) ?_
    refine Eq.trans (dif_neg (show ¬ (l.val - 2048) / 64 % 4 - 1 - 1 < 1 by omega)) ?_
    refine Eq.trans ?_ (if_neg (show ¬ s.val = 0 by omega)).symm
    refine Eq.trans ?_ (if_neg (show ¬ s.val = 1 by omega)).symm
    refine Eq.trans ?_ (if_neg (show ¬ s.val = 2 by omega)).symm
    after_reads_simp
    pointwise []
    simp only [g1, g2, g4, g5]
    try rfl

end Cert.AttnFwd

end
-- ==== Proof.AttnFwdHeads.lean ====
module

public import proofs.«01_k».proof.Proof.AttnFwdHost
public import proofs.«01_k».proof.Proof.AttnBias
public import proofs.«01_k».proof.Proof.AttnPair
public import Idealize.ShloMosaic.Lib.Pipeline.ValueKit

/-! What a point's blocks of the forward attention hold, on real arguments. -/

@[expose] public section

set_option maxRecDepth 16384

noncomputable section

open Idealize.ShloMosaic Idealize.ShloMosaic.TcCoe Idealize.SL.Sem
open Idealize.ShloMosaic.Pipeline (Dat)

namespace Cert.AttnFwd

open Cert.Kernel11Ideal Cert.Kernel11Ideal.Gen
open Cert.Attn (ln2 eighth piece L2 L2_pos IsScore sum_real wt plain times gap realQ realK beside_sum piece_zero piece_rest eighthLn2_eq bias bias_gap bias_neg bias_word
  biasOf biasOf_score table_word lane at64 other sum_two_halves)

/-- The block each window is at, at a point. -/
theorem idx : ∀ t : Fin cfg0.N, win0_0.index t = ![t.val / 8, t.val % 8] ∧ win0_1.index t = ![t.val / 8, 8 + t.val % 8] ∧ win0_2.index t = ![t.val / 8, 16 + t.val % 8]
    ∧ win0_3.index t = ![t.val % 8 / 4, 0, 0, 0] ∧ win0_4.index t = ![t.val / 8, t.val % 8] := by decide +kernel

variable {m : (ℓ : Loc nD τ sig) → Buf (Elt Ideal) ℓ} {c : Dev nD}
variable {q k v : Fin 4 → Fin 2048 → Fin 16 → Fin 64 → ℝ} {cc : Fin 4 → Fin 2048 → Fin 8 → ℝ}

/-- A point's batch, its pair of heads, a head of the pair, and a block's row in its array. -/
def batch (t : Fin cfg0.N) : Fin 4 := ⟨t.val / 8, by have : t.val < 32 := t.isLt; omega⟩
def pair (t : Fin cfg0.N) : Fin 8 := ⟨t.val % 8, by omega⟩
def headAt (t : Fin cfg0.N) (e : Fin 2) : Fin 16 := ⟨2 * (t.val % 8) + e.val, by omega⟩
def rowAt (t : Fin cfg0.N) (i : Fin 2048) : Fin 8192 := ⟨2048 * (t.val / 8) + i.val, by have : t.val < 32 := t.isLt; omega⟩

/-- A point's blocks of the queries and the keys. -/
abbrev queryB (m : (ℓ : Loc nD τ sig) → Buf (Elt Ideal) ℓ) (c : Dev nD) (t : Fin cfg0.N) : FVec Ideal S2048x256 .bf16 := iblk m c 0 t
abbrev keyB (m : (ℓ : Loc nD τ sig) → Buf (Elt Ideal) ℓ) (c : Dev nD) (t : Fin cfg0.N) : FVec Ideal S2048x256 .bf16 := iblk m c 1 t

section Blocks

variable (t : Fin cfg0.N)

theorem emb0 (i : Fin 2048) (l : Fin 256) (s : Fin 4096) (hs : s.val = 256 * (t.val % 8) + l.val) : (win0_0.blk t).view.emb (ix2 i l) = ix2 (rowAt t i) s := by
  have hr : (rowAt t i).val = 2048 * (t.val / 8) + i.val := rfl
  blk_ext [idx t]
theorem emb1 (i : Fin 2048) (l : Fin 256) (s : Fin 4096) (hs : s.val = 2048 + (256 * (t.val % 8) + l.val)) : (win0_1.blk t).view.emb (ix2 i l) = ix2 (rowAt t i) s := by
  have hr : (rowAt t i).val = 2048 * (t.val / 8) + i.val := rfl
  blk_ext [idx t]
theorem emb2 (i : Fin 2048) (l : Fin 128) (s : Fin 3072) (hs : s.val = 2048 + (128 * (t.val % 8) + l.val)) : (win0_2.blk t).view.emb (ix2 i l) = ix2 (rowAt t i) s := by
  have hr : (rowAt t i).val = 2048 * (t.val / 8) + i.val := rfl
  blk_ext [idx t]
theorem emb3 (n : Fin 4) (i j : Fin 512) (s : Fin 2) (hs : s.val = t.val % 8 / 4) : (win0_3.blk t).view.emb (ix4 0 n i j) = ix4 s n i j := by blk_ext [idx t]

variable (e s : Fin 2) (i : Fin 2048) (l : Fin 64)

theorem query_block : queryB m c t (ix2 i (lane e (at64 s l))) =
    if s = e then argQ m c (batch t) i (headAt t e) l * Ideal.div eighth ln2 else besideQ m c (batch t) i (headAt t e) l := by
  refine (congrArg (V (F := Ideal) m c main_v60) (emb0 t i _ ⟨256 * (t.val % 8) + (lane e (at64 s l)).val, by omega⟩ rfl)).trans ?_
  rw [query_at m c (batch t) i (pair t) ⟨2 * e.val + s.val, by omega⟩ l (rowAt t i) _ rfl (by simp only [lane, at64, pair]; omega) (headAt t 0) (headAt t 1) rfl rfl]
  fin_cases e <;> fin_cases s <;> rfl

theorem key_block : keyB m c t (ix2 i (lane e (at64 s l))) =
    if s = e then argK m c (batch t) i (headAt t e) l else besideK m c (batch t) i (headAt t e) l := by
  refine (congrArg (V (F := Ideal) m c main_v60) (emb1 t i _ ⟨2048 + (256 * (t.val % 8) + (lane e (at64 s l)).val), by omega⟩ rfl)).trans ?_
  rw [key_at m c (batch t) i (pair t) ⟨2 * e.val + s.val, by omega⟩ l (rowAt t i) _ rfl (by simp only [lane, at64, pair]; omega) (headAt t 0) (headAt t 1) rfl rfl]
  fin_cases e <;> fin_cases s <;> rfl

theorem value_block : iblk m c 2 t (ix2 i (at64 e l)) = argV m c (batch t) i (headAt t e) l := by
  refine (congrArg (V (F := Ideal) m c main_v64) (emb2 t i _ ⟨2048 + (128 * (t.val % 8) + (at64 e l).val), by omega⟩ rfl)).trans ?_
  rw [v64_at m c (batch t) i (headAt t e) l (rowAt t i) _ rfl (by simp only [at64, headAt]; omega)]

theorem table_block (n : Fin 4) (i j : Fin 512) : iblk m c 3 t (ix4 0 n i j) = bias (2 * (t.val % 8)) (512 * (n.val : ℤ) + i.val - j.val) := by
  refine (congrArg (V (F := Ideal) m c main_v121) (emb3 t n i j ⟨t.val % 8 / 4, by omega⟩ rfl)).trans ?_
  rw [v121_at, table_word, ← bias_word _ _ _ rfl (by omega) (by omega)]
  unfold biasOf
  by_cases h : t.val % 8 / 4 < 1
  · rw [if_pos h, if_pos (by omega)]
  · rw [if_neg h, if_neg (by omega)]

theorem bias_pair (d : ℤ) : bias (2 * (t.val % 8)) d = bias (headAt t e).val d := by
  unfold bias biasOf headAt
  have : 2 * (t.val % 8) / 8 = (2 * (t.val % 8) + e.val) / 8 := by omega
  simp only [this]

end Blocks

/-- A key after the query weighs nothing. -/
theorem wt_after (b : Fin 4) (h : Fin 16) (i j : Fin 2048) (hij : i.val < j.val) : wt q k cc b h i j = 0 := by
  have hb := biasOf_score h (gap i.val j.val)
  rw [← bias_gap, bias_neg _ _ (by omega)] at hb
  unfold wt
  rcases hb with ⟨_, hz⟩ | ⟨r, hr, _⟩
  · rw [hz, zero_mul]
  · exact absurd hr (EReal.bot_ne_coe r)

section Real

variable (h0 : ∀ b i h e, argQ m c b i h e = (q b i h e : EReal)) (h1 : ∀ b i h e, argK m c b i h e = (k b i h e : EReal))
  (h2 : ∀ b i h e, argV m c b i h e = (v b i h e : EReal)) (h3 : ∀ b i h, argC m c b i h = (cc b i h : EReal))

include h3 in
theorem besideQ_real (b : Fin 4) (i : Fin 2048) (h : Fin 16) (e : Fin 64) : besideQ m c b i h e = (realQ cc b i h e : EReal) := by
  unfold besideQ realQ
  by_cases hh : h.val < 8
  · rw [dif_pos hh]
    by_cases he : e.val < 6
    · rw [dif_pos ⟨hh, he⟩]
      by_cases h3' : e.val < 3
      · rw [if_pos h3', if_pos h3', EReal.coe_one]
      · rw [if_neg h3', if_neg h3', h3]
        by_cases h4 : e.val = 3
        · rw [if_pos h4, piece_zero _ _ (by omega)]
        · rw [if_neg h4, piece_rest _ _ (by omega)]
    · rw [dif_neg (fun x => he x.2), if_neg (by omega), if_neg (by omega), EReal.coe_zero]
  · rw [dif_neg hh, dif_neg (fun x => hh x.1), EReal.coe_zero]

include h3 in
theorem besideK_real (b : Fin 4) (i : Fin 2048) (h : Fin 16) (e : Fin 64) : besideK m c b i h e = (realK cc b i h e : EReal) := by
  unfold besideK realK
  by_cases hh : h.val < 8
  · rw [dif_pos hh]
    by_cases he : e.val < 6
    · rw [dif_pos ⟨hh, he⟩]
      by_cases h3' : e.val < 3
      · rw [if_pos h3', h3]
        by_cases h4 : e.val = 0
        · rw [if_pos h4, piece_zero _ _ h4, ← EReal.coe_neg]
        · rw [if_neg h4, piece_rest _ _ h4, if_neg (by omega), ← EReal.coe_neg, neg_zero]
      · rw [if_neg h3', if_neg (by omega), if_pos (by omega), EReal.coe_one]
    · rw [dif_neg (fun x => he x.2), if_neg (by omega), if_neg (by omega), EReal.coe_zero]
  · rw [dif_neg hh, dif_neg (fun x => hh x.1), EReal.coe_zero]

theorem not_other (e : Fin 2) : ¬ other e = e := fun h => by
  have := congrArg Fin.val h
  simp only [other] at this
  omega

include h0 h1 h3 in
/-- A head's score over its own lanes and those beside them is the base-two logarithm of the weight. -/
theorem head_score (t : Fin cfg0.N) (e : Fin 2) (i j : Fin 2048) :
    IsScore L2 (∑ l : Fin 128, queryB m c t (ix2 i (lane e l)) * keyB m c t (ix2 j (lane e l)) + bias (2 * (t.val % 8)) ((i.val : ℤ) - j.val))
      (wt q k cc (batch t) (headAt t e) i j) := by
  have e1 : ∑ l : Fin 128, queryB m c t (ix2 i (lane e l)) * keyB m c t (ix2 j (lane e l)) = ((plain q k cc (batch t) (headAt t e) i j / L2 : ℝ) : EReal) := by
    rw [sum_two_halves e, sum_real _ _ (fun l => q (batch t) i (headAt t e) l * (1 / 8 / L2) * k (batch t) j (headAt t e) l) fun l => by
        rw [query_block, key_block, if_pos rfl, if_pos rfl, h0, h1, eighthLn2_eq, ← EReal.coe_mul, ← EReal.coe_mul],
      sum_real _ (fun l => queryB m c t (ix2 i (lane e (at64 (other e) l))) * keyB m c t (ix2 j (lane e (at64 (other e) l))))
        (fun l => realK cc (batch t) j (headAt t e) l * realQ cc (batch t) i (headAt t e) l) fun l => by
        rw [query_block, key_block, if_neg (not_other e), if_neg (not_other e), besideQ_real h3, besideK_real h3, ← EReal.coe_mul, mul_comm], beside_sum, ← EReal.coe_add]
    congr 1
    unfold plain
    rw [add_div, Finset.sum_mul, Finset.sum_div]
    refine congrArg (· + _) (Finset.sum_congr rfl fun l _ => ?_)
    field_simp
  rw [e1, bias_pair t e, bias_gap]
  have := (biasOf_score (headAt t e) (gap i.val j.val)).add (plain q k cc (batch t) (headAt t e) i j / L2)
  rw [div_mul_cancel₀ _ L2_pos.ne'] at this
  exact this

end Real

end Cert.AttnFwd

end
-- ==== Proof.AttnFwdPay.lean ====
module

public import proofs.«01_k».proof.Proof.Gen.Kernel11Ideal.Skeleton
public import Idealize.ShloMosaic.Lib.Pipeline.ValueKit
public import Idealize.ShloMosaic.Lib.StableHlo.RunRead

/-! The forward attention's scores, row maxima and sums of values, each at one index of the blocks it loads. -/

@[expose] public section

set_option maxRecDepth 16384

noncomputable section

open Idealize.ShloMosaic Idealize.ShloMosaic.TcCoe Idealize.SL.Sem

namespace Cert.AttnFwd

open Cert.Kernel11Ideal Cert.Kernel11Ideal.Gen

/-- A table's entries at the blocks' distance `n`. -/
def Tab (B : ℤ → EReal) (n : ℤ) (t : Vec Ideal S1x1x512x512 .f32) : Prop := ∀ i j : Fin 512, t (ix4 0 0 i j) = B (512 * n + i.val - j.val)

/-- A row's largest score. -/
def rowTop {N : ℕ} (s : Fin N → EReal) : EReal := Finset.univ.fold max (Ideal.ofBits .f32 4286578688#32) s
/-- A row's sum over its keys of one lane, and that sum divided by another lane's. -/
def rowAcc {N : ℕ} (hN : N ≤ 2048) (s : Fin N → EReal) (u : Fin 2048 → Fin 128 → EReal) (l : Fin 128) : EReal :=
  ∑ j, Ideal.exp2 (s j - rowTop s) * u (j.castLE hN) l
def rowOut {N : ℕ} (hN : N ≤ 2048) (s : Fin N → EReal) (u : Fin 2048 → Fin 128 → EReal) (z l : Fin 128) : EReal :=
  Ideal.div (rowAcc hN s u l) (rowAcc hN s u z)

theorem tile_score {N : ℕ} {B : ℤ → EReal} (a : Fin 128 → EReal) (b : Fin N → Fin 128 → EReal) {t : Vec Ideal S1x1x512x512 .f32} {n : ℤ} (h : Tab B n t)
    (i k : Fin 512) (j j' : Fin N) (d : ℤ) (hj : j'.val = j.val) (hd : 512 * n + i.val - k.val = d) :
    ∑ x, a x * b j' x + t (ix4 0 0 i k) = ∑ x, a x * b j x + B d := by
  obtain rfl : j' = j := Fin.ext hj
  rw [h, hd]

theorem first_lanes {x y : EReal} (l : Fin 128) : Scalar.select (IntOp.cmpi CmpIPredicate.slt (BitVec.ofNat 32 l.val) 64#32) x y = if l.val < 64 then x else y := by
  have h : ∀ l : Fin 128, IntOp.cmpi .slt (BitVec.ofNat 32 l.val) 64#32 = if l.val < 64 then 1#1 else 0#1 := by decide
  rw [h]
  split <;> simp [Scalar.select]
theorem last_lanes {x y : EReal} (l : Fin 128) : Scalar.select (IntOp.cmpi CmpIPredicate.sge (BitVec.ofNat 32 l.val) 64#32) x y = if l.val < 64 then y else x := by
  have h : ∀ l : Fin 128, IntOp.cmpi .sge (BitVec.ofNat 32 l.val) 64#32 = if l.val < 64 then 0#1 else 1#1 := by decide
  rw [h]
  split <;> simp [Scalar.select]
theorem toF_one : FloatOps.sitofp (F := Ideal) .f32 (1#32 : BitVec 32) = (1 : EReal) := by
  show ((((1#32 : BitVec 32).toInt : ℝ)) : EReal) = 1
  simp

/-- The values with a lane of ones beside them: at lane 64 for the first head, at lane 0 for the second. -/
theorem ones_first (v : Vec Ideal S2048x128 .bf16) (j : Fin 2048) : (∀ l : Fin 128, l.val < 64 → k0_pay3 v (ix2 j l) = v (ix2 j l)) ∧ k0_pay3 v (ix2 j 64) = 1 := by
  refine ⟨fun l hl => ?_, ?_⟩
  · pointwise [k0_pay3, k0_pay2]
    rw [first_lanes, if_pos hl]
  · pointwise [k0_pay3, k0_pay2]
    exact (first_lanes 64).trans ((if_neg (by decide)).trans toF_one)
theorem ones_last (v : Vec Ideal S2048x128 .bf16) (j : Fin 2048) : (∀ l : Fin 128, ¬ l.val < 64 → k0_pay4 v (ix2 j l) = v (ix2 j l)) ∧ k0_pay4 v (ix2 j 0) = 1 := by
  refine ⟨fun l hl => ?_, ?_⟩
  · pointwise [k0_pay4]
    rw [last_lanes, if_neg hl]
  · pointwise [k0_pay4]
    exact (last_lanes 0).trans ((if_pos (by decide)).trans toF_one)

variable {B : ℤ → EReal} (a : Vec Ideal S512x128 .bf16) {t0 t1 t2 t3 : Vec Ideal S1x1x512x512 .f32}
  (h0 : Tab B 0 t0) (h1 : Tab B 1 t1) (h2 : Tab B 2 t2) (h3 : Tab B 3 t3)

include h0 h1 h2 h3 in
theorem score3_0 (b : Vec Ideal S2048x128 .bf16) (i : Fin 512) (j : Fin 2048) :
    k0_pay9 (k0_pay5 a b) (k0_pay6 a b t3) (k0_pay7 a b t2) (k0_pay8 a b) t1 t0 (ix2 i j) = ∑ l, a (ix2 i l) * b (ix2 j l) + B (1536 + i.val - j.val) := by
  pointwise [k0_pay9, k0_pay5, k0_pay6, k0_pay7, k0_pay8]
  split_ifs <;> first
    | exact tile_score (fun x => a (ix2 i x)) (fun j x => b (ix2 j x)) h0 i _ _ _ _ (by first | rfl | omega | (simp only; omega)) (by first | omega | (simp only; omega) | (simp; done))
    | exact tile_score (fun x => a (ix2 i x)) (fun j x => b (ix2 j x)) h1 i _ _ _ _ (by first | rfl | omega | (simp only; omega)) (by first | omega | (simp only; omega) | (simp; done))
    | exact tile_score (fun x => a (ix2 i x)) (fun j x => b (ix2 j x)) h2 i _ _ _ _ (by first | rfl | omega | (simp only; omega)) (by first | omega | (simp only; omega) | (simp; done))
    | exact tile_score (fun x => a (ix2 i x)) (fun j x => b (ix2 j x)) h3 i _ _ _ _ (by first | rfl | omega | (simp only; omega)) (by first | omega | (simp only; omega) | (simp; done))
omit B in
theorem top3_0 (t0 : Vec Ideal S1x1x512x512 .f32) (t1 : Vec Ideal S1x1x512x512 .f32) (t2 : Vec Ideal S1x1x512x512 .f32) (t3 : Vec Ideal S1x1x512x512 .f32) (b : Vec Ideal S2048x128 .bf16) (i : Fin 512) : k0_pay10 (k0_pay5 a b) (k0_pay6 a b t3) (k0_pay7 a b t2) (k0_pay8 a b) t1 t0 (ix2 i 0) = rowTop fun j => k0_pay9 (k0_pay5 a b) (k0_pay6 a b t3) (k0_pay7 a b t2) (k0_pay8 a b) t1 t0 (ix2 i j) := by
  unfold k0_pay10
  generalize k0_pay9 (k0_pay5 a b) (k0_pay6 a b t3) (k0_pay7 a b t2) (k0_pay8 a b) t1 t0 = A
  pointwise []
  rfl
theorem acc3_0 (u : FVec Ideal S2048x128 .bf16) (s : FVec Ideal S512x2048 .f32) (x : FVec Ideal S512x1 .f32) (i : Fin 512) (l : Fin 128)
    (hx : x (ix2 i 0) = rowTop fun j => s (ix2 i j)) :
    k0_pay21 u s x (ix2 i l) = rowAcc (by norm_num) (fun j => s (ix2 i j)) (fun j l => u (ix2 j l)) l := by
  unfold rowAcc
  rw [← hx]
  pointwise [k0_pay21]
  rfl
theorem out3_0 (u : FVec Ideal S2048x128 .bf16) (s : FVec Ideal S512x2048 .f32) (x : FVec Ideal S512x1 .f32) (i : Fin 512) (l : Fin 128)
    (hx : x (ix2 i 0) = rowTop fun j => s (ix2 i j)) :
    k0_pay23 u s x (ix2 i l) = rowOut (by norm_num) (fun j => s (ix2 i j)) (fun j l => u (ix2 j l)) 64 l := by
  unfold rowOut
  rw [← acc3_0 u s x i l hx, ← acc3_0 u s x i 64 hx]
  unfold k0_pay23 k0_pay22
  generalize k0_pay21 u s x = A
  pointwise []
include h0 h1 h2 h3 in
theorem score3_1 (b : Vec Ideal S2048x128 .bf16) (i : Fin 512) (j : Fin 2048) :
    k0_pay17 (k0_pay12 a b t3) (k0_pay13 a b t2) (k0_pay14 a b t1) (k0_pay15 a b) (k0_pay16 t0) (ix2 i j) = ∑ l, a (ix2 i l) * b (ix2 j l) + B (1536 + i.val - j.val) := by
  pointwise [k0_pay17, k0_pay11, k0_pay12, k0_pay13, k0_pay14, k0_pay15, k0_pay16]
  split_ifs <;> first
    | exact tile_score (fun x => a (ix2 i x)) (fun j x => b (ix2 j x)) h0 i _ _ _ _ (by first | rfl | omega | (simp only; omega)) (by first | omega | (simp only; omega) | (simp; done))
    | exact tile_score (fun x => a (ix2 i x)) (fun j x => b (ix2 j x)) h1 i _ _ _ _ (by first | rfl | omega | (simp only; omega)) (by first | omega | (simp only; omega) | (simp; done))
    | exact tile_score (fun x => a (ix2 i x)) (fun j x => b (ix2 j x)) h2 i _ _ _ _ (by first | rfl | omega | (simp only; omega)) (by first | omega | (simp only; omega) | (simp; done))
    | exact tile_score (fun x => a (ix2 i x)) (fun j x => b (ix2 j x)) h3 i _ _ _ _ (by first | rfl | omega | (simp only; omega)) (by first | omega | (simp only; omega) | (simp; done))
omit B in
theorem top3_1 (t0 : Vec Ideal S1x1x512x512 .f32) (t1 : Vec Ideal S1x1x512x512 .f32) (t2 : Vec Ideal S1x1x512x512 .f32) (t3 : Vec Ideal S1x1x512x512 .f32) (b : Vec Ideal S2048x128 .bf16) (i : Fin 512) : k0_pay18 (k0_pay12 a b t3) (k0_pay13 a b t2) (k0_pay14 a b t1) (k0_pay15 a b) (k0_pay16 t0) (ix2 i 0) = rowTop fun j => k0_pay17 (k0_pay12 a b t3) (k0_pay13 a b t2) (k0_pay14 a b t1) (k0_pay15 a b) (k0_pay16 t0) (ix2 i j) := by
  unfold k0_pay18
  generalize k0_pay17 (k0_pay12 a b t3) (k0_pay13 a b t2) (k0_pay14 a b t1) (k0_pay15 a b) (k0_pay16 t0) = A
  pointwise []
  rfl
theorem acc3_1 (u : FVec Ideal S2048x128 .bf16) (s : FVec Ideal S512x2048 .f32) (x : FVec Ideal S512x1 .f32) (i : Fin 512) (l : Fin 128)
    (hx : x (ix2 i 0) = rowTop fun j => s (ix2 i j)) :
    k0_pay27 u s x (ix2 i l) = rowAcc (by norm_num) (fun j => s (ix2 i j)) (fun j l => u (ix2 j l)) l := by
  unfold rowAcc
  rw [← hx]
  pointwise [k0_pay27]
  rfl
include h0 h1 h2 in
theorem score2_0 (b : Vec Ideal S1536x128 .bf16) (i : Fin 512) (j : Fin 1536) :
    k0_pay19 a b t2 t1 t0 (ix2 i j) = ∑ l, a (ix2 i l) * b (ix2 j l) + B (1024 + i.val - j.val) := by
  pointwise [k0_pay19]
  split_ifs <;> first
    | exact tile_score (fun x => a (ix2 i x)) (fun j x => b (ix2 j x)) h0 i _ _ _ _ (by first | rfl | omega | (simp only; omega)) (by first | omega | (simp only; omega) | (simp; done))
    | exact tile_score (fun x => a (ix2 i x)) (fun j x => b (ix2 j x)) h1 i _ _ _ _ (by first | rfl | omega | (simp only; omega)) (by first | omega | (simp only; omega) | (simp; done))
    | exact tile_score (fun x => a (ix2 i x)) (fun j x => b (ix2 j x)) h2 i _ _ _ _ (by first | rfl | omega | (simp only; omega)) (by first | omega | (simp only; omega) | (simp; done))
omit B in
theorem top2_0 (t0 : Vec Ideal S1x1x512x512 .f32) (t1 : Vec Ideal S1x1x512x512 .f32) (t2 : Vec Ideal S1x1x512x512 .f32) (b : Vec Ideal S1536x128 .bf16) (i : Fin 512) : k0_pay20 a b t2 t1 t0 (ix2 i 0) = rowTop fun j => k0_pay19 a b t2 t1 t0 (ix2 i j) := by
  unfold k0_pay20
  generalize k0_pay19 a b t2 t1 t0 = A
  pointwise []
  rfl
theorem acc2_0 (u : FVec Ideal S2048x128 .bf16) (s : FVec Ideal S512x1536 .f32) (x : FVec Ideal S512x1 .f32) (i : Fin 512) (l : Fin 128)
    (hx : x (ix2 i 0) = rowTop fun j => s (ix2 i j)) :
    k0_pay36 u s x (ix2 i l) = rowAcc (by norm_num) (fun j => s (ix2 i j)) (fun j l => u (ix2 j l)) l := by
  unfold rowAcc
  rw [← hx]
  pointwise [k0_pay36]
  rfl
theorem out2_0 (u : FVec Ideal S2048x128 .bf16) (s : FVec Ideal S512x1536 .f32) (x : FVec Ideal S512x1 .f32) (i : Fin 512) (l : Fin 128)
    (hx : x (ix2 i 0) = rowTop fun j => s (ix2 i j)) :
    k0_pay38 u s x (ix2 i l) = rowOut (by norm_num) (fun j => s (ix2 i j)) (fun j l => u (ix2 j l)) 64 l := by
  unfold rowOut
  rw [← acc2_0 u s x i l hx, ← acc2_0 u s x i 64 hx]
  unfold k0_pay38 k0_pay37
  generalize k0_pay36 u s x = A
  pointwise []
include h0 h1 h2 in
theorem score2_1 (b : Vec Ideal S1536x128 .bf16) (i : Fin 512) (j : Fin 1536) :
    k0_pay25 a b t2 t1 t0 (ix2 i j) = ∑ l, a (ix2 i l) * b (ix2 j l) + B (1024 + i.val - j.val) := by
  pointwise [k0_pay25]
  split_ifs <;> first
    | exact tile_score (fun x => a (ix2 i x)) (fun j x => b (ix2 j x)) h0 i _ _ _ _ (by first | rfl | omega | (simp only; omega)) (by first | omega | (simp only; omega) | (simp; done))
    | exact tile_score (fun x => a (ix2 i x)) (fun j x => b (ix2 j x)) h1 i _ _ _ _ (by first | rfl | omega | (simp only; omega)) (by first | omega | (simp only; omega) | (simp; done))
    | exact tile_score (fun x => a (ix2 i x)) (fun j x => b (ix2 j x)) h2 i _ _ _ _ (by first | rfl | omega | (simp only; omega)) (by first | omega | (simp only; omega) | (simp; done))
omit B in
theorem top2_1 (t0 : Vec Ideal S1x1x512x512 .f32) (t1 : Vec Ideal S1x1x512x512 .f32) (t2 : Vec Ideal S1x1x512x512 .f32) (b : Vec Ideal S1536x128 .bf16) (i : Fin 512) : k0_pay26 a b t2 t1 t0 (ix2 i 0) = rowTop fun j => k0_pay25 a b t2 t1 t0 (ix2 i j) := by
  unfold k0_pay26
  generalize k0_pay25 a b t2 t1 t0 = A
  pointwise []
  rfl
theorem acc2_1 (u : FVec Ideal S2048x128 .bf16) (s : FVec Ideal S512x1536 .f32) (x : FVec Ideal S512x1 .f32) (i : Fin 512) (l : Fin 128)
    (hx : x (ix2 i 0) = rowTop fun j => s (ix2 i j)) :
    k0_pay44 u s x (ix2 i l) = rowAcc (by norm_num) (fun j => s (ix2 i j)) (fun j l => u (ix2 j l)) l := by
  unfold rowAcc
  rw [← hx]
  pointwise [k0_pay44]
  rfl
include h0 h1 in
theorem score1_0 (b : Vec Ideal S1024x128 .bf16) (i : Fin 512) (j : Fin 1024) :
    k0_pay34 a b t1 t0 (ix2 i j) = ∑ l, a (ix2 i l) * b (ix2 j l) + B (512 + i.val - j.val) := by
  pointwise [k0_pay34]
  split_ifs <;> first
    | exact tile_score (fun x => a (ix2 i x)) (fun j x => b (ix2 j x)) h0 i _ _ _ _ (by first | rfl | omega | (simp only; omega)) (by first | omega | (simp only; omega) | (simp; done))
    | exact tile_score (fun x => a (ix2 i x)) (fun j x => b (ix2 j x)) h1 i _ _ _ _ (by first | rfl | omega | (simp only; omega)) (by first | omega | (simp only; omega) | (simp; done))
omit B in
theorem top1_0 (t0 : Vec Ideal S1x1x512x512 .f32) (t1 : Vec Ideal S1x1x512x512 .f32) (b : Vec Ideal S1024x128 .bf16) (i : Fin 512) : k0_pay35 a b t1 t0 (ix2 i 0) = rowTop fun j => k0_pay34 a b t1 t0 (ix2 i j) := by
  unfold k0_pay35
  generalize k0_pay34 a b t1 t0 = A
  pointwise []
  rfl
theorem acc1_0 (u : FVec Ideal S2048x128 .bf16) (s : FVec Ideal S512x1024 .f32) (x : FVec Ideal S512x1 .f32) (i : Fin 512) (l : Fin 128)
    (hx : x (ix2 i 0) = rowTop fun j => s (ix2 i j)) :
    k0_pay51 u s x (ix2 i l) = rowAcc (by norm_num) (fun j => s (ix2 i j)) (fun j l => u (ix2 j l)) l := by
  unfold rowAcc
  rw [← hx]
  pointwise [k0_pay51]
  rfl
theorem out1_0 (u : FVec Ideal S2048x128 .bf16) (s : FVec Ideal S512x1024 .f32) (x : FVec Ideal S512x1 .f32) (i : Fin 512) (l : Fin 128)
    (hx : x (ix2 i 0) = rowTop fun j => s (ix2 i j)) :
    k0_pay53 u s x (ix2 i l) = rowOut (by norm_num) (fun j => s (ix2 i j)) (fun j l => u (ix2 j l)) 64 l := by
  unfold rowOut
  rw [← acc1_0 u s x i l hx, ← acc1_0 u s x i 64 hx]
  unfold k0_pay53 k0_pay52
  generalize k0_pay51 u s x = A
  pointwise []
include h0 h1 in
theorem score1_1 (b : Vec Ideal S1024x128 .bf16) (i : Fin 512) (j : Fin 1024) :
    k0_pay42 (k0_pay40 a) (k0_pay41 b) (constant S512x1024 .f32 0x00000000#32) t1 t0 (ix2 i j) = ∑ l, a (ix2 i l) * b (ix2 j l) + B (512 + i.val - j.val) := by
  pointwise [k0_pay42, k0_pay40, k0_pay41]
  split_ifs <;> first
    | exact tile_score (fun x => a (ix2 i x)) (fun j x => b (ix2 j x)) h0 i _ _ _ _ (by first | rfl | omega | (simp only; omega)) (by first | omega | (simp only; omega) | (simp; done))
    | exact tile_score (fun x => a (ix2 i x)) (fun j x => b (ix2 j x)) h1 i _ _ _ _ (by first | rfl | omega | (simp only; omega)) (by first | omega | (simp only; omega) | (simp; done))
omit B in
theorem top1_1 (t0 : Vec Ideal S1x1x512x512 .f32) (t1 : Vec Ideal S1x1x512x512 .f32) (b : Vec Ideal S1024x128 .bf16) (i : Fin 512) : k0_pay43 (k0_pay40 a) (k0_pay41 b) (constant S512x1024 .f32 0x00000000#32) t1 t0 (ix2 i 0) = rowTop fun j => k0_pay42 (k0_pay40 a) (k0_pay41 b) (constant S512x1024 .f32 0x00000000#32) t1 t0 (ix2 i j) := by
  unfold k0_pay43
  generalize k0_pay42 (k0_pay40 a) (k0_pay41 b) (constant S512x1024 .f32 0x00000000#32) t1 t0 = A
  pointwise []
  rfl
theorem acc1_1 (u : FVec Ideal S2048x128 .bf16) (s : FVec Ideal S512x1024 .f32) (x : FVec Ideal S512x1 .f32) (i : Fin 512) (l : Fin 128)
    (hx : x (ix2 i 0) = rowTop fun j => s (ix2 i j)) :
    k0_pay57 u s x (ix2 i l) = rowAcc (by norm_num) (fun j => s (ix2 i j)) (fun j l => u (ix2 j l)) l := by
  unfold rowAcc
  rw [← hx]
  pointwise [k0_pay57]
  rfl
theorem out1_1 (u : FVec Ideal S2048x128 .bf16) (s : FVec Ideal S512x1024 .f32) (x : FVec Ideal S512x1 .f32) (i : Fin 512) (l : Fin 128)
    (hx : x (ix2 i 0) = rowTop fun j => s (ix2 i j)) :
    k0_pay59 u s x (ix2 i l) = rowOut (by norm_num) (fun j => s (ix2 i j)) (fun j l => u (ix2 j l)) 0 l := by
  unfold rowOut
  rw [← acc1_1 u s x i l hx, ← acc1_1 u s x i 0 hx]
  unfold k0_pay59 k0_pay58
  generalize k0_pay57 u s x = A
  pointwise []
include h0 in
theorem score0_0 (b : Vec Ideal S512x128 .bf16) (i : Fin 512) (j : Fin 512) :
    k0_pay49 (k0_pay48 a) b t0 (ix2 i j) = ∑ l, a (ix2 i l) * b (ix2 j l) + B (0 + i.val - j.val) := by
  pointwise [k0_pay49, k0_pay48]
  exact tile_score (fun x => a (ix2 i x)) (fun j x => b (ix2 j x)) h0 i _ _ _ _ (by first | rfl | omega | (simp only; omega)) (by first | omega | (simp only; omega) | (simp; done))
omit B in
theorem top0_0 (t0 : Vec Ideal S1x1x512x512 .f32) (b : Vec Ideal S512x128 .bf16) (i : Fin 512) : k0_pay50 (k0_pay48 a) b t0 (ix2 i 0) = rowTop fun j => k0_pay49 (k0_pay48 a) b t0 (ix2 i j) := by
  unfold k0_pay50
  generalize k0_pay49 (k0_pay48 a) b t0 = A
  pointwise []
  rfl
theorem acc0_0 (u : FVec Ideal S2048x128 .bf16) (s : FVec Ideal S512x512 .f32) (x : FVec Ideal S512x1 .f32) (i : Fin 512) (l : Fin 128)
    (hx : x (ix2 i 0) = rowTop fun j => s (ix2 i j)) :
    k0_pay63 u s x (ix2 i l) = rowAcc (by norm_num) (fun j => s (ix2 i j)) (fun j l => u (ix2 j l)) l := by
  unfold rowAcc
  rw [← hx]
  pointwise [k0_pay63]
  rfl
include h0 in
theorem score0_1 (b : Vec Ideal S512x128 .bf16) (i : Fin 512) (j : Fin 512) :
    k0_pay55 a b t0 (ix2 i j) = ∑ l, a (ix2 i l) * b (ix2 j l) + B (0 + i.val - j.val) := by
  pointwise [k0_pay55]
  exact tile_score (fun x => a (ix2 i x)) (fun j x => b (ix2 j x)) h0 i _ _ _ _ (by first | rfl | omega | (simp only; omega)) (by first | omega | (simp only; omega) | (simp; done))
omit B in
theorem top0_1 (t0 : Vec Ideal S1x1x512x512 .f32) (b : Vec Ideal S512x128 .bf16) (i : Fin 512) : k0_pay56 a b t0 (ix2 i 0) = rowTop fun j => k0_pay55 a b t0 (ix2 i j) := by
  unfold k0_pay56
  generalize k0_pay55 a b t0 = A
  pointwise []
  rfl
theorem acc0_1 (u : FVec Ideal S2048x128 .bf16) (s : FVec Ideal S512x512 .f32) (x : FVec Ideal S512x1 .f32) (i : Fin 512) (l : Fin 128)
    (hx : x (ix2 i 0) = rowTop fun j => s (ix2 i j)) :
    k0_pay65 u s x (ix2 i l) = rowAcc (by norm_num) (fun j => s (ix2 i j)) (fun j l => u (ix2 j l)) l := by
  unfold rowAcc
  rw [← hx]
  pointwise [k0_pay65]
  rfl
/-- Block 3's results. -/
theorem out3 (u w : FVec Ideal S2048x128 .bf16) (s r : FVec Ideal S512x2048 .f32) (x y : FVec Ideal S512x1 .f32) (i : Fin 512) (l : Fin 128)
    (hx : x (ix2 i 0) = rowTop fun j => s (ix2 i j)) (hy : y (ix2 i 0) = rowTop fun j => r (ix2 i j)) :
    k0_pay29 k0_pay2 w r y (k0_pay23 u s x) (ix2 i l) = if l.val < 64 then rowOut (by norm_num) (fun j => s (ix2 i j)) (fun j l => u (ix2 j l)) 64 l
      else rowOut (by norm_num) (fun j => r (ix2 i j)) (fun j l => w (ix2 j l)) 0 l := by
  rw [← out3_0 u s x i l hx]
  unfold rowOut
  rw [← acc3_1 w r y i l hy, ← acc3_1 w r y i 0 hy]
  unfold k0_pay29 k0_pay28
  generalize k0_pay27 w r y = A
  generalize k0_pay23 u s x = C
  pointwise [k0_pay2]
  exact first_lanes l
/-- Block 2's results. -/
theorem out2 (u w : FVec Ideal S2048x128 .bf16) (s r : FVec Ideal S512x1536 .f32) (x y : FVec Ideal S512x1 .f32) (i : Fin 512) (l : Fin 128)
    (hx : x (ix2 i 0) = rowTop fun j => s (ix2 i j)) (hy : y (ix2 i 0) = rowTop fun j => r (ix2 i j)) :
    k0_pay46 k0_pay2 w r y (k0_pay38 u s x) (ix2 i l) = if l.val < 64 then rowOut (by norm_num) (fun j => s (ix2 i j)) (fun j l => u (ix2 j l)) 64 l
      else rowOut (by norm_num) (fun j => r (ix2 i j)) (fun j l => w (ix2 j l)) 0 l := by
  rw [← out2_0 u s x i l hx]
  unfold rowOut
  rw [← acc2_1 w r y i l hy, ← acc2_1 w r y i 0 hy]
  unfold k0_pay46 k0_pay45
  generalize k0_pay44 w r y = A
  generalize k0_pay38 u s x = C
  pointwise [k0_pay2]
  exact first_lanes l
/-- Block 1's results. -/
theorem out1 (u w : FVec Ideal S2048x128 .bf16) (s r : FVec Ideal S512x1024 .f32) (x y : FVec Ideal S512x1 .f32) (i : Fin 512) (l : Fin 128)
    (hx : x (ix2 i 0) = rowTop fun j => s (ix2 i j)) (hy : y (ix2 i 0) = rowTop fun j => r (ix2 i j)) :
    k0_pay61 k0_pay2 (k0_pay53 u s x) (k0_pay59 w r y) (ix2 i l) = if l.val < 64 then rowOut (by norm_num) (fun j => s (ix2 i j)) (fun j l => u (ix2 j l)) 64 l
      else rowOut (by norm_num) (fun j => r (ix2 i j)) (fun j l => w (ix2 j l)) 0 l := by
  rw [← out1_0 u s x i l hx, ← out1_1 w r y i l hy]
  unfold k0_pay61
  generalize k0_pay53 u s x = A
  generalize k0_pay59 w r y = C
  pointwise [k0_pay2]
  exact first_lanes l
/-- Block 0's results. -/
theorem out0 (u w : FVec Ideal S2048x128 .bf16) (s r : FVec Ideal S512x512 .f32) (x y : FVec Ideal S512x1 .f32) (i : Fin 512) (l : Fin 128)
    (hx : x (ix2 i 0) = rowTop fun j => s (ix2 i j)) (hy : y (ix2 i 0) = rowTop fun j => r (ix2 i j)) :
    k0_pay68 k0_pay2 u w s x r y (ix2 i l) = if l.val < 64 then rowOut (by norm_num) (fun j => s (ix2 i j)) (fun j l => u (ix2 j l)) 64 l
      else rowOut (by norm_num) (fun j => r (ix2 i j)) (fun j l => w (ix2 j l)) 0 l := by
  unfold rowOut
  rw [← acc0_0 u s x i l hx, ← acc0_0 u s x i 64 hx, ← acc0_1 w r y i l hy, ← acc0_1 w r y i 0 hy]
  unfold k0_pay68 k0_pay64 k0_pay66
  generalize k0_pay63 u s x = A
  generalize k0_pay65 w r y = C
  pointwise [k0_pay2]
  exact first_lanes l

end Cert.AttnFwd

end
-- ==== Proof.AttnFwdBlock.lean ====
module

public import proofs.«01_k».proof.Proof.AttnFwdPay
public import proofs.«01_k».proof.Proof.AttnPair
public import proofs.«01_k».proof.Proof.Gen.Kernel11Ideal.Frame

/-! A block of the forward attention's results on real arguments: each row's sum of values over its softmax. -/

@[expose] public section

set_option maxRecDepth 16384

noncomputable section

open Idealize.ShloMosaic Idealize.ShloMosaic.TcCoe Idealize.SL.Sem

namespace Cert.AttnFwd

open Cert.Kernel11Ideal Cert.Kernel11Ideal.Gen
open Cert.Attn (L2 L2_pos IsScore sum_real max_real exp2_score bot_eq div_real rowSum soft lane at64)

/-- A sum whose later terms are zero, over its first terms alone. -/
theorem sum_first {N M : ℕ} (hN : N ≤ M) (f : Fin M → ℝ) (hf : ∀ j, N ≤ j.val → f j = 0) : ∑ j : Fin N, f (j.castLE hN) = ∑ j, f j := by
  obtain ⟨k, rfl⟩ := Nat.exists_eq_add_of_le hN
  rw [Fin.sum_univ_add, Finset.sum_eq_zero (s := Finset.univ) (f := fun i : Fin k => f (Fin.natAdd N i)) fun i _ => hf _ (by simp), add_zero]
  rfl

/-- A row's softmax over the keys it has, scores below the row's largest and their sum divided out at the end. -/
theorem rowOut_real {N : ℕ} (hN : N ≤ 2048) (s : Fin N → EReal) (u : Fin 2048 → Fin 128 → EReal) (E : Fin 2048 → Fin 2048 → ℝ) (x : Fin 2048 → ℝ) (r : Fin 2048)
    (z l : Fin 128) (hr : r.val < N) (hs : ∀ j, IsScore L2 (s j) (E r (j.castLE hN))) (h1 : 0 < E r r) (h0 : ∀ j, r.val < j.val → E r j = 0) (hE : 0 < rowSum E r)
    (hu : ∀ j, u j l = (x j : EReal)) (hz : ∀ j, u j z = 1) : rowOut hN s u z l = ((∑ j, x j * soft E r j : ℝ) : EReal) := by
  obtain ⟨M, hM⟩ := max_real s (fun j => (hs j).real) ⟨r.val, hr⟩ ((hs ⟨r.val, hr⟩).ne_bot h1)
  have ht : rowTop s = (M : EReal) := by
    unfold rowTop
    rw [bot_eq]
    exact hM
  have hl : rowAcc hN s u l = ((∑ j, E r j * Real.exp (-(M * L2)) * x j : ℝ) : EReal) := by
    unfold rowAcc
    rw [sum_real _ _ (fun j => E r (j.castLE hN) * Real.exp (-(M * L2)) * x (j.castLE hN)) fun j => by rw [ht, exp2_score (hs j), hu, ← EReal.coe_mul],
      sum_first hN (fun j => E r j * Real.exp (-(M * L2)) * x j) fun j hj => by rw [h0 j (by omega), zero_mul, zero_mul]]
  have hz' : rowAcc hN s u z = ((rowSum E r * Real.exp (-(M * L2)) : ℝ) : EReal) := by
    unfold rowAcc
    rw [sum_real _ _ (fun j => E r (j.castLE hN) * Real.exp (-(M * L2))) fun j => by rw [ht, exp2_score (hs j), hz, mul_one],
      sum_first hN (fun j => E r j * Real.exp (-(M * L2))) fun j hj => by rw [h0 j (by omega), zero_mul], ← Finset.sum_mul]
    rfl
  have he := (Real.exp_pos (-(M * L2))).ne'
  have hE' := hE.ne'
  unfold rowOut
  rw [hl, hz', div_real _ _ (mul_ne_zero hE' he), Finset.sum_div]
  congr 1
  refine Finset.sum_congr rfl fun j _ => ?_
  unfold soft
  field_simp

/-- An index by its parts. -/
theorem at2 {a b : ℕ} {y : (⟨2, ![a, b]⟩ : Shape).Idx} {i : Fin a} {j : Fin b} (h0 : (y 0).val = i.val) (h1 : (y 1).val = j.val) : y = ix2 i j :=
  (eq_ix2 y).trans (congrArg₂ ix2 (Fin.ext h0) (Fin.ext h1))

theorem at4 {a b c d : ℕ} {y : (⟨4, ![a, b, c, d]⟩ : Shape).Idx} {i : Fin a} {j : Fin b} {k : Fin c} {l : Fin d} (h0 : (y 0).val = i.val) (h1 : (y 1).val = j.val)
    (h2 : (y 2).val = k.val) (h3 : (y 3).val = l.val) : y = ix4 i j k l := by
  rw [eq_ix4 y, show y 0 = i from Fin.ext h0, show y 1 = j from Fin.ext h1, show y 2 = k from Fin.ext h2, show y 3 = l from Fin.ext h3]

/-- A row of a block of queries. -/
def rowOf (R : ℕ) (hR : R ≤ 1536) (i : Fin 512) : Fin 2048 := ⟨R + i.val, by omega⟩

section Block

variable {x0 x1 : Vec Ideal S2048x256 .bf16} {x2 : Vec Ideal S2048x128 .bf16} {x3 : Vec Ideal S1x4x512x512 .f32} {B : ℤ → EReal}
  {E : Fin 2 → Fin 2048 → Fin 2048 → ℝ} {v : Fin 2 → Fin 2048 → Fin 64 → ℝ}
  (hs : ∀ e i j, IsScore L2 (∑ l : Fin 128, x0 (ix2 i (lane e l)) * x1 (ix2 j (lane e l)) + B ((i.val : ℤ) - j.val)) (E e i j))
  (h1 : ∀ e i, 0 < E e i i) (h0 : ∀ e i j, i.val < j.val → E e i j = 0) (hE : ∀ e i, 0 < rowSum (E e) i)
  (hv : ∀ e j x, x2 (ix2 j (at64 e x)) = (v e j x : EReal)) (hT : ∀ (n : Fin 4) (i j : Fin 512), x3 (ix4 0 n i j) = B (512 * (n.val : ℤ) + i.val - j.val))

include hT in
theorem tab3 : Tab B 3 (View.ld x3 r0_3) := fun i j => (congrArg x3 (at4 rfl rfl (show 0 + 1 * i.val = i.val by omega) (show 0 + 1 * j.val = j.val by omega))).trans (hT 3 i j)
include hT in
theorem tab2 : Tab B 2 (View.ld x3 r0_4) := fun i j => (congrArg x3 (at4 rfl rfl (show 0 + 1 * i.val = i.val by omega) (show 0 + 1 * j.val = j.val by omega))).trans (hT 2 i j)
include hT in
theorem tab1 : Tab B 1 (View.ld x3 r0_5) := fun i j => (congrArg x3 (at4 rfl rfl (show 0 + 1 * i.val = i.val by omega) (show 0 + 1 * j.val = j.val by omega))).trans (hT 1 i j)
include hT in
theorem tab0 : Tab B 0 (View.ld x3 r0_6) := fun i j => (congrArg x3 (at4 rfl rfl (show 0 + 1 * i.val = i.val by omega) (show 0 + 1 * j.val = j.val by omega))).trans (hT 0 i j)
include hv in
theorem first_value (j : Fin 2048) (x : Fin 64) : k0_pay3 (View.ld x2 r0_0) (ix2 j (at64 0 x)) = (v 0 j x : EReal) :=
  ((ones_first _ j).1 _ (show 64 * 0 + x.val < 64 by omega)).trans ((congrArg x2 (at2 (show 0 + 1 * j.val = j.val by omega) (show 0 + 1 * (64 * 0 + x.val) = 64 * 0 + x.val by omega))).trans (hv 0 j x))
include hv in
theorem last_value (j : Fin 2048) (x : Fin 64) : k0_pay4 (View.ld x2 r0_0) (ix2 j (at64 1 x)) = (v 1 j x : EReal) :=
  ((ones_last _ j).1 _ (show ¬ 64 * 1 + x.val < 64 by omega)).trans ((congrArg x2 (at2 (show 0 + 1 * j.val = j.val by omega) (show 0 + 1 * (64 * 1 + x.val) = 64 * 1 + x.val by omega))).trans (hv 1 j x))

include hs h1 h0 hE hv hT in
theorem head3_0 (i : Fin 512) (x : Fin 64) :
    rowOut (by norm_num) (fun j => k0_pay9 (k0_pay5 (View.ld x0 r0_1) (View.ld x1 r0_2)) (k0_pay6 (View.ld x0 r0_1) (View.ld x1 r0_2) (View.ld x3 r0_3)) (k0_pay7 (View.ld x0 r0_1) (View.ld x1 r0_2) (View.ld x3 r0_4)) (k0_pay8 (View.ld x0 r0_1) (View.ld x1 r0_2)) (View.ld x3 r0_5) (View.ld x3 r0_6) (ix2 i j)) (fun j l => k0_pay3 (View.ld x2 r0_0) (ix2 j l)) 64 (at64 0 x)
      = ((∑ j, v 0 j x * soft (E 0) (rowOf 1536 (by norm_num) i) j : ℝ) : EReal) := by
  refine rowOut_real _ _ _ _ (fun j => v 0 j x) _ _ _ (show 1536 + i.val < 2048 by omega) (fun j => ?_) (h1 0 _) (h0 0 _) (hE 0 _) (fun j => first_value hv j x) (fun j => (ones_first _ j).2)
  rw [score3_0 _ (tab0 hT) (tab1 hT) (tab2 hT) (tab3 hT)]
  have h := hs 0 (rowOf 1536 (by norm_num) i) (j.castLE (by norm_num))
  rw [show (((rowOf 1536 (by norm_num) i).val : ℤ) - (j.castLE (by norm_num : 2048 ≤ 2048)).val) = 1536 + i.val - j.val by simp only [rowOf, Fin.val_castLE]; push_cast; ring] at h
  refine Eq.mp (congrArg (fun S => IsScore L2 (S + _) _) (Finset.sum_congr rfl fun l _ => congrArg₂ (· * ·) (congrArg x0 (Eq.symm ?_)) (congrArg x1 (Eq.symm ?_)))) h
  · exact at2 (show 1536 + 1 * i.val = 1536 + i.val by omega) (show 0 + 1 * l.val = 128 * 0 + l.val by omega)
  · exact at2 (show 0 + 1 * j.val = j.val by omega) (show 0 + 1 * l.val = 128 * 0 + l.val by omega)
include hs h1 h0 hE hv hT in
theorem head3_1 (i : Fin 512) (x : Fin 64) :
    rowOut (by norm_num) (fun j => k0_pay17 (k0_pay12 (View.ld x0 r0_7) (View.ld x1 r0_8) (View.ld x3 r0_3)) (k0_pay13 (View.ld x0 r0_7) (View.ld x1 r0_8) (View.ld x3 r0_4)) (k0_pay14 (View.ld x0 r0_7) (View.ld x1 r0_8) (View.ld x3 r0_5)) (k0_pay15 (View.ld x0 r0_7) (View.ld x1 r0_8)) (k0_pay16 (View.ld x3 r0_6)) (ix2 i j)) (fun j l => k0_pay4 (View.ld x2 r0_0) (ix2 j l)) 0 (at64 1 x)
      = ((∑ j, v 1 j x * soft (E 1) (rowOf 1536 (by norm_num) i) j : ℝ) : EReal) := by
  refine rowOut_real _ _ _ _ (fun j => v 1 j x) _ _ _ (show 1536 + i.val < 2048 by omega) (fun j => ?_) (h1 1 _) (h0 1 _) (hE 1 _) (fun j => last_value hv j x) (fun j => (ones_last _ j).2)
  rw [score3_1 _ (tab0 hT) (tab1 hT) (tab2 hT) (tab3 hT)]
  have h := hs 1 (rowOf 1536 (by norm_num) i) (j.castLE (by norm_num))
  rw [show (((rowOf 1536 (by norm_num) i).val : ℤ) - (j.castLE (by norm_num : 2048 ≤ 2048)).val) = 1536 + i.val - j.val by simp only [rowOf, Fin.val_castLE]; push_cast; ring] at h
  refine Eq.mp (congrArg (fun S => IsScore L2 (S + _) _) (Finset.sum_congr rfl fun l _ => congrArg₂ (· * ·) (congrArg x0 (Eq.symm ?_)) (congrArg x1 (Eq.symm ?_)))) h
  · exact at2 (show 1536 + 1 * i.val = 1536 + i.val by omega) (show 128 + 1 * l.val = 128 * 1 + l.val by omega)
  · exact at2 (show 0 + 1 * j.val = j.val by omega) (show 128 + 1 * l.val = 128 * 1 + l.val by omega)
include hs h1 h0 hE hv hT in
theorem head2_0 (i : Fin 512) (x : Fin 64) :
    rowOut (by norm_num) (fun j => k0_pay19 (View.ld x0 r0_9) (View.ld x1 r0_10) (View.ld x3 r0_4) (View.ld x3 r0_5) (View.ld x3 r0_6) (ix2 i j)) (fun j l => k0_pay3 (View.ld x2 r0_0) (ix2 j l)) 64 (at64 0 x)
      = ((∑ j, v 0 j x * soft (E 0) (rowOf 1024 (by norm_num) i) j : ℝ) : EReal) := by
  refine rowOut_real _ _ _ _ (fun j => v 0 j x) _ _ _ (show 1024 + i.val < 1536 by omega) (fun j => ?_) (h1 0 _) (h0 0 _) (hE 0 _) (fun j => first_value hv j x) (fun j => (ones_first _ j).2)
  rw [score2_0 _ (tab0 hT) (tab1 hT) (tab2 hT)]
  have h := hs 0 (rowOf 1024 (by norm_num) i) (j.castLE (by norm_num))
  rw [show (((rowOf 1024 (by norm_num) i).val : ℤ) - (j.castLE (by norm_num : 1536 ≤ 2048)).val) = 1024 + i.val - j.val by simp only [rowOf, Fin.val_castLE]; push_cast; ring] at h
  refine Eq.mp (congrArg (fun S => IsScore L2 (S + _) _) (Finset.sum_congr rfl fun l _ => congrArg₂ (· * ·) (congrArg x0 (Eq.symm ?_)) (congrArg x1 (Eq.symm ?_)))) h
  · exact at2 (show 1024 + 1 * i.val = 1024 + i.val by omega) (show 0 + 1 * l.val = 128 * 0 + l.val by omega)
  · exact at2 (show 0 + 1 * j.val = j.val by omega) (show 0 + 1 * l.val = 128 * 0 + l.val by omega)
include hs h1 h0 hE hv hT in
theorem head2_1 (i : Fin 512) (x : Fin 64) :
    rowOut (by norm_num) (fun j => k0_pay25 (View.ld x0 r0_11) (View.ld x1 r0_12) (View.ld x3 r0_4) (View.ld x3 r0_5) (View.ld x3 r0_6) (ix2 i j)) (fun j l => k0_pay4 (View.ld x2 r0_0) (ix2 j l)) 0 (at64 1 x)
      = ((∑ j, v 1 j x * soft (E 1) (rowOf 1024 (by norm_num) i) j : ℝ) : EReal) := by
  refine rowOut_real _ _ _ _ (fun j => v 1 j x) _ _ _ (show 1024 + i.val < 1536 by omega) (fun j => ?_) (h1 1 _) (h0 1 _) (hE 1 _) (fun j => last_value hv j x) (fun j => (ones_last _ j).2)
  rw [score2_1 _ (tab0 hT) (tab1 hT) (tab2 hT)]
  have h := hs 1 (rowOf 1024 (by norm_num) i) (j.castLE (by norm_num))
  rw [show (((rowOf 1024 (by norm_num) i).val : ℤ) - (j.castLE (by norm_num : 1536 ≤ 2048)).val) = 1024 + i.val - j.val by simp only [rowOf, Fin.val_castLE]; push_cast; ring] at h
  refine Eq.mp (congrArg (fun S => IsScore L2 (S + _) _) (Finset.sum_congr rfl fun l _ => congrArg₂ (· * ·) (congrArg x0 (Eq.symm ?_)) (congrArg x1 (Eq.symm ?_)))) h
  · exact at2 (show 1024 + 1 * i.val = 1024 + i.val by omega) (show 128 + 1 * l.val = 128 * 1 + l.val by omega)
  · exact at2 (show 0 + 1 * j.val = j.val by omega) (show 128 + 1 * l.val = 128 * 1 + l.val by omega)
include hs h1 h0 hE hv hT in
theorem head1_0 (i : Fin 512) (x : Fin 64) :
    rowOut (by norm_num) (fun j => k0_pay34 (View.ld x0 r0_14) (View.ld x1 r0_15) (View.ld x3 r0_5) (View.ld x3 r0_6) (ix2 i j)) (fun j l => k0_pay3 (View.ld x2 r0_0) (ix2 j l)) 64 (at64 0 x)
      = ((∑ j, v 0 j x * soft (E 0) (rowOf 512 (by norm_num) i) j : ℝ) : EReal) := by
  refine rowOut_real _ _ _ _ (fun j => v 0 j x) _ _ _ (show 512 + i.val < 1024 by omega) (fun j => ?_) (h1 0 _) (h0 0 _) (hE 0 _) (fun j => first_value hv j x) (fun j => (ones_first _ j).2)
  rw [score1_0 _ (tab0 hT) (tab1 hT)]
  have h := hs 0 (rowOf 512 (by norm_num) i) (j.castLE (by norm_num))
  rw [show (((rowOf 512 (by norm_num) i).val : ℤ) - (j.castLE (by norm_num : 1024 ≤ 2048)).val) = 512 + i.val - j.val by simp only [rowOf, Fin.val_castLE]; push_cast; ring] at h
  refine Eq.mp (congrArg (fun S => IsScore L2 (S + _) _) (Finset.sum_congr rfl fun l _ => congrArg₂ (· * ·) (congrArg x0 (Eq.symm ?_)) (congrArg x1 (Eq.symm ?_)))) h
  · exact at2 (show 512 + 1 * i.val = 512 + i.val by omega) (show 0 + 1 * l.val = 128 * 0 + l.val by omega)
  · exact at2 (show 0 + 1 * j.val = j.val by omega) (show 0 + 1 * l.val = 128 * 0 + l.val by omega)
include hs h1 h0 hE hv hT in
theorem head1_1 (i : Fin 512) (x : Fin 64) :
    rowOut (by norm_num) (fun j => k0_pay42 (k0_pay40 (View.ld x0 r0_16)) (k0_pay41 (View.ld x1 r0_17)) (constant S512x1024 .f32 0x00000000#32) (View.ld x3 r0_5) (View.ld x3 r0_6) (ix2 i j)) (fun j l => k0_pay4 (View.ld x2 r0_0) (ix2 j l)) 0 (at64 1 x)
      = ((∑ j, v 1 j x * soft (E 1) (rowOf 512 (by norm_num) i) j : ℝ) : EReal) := by
  refine rowOut_real _ _ _ _ (fun j => v 1 j x) _ _ _ (show 512 + i.val < 1024 by omega) (fun j => ?_) (h1 1 _) (h0 1 _) (hE 1 _) (fun j => last_value hv j x) (fun j => (ones_last _ j).2)
  rw [score1_1 _ (tab0 hT) (tab1 hT)]
  have h := hs 1 (rowOf 512 (by norm_num) i) (j.castLE (by norm_num))
  rw [show (((rowOf 512 (by norm_num) i).val : ℤ) - (j.castLE (by norm_num : 1024 ≤ 2048)).val) = 512 + i.val - j.val by simp only [rowOf, Fin.val_castLE]; push_cast; ring] at h
  refine Eq.mp (congrArg (fun S => IsScore L2 (S + _) _) (Finset.sum_congr rfl fun l _ => congrArg₂ (· * ·) (congrArg x0 (Eq.symm ?_)) (congrArg x1 (Eq.symm ?_)))) h
  · exact at2 (show 512 + 1 * i.val = 512 + i.val by omega) (show 128 + 1 * l.val = 128 * 1 + l.val by omega)
  · exact at2 (show 0 + 1 * j.val = j.val by omega) (show 128 + 1 * l.val = 128 * 1 + l.val by omega)
include hs h1 h0 hE hv hT in
theorem head0_0 (i : Fin 512) (x : Fin 64) :
    rowOut (by norm_num) (fun j => k0_pay49 (k0_pay48 (View.ld x0 r0_19)) (View.ld x1 r0_19) (View.ld x3 r0_6) (ix2 i j)) (fun j l => k0_pay3 (View.ld x2 r0_0) (ix2 j l)) 64 (at64 0 x)
      = ((∑ j, v 0 j x * soft (E 0) (rowOf 0 (by norm_num) i) j : ℝ) : EReal) := by
  refine rowOut_real _ _ _ _ (fun j => v 0 j x) _ _ _ (show 0 + i.val < 512 by omega) (fun j => ?_) (h1 0 _) (h0 0 _) (hE 0 _) (fun j => first_value hv j x) (fun j => (ones_first _ j).2)
  rw [score0_0 _ (tab0 hT)]
  have h := hs 0 (rowOf 0 (by norm_num) i) (j.castLE (by norm_num))
  rw [show (((rowOf 0 (by norm_num) i).val : ℤ) - (j.castLE (by norm_num : 512 ≤ 2048)).val) = 0 + i.val - j.val by simp only [rowOf, Fin.val_castLE]; push_cast; ring] at h
  refine Eq.mp (congrArg (fun S => IsScore L2 (S + _) _) (Finset.sum_congr rfl fun l _ => congrArg₂ (· * ·) (congrArg x0 (Eq.symm ?_)) (congrArg x1 (Eq.symm ?_)))) h
  · exact at2 (show 0 + 1 * i.val = 0 + i.val by omega) (show 0 + 1 * l.val = 128 * 0 + l.val by omega)
  · exact at2 (show 0 + 1 * j.val = j.val by omega) (show 0 + 1 * l.val = 128 * 0 + l.val by omega)
include hs h1 h0 hE hv hT in
theorem head0_1 (i : Fin 512) (x : Fin 64) :
    rowOut (by norm_num) (fun j => k0_pay55 (View.ld x0 r0_20) (View.ld x1 r0_20) (View.ld x3 r0_6) (ix2 i j)) (fun j l => k0_pay4 (View.ld x2 r0_0) (ix2 j l)) 0 (at64 1 x)
      = ((∑ j, v 1 j x * soft (E 1) (rowOf 0 (by norm_num) i) j : ℝ) : EReal) := by
  refine rowOut_real _ _ _ _ (fun j => v 1 j x) _ _ _ (show 0 + i.val < 512 by omega) (fun j => ?_) (h1 1 _) (h0 1 _) (hE 1 _) (fun j => last_value hv j x) (fun j => (ones_last _ j).2)
  rw [score0_1 _ (tab0 hT)]
  have h := hs 1 (rowOf 0 (by norm_num) i) (j.castLE (by norm_num))
  rw [show (((rowOf 0 (by norm_num) i).val : ℤ) - (j.castLE (by norm_num : 512 ≤ 2048)).val) = 0 + i.val - j.val by simp only [rowOf, Fin.val_castLE]; push_cast; ring] at h
  refine Eq.mp (congrArg (fun S => IsScore L2 (S + _) _) (Finset.sum_congr rfl fun l _ => congrArg₂ (· * ·) (congrArg x0 (Eq.symm ?_)) (congrArg x1 (Eq.symm ?_)))) h
  · exact at2 (show 0 + 1 * i.val = 0 + i.val by omega) (show 128 + 1 * l.val = 128 * 1 + l.val by omega)
  · exact at2 (show 0 + 1 * j.val = j.val by omega) (show 128 + 1 * l.val = 128 * 1 + l.val by omega)

include hs h1 h0 hE hv hT in
/-- Rows 0 to 511. -/
theorem rows0 (i : Fin 512) (e : Fin 2) (x : Fin 64) :
    k0_pay68 (k0_pay71 x0 x1 x2 x3) (k0_pay72 x0 x1 x2 x3) (k0_pay73 x0 x1 x2 x3) (k0_pay99 x0 x1 x2 x3) (k0_pay100 x0 x1 x2 x3) (k0_pay101 x0 x1 x2 x3) (k0_pay102 x0 x1 x2 x3) (ix2 i (at64 e x))
      = ((∑ j, v e j x * soft (E e) (rowOf 0 (by norm_num) i) j : ℝ) : EReal) := by
  unfold k0_pay71 k0_pay72 k0_pay73 k0_pay99 k0_pay100 k0_pay101 k0_pay102 k0_pay98
  refine (out0 _ _ _ _ _ _ i _ (top0_0 (View.ld x0 r0_19) (View.ld x3 r0_6) (View.ld x1 r0_19) i) (top0_1 (View.ld x0 r0_20) (View.ld x3 r0_6) (View.ld x1 r0_20) i)).trans ?_
  obtain rfl | rfl : e = 0 ∨ e = 1 := by omega
  · exact (if_pos (show 64 * 0 + x.val < 64 by omega)).trans (head0_0 hs h1 h0 hE hv hT i x)
  · exact (if_neg (show ¬ 64 * 1 + x.val < 64 by omega)).trans (head0_1 hs h1 h0 hE hv hT i x)

include hs h1 h0 hE hv hT in
/-- Rows 512 to 1023. -/
theorem rows1 (i : Fin 512) (e : Fin 2) (x : Fin 64) :
    k0_pay61 (k0_pay71 x0 x1 x2 x3) (k0_pay53 (k0_pay72 x0 x1 x2 x3) (k0_pay92 x0 x1 x2 x3) (k0_pay93 x0 x1 x2 x3)) (k0_pay59 (k0_pay73 x0 x1 x2 x3) (k0_pay96 x0 x1 x2 x3) (k0_pay97 x0 x1 x2 x3)) (ix2 i (at64 e x))
      = ((∑ j, v e j x * soft (E e) (rowOf 512 (by norm_num) i) j : ℝ) : EReal) := by
  unfold k0_pay71 k0_pay72 k0_pay73 k0_pay92 k0_pay93 k0_pay96 k0_pay97 k0_pay94 k0_pay95 k0_pay91
  refine (out1 _ _ _ _ _ _ i _ (top1_0 (View.ld x0 r0_14) (View.ld x3 r0_6) (View.ld x3 r0_5) (View.ld x1 r0_15) i) (top1_1 (View.ld x0 r0_16) (View.ld x3 r0_6) (View.ld x3 r0_5) (View.ld x1 r0_17) i)).trans ?_
  obtain rfl | rfl : e = 0 ∨ e = 1 := by omega
  · exact (if_pos (show 64 * 0 + x.val < 64 by omega)).trans (head1_0 hs h1 h0 hE hv hT i x)
  · exact (if_neg (show ¬ 64 * 1 + x.val < 64 by omega)).trans (head1_1 hs h1 h0 hE hv hT i x)

include hs h1 h0 hE hv hT in
/-- Rows 1024 to 1535. -/
theorem rows2 (i : Fin 512) (e : Fin 2) (x : Fin 64) :
    k0_pay46 (k0_pay71 x0 x1 x2 x3) (k0_pay73 x0 x1 x2 x3) (k0_pay89 x0 x1 x2 x3) (k0_pay90 x0 x1 x2 x3) (k0_pay38 (k0_pay72 x0 x1 x2 x3) (k0_pay87 x0 x1 x2 x3) (k0_pay88 x0 x1 x2 x3)) (ix2 i (at64 e x))
      = ((∑ j, v e j x * soft (E e) (rowOf 1024 (by norm_num) i) j : ℝ) : EReal) := by
  unfold k0_pay71 k0_pay72 k0_pay73 k0_pay89 k0_pay90 k0_pay87 k0_pay88
  refine (out2 _ _ _ _ _ _ i _ (top2_0 (View.ld x0 r0_9) (View.ld x3 r0_6) (View.ld x3 r0_5) (View.ld x3 r0_4) (View.ld x1 r0_10) i) (top2_1 (View.ld x0 r0_11) (View.ld x3 r0_6) (View.ld x3 r0_5) (View.ld x3 r0_4) (View.ld x1 r0_12) i)).trans ?_
  obtain rfl | rfl : e = 0 ∨ e = 1 := by omega
  · exact (if_pos (show 64 * 0 + x.val < 64 by omega)).trans (head2_0 hs h1 h0 hE hv hT i x)
  · exact (if_neg (show ¬ 64 * 1 + x.val < 64 by omega)).trans (head2_1 hs h1 h0 hE hv hT i x)

include hs h1 h0 hE hv hT in
/-- Rows 1536 to 2047. -/
theorem rows3 (i : Fin 512) (e : Fin 2) (x : Fin 64) :
    k0_pay29 (k0_pay71 x0 x1 x2 x3) (k0_pay73 x0 x1 x2 x3) (k0_pay85 x0 x1 x2 x3) (k0_pay86 x0 x1 x2 x3) (k0_pay23 (k0_pay72 x0 x1 x2 x3) (k0_pay78 x0 x1 x2 x3) (k0_pay79 x0 x1 x2 x3)) (ix2 i (at64 e x))
      = ((∑ j, v e j x * soft (E e) (rowOf 1536 (by norm_num) i) j : ℝ) : EReal) := by
  unfold k0_pay71 k0_pay72 k0_pay73 k0_pay85 k0_pay86 k0_pay78 k0_pay79 k0_pay74 k0_pay75 k0_pay76 k0_pay77 k0_pay80 k0_pay81 k0_pay82 k0_pay83 k0_pay84
  refine (out3 _ _ _ _ _ _ i _ (top3_0 (View.ld x0 r0_1) (View.ld x3 r0_6) (View.ld x3 r0_5) (View.ld x3 r0_4) (View.ld x3 r0_3) (View.ld x1 r0_2) i) (top3_1 (View.ld x0 r0_7) (View.ld x3 r0_6) (View.ld x3 r0_5) (View.ld x3 r0_4) (View.ld x3 r0_3) (View.ld x1 r0_8) i)).trans ?_
  obtain rfl | rfl : e = 0 ∨ e = 1 := by omega
  · exact (if_pos (show 64 * 0 + x.val < 64 by omega)).trans (head3_0 hs h1 h0 hE hv hT i x)
  · exact (if_neg (show ¬ 64 * 1 + x.val < 64 by omega)).trans (head3_1 hs h1 h0 hE hv hT i x)

end Block

end Cert.AttnFwd

end
-- ==== Proof.AttnFwdRef.lean ====
module

public import proofs.«01_k».proof.Proof.AttnRefDil
public import proofs.«01_k».proof.Proof.Gen.Reference11Ideal.Read

/-! The reference's attention: each result is the sum of the values times the softmax of its row's weights. -/

@[expose] public section

set_option maxRecDepth 16384

noncomputable section

open Idealize.ShloMosaic Idealize.ShloMosaic.TcCoe Idealize.SL.Sem

namespace Cert.Attn

section Whole

open Cert.Reference7Ideal Cert.Reference7Ideal.Read

variable {x0 x1 x2 : FVec Ideal S4x2048x16x64 .f32} {x3 : FVec Ideal S4x2048x8 .f32}
variable {q k v : Fin 4 → Fin 2048 → Fin 16 → Fin 64 → ℝ} {cc : Fin 4 → Fin 2048 → Fin 8 → ℝ}

/-- A head's result, over the reals. -/
def attend (q k v : Fin 4 → Fin 2048 → Fin 16 → Fin 64 → ℝ) (cc : Fin 4 → Fin 2048 → Fin 8 → ℝ) (b : Fin 4) (i : Fin 2048) (h : Fin 16) (l : Fin 64) : ℝ :=
  ∑ j, v b j h l * soft (wt q k cc b h) i j

theorem v51_at (b : Fin 4) (i : Fin 2048) (h : Fin 8) (l : Fin 64) : val_main_v51 (F := Ideal) x0 x1 x2 x3 (ix4 b i h l)
    = ∑ j, x2 (ix4 b j (foxH h) l) * val_main_v45 (F := Ideal) x0 x1 x3 (ix4 b h i j) := by
  unfold val_main_v51 val_main_v50 val_main_v49
  generalize val_main_v45 (F := Ideal) x0 x1 x3 = A
  pointwise []
theorem v108_at (d : Fin 3) (b : Fin 4) (i : Fin 2048) (h : Fin 8) (l : Fin 64) : val_main_v108 (F := Ideal) x0 x1 x2 (ix5 d b i h l)
    = ∑ j, x2 (ix4 b j (dilH h) l) * val_main_v105 (F := Ideal) x0 x1 (ix5 d b h i j) := by
  unfold val_main_v108 val_main_v107 val_main_v106
  generalize val_main_v105 (F := Ideal) x0 x1 = A
  pointwise []
theorem v141_at (b : Fin 4) (i : Fin 2048) (h : Fin 8) (l : Fin 64) : val_main_v141 (F := Ideal) x0 x1 x2 (ix4 b i h l)
    = ∑ d, val_main_v134 (F := Ideal) x0 x1 (ix4 d b i h) * val_main_v108 (F := Ideal) x0 x1 x2 (ix5 d b i h l) := by
  unfold val_main_v141 val_main_v140 val_main_v139 val_main_v138
  generalize val_main_v134 (F := Ideal) x0 x1 = A
  generalize val_main_v108 (F := Ideal) x0 x1 x2 = B
  pointwise [val_main_cst_37]
theorem v142_fox (b : Fin 4) (i : Fin 2048) (h : Fin 8) (l : Fin 64) : val_main_v142 (F := Ideal) x0 x1 x2 x3 (ix4 b i (foxH h) l)
    = val_main_v51 (F := Ideal) x0 x1 x2 x3 (ix4 b i h l) := by
  unfold val_main_v142
  generalize val_main_v51 (F := Ideal) x0 x1 x2 x3 = A
  generalize val_main_v141 (F := Ideal) x0 x1 x2 = B
  pointwise []
  try simp
theorem v142_dil (b : Fin 4) (i : Fin 2048) (h : Fin 8) (l : Fin 64) : val_main_v142 (F := Ideal) x0 x1 x2 x3 (ix4 b i (dilH h) l)
    = val_main_v141 (F := Ideal) x0 x1 x2 (ix4 b i h l) := by
  unfold val_main_v142
  generalize val_main_v51 (F := Ideal) x0 x1 x2 x3 = A
  generalize val_main_v141 (F := Ideal) x0 x1 x2 = B
  pointwise []
  try simp

variable (h0 : ∀ b i h e, x0 (ix4 b i h e) = (q b i h e : EReal)) (h1 : ∀ b i h e, x1 (ix4 b i h e) = (k b i h e : EReal))
  (h2 : ∀ b i h e, x2 (ix4 b i h e) = (v b i h e : EReal)) (h3 : ∀ b i h, x3 (ix3 b i h) = (cc b i h : EReal))

include h0 h1 h2 h3 in
theorem attend_at (b : Fin 4) (i : Fin 2048) (h : Fin 16) (l : Fin 64) : val_main_v142 (F := Ideal) x0 x1 x2 x3 (ix4 b i h l) = (attend q k v cc b i h l : EReal) := by
  have hh : (∃ h' : Fin 8, h = foxH h') ∨ ∃ h' : Fin 8, h = dilH h' := by
    by_cases hh : h.val < 8
    · exact Or.inl ⟨⟨h.val, hh⟩, rfl⟩
    · exact Or.inr ⟨⟨h.val - 8, by omega⟩, Fin.ext (by simp; omega)⟩
  rcases hh with ⟨h, rfl⟩ | ⟨h, rfl⟩
  · rw [v142_fox, v51_at, sum_real _ _ _ fun j => by rw [foxSoft_at h0 h1 h3, h2, ← EReal.coe_mul]]
    rfl
  · have e : ∀ d, val_main_v108 (F := Ideal) x0 x1 x2 (ix5 d b i h l) = ((∑ j, v b j (dilH h) l * soft (part q k cc d b h) i j : ℝ) : EReal) := fun d => by
      rw [v108_at, sum_real _ _ _ fun j => by rw [dilSoft_at (cc := cc) h0 h1, h2, ← EReal.coe_mul]]
    rw [v142_dil, v141_at, sum_real _ _ _ fun d => by rw [dilShare_at (cc := cc) h0 h1, e, ← EReal.coe_mul]]
    congr 1
    unfold attend
    simp only [Finset.mul_sum]
    rw [Finset.sum_comm]
    refine Finset.sum_congr rfl fun j _ => ?_
    unfold soft
    rw [wt_parts, Finset.sum_div, Finset.mul_sum]
    refine Finset.sum_congr rfl fun d _ => ?_
    have hp := (part_sum_pos (q := q) (k := k) (cc := cc) d b h i).ne'
    have hw := (rowSum_pos q k cc b (dilH h) i).ne'
    field_simp

end Whole

/-- The forward reference's attention is that of the backward one, laid out in rows. -/
theorem rows_at {x0 x1 x2 : FVec Ideal Cert.Reference7Ideal.S4x2048x16x64 .f32} {x3 : FVec Ideal Cert.Reference7Ideal.S4x2048x8 .f32}
    (b : Fin 4) (i : Fin 2048) (h : Fin 16) (l : Fin 64) (r : Fin 8192) (n : Fin 1024) (hr : r.val = 2048 * b.val + i.val) (hn : n.val = 64 * h.val + l.val) :
    Cert.Reference11Ideal.Read.val_main_v105 (F := Ideal) x0 x1 x2 x3 (ix2 r n) = Cert.Reference7Ideal.Read.val_main_v142 (F := Ideal) x0 x1 x2 x3 (ix4 b i h l) := by
  have e1 : (⟨r.val / 2048, by omega⟩ : Fin 4) = b := Fin.ext (by show r.val / 2048 = b.val; omega)
  have e2 : (⟨r.val % 2048, by omega⟩ : Fin 2048) = i := Fin.ext (by show r.val % 2048 = i.val; omega)
  have e3 : (⟨n.val / 64, by omega⟩ : Fin 16) = h := Fin.ext (by show n.val / 64 = h.val; omega)
  have e4 : (⟨n.val % 64, by omega⟩ : Fin 64) = l := Fin.ext (by show n.val % 64 = l.val; omega)
  rw [← show Cert.Reference11Ideal.Read.val_main_v103 (F := Ideal) x0 x1 x2 x3 = Cert.Reference7Ideal.Read.val_main_v142 (F := Ideal) x0 x1 x2 x3 from rfl]
  unfold Cert.Reference11Ideal.Read.val_main_v105 Cert.Reference11Ideal.Read.val_main_v104
  generalize Cert.Reference11Ideal.Read.val_main_v103 (F := Ideal) x0 x1 x2 x3 = A
  pointwise []
  simp only [e1, e2, e3, e4]

end Cert.Attn

end
-- ==== Proof.AttnFwdEnd.lean ====
module

public import proofs.«01_k».proof.Proof.AttnFwdHeads
public import proofs.«01_k».proof.Proof.AttnFwdBlock
public import proofs.«01_k».proof.Proof.AttnFwdRef
public import Idealize.ShloMosaic.Lib.Pipeline.ValueKit
public import Idealize.ShloMosaic.Lib.Pipeline.ReadBack

/-! The array the forward attention leaves is the reference's, where every argument is a real number. -/

@[expose] public section

set_option maxRecDepth 16384

noncomputable section

open Idealize.ShloMosaic Idealize.ShloMosaic.TcCoe Idealize.SL.Sem
open Idealize.ShloMosaic.Pipeline (Dat)

namespace Cert.AttnFwd

open Cert.Kernel11Ideal Cert.Kernel11Ideal.Gen
open Cert.Attn (wt wt_self rowSum_pos soft bias at64 attend attend_at rows_at)
open Cert.Reference11Ideal.Read (val_main_v105)

variable {m : (ℓ : Loc nD τ sig) → Buf (Elt Ideal) ℓ} {c : Dev nD}
variable {q k v : Fin 4 → Fin 2048 → Fin 16 → Fin 64 → ℝ} {cc : Fin 4 → Fin 2048 → Fin 8 → ℝ}
variable {x0 x1 x2 : FVec Ideal S4x2048x16x64 .f32} {x3 : FVec Ideal S4x2048x8 .f32}
variable (h0 : ∀ b i h e, argQ m c b i h e = (q b i h e : EReal)) (h1 : ∀ b i h e, argK m c b i h e = (k b i h e : EReal))
  (h2 : ∀ b i h e, argV m c b i h e = (v b i h e : EReal)) (h3 : ∀ b i h, argC m c b i h = (cc b i h : EReal))
  (w0 : ∀ b i h e, x0 (ix4 b i h e) = (q b i h e : EReal)) (w1 : ∀ b i h e, x1 (ix4 b i h e) = (k b i h e : EReal))
  (w2 : ∀ b i h e, x2 (ix4 b i h e) = (v b i h e : EReal)) (w3 : ∀ b i h, x3 (ix3 b i h) = (cc b i h : EReal))

include h0 h1 h2 h3 w0 w1 w2 w3 in
theorem final4 : (dats m 0 c).arrAt 4 cfg0.N = val_main_v105 (F := Ideal) x0 x1 x2 x3 := by
  refine (dats m 0 c).arrAt_eq_of_covers 4 _ (by decide +kernel) fun t _ y => ?_
  blk_simp
  rw [after0_4]
  have ht : t.val < 32 := t.isLt
  have key : ∀ j : S8192x1024.Idx, j = ((cfg0.win 4).blk t).view.emb y →
      out0_4 (iblk m c 0 t) (iblk m c 1 t) (iblk m c 2 t) (iblk m c 3 t) y = val_main_v105 (F := Ideal) x0 x1 x2 x3 j := by
    intro j hj
    have j0 : (j 0 : ℕ) = 2048 * (t.val / 8) + y 0 := by rw [hj]; blk_simp [idx t]; omega
    have j1 : (j 1 : ℕ) = 128 * (t.val % 8) + y 1 := by rw [hj]; blk_simp [idx t]; omega
    clear hj
    obtain ⟨r, n, rfl⟩ : ∃ (r : Fin 8192) (n : Fin 1024), j = ix2 r n := ⟨j 0, j 1, eq_ix2 j⟩
    replace j0 : (r : ℕ) = 2048 * (t.val / 8) + y 0 := j0
    replace j1 : (n : ℕ) = 128 * (t.val % 8) + y 1 := j1
    have hs := head_score h0 h1 h3 t
    have hp : ∀ e i, 0 < wt q k cc (batch t) (headAt t e) i i := fun e i => wt_self q k cc _ _ i
    have hz : ∀ e (i j : Fin 2048), i.val < j.val → wt q k cc (batch t) (headAt t e) i j = 0 := fun e i j => wt_after _ _ i j
    have hE := fun e i => rowSum_pos q k cc (batch t) (headAt t e) i
    have hv : ∀ e j x, iblk m c 2 t (ix2 j (at64 e x)) = ((fun e j x => v (batch t) j (headAt t e) x) e j x : EReal) := fun e j x => by rw [value_block, h2]
    have hT := table_block (m := m) (c := c) t
    have ref : ∀ (e : Fin 2) (x : Fin 64) (i : Fin 2048), r.val = 2048 * (t.val / 8) + i.val → n.val = 128 * (t.val % 8) + (64 * e.val + x.val) →
        val_main_v105 (F := Ideal) x0 x1 x2 x3 (ix2 r n) = (attend q k v cc (batch t) i (headAt t e) x : EReal) := fun e x i hr hn =>
      (rows_at (batch t) i (headAt t e) x r n hr (by show n.val = 64 * (2 * (t.val % 8) + e.val) + x.val; omega)).trans (attend_at w0 w1 w2 w3 _ _ _ _)
    frame_out
    canon_tiles x h
    all_goals
      idx_vars x
      obtain ⟨e, x, rfl⟩ : ∃ e x, x1 = at64 e x := ⟨⟨x1.val / 64, by omega⟩, ⟨x1.val % 64, by omega⟩, Fin.ext (by simp only [at64]; omega)⟩
      replace h1 : (y 1 : ℕ) = 64 * e.val + x.val := h1
    · exact (rows0 hs hp hz hE hv hT _ e x).trans (ref e x (rowOf 0 (by norm_num) _) (by simp only [rowOf]; omega) (by omega)).symm
    · exact (rows1 hs hp hz hE hv hT _ e x).trans (ref e x (rowOf 512 (by norm_num) _) (by simp only [rowOf]; omega) (by omega)).symm
    · exact (rows2 hs hp hz hE hv hT _ e x).trans (ref e x (rowOf 1024 (by norm_num) _) (by simp only [rowOf]; omega) (by omega)).symm
    · exact (rows3 hs hp hz hE hv hT _ e x).trans (ref e x (rowOf 1536 (by norm_num) _) (by simp only [rowOf]; omega) (by omega)).symm
  exact key _ rfl

end Cert.AttnFwd

end
-- ==== Proof.AttnFwdClaim.lean ====
/-
  The claims about the forward attention: both programs' frames and the value equation.
-/
module

public import proofs.«01_k».proof.Proof.AttnFwdEnd
public import proofs.«01_k».proof.Proof.Finite
public import proofs.«01_k».proof.Proof.Gen.Reference11Ideal.Run
public import proofs.«01_k».proof.Proof.Gen.Kernel11.Frame
public import proofs.«01_k».proof.Proof.Gen.Pre_finite11
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.AttnFwd

open Cert.Kernel11Ideal Cert.Kernel11Ideal.Gen Cert.Fv
open Cert.Reference11Ideal.Read (val_main_v105)

theorem frame_kernel : Cert.quiescent_Kernel11 := fun m ρ _ => Cert.Kernel11.Gen.frame m ρ
theorem frame_ideal : Cert.quiescent_Kernel11Ideal := fun m ρ _ => Cert.Kernel11Ideal.Gen.frame m ρ
theorem frame_ideal_pre : Cert.quiescent_Kernel11Ideal_pre_finite11 := fun m ρ _ => Cert.Kernel11Ideal.Gen.frame m ρ
theorem frame_ref : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
theorem frame_ref_pre : Cert.quiescent_Reference11Ideal_pre_finite11 := fun m ρ _ => frame_ref m ρ trivial

variable (m : (ℓ : Loc nD τ sig) → Buf (Elt Ideal) ℓ)

/-- Where every argument is a real number, the array of outputs is the reference's. -/
theorem eq_out (h : Cert.Pre_Kernel11Ideal_finite11 m) (c : Dev nD) :
    val_main_v105 (F := Ideal) (m (c, Proc.devRef .tc main_arg0)) (m (c, Proc.devRef .tc main_arg1)) (m (c, Proc.devRef .tc main_arg2)) (m (c, Proc.devRef .tc main_arg3))
      = (dats m 0 c).arrAt 4 cfg0.N := by
  have f0 : ∀ b i h l, IsReal (argQ m c b i h l) := fun b i k l => of_abs_lt (congrFun (h c).1 _)
  have f1 : ∀ b i h l, IsReal (argK m c b i h l) := fun b i k l => of_abs_lt (congrFun (h c).2.1 _)
  have f2 : ∀ b i h l, IsReal (argV m c b i h l) := fun b i k l => of_abs_lt (congrFun (h c).2.2.1 _)
  have f3 : ∀ b i h, IsReal (argC m c b i h) := fun b i k => of_abs_lt (congrFun (h c).2.2.2 _)
  choose r0 e0 using f0
  choose r1 e1 using f1
  choose r2 e2 using f2
  choose r3 e3 using f3
  exact (final4 e0 e1 e2 e3 e0 e1 e2 e3).symm

/-- The kernel's output is the reference's, where every argument is a real number. -/
theorem algebraic : Cert.algebraic_Kernel11Ideal_Reference11Ideal_pre_finite11 := by
  pair_intro
  · run_from Cert.Kernel11Ideal.Gen.run_main m g
    exacts [V_main_arg0 m c, V_main_arg1 m c, V_main_arg2 m c, V_main_arg3 m c]
  · run_from Cert.Reference11Ideal.Value.run m' g'
    · obtain ⟨e0, e1, e2, e3⟩ := hagree c
      rw [Cert.Reference11Ideal.Read.val_main_v105_eq, e0, e1, e2, e3]
      exact eq_out m ‹_› c

end Cert.AttnFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.FfnDownClaim
public import proofs.«01_k».proof.Proof.FfnUpClaim
public import proofs.«01_k».proof.Proof.OutProjClaim
public import proofs.«01_k».proof.Proof.InProjClaim
public import proofs.«01_k».proof.Proof.LossClaim
public import proofs.«01_k».proof.Proof.AttnClaim
public import proofs.«01_k».proof.Proof.GateUpClaim
public import proofs.«01_k».proof.Proof.NormMixClaim
public import proofs.«01_k».proof.Proof.OutNormClaim
public import proofs.«01_k».proof.Proof.AttnFwdClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel7.Gen.facts,
    Cert.Kernel7Ideal.Gen.facts, Cert.Reference7Ideal.Gen.facts, Cert.Kernel8.Gen.facts, Cert.Kernel8Ideal.Gen.facts,
    Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts, Cert.Kernel11.Gen.facts,
    Cert.Kernel11Ideal.Gen.facts, Cert.Reference11Ideal.Gen.facts, Cert.Pre_finite.Gen.facts, Cert.Pre_finite2.Gen.facts,
    Cert.Pre_finite3.Gen.facts, Cert.Pre_finite4.Gen.facts, Cert.Pre_finite7.Gen.facts, Cert.Pre_finite11.Gen.facts,
    Cert.FfnDown.frame_kernel, Cert.FfnDown.frame_ideal, Cert.FfnDown.frame_ideal_pre, Cert.FfnDown.frame_ref,
    Cert.FfnDown.frame_ref_pre, Cert.FfnUp.frame_kernel, Cert.FfnUp.frame_ideal, Cert.FfnUp.frame_ideal_pre,
    Cert.FfnUp.frame_ref, Cert.FfnUp.frame_ref_pre, Cert.OutProj.frame_kernel, Cert.OutProj.frame_ideal,
    Cert.OutProj.frame_ideal_pre, Cert.OutProj.frame_ref, Cert.OutProj.frame_ref_pre, Cert.InProj.frame_kernel,
    Cert.InProj.frame_ideal, Cert.InProj.frame_ideal_pre, Cert.InProj.frame_ref, Cert.InProj.frame_ref_pre,
    Cert.Loss.frame_kernel, Cert.Loss.frame_ideal, Cert.Loss.frame_ref, Cert.AttnBwd.frame_kernel, Cert.AttnBwd.frame_ideal,
    Cert.AttnBwd.frame_ideal_pre, Cert.AttnBwd.frame_ref, Cert.AttnBwd.frame_ref_pre, Cert.GateUp.frame_kernel,
    Cert.GateUp.frame_ideal, Cert.GateUp.frame_ref, Cert.NormMix.frame_kernel, Cert.NormMix.frame_ideal,
    Cert.NormMix.frame_ref, Cert.OutNorm.frame_kernel, Cert.OutNorm.frame_ideal, Cert.OutNorm.frame_ref,
    Cert.AttnFwd.frame_kernel, Cert.AttnFwd.frame_ideal, Cert.AttnFwd.frame_ideal_pre, Cert.AttnFwd.frame_ref,
    Cert.AttnFwd.frame_ref_pre, trivial, Cert.FfnDown.algebraic, trivial, Cert.FfnUp.algebraic, trivial,
    Cert.OutProj.algebraic, trivial, Cert.InProj.algebraic, trivial, Cert.Loss.algebraic, trivial, Cert.AttnBwd.algebraic,
    trivial, Cert.GateUp.algebraic, trivial, Cert.NormMix.algebraic, trivial, Cert.OutNorm.algebraic, trivial,
    Cert.AttnFwd.algebraic⟩

end Cert.Proof

end
